-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))).2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))).2.2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)) (v5 : (c : Dev Cert.KernelIdeal.nD) → Buf (Elt Ideal) ((c.tc : Thread Cert.KernelIdeal.nD Cert.KernelIdeal.τ).loc Cert.KernelIdeal.main_v50_5)) (v6 : (c : Dev Cert.KernelIdeal.nD) → Buf (Elt Ideal) ((c.tc : Thread Cert.KernelIdeal.nD Cert.KernelIdeal.τ).loc Cert.KernelIdeal.main_v50_6)) (v7 : (c : Dev Cert.KernelIdeal.nD) → Buf (Elt Ideal) ((c.tc : Thread Cert.KernelIdeal.nD Cert.KernelIdeal.τ).loc Cert.KernelIdeal.main_v50_7)) (v8 : (c : Dev Cert.KernelIdeal.nD) → Buf (Elt Ideal) ((c.tc : Thread Cert.KernelIdeal.nD Cert.KernelIdeal.τ).loc Cert.KernelIdeal.main_v50_8)) (v9 : (c : Dev Cert.KernelIdeal.nD) → Buf (Elt Ideal) ((c.tc : Thread Cert.KernelIdeal.nD Cert.KernelIdeal.τ).loc Cert.KernelIdeal.main_v50_9)) (v10 : (c : Dev Cert.KernelIdeal.nD) → Buf (Elt Ideal) ((c.tc : Thread Cert.KernelIdeal.nD Cert.KernelIdeal.τ).loc Cert.KernelIdeal.main_v50_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_v50_5) = v5 c
          ∧ r.2.mem ((c.tc : Thread Cert.KernelIdeal.nD Cert.KernelIdeal.τ).loc Cert.KernelIdeal.main_v50_6) = v6 c
          ∧ r.2.mem ((c.tc : Thread Cert.KernelIdeal.nD Cert.KernelIdeal.τ).loc Cert.KernelIdeal.main_v50_7) = v7 c
          ∧ r.2.mem ((c.tc : Thread Cert.KernelIdeal.nD Cert.KernelIdeal.τ).loc Cert.KernelIdeal.main_v50_8) = v8 c
          ∧ r.2.mem ((c.tc : Thread Cert.KernelIdeal.nD Cert.KernelIdeal.τ).loc Cert.KernelIdeal.main_v50_9) = v9 c
          ∧ r.2.mem ((c.tc : Thread Cert.KernelIdeal.nD Cert.KernelIdeal.τ).loc Cert.KernelIdeal.main_v50_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_v135) = v3 c
          ∧ r.2.mem ((c.tc : Thread Cert.ReferenceIdeal.nD Cert.ReferenceIdeal.τ).loc Cert.ReferenceIdeal.main_v136) = v4 c
          ∧ r.2.mem ((c.tc : Thread Cert.ReferenceIdeal.nD Cert.ReferenceIdeal.τ).loc Cert.ReferenceIdeal.main_v137) = v5 c
          ∧ r.2.mem ((c.tc : Thread Cert.ReferenceIdeal.nD Cert.ReferenceIdeal.τ).loc Cert.ReferenceIdeal.main_v139) = v6 c
          ∧ r.2.mem ((c.tc : Thread Cert.ReferenceIdeal.nD Cert.ReferenceIdeal.τ).loc Cert.ReferenceIdeal.main_v82) = v7 c
          ∧ r.2.mem ((c.tc : Thread Cert.ReferenceIdeal.nD Cert.ReferenceIdeal.τ).loc Cert.ReferenceIdeal.main_v123) = v8 c
          ∧ r.2.mem ((c.tc : Thread Cert.ReferenceIdeal.nD Cert.ReferenceIdeal.τ).loc Cert.ReferenceIdeal.main_v119) = v9 c
          ∧ r.2.mem ((c.tc : Thread Cert.ReferenceIdeal.nD Cert.ReferenceIdeal.τ).loc Cert.ReferenceIdeal.main_v131) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v8_2)) (v3 : (c : Dev Cert.Kernel11Ideal.nD) → Buf (Elt Ideal) ((c.tc : Thread Cert.Kernel11Ideal.nD Cert.Kernel11Ideal.τ).loc Cert.Kernel11Ideal.main_v8_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v8_2) = v2 c
          ∧ r.2.mem ((c.tc : Thread Cert.Kernel11Ideal.nD Cert.Kernel11Ideal.τ).loc Cert.Kernel11Ideal.main_v8_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_v22) = v2 c
          ∧ r.2.mem ((c.tc : Thread Cert.Reference11Ideal.nD Cert.Reference11Ideal.τ).loc Cert.Reference11Ideal.main_v23) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v42) = v0 c
          ∧ r.2.mem ((c.tc : Thread Cert.Reference12Ideal.nD Cert.Reference12Ideal.τ).loc Cert.Reference12Ideal.main_v43) = v1 c
          ∧ r.2.mem ((c.tc : Thread Cert.Reference12Ideal.nD Cert.Reference12Ideal.τ).loc Cert.Reference12Ideal.main_v41) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v25_0)) (v1 : (c : Dev Cert.Kernel13Ideal.nD) → Buf (Elt Ideal) ((c.tc : Thread Cert.Kernel13Ideal.nD Cert.Kernel13Ideal.τ).loc Cert.Kernel13Ideal.main_v25_1)) (v2 : (c : Dev Cert.Kernel13Ideal.nD) → Buf (Elt Ideal) ((c.tc : Thread Cert.Kernel13Ideal.nD Cert.Kernel13Ideal.τ).loc Cert.Kernel13Ideal.main_v25_2)) (v3 : (c : Dev Cert.Kernel13Ideal.nD) → Buf (Elt Ideal) ((c.tc : Thread Cert.Kernel13Ideal.nD Cert.Kernel13Ideal.τ).loc Cert.Kernel13Ideal.main_v25_3)) (v4 : (c : Dev Cert.Kernel13Ideal.nD) → Buf (Elt Ideal) ((c.tc : Thread Cert.Kernel13Ideal.nD Cert.Kernel13Ideal.τ).loc Cert.Kernel13Ideal.main_v25_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v25_0) = v0 c
          ∧ r.2.mem ((c.tc : Thread Cert.Kernel13Ideal.nD Cert.Kernel13Ideal.τ).loc Cert.Kernel13Ideal.main_v25_1) = v1 c
          ∧ r.2.mem ((c.tc : Thread Cert.Kernel13Ideal.nD Cert.Kernel13Ideal.τ).loc Cert.Kernel13Ideal.main_v25_2) = v2 c
          ∧ r.2.mem ((c.tc : Thread Cert.Kernel13Ideal.nD Cert.Kernel13Ideal.τ).loc Cert.Kernel13Ideal.main_v25_3) = v3 c
          ∧ r.2.mem ((c.tc : Thread Cert.Kernel13Ideal.nD Cert.Kernel13Ideal.τ).loc Cert.Kernel13Ideal.main_v25_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v54) = v0 c
          ∧ r.2.mem ((c.tc : Thread Cert.Reference13Ideal.nD Cert.Reference13Ideal.τ).loc Cert.Reference13Ideal.main_v55) = v1 c
          ∧ r.2.mem ((c.tc : Thread Cert.Reference13Ideal.nD Cert.Reference13Ideal.τ).loc Cert.Reference13Ideal.main_v56) = v2 c
          ∧ r.2.mem ((c.tc : Thread Cert.Reference13Ideal.nD Cert.Reference13Ideal.τ).loc Cert.Reference13Ideal.main_v57) = v3 c
          ∧ r.2.mem ((c.tc : Thread Cert.Reference13Ideal.nD Cert.Reference13Ideal.τ).loc Cert.Reference13Ideal.main_v53) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite12 : Cert.Pre_finite12.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x1024 : Shape := ⟨2, ![8192, 1024]⟩
abbrev S8192x5120 : Shape := ⟨2, ![8192, 5120]⟩
abbrev S4x256x256 : Shape := ⟨3, ![4, 256, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .bf16) (main_arg2 : FVec F S8192x5120 .bf16) (main_arg3 : FVec F S8192x1024 .f32) (main_arg4 : FVec F S4x256x256 .f32) (main_arg5 : FVec F S1024 .f32) (main_arg6 : FVec F S1024 .f32) (main_arg7 : FVec F S1024 .f32) (main_arg8 : FVec F S1024x1024 .f32) (main_arg9 : FVec F S1024x1024 .f32) (main_arg10 : FVec F S1024x1024 .f32) (main_arg11 : FVec F S256x1024 .f32) : IVec S8192x1024 1 × IVec S8192x1024 1 × IVec S1024 1 × IVec S1024 1 × IVec S1024x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg3
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg6
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg7
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg8
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x1024 .f32 := Host.absf main_arg9
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== Pre_finite12.lean ====
abbrev S8192x1024 : Shape := ⟨2, ![8192, 1024]⟩
abbrev S1024 : Shape := ⟨1, ![1024]⟩
abbrev S1024x5120 : Shape := ⟨2, ![1024, 5120]⟩
abbrev S8192x3072 : Shape := ⟨2, ![8192, 3072]⟩
abbrev S8192x2048 : Shape := ⟨2, ![8192, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024 : S_.BroadcastsInDim S1024 (![] : Fin 0 → Fin S1024.rank)
  bcast_S_S1024x5120 : S_.BroadcastsInDim S1024x5120 (![] : Fin 0 → Fin S1024x5120.rank)
  bcast_S_S8192x3072 : S_.BroadcastsInDim S8192x3072 (![] : Fin 0 → Fin S8192x3072.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S8192x1024 .f32) (main_arg2 : FVec F S1024 .f32) (main_arg3 : FVec F S1024x5120 .f32) (main_arg4 : FVec F S8192x3072 .bf16) (main_arg5 : FVec F S8192x2048 .bf16) : IVec S8192x1024 1 × IVec S1024 1 × IVec S1024x5120 1 × IVec S8192x3072 1 × IVec S8192x2048 1 :=
  let main_v0 : FVec F S8192x3072 .f32 := (extf .f32 · bitsLt_bf16_f32) main_arg4
  let main_v1 : FVec F S8192x2048 .f32 := (extf .f32 · bitsLt_bf16_f32) main_arg5
  let main_v2 : FVec F S8192x1024 .f32 := Host.absf main_arg1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1024x5120 .f32 := Host.absf main_arg3
  let main_cst_1 : FVec F S_ .f32 := constant S_ .f32 0x7F800000#32
  let main_v9 : FVec F S1024x5120 .f32 := broadcastInDim S1024x5120 ![] bcast_S_S1024x5120 main_cst_1
  let main_v10 : IVec S1024x5120 1 := cmpf .olt main_v8 main_v9
  let main_v11 : FVec F S8192x3072 .f32 := Host.absf main_v0
  let main_cst_2 : FVec F S_ .f32 := constant S_ .f32 0x7F800000#32
  let main_v12 : FVec F S8192x3072 .f32 := broadcastInDim S8192x3072 ![] bcast_S_S8192x3072 main_cst_2
  let main_v13 : IVec S8192x3072 1 := cmpf .olt main_v11 main_v12
  let main_v14 : FVec F S8192x2048 .f32 := Host.absf main_v1
  let main_cst_3 : FVec F S_ .f32 := constant S_ .f32 0x7F800000#32
  let main_v15 : FVec F S8192x2048 .f32 := broadcastInDim S8192x2048 ![] bcast_S_S8192x2048 main_cst_3
  let main_v16 : IVec S8192x2048 1 := cmpf .olt main_v14 main_v15
  (main_v4, main_v7, main_v10, main_v13, main_v16)
-- ==== Pre_finite13.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S8192x1024 1 × IVec S8192x1024 1 × IVec S1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Kernel.lean ====
abbrev S8192x1024 : Shape := ⟨2, ![8192, 1024]⟩
abbrev S8192x5120 : Shape := ⟨2, ![8192, 5120]⟩
abbrev S4x256x256 : Shape := ⟨3, ![4, 256, 256]⟩
abbrev S1024 : Shape := ⟨1, ![1024]⟩
abbrev S1024x1024 : Shape := ⟨2, ![1024, 1024]⟩
abbrev S256x1024 : Shape := ⟨2, ![256, 1024]⟩
abbrev S8192x4x256 : Shape := ⟨3, ![8192, 4, 256]⟩
abbrev S4x256x8192 : Shape := ⟨3, ![4, 256, 8192]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128x1024 : Shape := ⟨3, ![8, 128, 1024]⟩
abbrev S1024x256 : Shape := ⟨2, ![1024, 256]⟩
abbrev S8x32x1024 : Shape := ⟨3, ![8, 32, 1024]⟩
abbrev S4x8x32x256 : Shape := ⟨4, ![4, 8, 32, 256]⟩
abbrev S8x4x32x256 : Shape := ⟨4, ![8, 4, 32, 256]⟩
abbrev S8x448x1024 : Shape := ⟨3, ![8, 448, 1024]⟩
abbrev S8192x2048 : Shape := ⟨2, ![8192, 2048]⟩
abbrev S8x1024 : Shape := ⟨2, ![8, 1024]⟩
abbrev S256x2048 : Shape := ⟨2, ![256, 2048]⟩
abbrev S2x8 : Shape := ⟨2, ![2, 8]⟩
abbrev S1x1 : Shape := ⟨2, ![1, 1]⟩
abbrev S128x1024 : Shape := ⟨2, ![128, 1024]⟩
abbrev S1x128x1024 : Shape := ⟨3, ![1, 128, 1024]⟩
abbrev S32x8x1024 : Shape := ⟨3, ![32, 8, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 86
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x5120, .bf16⟩
  | .hbm, ⟨3, _⟩ => ⟨S8192x1024, .f32⟩
  | .hbm, ⟨4, _⟩ => ⟨S4x256x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S256x1024, .f32⟩
  | .hbm, ⟨12, _⟩ => ⟨S8192x1024, .f32⟩
  | .hbm, ⟨13, _⟩ => ⟨S8192x4x256, .f32⟩
  | .hbm, ⟨14, _⟩ => ⟨S4x256x8192, .f32⟩
  | .hbm, ⟨15, _⟩ => ⟨S8192x4x256, .f32⟩
  | .hbm, ⟨16, _⟩ => ⟨S8192x1024, .f32⟩
  | .hbm, ⟨17, _⟩ => ⟨S8192x1024, .bf16⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S8x128x1024, .f32⟩
  | .hbm, ⟨59, _⟩ => ⟨S8x128x1024, .f32⟩
  | .hbm, ⟨60, _⟩ => ⟨S8x128x1024, .f32⟩
  | .hbm, ⟨61, _⟩ => ⟨S1024x256, .f32⟩
  | .hbm, ⟨62, _⟩ => ⟨S8x32x1024, .f32⟩
  | .hbm, ⟨63, _⟩ => ⟨S4x8x32x256, .f32⟩
  | .hbm, ⟨64, _⟩ => ⟨S8x4x32x256, .f32⟩
  | .hbm, ⟨65, _⟩ => ⟨S8x32x1024, .f32⟩
  | .hbm, ⟨66, _⟩ => ⟨S8x448x1024, .f32⟩
  | .hbm, ⟨67, _⟩ => ⟨S8x448x1024, .bf16⟩
  | .hbm, ⟨68, _⟩ => ⟨S8x32x1024, .bf16⟩
  | .hbm, ⟨69, _⟩ => ⟨S8x4x32x256, .bf16⟩
  | .hbm, ⟨70, _⟩ => ⟨S4x8x32x256, .bf16⟩
  | .hbm, ⟨71, _⟩ => ⟨S4x256x256, .bf16⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S8192x1024, .bf16⟩
  | .hbm, ⟨76, _⟩ => ⟨S8192x1024, .bf16⟩
  | .hbm, ⟨77, _⟩ => ⟨S8192x1024, .bf16⟩
  | .hbm, ⟨78, _⟩ => ⟨S8192x1024, .bf16⟩
  | .hbm, ⟨79, _⟩ => ⟨S8192x1024, .bf16⟩
  | .hbm, ⟨80, _⟩ => ⟨S8192x1024, .bf16⟩
  | .hbm, ⟨81, _⟩ => ⟨S8192x2048, .bf16⟩
  | .hbm, ⟨82, _⟩ => ⟨S8x1024, .f32⟩
  | .hbm, ⟨83, _⟩ => ⟨S8x1024, .f32⟩
  | .hbm, ⟨84, _⟩ => ⟨S8x1024, .f32⟩
  | .hbm, ⟨85, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S4x256x256, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x2048, .bf16⟩
  | .local _ .vmem, ⟨29, _⟩ => ⟨S256x2048, .bf16⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | .local _ .vmem, ⟨33, _⟩ => ⟨S8x1024, .f32⟩
  | .local _ .vmem, ⟨34, _⟩ => ⟨S1024x1024, .bf16⟩
  | .local _ .vmem, ⟨35, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev main_v50_3 : Ref sig .tc := ⟨.hbm, 78, rfl⟩
abbrev main_v50_4 : Ref sig .tc := ⟨.hbm, 79, rfl⟩
abbrev main_v50_5 : Ref sig .tc := ⟨.hbm, 80, rfl⟩
abbrev main_v50_6 : Ref sig .tc := ⟨.hbm, 81, rfl⟩
abbrev main_v50_7 : Ref sig .tc := ⟨.hbm, 82, rfl⟩
abbrev main_v50_8 : Ref sig .tc := ⟨.hbm, 83, rfl⟩
abbrev main_v50_9 : Ref sig .tc := ⟨.hbm, 84, rfl⟩
abbrev main_v50_10 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32
abbrev cc0_sem20_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S8192x1024 : Shape := ⟨2, ![8192, 1024]⟩
abbrev S8192x5120 : Shape := ⟨2, ![8192, 5120]⟩
abbrev S4x256x256 : Shape := ⟨3, ![4, 256, 256]⟩
abbrev S1024 : Shape := ⟨1, ![1024]⟩
abbrev S1024x1024 : Shape := ⟨2, ![1024, 1024]⟩
abbrev S256x1024 : Shape := ⟨2, ![256, 1024]⟩
abbrev S8192x4x256 : Shape := ⟨3, ![8192, 4, 256]⟩
abbrev S4x256x8192 : Shape := ⟨3, ![4, 256, 8192]⟩
abbrev S8x1024 : Shape := ⟨2, ![8, 1024]⟩
abbrev S1x8x1024 : Shape := ⟨3, ![1, 8, 1024]⟩
abbrev S1024x8x1024 : Shape := ⟨3, ![1024, 8, 1024]⟩
abbrev S_ : Shape := ⟨0, ![]⟩
abbrev S8192 : Shape := ⟨1, ![8192]⟩
abbrev S8192x1 : Shape := ⟨2, ![8192, 1]⟩
abbrev S4x8192x256 : Shape := ⟨3, ![4, 8192, 256]⟩
abbrev S8192x2048 : Shape := ⟨2, ![8192, 2048]⟩

abbrev nBuf : Space → Nat
  | .hbm => 195
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x5120, .bf16⟩
  | 3 => ⟨S8192x1024, .f32⟩
  | 4 => ⟨S4x256x256, .f32⟩
  | 5 => ⟨S1024, .f32⟩
  | 6 => ⟨S1024, .f32⟩
  | 7 => ⟨S1024, .f32⟩
  | 8 => ⟨S1024x1024, .f32⟩
  | 9 => ⟨S1024x1024, .f32⟩
  | 10 => ⟨S1024x1024, .f32⟩
  | 11 => ⟨S256x1024, .f32⟩
  | 12 => ⟨S8192x5120, .f32⟩
  | 13 => ⟨S8192x1024, .f32⟩
  | 14 => ⟨S8192x1024, .f32⟩
  | 15 => ⟨S8192x1024, .f32⟩
  | 16 => ⟨S8192x4x256, .f32⟩
  | 17 => ⟨S4x256x8192, .f32⟩
  | 18 => ⟨S8192x4x256, .f32⟩
  | 19 => ⟨S8192x1024, .f32⟩
  | 20 => ⟨S8x1024, .f32⟩
  | 21 => ⟨S8x1024, .f32⟩
  | 22 => ⟨S1x8x1024, .f32⟩
  | 23 => ⟨S1024x8x1024, .f32⟩
  | 24 => ⟨S8192x1024, .f32⟩
  | 25 => ⟨S1x8x1024, .f32⟩
  | 26 => ⟨S1024x8x1024, .f32⟩
  | 27 => ⟨S8192x1024, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S_, .f32⟩
  | 49 => ⟨S8192x1, .f32⟩
  | 50 => ⟨S8192x1, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8x1024, .f32⟩
  | 75 => ⟨S1x8x1024, .f32⟩
  | 76 => ⟨S1024x8x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S1024x8x1024, .f32⟩
  | 117 => ⟨S_, .f32⟩
  | 118 => ⟨S8x1024, .f32⟩
  | 119 => ⟨S1x8x1024, .f32⟩
  | 120 => ⟨S_, .f32⟩
  | 121 => ⟨S8x1024, .f32⟩
  | 122 => ⟨S8192x4x256, .f32⟩
  | 123 => ⟨S4x256x8192, .f32⟩
  | 124 => ⟨S4x8192x256, .f32⟩
  | 125 => ⟨S8192x4x256, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S8192x1024, .f32⟩
  | 11 => ⟨S8192x1024, .f32⟩
  | 12 => ⟨S8192x1, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192, .f32⟩
  | 22 => ⟨S8192x1024, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S8192x1024, .f32⟩
  | 29 => ⟨S8192x1, .f32⟩
  | 30 => ⟨S_, .f32⟩
  | 31 => ⟨S8192x1, .f32⟩
  | 32 => ⟨S8192x1, .f32⟩
  | 33 => ⟨S_, .f32⟩
  | 34 => ⟨S8192, .f32⟩
  | 35 => ⟨S8192x1024, .f32⟩
  | 36 => ⟨S8192x1024, .f32⟩
  | 37 => ⟨S1024x8x1024, .f32⟩
  | 38 => ⟨S_, .f32⟩
  | 39 => ⟨S8x1024, .f32⟩
  | 40 => ⟨S1x8x1024, .f32⟩
  | 41 => ⟨S_, .f32⟩
  | 42 => ⟨S8x1024, .f32⟩
  | 43 => ⟨S1024x8x1024, .f32⟩
  | 44 => ⟨S_, .f32⟩
  | 45 => ⟨S8x1024, .f32⟩
  | 46 => ⟨S1x8x1024, .f32⟩
  | 47 => ⟨S_, .f32⟩
  | 48 => ⟨S8x1024, .f32⟩
  | 49 => ⟨S8x1024, .f32⟩
  | 50 => ⟨S1x8x1024, .f32⟩
  | 51 => ⟨S1024x8x1024, .f32⟩
  | 52 => ⟨S8192x1024, .f32⟩
  | 53 => ⟨S1024x8x1024, .f32⟩
  | 54 => ⟨S_, .f32⟩
  | 55 => ⟨S8x1024, .f32⟩
  | 56 => ⟨S1x8x1024, .f32⟩
  | 57 => ⟨S_, .f32⟩
  | 58 => ⟨S8x1024, .f32⟩
  | 59 => ⟨S8192x1024, .bf16⟩
  | 60 => ⟨S8192x1024, .bf16⟩
  | 61 => ⟨S8192x1024, .bf16⟩
  | 62 => ⟨S8192x1024, .bf16⟩
  | 63 => ⟨S8192x1024, .bf16⟩
  | 64 => ⟨S8192x1024, .bf16⟩
  | 65 => ⟨S8192x2048, .f32⟩
  | 66 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_v41_2 : Ref sig .tc := ⟨.hbm, 67, rfl⟩
abbrev main_call0_cst_1 : Ref sig .tc := ⟨.hbm, 68, rfl⟩
abbrev main_call0_v6 : Ref sig .tc := ⟨.hbm, 69, rfl⟩
abbrev main_call0_v7 : Ref sig .tc := ⟨.hbm, 70, rfl⟩
abbrev main_v41_1 : Ref sig .tc := ⟨.hbm, 71, rfl⟩
abbrev main_v41_0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_cst_7 : Ref sig .tc := ⟨.hbm, 83, rfl⟩
abbrev main_v51 : Ref sig .tc := ⟨.hbm, 84, rfl⟩
abbrev main_v52 : Ref sig .tc := ⟨.hbm, 85, rfl⟩
abbrev main_cst_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_cst_10 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_12 : Ref sig .tc := ⟨.hbm, 117, rfl⟩
abbrev main_v80 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_14 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_15 : Ref sig .tc := ⟨.hbm, 142, rfl⟩
abbrev main_v99 : Ref sig .tc := ⟨.hbm, 143, rfl⟩
abbrev main_v100 : Ref sig .tc := ⟨.hbm, 144, rfl⟩
abbrev main_cst_16 : Ref sig .tc := ⟨.hbm, 145, rfl⟩
abbrev main_v101 : Ref sig .tc := ⟨.hbm, 146, rfl⟩
abbrev main_v102 : Ref sig .tc := ⟨.hbm, 147, rfl⟩
abbrev main_cst_17 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_18 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_19 : Ref sig .tc := ⟨.hbm, 158, rfl⟩
abbrev main_v111 : Ref sig .tc := ⟨.hbm, 159, rfl⟩
abbrev main_v112 : Ref sig .tc := ⟨.hbm, 160, rfl⟩
abbrev main_cst_20 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_21 : Ref sig .tc := ⟨.hbm, 166, rfl⟩
abbrev main_v117 : Ref sig .tc := ⟨.hbm, 167, rfl⟩
abbrev main_v118 : Ref sig .tc := ⟨.hbm, 168, rfl⟩
abbrev main_cst_22 : Ref sig .tc := ⟨.hbm, 169, rfl⟩
abbrev main_v119 : Ref sig .tc := ⟨.hbm, 170, rfl⟩
abbrev main_v120 : Ref sig .tc := ⟨.hbm, 171, rfl⟩
abbrev main_cst_23 : Ref sig .tc := ⟨.hbm, 172, rfl⟩
abbrev main_v121 : Ref sig .tc := ⟨.hbm, 173, rfl⟩
abbrev main_v122 : Ref sig .tc := ⟨.hbm, 174, rfl⟩
abbrev main_cst_24 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_25 : Ref sig .tc := ⟨.hbm, 182, rfl⟩
abbrev main_v129 : Ref sig .tc := ⟨.hbm, 183, rfl⟩
abbrev main_v130 : Ref sig .tc := ⟨.hbm, 184, rfl⟩
abbrev main_cst_26 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8192x3072 : Shape := ⟨2, ![8192, 3072]⟩
abbrev S8192x1024 : Shape := ⟨2, ![8192, 1024]⟩
abbrev S3072x1024 : Shape := ⟨2, ![3072, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x3072 : Shape := ⟨2, ![8192, 3072]⟩
abbrev S8192x1024 : Shape := ⟨2, ![8192, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x2048 : Shape := ⟨2, ![8192, 2048]⟩
abbrev S8192x1024 : Shape := ⟨2, ![8192, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S8192x256 : Shape := ⟨2, ![8192, 256]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x1024 : Shape := ⟨2, ![8192, 1024]⟩
abbrev S1024x256 : Shape := ⟨2, ![1024, 256]⟩
abbrev S1024x1024 : Shape := ⟨2, ![1024, 1024]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_32 : BitVec 32 := 0#32
  let v37 : BitVec 1 := Scalar.cmpi .ne v36 c0_i32_32
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference9Ideal.lean ====
abbrev S8192x1024 : Shape := ⟨2, ![8192, 1024]⟩
abbrev S_ : Shape := ⟨0, ![]⟩
abbrev S4x256x256 : Shape := ⟨3, ![4, 256, 256]⟩
abbrev S8192x4x256 : Shape := ⟨3, ![8192, 4, 256]⟩
abbrev S4x256x8192 : Shape := ⟨3, ![4, 256, 8192]⟩
abbrev S1024x256 : Shape := ⟨2, ![1024, 256]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S4x256x256, .f32⟩
  | .hbm, ⟨4, _⟩ => ⟨S8192x1024, .f32⟩
  | .hbm, ⟨5, _⟩ => ⟨S8192x4x256, .f32⟩
  | .hbm, ⟨6, _⟩ => ⟨S4x256x8192, .f32⟩
  | .hbm, ⟨7, _⟩ => ⟨S8192x4x256, .f32⟩
  | .hbm, ⟨8, _⟩ => ⟨S8192x1024, .f32⟩
  | .hbm, ⟨9, _⟩ => ⟨S8192x1024, .f32⟩
  | .hbm, ⟨10, _⟩ => ⟨S8192x4x256, .f32⟩
  | .hbm, ⟨11, _⟩ => ⟨S4x256x8192, .f32⟩
  | .hbm, ⟨12, _⟩ => ⟨S4x256x256, .f32⟩
  | .hbm, ⟨13, _⟩ => ⟨S4x256x256, .f32⟩
  | .hbm, ⟨14, _⟩ => ⟨S1024x256, .f32⟩
  | .hbm, ⟨15, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x5120 : Shape := ⟨2, ![1024, 5120]⟩
abbrev S1x1024 : Shape := ⟨2, ![1, 1024]⟩
abbrev S5120x1024 : Shape := ⟨2, ![5120, 1024]⟩
abbrev S8x640x1024 : Shape := ⟨3, ![8, 640, 1024]⟩
abbrev S8192x5120 : Shape := ⟨2, ![8192, 5120]⟩
abbrev S512x1024 : Shape := ⟨2, ![512, 1024]⟩
abbrev S512x5120 : Shape := ⟨2, ![512, 5120]⟩
abbrev S1x8 : Shape := ⟨2, ![1, 8]⟩
abbrev S1x1 : Shape := ⟨2, ![1, 1]⟩
abbrev S_ : Shape := ⟨0, ![]⟩
abbrev S640x1024 : Shape := ⟨2, ![640, 1024]⟩
abbrev S1x640x1024 : Shape := ⟨3, ![1, 640, 1024]⟩
abbrev S512 : Shape := ⟨1, ![512]⟩
abbrev S512x1 : Shape := ⟨2, ![512, 1]⟩
abbrev S1280x1024 : Shape := ⟨2, ![1280, 1024]⟩
abbrev S512x1280 : Shape := ⟨2, ![512, 1280]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S1x1024, .f32⟩
  | .hbm, ⟨4, _⟩ => ⟨S5120x1024, .f32⟩
  | .hbm, ⟨5, _⟩ => ⟨S8x640x1024, .f32⟩
  | .hbm, ⟨6, _⟩ => ⟨S8x640x1024, .bf16⟩
  | .hbm, ⟨7, _⟩ => ⟨S8192x5120, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x5120, .bf16⟩
  | .local _ .vmem, ⟨4, _⟩ => ⟨S512x5120, .bf16⟩
  | .local _ .vmem, ⟨5, _⟩ => ⟨S5120x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8192x1024 : Shape := ⟨2, ![8192, 1024]⟩
abbrev S1024 : Shape := ⟨1, ![1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5120 : Shape := ⟨2, ![8192, 5120]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5120, .f32⟩
  | .hbm, ⟨20, _⟩ => ⟨S8192x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8x352x1024 : Shape := ⟨3, ![8, 352, 1024]⟩
abbrev S8x1056x1024 : Shape := ⟨3, ![8, 1056, 1024]⟩
abbrev S8192x2816 : Shape := ⟨2, ![8192, 2816]⟩
abbrev S512x1024 : Shape := ⟨2, ![512, 1024]⟩
abbrev S512x2816 : Shape := ⟨2, ![512, 2816]⟩
abbrev S3x8 : Shape := ⟨2, ![3, 8]⟩
abbrev S1x1 : Shape := ⟨2, ![1, 1]⟩
abbrev S_ : Shape := ⟨0, ![]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S8x352x1024, .f32⟩
  | .hbm, ⟨8, _⟩ => ⟨S2816x1024, .f32⟩
  | .hbm, ⟨9, _⟩ => ⟨S8x352x1024, .f32⟩
  | .hbm, ⟨10, _⟩ => ⟨S8x352x1024, .f32⟩
  | .hbm, ⟨11, _⟩ => ⟨S8x1056x1024, .f32⟩
  | .hbm, ⟨12, _⟩ => ⟨S8x1056x1024, .bf16⟩
  | .hbm, ⟨13, _⟩ => ⟨S8192x1024, .f32⟩
  | .hbm, ⟨14, _⟩ => ⟨S8192x2816, .bf16⟩
  | .hbm, ⟨15, _⟩ => ⟨S8192x2816, .bf16⟩
  | .hbm, ⟨16, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x1024, .bf16⟩
  | .local _ .vmem, ⟨10, _⟩ => ⟨S512x1024, .bf16⟩
  | .local _ .vmem, ⟨11, _⟩ => ⟨S2816x1024, .bf16⟩
  | .local _ .vmem, ⟨12, _⟩ => ⟨S2816x1024, .bf16⟩
  | .local _ .vmem, ⟨13, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel12.lean ====
abbrev S8192x1024 : Shape := ⟨2, ![8192, 1024]⟩
abbrev S1024 : Shape := ⟨1, ![1024]⟩
abbrev S1024x5120 : Shape := ⟨2, ![1024, 5120]⟩
abbrev S8192x3072 : Shape := ⟨2, ![8192, 3072]⟩
abbrev S8192x2048 : Shape := ⟨2, ![8192, 2048]⟩
abbrev S1x1024 : Shape := ⟨2, ![1, 1024]⟩
abbrev S5120x1024 : Shape := ⟨2, ![5120, 1024]⟩
abbrev S8x640x1024 : Shape := ⟨3, ![8, 640, 1024]⟩
abbrev S8x1024 : Shape := ⟨2, ![8, 1024]⟩
abbrev S512x1024 : Shape := ⟨2, ![512, 1024]⟩
abbrev S512x3072 : Shape := ⟨2, ![512, 3072]⟩
abbrev S512x2048 : Shape := ⟨2, ![512, 2048]⟩
abbrev S1x8 : Shape := ⟨2, ![1, 8]⟩
abbrev S1x1 : Shape := ⟨2, ![1, 1]⟩
abbrev S_ : Shape := ⟨0, ![]⟩
abbrev S640x1024 : Shape := ⟨2, ![640, 1024]⟩
abbrev S1x640x1024 : Shape := ⟨3, ![1, 640, 1024]⟩
abbrev S512 : Shape := ⟨1, ![512]⟩
abbrev S512x1 : Shape := ⟨2, ![512, 1]⟩
abbrev S1024x1024 : Shape := ⟨2, ![1024, 1024]⟩
abbrev S64x8x1024 : Shape := ⟨3, ![64, 8, 1024]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5120, .f32⟩
  | .hbm, ⟨4, _⟩ => ⟨S8192x3072, .bf16⟩
  | .hbm, ⟨5, _⟩ => ⟨S8192x2048, .bf16⟩
  | .hbm, ⟨6, _⟩ => ⟨S1x1024, .f32⟩
  | .hbm, ⟨7, _⟩ => ⟨S5120x1024, .f32⟩
  | .hbm, ⟨8, _⟩ => ⟨S8x640x1024, .f32⟩
  | .hbm, ⟨9, _⟩ => ⟨S8x640x1024, .bf16⟩
  | .hbm, ⟨10, _⟩ => ⟨S8192x1024, .f32⟩
  | .hbm, ⟨11, _⟩ => ⟨S8192x1024, .bf16⟩
  | .hbm, ⟨12, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x3072, .bf16⟩
  | .local _ .vmem, ⟨6, _⟩ => ⟨S512x3072, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | .local _ .vmem, ⟨14, _⟩ => ⟨S5120x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S8192x1024 : Shape := ⟨2, ![8192, 1024]⟩
abbrev S1024 : Shape := ⟨1, ![1024]⟩
abbrev S1024x5120 : Shape := ⟨2, ![1024, 5120]⟩
abbrev S8192x3072 : Shape := ⟨2, ![8192, 3072]⟩
abbrev S8192x2048 : Shape := ⟨2, ![8192, 2048]⟩
abbrev S8x1024 : Shape := ⟨2, ![8, 1024]⟩
abbrev S1x8x1024 : Shape := ⟨3, ![1, 8, 1024]⟩
abbrev S1024x8x1024 : Shape := ⟨3, ![1024, 8, 1024]⟩
abbrev S_ : Shape := ⟨0, ![]⟩
abbrev S8192 : Shape := ⟨1, ![8192]⟩
abbrev S8192x1 : Shape := ⟨2, ![8192, 1]⟩
abbrev S8192x5120 : Shape := ⟨2, ![8192, 5120]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5120, .f32⟩
  | .hbm, ⟨4, _⟩ => ⟨S8192x3072, .bf16⟩
  | .hbm, ⟨5, _⟩ => ⟨S8192x2048, .bf16⟩
  | .hbm, ⟨6, _⟩ => ⟨S8x1024, .f32⟩
  | .hbm, ⟨7, _⟩ => ⟨S1x8x1024, .f32⟩
  | .hbm, ⟨8, _⟩ => ⟨S1024x8x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x5120, .f32⟩
  | .hbm, ⟨29, _⟩ => ⟨S8192x5120, .bf16⟩
  | .hbm, ⟨30, _⟩ => ⟨S8192x5120, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1024x8x1024, .f32⟩
  | .hbm, ⟨52, _⟩ => ⟨S_, .f32⟩
  | .hbm, ⟨53, _⟩ => ⟨S8x1024, .f32⟩
  | .hbm, ⟨54, _⟩ => ⟨S1x8x1024, .f32⟩
  | .hbm, ⟨55, _⟩ => ⟨S_, .f32⟩
  | .hbm, ⟨56, _⟩ => ⟨S8x1024, .f32⟩
  | .hbm, ⟨57, _⟩ => ⟨S8192x1024, .f32⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x352x1024 : Shape := ⟨3, ![8, 352, 1024]⟩
abbrev S8x1056x1024 : Shape := ⟨3, ![8, 1056, 1024]⟩
abbrev S8x1024 : Shape := ⟨2, ![8, 1024]⟩
abbrev S256x1024 : Shape := ⟨2, ![256, 1024]⟩
abbrev S256x2816 : Shape := ⟨2, ![256, 2816]⟩
abbrev S3x8 : Shape := ⟨2, ![3, 8]⟩
abbrev S1x1 : Shape := ⟨2, ![1, 1]⟩
abbrev S352x1024 : Shape := ⟨2, ![352, 1024]⟩
abbrev S1x352x1024 : Shape := ⟨3, ![1, 352, 1024]⟩
abbrev S512x1024 : Shape := ⟨2, ![512, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S32x8x1024 : Shape := ⟨3, ![32, 8, 1024]⟩

abbrev nBuf : Space → Nat
  | .hbm => 39
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x2816, .f32⟩
  | .hbm, ⟨24, _⟩ => ⟨S8192x2816, .bf16⟩
  | .hbm, ⟨25, _⟩ => ⟨S8192x2816, .f32⟩
  | .hbm, ⟨26, _⟩ => ⟨S8192x2816, .bf16⟩
  | .hbm, ⟨27, _⟩ => ⟨S2816x1024, .f32⟩
  | .hbm, ⟨28, _⟩ => ⟨S8x352x1024, .f32⟩
  | .hbm, ⟨29, _⟩ => ⟨S2816x1024, .f32⟩
  | .hbm, ⟨30, _⟩ => ⟨S8x352x1024, .f32⟩
  | .hbm, ⟨31, _⟩ => ⟨S8x352x1024, .f32⟩
  | .hbm, ⟨32, _⟩ => ⟨S8x1056x1024, .f32⟩
  | .hbm, ⟨33, _⟩ => ⟨S8x1056x1024, .bf16⟩
  | .hbm, ⟨34, _⟩ => ⟨S8192x1024, .f32⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S8x1024, .f32⟩
  | .local _ .vmem, ⟨18, _⟩ => ⟨S2816x1024, .bf16⟩
  | .local _ .vmem, ⟨19, _⟩ => ⟨S2816x1024, .bf16⟩
  | .local _ .vmem, ⟨20, _⟩ => ⟨S2816x1024, .bf16⟩
  | .local _ .vmem, ⟨21, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x1024 : Shape := ⟨2, ![8, 1024]⟩
abbrev S1x8x1024 : Shape := ⟨3, ![1, 8, 1024]⟩
abbrev S1024x8x1024 : Shape := ⟨3, ![1024, 8, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x1024, .f32⟩
  | .hbm, ⟨7, _⟩ => ⟨S1x8x1024, .f32⟩
  | .hbm, ⟨8, _⟩ => ⟨S1024x8x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1024x8x1024, .f32⟩
  | .hbm, ⟨81, _⟩ => ⟨S_, .f32⟩
  | .hbm, ⟨82, _⟩ => ⟨S8x1024, .f32⟩
  | .hbm, ⟨83, _⟩ => ⟨S1x8x1024, .f32⟩
  | .hbm, ⟨84, _⟩ => ⟨S_, .f32⟩
  | .hbm, ⟨85, _⟩ => ⟨S8x1024, .f32⟩
  | .hbm, ⟨86, _⟩ => ⟨S8192x1024, .f32⟩
  | .hbm, ⟨87, _⟩ => ⟨S8192x2816, .bf16⟩
  | .hbm, ⟨88, _⟩ => ⟨S8192x2816, .bf16⟩
  | .hbm, ⟨89, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]
-- ==== Kernel14.lean ====
abbrev S2x1024x352 : Shape := ⟨3, ![2, 1024, 352]⟩
abbrev S1x1024x352 : Shape := ⟨3, ![1, 1024, 352]⟩
abbrev S1024x352 : Shape := ⟨2, ![1024, 352]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S2x1024x352, .f32⟩
  | .hbm, ⟨4, _⟩ => ⟨S2x1024x352, .f32⟩
  | .hbm, ⟨5, _⟩ => ⟨S2x1024x352, .f32⟩
  | .hbm, ⟨6, _⟩ => ⟨S2x1024x352, .f32⟩
  | .local _ .vmem, ⟨0, _⟩ => ⟨S1x1024x352, .f32⟩
  | .local _ .vmem, ⟨1, _⟩ => ⟨S1x1024x352, .f32⟩
  | .local _ .vmem, ⟨2, _⟩ => ⟨S1x1024x352, .f32⟩
  | .local _ .vmem, ⟨3, _⟩ => ⟨S1x1024x352, .f32⟩
  | .local _ .vmem, ⟨4, _⟩ => ⟨S1x1024x352, .f32⟩
  | .local _ .vmem, ⟨5, _⟩ => ⟨S1x1024x352, .f32⟩
  | .local _ .vmem, ⟨6, _⟩ => ⟨S1x1024x352, .f32⟩
  | .local _ .vmem, ⟨7, _⟩ => ⟨S1x1024x352, .f32⟩
  | .local _ .vmem, ⟨8, _⟩ => ⟨S1x1024x352, .f32⟩
  | .local _ .vmem, ⟨9, _⟩ => ⟨S1x1024x352, .f32⟩
  | .local _ .vmem, ⟨10, _⟩ => ⟨S1x1024x352, .f32⟩
  | .local _ .vmem, ⟨11, _⟩ => ⟨S1x1024x352, .f32⟩
  | .local _ .vmem, ⟨12, _⟩ => ⟨S1x1024x352, .f32⟩
  | .local _ .vmem, ⟨13, _⟩ => ⟨S1x1024x352, .f32⟩
  | _, _ => ⟨S2x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2x1024x352 : Shape := ⟨3, ![2, 1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S2x1024x352, .f32⟩
  | .hbm, ⟨4, _⟩ => ⟨S_, .f32⟩
  | .hbm, ⟨5, _⟩ => ⟨S2x1024x352, .f32⟩
  | .hbm, ⟨6, _⟩ => ⟨S2x1024x352, .f32⟩
  | .hbm, ⟨7, _⟩ => ⟨S_, .f32⟩
  | .hbm, ⟨8, _⟩ => ⟨S2x1024x352, .f32⟩
  | .hbm, ⟨9, _⟩ => ⟨S2x1024x352, .f32⟩
  | .hbm, ⟨10, _⟩ => ⟨S2x1024x352, .f32⟩
  | .hbm, ⟨11, _⟩ => ⟨S_, .f32⟩
  | .hbm, ⟨12, _⟩ => ⟨S2x1024x352, .f32⟩
  | .hbm, ⟨13, _⟩ => ⟨S2x1024x352, .f32⟩
  | .hbm, ⟨14, _⟩ => ⟨S2x1024x352, .f32⟩
  | .hbm, ⟨15, _⟩ => ⟨S_, .f32⟩
  | .hbm, ⟨16, _⟩ => ⟨S2x1024x352, .f32⟩
  | .hbm, ⟨17, _⟩ => ⟨S2x1024x352, .f32⟩
  | .hbm, ⟨18, _⟩ => ⟨S2x1024x352, .f32⟩
  | .hbm, ⟨19, _⟩ => ⟨S_, .f32⟩
  | .hbm, ⟨20, _⟩ => ⟨S2x1024x352, .f32⟩
  | .hbm, ⟨21, _⟩ => ⟨S2x1024x352, .f32⟩
  | .hbm, ⟨22, _⟩ => ⟨S_, .f32⟩
  | .hbm, ⟨23, _⟩ => ⟨S2x1024x352, .f32⟩
  | .hbm, ⟨24, _⟩ => ⟨S2x1024x352, .f32⟩
  | .hbm, ⟨25, _⟩ => ⟨S2x1024x352, .f32⟩
  | .hbm, ⟨26, _⟩ => ⟨S_, .f32⟩
  | .hbm, ⟨27, _⟩ => ⟨S2x1024x352, .f32⟩
  | .hbm, ⟨28, _⟩ => ⟨S2x1024x352, .f32⟩
  | .hbm, ⟨29, _⟩ => ⟨S2x1024x352, .f32⟩
  | .hbm, ⟨30, _⟩ => ⟨S_, .f32⟩
  | .hbm, ⟨31, _⟩ => ⟨S2x1024x352, .f32⟩
  | .hbm, ⟨32, _⟩ => ⟨S2x1024x352, .f32⟩
  | .hbm, ⟨33, _⟩ => ⟨S2x1024x352, .f32⟩
  | .hbm, ⟨34, _⟩ => ⟨S_, .f32⟩
  | .hbm, ⟨35, _⟩ => ⟨S2x1024x352, .f32⟩
  | .hbm, ⟨36, _⟩ => ⟨S2x1024x352, .f32⟩
  | _, _ => ⟨S2x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2x352x1024 : Shape := ⟨3, ![2, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x1024x640 : Shape := ⟨3, ![2, 1024, 640]⟩
abbrev S1x1024x640 : Shape := ⟨3, ![1, 1024, 640]⟩
abbrev S1024x640 : Shape := ⟨2, ![1024, 640]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .local _ .vmem, ⟨0, _⟩ => ⟨S1x1024x640, .f32⟩
  | .local _ .vmem, ⟨1, _⟩ => ⟨S1x1024x640, .f32⟩
  | .local _ .vmem, ⟨2, _⟩ => ⟨S1x1024x640, .f32⟩
  | .local _ .vmem, ⟨3, _⟩ => ⟨S1x1024x640, .f32⟩
  | .local _ .vmem, ⟨4, _⟩ => ⟨S1x1024x640, .f32⟩
  | .local _ .vmem, ⟨5, _⟩ => ⟨S1x1024x640, .f32⟩
  | .local _ .vmem, ⟨6, _⟩ => ⟨S1x1024x640, .f32⟩
  | .local _ .vmem, ⟨7, _⟩ => ⟨S1x1024x640, .f32⟩
  | .local _ .vmem, ⟨8, _⟩ => ⟨S1x1024x640, .f32⟩
  | .local _ .vmem, ⟨9, _⟩ => ⟨S1x1024x640, .f32⟩
  | .local _ .vmem, ⟨10, _⟩ => ⟨S1x1024x640, .f32⟩
  | .local _ .vmem, ⟨11, _⟩ => ⟨S1x1024x640, .f32⟩
  | .local _ .vmem, ⟨12, _⟩ => ⟨S1x1024x640, .f32⟩
  | .local _ .vmem, ⟨13, _⟩ => ⟨S1x1024x640, .f32⟩
  | _, _ => ⟨S2x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2x1024x640 : Shape := ⟨3, ![2, 1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x640, .f32⟩
  | .hbm, ⟨1, _⟩ => ⟨S2x1024x640, .f32⟩
  | .hbm, ⟨2, _⟩ => ⟨S2x1024x640, .f32⟩
  | .hbm, ⟨3, _⟩ => ⟨S2x1024x640, .f32⟩
  | .hbm, ⟨4, _⟩ => ⟨S_, .f32⟩
  | .hbm, ⟨5, _⟩ => ⟨S2x1024x640, .f32⟩
  | .hbm, ⟨6, _⟩ => ⟨S2x1024x640, .f32⟩
  | .hbm, ⟨7, _⟩ => ⟨S_, .f32⟩
  | .hbm, ⟨8, _⟩ => ⟨S2x1024x640, .f32⟩
  | .hbm, ⟨9, _⟩ => ⟨S2x1024x640, .f32⟩
  | .hbm, ⟨10, _⟩ => ⟨S2x1024x640, .f32⟩
  | .hbm, ⟨11, _⟩ => ⟨S_, .f32⟩
  | .hbm, ⟨12, _⟩ => ⟨S2x1024x640, .f32⟩
  | .hbm, ⟨13, _⟩ => ⟨S2x1024x640, .f32⟩
  | .hbm, ⟨14, _⟩ => ⟨S2x1024x640, .f32⟩
  | .hbm, ⟨15, _⟩ => ⟨S_, .f32⟩
  | .hbm, ⟨16, _⟩ => ⟨S2x1024x640, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S_, .f32⟩
  | .hbm, ⟨23, _⟩ => ⟨S2x1024x640, .f32⟩
  | .hbm, ⟨24, _⟩ => ⟨S2x1024x640, .f32⟩
  | .hbm, ⟨25, _⟩ => ⟨S2x1024x640, .f32⟩
  | .hbm, ⟨26, _⟩ => ⟨S_, .f32⟩
  | .hbm, ⟨27, _⟩ => ⟨S2x1024x640, .f32⟩
  | .hbm, ⟨28, _⟩ => ⟨S2x1024x640, .f32⟩
  | .hbm, ⟨29, _⟩ => ⟨S2x1024x640, .f32⟩
  | .hbm, ⟨30, _⟩ => ⟨S_, .f32⟩
  | .hbm, ⟨31, _⟩ => ⟨S2x1024x640, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | _, _ => ⟨S2x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MixRunA.lean ====
module

public import proofs.«01_k».proof.Proof.Gen.KernelIdeal.Frame.Runs

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1208000 in
set_option sl_exec.dmaWindow true in
set_option sl_exec.dmaWindowSet true in
set_option sl_exec.rejoinHeartbeats 1000000 in
/-- The body at a point that fetches the two matrices: with every staging buffer whole, it runs to the end, and the
    pieces its stores leave in each output and in each scratch are the components of the tuple. -/
def runA (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2048 .bf16) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S8x1024 .f32) (harg22 : arg22.IsWhole) (arg23 : Memref sig .tc .vmem S1024x1024 .bf16) (harg23 : arg23.IsWhole) (arg24 : Memref sig .tc .vmem S1024x1024 .bf16) (harg24 : arg24.IsWhole) (hc0 : cond0_0 i)
    (x0 : Vec F S256x1024 .f32) (x1 : Vec F S256x1024 .bf16) (x2 : Vec F S256x1024 .bf16) (x3 : Vec F S256x1024 .f32) (x4 : Vec F S256x1024 .bf16) (x5 : Vec F S256x1024 .bf16) (x6 : Vec F S4x256x256 .bf16) (x7 : Vec F S1x1024 .f32) (x8 : Vec F S1x1024 .f32) (x9 : Vec F S1x1024 .f32) (fh0 : HbBuf0 (F := F) c hbM0_0) :
    Σ' (L10 : List (View.Piece (Elt F) S256x1024 .bf16)), Σ' (L11 : List (View.Piece (Elt F) S256x1024 .bf16)), Σ' (L12 : List (View.Piece (Elt F) S256x1024 .bf16)), Σ' (L13 : List (View.Piece (Elt F) S256x1024 .bf16)), Σ' (L14 : List (View.Piece (Elt F) S256x1024 .bf16)), Σ' (L15 : List (View.Piece (Elt F) S256x1024 .bf16)), Σ' (L16 : List (View.Piece (Elt F) S256x2048 .bf16)), Σ' (L17 : List (View.Piece (Elt F) S8x1024 .f32)), Σ' (L18 : List (View.Piece (Elt F) S8x1024 .f32)), Σ' (L19 : List (View.Piece (Elt F) S8x1024 .f32)), Σ' (L20 : List (View.Piece (Elt F) S8x1024 .f32)), Σ' (LS0 : List (View.Piece (Elt F) S1024x1024 .bf16)), { LS1 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1) ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ hbPt0 c hbM0_0 fh0 ∗ (∃ W', owes (c : Thread nD τ) 0 W')) -∗ K ⟨⟩))
          ⊢ wp frame (wpE (defs₀ (F := F)) Variants.none c none) Set.univ (cc0_mixer_bwd_rows i arg1 harg1 arg2 harg2 arg3 harg3 arg4 harg4 arg5 harg5 arg6 harg6 arg7 harg7 arg8 harg8 arg9 harg9 arg10 harg10 (Memref.whole main_v42) (Memref.isWhole_whole _) arg12 harg12 arg13 harg13 arg14 harg14 arg15 harg15 arg16 harg16 arg17 harg17 arg18 harg18 arg19 harg19 arg20 harg20 arg21 harg21 arg22 harg22 arg23 harg23 arg24 harg24 cc0_scratch2) K } := by
  refine ⟨?_, ?_, ?_, ?_, ?_, ?_, ?_, ?_, ?_, ?_, ?_, ?_, ?_, fun W K => ?run⟩
  case run =>
    simp only [cc0_mixer_bwd_rows_eq_skeleton]; unfold cc0_mixer_bwd_rows_skel
    simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, Hq0, Hq1, Hq2, Hq3, Hq4, Hq5, Hq6, Hq7, Hq8, Hq9, Hq10, Hq11, Hq12, Hq13, Hq14, Hq15, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    iexists _; iexact HW

end Cert.KernelIdeal.Body

end
-- ==== Proof.MixRunB.lean ====
module

public import proofs.«01_k».proof.Proof.MixRunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 8000000 in
/-- The body at a point that finds the two matrices in the scratch: as `runA`, over the scratch contents and the
    accumulated outputs the point before left. -/
def runB (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2048 .bf16) (harg18 : arg18.IsWhole) (arg19 : Memref sig .tc .vmem S8x1024 .f32) (harg19 : arg19.IsWhole) (arg20 : Memref sig .tc .vmem S8x1024 .f32) (harg20 : arg20.IsWhole) (arg21 : Memref sig .tc .vmem S8x1024 .f32) (harg21 : arg21.IsWhole) (arg22 : Memref sig .tc .vmem S8x1024 .f32) (harg22 : arg22.IsWhole) (arg23 : Memref sig .tc .vmem S1024x1024 .bf16) (harg23 : arg23.IsWhole) (arg24 : Memref sig .tc .vmem S1024x1024 .bf16) (harg24 : arg24.IsWhole) (hc0 : ¬cond0_0 i)
    (x0 : Vec F S256x1024 .f32) (x1 : Vec F S256x1024 .bf16) (x2 : Vec F S256x1024 .bf16) (x3 : Vec F S256x1024 .f32) (x4 : Vec F S256x1024 .bf16) (x5 : Vec F S256x1024 .bf16) (x6 : Vec F S4x256x256 .bf16) (x7 : Vec F S1x1024 .f32) (x8 : Vec F S1x1024 .f32) (x9 : Vec F S1x1024 .f32) (xo17 : Vec F S8x1024 .f32) (xo18 : Vec F S8x1024 .f32) (xo19 : Vec F S8x1024 .f32) (xo20 : Vec F S8x1024 .f32) (xs0 : Vec F S1024x1024 .bf16) (xs1 : Vec F S1024x1024 .bf16) (fh0 : HbBuf0 (F := F) c hbM0_0) :
    Σ' (L10 : List (View.Piece (Elt F) S256x1024 .bf16)), Σ' (L11 : List (View.Piece (Elt F) S256x1024 .bf16)), Σ' (L12 : List (View.Piece (Elt F) S256x1024 .bf16)), Σ' (L13 : List (View.Piece (Elt F) S256x1024 .bf16)), Σ' (L14 : List (View.Piece (Elt F) S256x1024 .bf16)), Σ' (L15 : List (View.Piece (Elt F) S256x1024 .bf16)), Σ' (L16 : List (View.Piece (Elt F) S256x2048 .bf16)), Σ' (L17 : List (View.Piece (Elt F) S8x1024 .f32)), Σ' (L18 : List (View.Piece (Elt F) S8x1024 .f32)), Σ' (L19 : List (View.Piece (Elt F) S8x1024 .f32)), Σ' (L20 : List (View.Piece (Elt F) S8x1024 .f32)), Σ' (LS0 : List (View.Piece (Elt F) S1024x1024 .bf16)), { LS1 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo17 ∗ owns (c : Thread nD τ) arg20 fullShare xo18 ∗ owns (c : Thread nD τ) arg21 fullShare xo19 ∗ owns (c : Thread nD τ) arg22 fullShare xo20 ∗ owns (c : Thread nD τ) arg23 fullShare xs0 ∗ owns (c : Thread nD τ) arg24 fullShare xs1 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ owns (c : Thread nD τ) arg23 fullShare xs0 ∗ owns (c : Thread nD τ) arg24 fullShare xs1 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ hbPt0 c hbM0_0 fh0 ∗ (∃ W', owes (c : Thread nD τ) 0 W')) -∗ K ⟨⟩))
          ⊢ wp frame (wpE (defs₀ (F := F)) Variants.none c none) Set.univ (cc0_mixer_bwd_rows i arg1 harg1 arg2 harg2 arg3 harg3 arg4 harg4 arg5 harg5 arg6 harg6 arg7 harg7 arg8 harg8 arg9 harg9 arg10 harg10 (Memref.whole main_v42) (Memref.isWhole_whole _) arg12 harg12 arg13 harg13 arg14 harg14 arg15 harg15 arg16 harg16 arg17 harg17 arg18 harg18 arg19 harg19 arg20 harg20 arg21 harg21 arg22 harg22 arg23 harg23 arg24 harg24 cc0_scratch2) K } := by
  refine ⟨?_, ?_, ?_, ?_, ?_, ?_, ?_, ?_, ?_, ?_, ?_, [], [], fun W K => ?run⟩
  case run =>
    simp only [cc0_mixer_bwd_rows_eq_skeleton]; unfold cc0_mixer_bwd_rows_skel
    simp only [k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%fs0, %hfs0, HS0⟩, ⟨%fs1, %hfs1, HS1⟩, Hq0, Hq1, Hq2, Hq3, Hq4, Hq5, Hq6, Hq7, Hq8, Hq9, Hq10, Hq11, Hq12, Hq13, Hq14, Hq15, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg19.eq_unread hf17; obtain rfl := harg20.eq_unread hf18; obtain rfl := harg21.eq_unread hf19; obtain rfl := harg22.eq_unread hf20; obtain rfl := harg23.eq_unread hfs0; obtain rfl := harg24.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]
    · iexists _; isplitr; · ipureintro; exact harg23.read_unread _
      iexact HS0
    isplitl [HS1]
    · iexists _; isplitr; · ipureintro; exact harg24.read_unread _
      iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    iexists _; iexact HW

end Cert.KernelIdeal.Body

end
-- ==== Proof.MixFrame.lean ====
module

public import proofs.«01_k».proof.Proof.MixRunB
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the staging buffers of the outputs, and then the scratch buffers, hold after a point. -/
abbrev Outs (F : FTy → Type) [FloatOps F] : Type :=
  Vec F S256x1024 .bf16 × Vec F S256x1024 .bf16 × Vec F S256x1024 .bf16 × Vec F S256x1024 .bf16 × Vec F S256x1024 .bf16 × Vec F S256x1024 .bf16 × Vec F S256x2048 .bf16 × Vec F S8x1024 .f32 × Vec F S8x1024 .f32 × Vec F S8x1024 .f32 × Vec F S8x1024 .f32 × Vec F S1024x1024 .bf16 × Vec F S1024x1024 .bf16

/-- The first case's run, at point `t`. -/
abbrev atA (c : Dev nD) (t : Fin cfg0.N) (h0 : t.val % 32 = 0) :=
  runA c (grid0.coords t) (ms0_0 t) (hs0_0 t) (ms0_1 t) (hs0_1 t) (ms0_2 t) (hs0_2 t) (ms0_3 t) (hs0_3 t) (ms0_4 t)
  (hs0_4 t) (ms0_5 t) (hs0_5 t) (ms0_6 t) (hs0_6 t) (ms0_7 t) (hs0_7 t) (ms0_8 t) (hs0_8 t) (ms0_9 t) (hs0_9 t)
  (ms0_10 t) (hs0_10 t) (ms0_11 t) (hs0_11 t) (ms0_12 t) (hs0_12 t) (ms0_13 t) (hs0_13 t) (ms0_14 t) (hs0_14 t)
  (ms0_15 t) (hs0_15 t) (ms0_16 t) (hs0_16 t) (ms0_17 t) (hs0_17 t) (ms0_18 t) (hs0_18 t) (ms0_19 t) (hs0_19 t)
  (ms0_20 t) (hs0_20 t) scM0_0 (Memref.isWhole_whole _) scM0_1 (Memref.isWhole_whole _) ((hcond0_0 t).mpr h0) (iblk m
  c 0 t) (iblk m c 1 t) (iblk m c 2 t) (iblk m c 3 t) (iblk m c 4 t) (iblk m c 5 t) (iblk m c 6 t) (iblk m c 7 t)
  (iblk m c 8 t) (iblk m c 9 t) (V m c main_v42)

/-- The second case's run, at point `t`, over what the point before left. -/
abbrev atB (c : Dev nD) (t : Fin cfg0.N) (h0 : ¬t.val % 32 = 0) (p : Outs F) :=
  runB c (grid0.coords t) (ms0_0 t) (hs0_0 t) (ms0_1 t) (hs0_1 t) (ms0_2 t) (hs0_2 t) (ms0_3 t) (hs0_3 t) (ms0_4 t)
  (hs0_4 t) (ms0_5 t) (hs0_5 t) (ms0_6 t) (hs0_6 t) (ms0_7 t) (hs0_7 t) (ms0_8 t) (hs0_8 t) (ms0_9 t) (hs0_9 t)
  (ms0_10 t) (hs0_10 t) (ms0_11 t) (hs0_11 t) (ms0_12 t) (hs0_12 t) (ms0_13 t) (hs0_13 t) (ms0_14 t) (hs0_14 t)
  (ms0_15 t) (hs0_15 t) (ms0_16 t) (hs0_16 t) (ms0_17 t) (hs0_17 t) (ms0_18 t) (hs0_18 t) (ms0_19 t) (hs0_19 t)
  (ms0_20 t) (hs0_20 t) scM0_0 (Memref.isWhole_whole _) scM0_1 (Memref.isWhole_whole _) (fun h => h0 ((hcond0_0 t).mp
  h)) (iblk m c 0 t) (iblk m c 1 t) (iblk m c 2 t) (iblk m c 3 t) (iblk m c 4 t) (iblk m c 5 t) (iblk m c 6 t) (iblk
  m c 7 t) (iblk m c 8 t) (iblk m c 9 t) p.2.2.2.2.2.2.2.1 p.2.2.2.2.2.2.2.2.1 p.2.2.2.2.2.2.2.2.2.1
  p.2.2.2.2.2.2.2.2.2.2.1 p.2.2.2.2.2.2.2.2.2.2.2.1 p.2.2.2.2.2.2.2.2.2.2.2.2 (V m c main_v42)

section

variable (c : Dev nD) (t : Fin cfg0.N) (h0 : t.val % 32 = 0)

theorem coverA_10 (y : S256x1024.Idx) :
    ∃ pc ∈ (atA m c t h0).1, y ∈ pc.1.set :=
  View.cover_of_tiledL (atA m c t h0).1 S256x1024.size (by sl_kernel_rfl) y

def outA_10 : Vec F S256x1024 .bf16 :=
  VO0_10.read (Elt F) (VO0_10.writes (Elt F) VO0_10.junk (atA m c t h0).1)

theorem coverA_11 (y : S256x1024.Idx) :
    ∃ pc ∈ (atA m c t h0).2.1, y ∈ pc.1.set :=
  View.cover_of_tiledL (atA m c t h0).2.1 S256x1024.size (by sl_kernel_rfl) y

def outA_11 : Vec F S256x1024 .bf16 :=
  VO0_11.read (Elt F) (VO0_11.writes (Elt F) VO0_11.junk (atA m c t h0).2.1)

theorem coverA_12 (y : S256x1024.Idx) :
    ∃ pc ∈ (atA m c t h0).2.2.1, y ∈ pc.1.set :=
  View.cover_of_tiledL (atA m c t h0).2.2.1 S256x1024.size (by sl_kernel_rfl) y

def outA_12 : Vec F S256x1024 .bf16 :=
  VO0_12.read (Elt F) (VO0_12.writes (Elt F) VO0_12.junk (atA m c t h0).2.2.1)

theorem coverA_13 (y : S256x1024.Idx) :
    ∃ pc ∈ (atA m c t h0).2.2.2.1, y ∈ pc.1.set :=
  View.cover_of_tiledL (atA m c t h0).2.2.2.1 S256x1024.size (by sl_kernel_rfl) y

def outA_13 : Vec F S256x1024 .bf16 :=
  VO0_13.read (Elt F) (VO0_13.writes (Elt F) VO0_13.junk (atA m c t h0).2.2.2.1)

theorem coverA_14 (y : S256x1024.Idx) :
    ∃ pc ∈ (atA m c t h0).2.2.2.2.1, y ∈ pc.1.set :=
  View.cover_of_tiledL (atA m c t h0).2.2.2.2.1 S256x256.size (by sl_kernel_rfl) y

def outA_14 : Vec F S256x1024 .bf16 :=
  VO0_14.read (Elt F) (VO0_14.writes (Elt F) VO0_14.junk (atA m c t h0).2.2.2.2.1)

theorem coverA_15 (y : S256x1024.Idx) :
    ∃ pc ∈ (atA m c t h0).2.2.2.2.2.1, y ∈ pc.1.set :=
  View.cover_of_tiledL (atA m c t h0).2.2.2.2.2.1 S256x1024.size (by sl_kernel_rfl) y

def outA_15 : Vec F S256x1024 .bf16 :=
  VO0_15.read (Elt F) (VO0_15.writes (Elt F) VO0_15.junk (atA m c t h0).2.2.2.2.2.1)

theorem coverA_16 (y : S256x2048.Idx) :
    ∃ pc ∈ (atA m c t h0).2.2.2.2.2.2.1, y ∈ pc.1.set :=
  View.cover_of_tiledL (atA m c t h0).2.2.2.2.2.2.1 S256x1024.size (by sl_kernel_rfl) y

def outA_16 : Vec F S256x2048 .bf16 :=
  VO0_16.read (Elt F) (VO0_16.writes (Elt F) VO0_16.junk (atA m c t h0).2.2.2.2.2.2.1)

theorem coverA_17 (y : S8x1024.Idx) :
    ∃ pc ∈ (atA m c t h0).2.2.2.2.2.2.2.1, y ∈ pc.1.set :=
  View.cover_of_tiledL (atA m c t h0).2.2.2.2.2.2.2.1 S8x1024.size (by sl_kernel_rfl) y

def outA_17 : Vec F S8x1024 .f32 :=
  VO0_17.read (Elt F) (VO0_17.writes (Elt F) VO0_17.junk (atA m c t h0).2.2.2.2.2.2.2.1)

theorem coverA_18 (y : S8x1024.Idx) :
    ∃ pc ∈ (atA m c t h0).2.2.2.2.2.2.2.2.1, y ∈ pc.1.set :=
  View.cover_of_tiledL (atA m c t h0).2.2.2.2.2.2.2.2.1 S8x1024.size (by sl_kernel_rfl) y

def outA_18 : Vec F S8x1024 .f32 :=
  VO0_18.read (Elt F) (VO0_18.writes (Elt F) VO0_18.junk (atA m c t h0).2.2.2.2.2.2.2.2.1)

theorem coverA_19 (y : S8x1024.Idx) :
    ∃ pc ∈ (atA m c t h0).2.2.2.2.2.2.2.2.2.1, y ∈ pc.1.set :=
  View.cover_of_tiledL (atA m c t h0).2.2.2.2.2.2.2.2.2.1 S8x1024.size (by sl_kernel_rfl) y

def outA_19 : Vec F S8x1024 .f32 :=
  VO0_19.read (Elt F) (VO0_19.writes (Elt F) VO0_19.junk (atA m c t h0).2.2.2.2.2.2.2.2.2.1)

theorem coverA_20 (y : S8x1024.Idx) :
    ∃ pc ∈ (atA m c t h0).2.2.2.2.2.2.2.2.2.2.1, y ∈ pc.1.set :=
  View.cover_of_tiledL (atA m c t h0).2.2.2.2.2.2.2.2.2.2.1 S8x1024.size (by sl_kernel_rfl) y

def outA_20 : Vec F S8x1024 .f32 :=
  VO0_20.read (Elt F) (VO0_20.writes (Elt F) VO0_20.junk (atA m c t h0).2.2.2.2.2.2.2.2.2.2.1)

theorem scoverA_0 (y : S1024x1024.Idx) :
    ∃ pc ∈ (atA m c t h0).2.2.2.2.2.2.2.2.2.2.2.1, y ∈ pc.1.set :=
  View.cover_of_tiledL (atA m c t h0).2.2.2.2.2.2.2.2.2.2.2.1 S128x1024.size (by sl_kernel_rfl) y

def soutA_0 : Vec F S1024x1024 .bf16 :=
  VS0_0.read (Elt F) (VS0_0.writes (Elt F) VS0_0.junk (atA m c t h0).2.2.2.2.2.2.2.2.2.2.2.1)

theorem scoverA_1 (y : S1024x1024.Idx) :
    ∃ pc ∈ (atA m c t h0).2.2.2.2.2.2.2.2.2.2.2.2.1, y ∈ pc.1.set :=
  View.cover_of_tiledL (atA m c t h0).2.2.2.2.2.2.2.2.2.2.2.2.1 S128x1024.size (by sl_kernel_rfl) y

def soutA_1 : Vec F S1024x1024 .bf16 :=
  VS0_1.read (Elt F) (VS0_1.writes (Elt F) VS0_1.junk (atA m c t h0).2.2.2.2.2.2.2.2.2.2.2.2.1)

/-- All of what the case leaves. -/
abbrev stepA : Outs F :=
  (outA_10 m c t h0, outA_11 m c t h0, outA_12 m c t h0, outA_13 m c t h0, outA_14 m c t h0, outA_15 m c t h0,
  outA_16 m c t h0, outA_17 m c t h0, outA_18 m c t h0, outA_19 m c t h0, outA_20 m c t h0, soutA_0 m c t h0, soutA_1
  m c t h0)

end

section

variable (c : Dev nD) (t : Fin cfg0.N) (h0 : ¬t.val % 32 = 0) (p : Outs F)

theorem coverB_10 (y : S256x1024.Idx) :
    ∃ pc ∈ (atB m c t h0 p).1, y ∈ pc.1.set :=
  View.cover_of_tiledL (atB m c t h0 p).1 S256x1024.size (by sl_kernel_rfl) y

def outB_10 : Vec F S256x1024 .bf16 :=
  VO0_10.read (Elt F) (VO0_10.writes (Elt F) VO0_10.junk (atB m c t h0 p).1)

theorem coverB_11 (y : S256x1024.Idx) :
    ∃ pc ∈ (atB m c t h0 p).2.1, y ∈ pc.1.set :=
  View.cover_of_tiledL (atB m c t h0 p).2.1 S256x1024.size (by sl_kernel_rfl) y

def outB_11 : Vec F S256x1024 .bf16 :=
  VO0_11.read (Elt F) (VO0_11.writes (Elt F) VO0_11.junk (atB m c t h0 p).2.1)

theorem coverB_12 (y : S256x1024.Idx) :
    ∃ pc ∈ (atB m c t h0 p).2.2.1, y ∈ pc.1.set :=
  View.cover_of_tiledL (atB m c t h0 p).2.2.1 S256x1024.size (by sl_kernel_rfl) y

def outB_12 : Vec F S256x1024 .bf16 :=
  VO0_12.read (Elt F) (VO0_12.writes (Elt F) VO0_12.junk (atB m c t h0 p).2.2.1)

theorem coverB_13 (y : S256x1024.Idx) :
    ∃ pc ∈ (atB m c t h0 p).2.2.2.1, y ∈ pc.1.set :=
  View.cover_of_tiledL (atB m c t h0 p).2.2.2.1 S256x1024.size (by sl_kernel_rfl) y

def outB_13 : Vec F S256x1024 .bf16 :=
  VO0_13.read (Elt F) (VO0_13.writes (Elt F) VO0_13.junk (atB m c t h0 p).2.2.2.1)

theorem coverB_14 (y : S256x1024.Idx) :
    ∃ pc ∈ (atB m c t h0 p).2.2.2.2.1, y ∈ pc.1.set :=
  View.cover_of_tiledL (atB m c t h0 p).2.2.2.2.1 S256x256.size (by sl_kernel_rfl) y

def outB_14 : Vec F S256x1024 .bf16 :=
  VO0_14.read (Elt F) (VO0_14.writes (Elt F) VO0_14.junk (atB m c t h0 p).2.2.2.2.1)

theorem coverB_15 (y : S256x1024.Idx) :
    ∃ pc ∈ (atB m c t h0 p).2.2.2.2.2.1, y ∈ pc.1.set :=
  View.cover_of_tiledL (atB m c t h0 p).2.2.2.2.2.1 S256x1024.size (by sl_kernel_rfl) y

def outB_15 : Vec F S256x1024 .bf16 :=
  VO0_15.read (Elt F) (VO0_15.writes (Elt F) VO0_15.junk (atB m c t h0 p).2.2.2.2.2.1)

theorem coverB_16 (y : S256x2048.Idx) :
    ∃ pc ∈ (atB m c t h0 p).2.2.2.2.2.2.1, y ∈ pc.1.set :=
  View.cover_of_tiledL (atB m c t h0 p).2.2.2.2.2.2.1 S256x1024.size (by sl_kernel_rfl) y

def outB_16 : Vec F S256x2048 .bf16 :=
  VO0_16.read (Elt F) (VO0_16.writes (Elt F) VO0_16.junk (atB m c t h0 p).2.2.2.2.2.2.1)

theorem coverB_17 (y : S8x1024.Idx) :
    ∃ pc ∈ (atB m c t h0 p).2.2.2.2.2.2.2.1, y ∈ pc.1.set :=
  View.cover_of_tiledL (atB m c t h0 p).2.2.2.2.2.2.2.1 S8x1024.size (by sl_kernel_rfl) y

def outB_17 : Vec F S8x1024 .f32 :=
  VO0_17.read (Elt F) (VO0_17.writes (Elt F) VO0_17.junk (atB m c t h0 p).2.2.2.2.2.2.2.1)

theorem coverB_18 (y : S8x1024.Idx) :
    ∃ pc ∈ (atB m c t h0 p).2.2.2.2.2.2.2.2.1, y ∈ pc.1.set :=
  View.cover_of_tiledL (atB m c t h0 p).2.2.2.2.2.2.2.2.1 S8x1024.size (by sl_kernel_rfl) y

def outB_18 : Vec F S8x1024 .f32 :=
  VO0_18.read (Elt F) (VO0_18.writes (Elt F) VO0_18.junk (atB m c t h0 p).2.2.2.2.2.2.2.2.1)

theorem coverB_19 (y : S8x1024.Idx) :
    ∃ pc ∈ (atB m c t h0 p).2.2.2.2.2.2.2.2.2.1, y ∈ pc.1.set :=
  View.cover_of_tiledL (atB m c t h0 p).2.2.2.2.2.2.2.2.2.1 S8x1024.size (by sl_kernel_rfl) y

def outB_19 : Vec F S8x1024 .f32 :=
  VO0_19.read (Elt F) (VO0_19.writes (Elt F) VO0_19.junk (atB m c t h0 p).2.2.2.2.2.2.2.2.2.1)

theorem coverB_20 (y : S8x1024.Idx) :
    ∃ pc ∈ (atB m c t h0 p).2.2.2.2.2.2.2.2.2.2.1, y ∈ pc.1.set :=
  View.cover_of_tiledL (atB m c t h0 p).2.2.2.2.2.2.2.2.2.2.1 S8x1024.size (by sl_kernel_rfl) y

def outB_20 : Vec F S8x1024 .f32 :=
  VO0_20.read (Elt F) (VO0_20.writes (Elt F) VO0_20.junk (atB m c t h0 p).2.2.2.2.2.2.2.2.2.2.1)

def soutB_0 : Vec F S1024x1024 .bf16 :=
p.2.2.2.2.2.2.2.2.2.2.2.1

def soutB_1 : Vec F S1024x1024 .bf16 :=
p.2.2.2.2.2.2.2.2.2.2.2.2

/-- All of what the case leaves. -/
abbrev stepB : Outs F :=
  (outB_10 m c t h0 p, outB_11 m c t h0 p, outB_12 m c t h0 p, outB_13 m c t h0 p, outB_14 m c t h0 p, outB_15 m c t
  h0 p, outB_16 m c t h0 p, outB_17 m c t h0 p, outB_18 m c t h0 p, outB_19 m c t h0 p, outB_20 m c t h0 p, soutB_0 p, soutB_1 p)

end

/-- What the buffers hold after the body at position `n`: the case of that point, the second one over what position
    `n - 1` left. -/
def outsAt0 (c : Dev nD) : (n : ℕ) → n < cfg0.N → Outs F
  | 0, hn => stepA m c ⟨0, hn⟩ (Nat.zero_mod _)
  | n + 1, hn =>
    if h0 : (n + 1) % 32 = 0 then stepA m c ⟨n + 1, hn⟩ h0
    else stepB m c ⟨n + 1, hn⟩ h0 (outsAt0 c n (Nat.lt_of_succ_lt hn))

theorem outsAt0_A (c : Dev nD) (t : Fin cfg0.N) (h0 : t.val % 32 = 0) :
    outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt =
      stepB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The part of the invariant no point changes: the generator register, the copies' counters at zero, the operand in
    the large memory. -/
abbrev Rest (c : Dev nD) : sProp 𝕄 :=
  iprop((∃ r, prngReg c r) ∗ iprop(semVal ((c : Thread nD τ), SemLoc.dma 34) 0 ∗ semVal ((c : Thread nD τ),
  SemLoc.dma 35) 0 ∗ semVal ((c : Thread nD τ), SemLoc.dma 36) 0 ∗ semVal ((c : Thread nD τ), SemLoc.dma 37) 0 ∗
  semVal ((c : Thread nD τ), SemLoc.dma 38) 0 ∗ semVal ((c : Thread nD τ), SemLoc.dma 39) 0 ∗ semVal ((c : Thread nD
  τ), SemLoc.dma 40) 0 ∗ semVal ((c : Thread nD τ), SemLoc.dma 41) 0 ∗ semVal ((c : Thread nD τ), SemLoc.dma 42) 0 ∗
  semVal ((c : Thread nD τ), SemLoc.dma 43) 0 ∗ semVal ((c : Thread nD τ), SemLoc.dma 44) 0 ∗ semVal ((c : Thread nD
  τ), SemLoc.dma 45) 0 ∗ semVal ((c : Thread nD τ), SemLoc.dma 46) 0 ∗ semVal ((c : Thread nD τ), SemLoc.dma 47) 0 ∗
  semVal ((c : Thread nD τ), SemLoc.dma 48) 0 ∗ semVal ((c : Thread nD τ), SemLoc.dma 49) 0) ∗ iprop(hbPt0 c hbM0_0
  (V m c main_v42)))

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.2.2.2.1) ∗ owns (c : Thread nD τ) scM0_1 fullShare ((outsAt0 m c n hn).2.2.2.2.2.2.2.2.2.2.2.2)) ∗ Rest m c)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.1) ∗ owns (c : Thread nD τ) scM0_1 fullShare ((outsAt0 m c n hn).2.2.2.2.2.2.2.2.2.2.2.2)) ∗ Rest m c) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.1) ∗ owns (c : Thread nD τ) scM0_1 fullShare ((outsAt0 m c (n - 1) (by omega)).2.2.2.2.2.2.2.2.2.2.2.2)) ∗ Rest m c) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨17, _⟩ => (outsAt0 m c t.val t.isLt).2.2.2.2.2.2.2.1
    | ⟨18, _⟩ => (outsAt0 m c t.val t.isLt).2.2.2.2.2.2.2.2.1
    | ⟨19, _⟩ => (outsAt0 m c t.val t.isLt).2.2.2.2.2.2.2.2.2.1
    | ⟨20, _⟩ => (outsAt0 m c t.val t.isLt).2.2.2.2.2.2.2.2.2.2.1
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]
theorem after0_17 (c : Dev nD) (t : Fin cfg0.N) : (dats m 0 c).after 17 t = (outsAt0 m c t.val t.isLt).2.2.2.2.2.2.2.1 := by dsimp only [dats]
theorem after0_18 (c : Dev nD) (t : Fin cfg0.N) : (dats m 0 c).after 18 t = (outsAt0 m c t.val t.isLt).2.2.2.2.2.2.2.2.1 := by dsimp only [dats]
theorem after0_19 (c : Dev nD) (t : Fin cfg0.N) : (dats m 0 c).after 19 t = (outsAt0 m c t.val t.isLt).2.2.2.2.2.2.2.2.2.1 := by dsimp only [dats]
theorem after0_20 (c : Dev nD) (t : Fin cfg0.N) : (dats m 0 c).after 20 t = (outsAt0 m c t.val t.isLt).2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_17_B (c : Dev nD) (t : Fin cfg0.N) (h0 : ¬t.val % 32 = 0) (d) :
    (dats m 0 c).before 17 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 32 = 0) (d) :
    (dats m 0 c).before 18 t d = (outsAt0 m c (t.val - 1) (Nat.lt_of_le_of_lt (Nat.sub_le _ _) t.isLt)).2.2.2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 32 = 0) (d) :
    (dats m 0 c).before 19 t d = (outsAt0 m c (t.val - 1) (Nat.lt_of_le_of_lt (Nat.sub_le _ _) t.isLt)).2.2.2.2.2.2.2.2.2.1 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]
theorem before0_20_B (c : Dev nD) (t : Fin cfg0.N) (h0 : ¬t.val % 32 = 0) (d) :
    (dats m 0 c).before 20 t d = (outsAt0 m c (t.val - 1) (Nat.lt_of_le_of_lt (Nat.sub_le _ _) t.isLt)).2.2.2.2.2.2.2.2.2.2.1 := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17, after0_18, after0_19, after0_20]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0]
      unfold stepA outA_10 outA_11 outA_12 outA_13 outA_14 outA_15 outA_16 outA_17 outA_18 outA_19 outA_20 soutA_0 soutA_1; (try dsimp only)
      iintro ⟨⟨⟨HS0, HS1⟩, Hg, ⟨Hq0, Hq1, Hq2, Hq3, Hq4, Hq5, Hq6, Hq7, Hq8, Hq9, Hq10, Hq11, Hq12, Hq13, Hq14, Hq15⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((atA m c t h0).2.2.2.2.2.2.2.2.2.2.2.2.2 W _)
      isplitl [H0]; iexact H0; isplitl [H1]; iexact H1; isplitl [H2]; iexact H2; isplitl [H3]; iexact H3
      isplitl [H4]; iexact H4; isplitl [H5]; iexact H5; isplitl [H6]; iexact H6; isplitl [H7]; iexact H7
      isplitl [H8]; iexact H8; isplitl [H9]; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [HS0]; iexact HS0; isplitl [HS1]; iexact HS1; isplitl [Hq0]; iexact Hq0; isplitl [Hq1]; iexact Hq1
      isplitl [Hq2]; iexact Hq2; isplitl [Hq3]; iexact Hq3; isplitl [Hq4]; iexact Hq4; isplitl [Hq5]; iexact Hq5
      isplitl [Hq6]; iexact Hq6; isplitl [Hq7]; iexact Hq7; isplitl [Hq8]; iexact Hq8; isplitl [Hq9]; iexact Hq9
      isplitl [Hq10]; iexact Hq10; isplitl [Hq11]; iexact Hq11; isplitl [Hq12]; iexact Hq12
      isplitl [Hq13]; iexact Hq13; isplitl [Hq14]; iexact Hq14; isplitl [Hq15]; iexact Hq15; isplitl [Hh0]; iexact Hh0
      isplitl [HW]; iexact HW
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%es0, HS0⟩, ⟨%es1, HS1⟩, Hq0, Hq1, Hq2, Hq3, Hq4, Hq5, Hq6, Hq7, Hq8, Hq9, Hq10, Hq11, Hq12, Hq13, Hq14, Hq15, Hh0, ⟨%W', HW'⟩⟩
      isplitl [HS0 HS1 Hg Hq0 Hq1 Hq2 Hq3 Hq4 Hq5 Hq6 Hq7 Hq8 Hq9 Hq10 Hq11 Hq12 Hq13 Hq14 Hq15 Hh0]
      · isplitl [HS0 HS1]
        · isplitl [HS0]
          · unfold owns; iexists _; isplitr
            swap; · iexact HS0
            ipureintro; exact View.read_writes_of_cover _ _ _ _ _ (scoverA_0 m c t h0)
          unfold owns; iexists _; isplitr
          swap; · iexact HS1
          ipureintro; exact View.read_writes_of_cover _ _ _ _ _ (scoverA_1 m c t h0)
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6; isplitl [Hq7]; iexact Hq7; isplitl [Hq8]; iexact Hq8
          isplitl [Hq9]; iexact Hq9; isplitl [Hq10]; iexact Hq10; isplitl [Hq11]; iexact Hq11
          isplitl [Hq12]; iexact Hq12; isplitl [Hq13]; iexact Hq13; isplitl [Hq14]; iexact Hq14
          iexact Hq15
        iexact Hh0
      isplitl [HW']
      · iexists W'; isplitr; · ipureintro; exact fun _ _ => Or.inl trivial
        iexact HW'
      isplitl [H0]; iexact H0; isplitl [H1]; iexact H1; isplitl [H2]; iexact H2; isplitl [H3]; iexact H3
      isplitl [H4]; iexact H4; isplitl [H5]; iexact H5; isplitl [H6]; iexact H6; isplitl [H7]; iexact H7
      isplitl [H8]; iexact H8; isplitl [H9]; iexact H9
      isplitl [H10]
      · unfold owns; iexists _; isplitr
        swap; · iexact H10
        ipureintro; exact View.read_writes_of_cover _ _ _ _ _ (coverA_10 m c t h0)
      isplitl [H11]
      · unfold owns; iexists _; isplitr
        swap; · iexact H11
        ipureintro; exact View.read_writes_of_cover _ _ _ _ _ (coverA_11 m c t h0)
      isplitl [H12]
      · unfold owns; iexists _; isplitr
        swap; · iexact H12
        ipureintro; exact View.read_writes_of_cover _ _ _ _ _ (coverA_12 m c t h0)
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      isplitl [H16]
      · unfold owns; iexists _; isplitr
        swap; · iexact H16
        ipureintro; exact View.read_writes_of_cover _ _ _ _ _ (coverA_16 m c t h0)
      isplitl [H17]
      · unfold owns; iexists _; isplitr
        swap; · iexact H17
        ipureintro; exact View.read_writes_of_cover _ _ _ _ _ (coverA_17 m c t h0)
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      unfold owns; iexists _; isplitr
      swap; · iexact H20
      ipureintro; exact View.read_writes_of_cover _ _ _ _ _ (coverA_20 m c t h0)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_17_B m c t h0, before0_18_B m c t h0, before0_19_B m c t h0, before0_20_B m c t h0]
      (try unfold stepB); unfold outB_10 outB_11 outB_12 outB_13 outB_14 outB_15 outB_16 outB_17 outB_18 outB_19 outB_20 soutB_0 soutB_1; (try dsimp only)
      iintro ⟨⟨⟨HS0, HS1⟩, Hg, ⟨Hq0, Hq1, Hq2, Hq3, Hq4, Hq5, Hq6, Hq7, Hq8, Hq9, Hq10, Hq11, Hq12, Hq13, Hq14, Hq15⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((atB m c t h0 (outsAt0 m c (t.val - 1) (Nat.lt_of_le_of_lt (Nat.sub_le _ _) t.isLt))).2.2.2.2.2.2.2.2.2.2.2.2.2 W _)
      isplitl [H0]; iexact H0; isplitl [H1]; iexact H1; isplitl [H2]; iexact H2; isplitl [H3]; iexact H3
      isplitl [H4]; iexact H4; isplitl [H5]; iexact H5; isplitl [H6]; iexact H6; isplitl [H7]; iexact H7
      isplitl [H8]; iexact H8; isplitl [H9]; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; iexact H17; isplitl [H18]; iexact H18; isplitl [H19]; iexact H19; isplitl [H20]; iexact H20
      isplitl [HS0]; iexact HS0; isplitl [HS1]; iexact HS1; isplitl [Hq0]; iexact Hq0; isplitl [Hq1]; iexact Hq1
      isplitl [Hq2]; iexact Hq2; isplitl [Hq3]; iexact Hq3; isplitl [Hq4]; iexact Hq4; isplitl [Hq5]; iexact Hq5
      isplitl [Hq6]; iexact Hq6; isplitl [Hq7]; iexact Hq7; isplitl [Hq8]; iexact Hq8; isplitl [Hq9]; iexact Hq9
      isplitl [Hq10]; iexact Hq10; isplitl [Hq11]; iexact Hq11; isplitl [Hq12]; iexact Hq12
      isplitl [Hq13]; iexact Hq13; isplitl [Hq14]; iexact Hq14; isplitl [Hq15]; iexact Hq15; isplitl [Hh0]; iexact Hh0
      isplitl [HW]; iexact HW
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, HS0, HS1, Hq0, Hq1, Hq2, Hq3, Hq4, Hq5, Hq6, Hq7, Hq8, Hq9, Hq10, Hq11, Hq12, Hq13, Hq14, Hq15, Hh0, ⟨%W', HW'⟩⟩
      isplitl [HS0 HS1 Hg Hq0 Hq1 Hq2 Hq3 Hq4 Hq5 Hq6 Hq7 Hq8 Hq9 Hq10 Hq11 Hq12 Hq13 Hq14 Hq15 Hh0]
      · isplitl [HS0 HS1]
        · isplitl [HS0]; · iexact HS0
          iexact HS1
        isplitl [Hg]
        · iexact Hg
        isplitl [Hq0 Hq1 Hq2 Hq3 Hq4 Hq5 Hq6 Hq7 Hq8 Hq9 Hq10 Hq11 Hq12 Hq13 Hq14 Hq15]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6; isplitl [Hq7]; iexact Hq7; isplitl [Hq8]; iexact Hq8
          isplitl [Hq9]; iexact Hq9; isplitl [Hq10]; iexact Hq10; isplitl [Hq11]; iexact Hq11
          isplitl [Hq12]; iexact Hq12; isplitl [Hq13]; iexact Hq13; isplitl [Hq14]; iexact Hq14
          iexact Hq15
        iexact Hh0
      isplitl [HW']
      · iexists W'; isplitr; · ipureintro; exact fun _ _ => Or.inl trivial
        iexact HW'
      isplitl [H0]; iexact H0; isplitl [H1]; iexact H1; isplitl [H2]; iexact H2; isplitl [H3]; iexact H3
      isplitl [H4]; iexact H4; isplitl [H5]; iexact H5; isplitl [H6]; iexact H6; isplitl [H7]; iexact H7
      isplitl [H8]; iexact H8; isplitl [H9]; iexact H9
      isplitl [H10]
      · unfold owns; iexists _; isplitr
        swap; · iexact H10
        ipureintro; exact View.read_writes_of_cover _ _ _ _ _ (coverB_10 m c t h0 _)
      isplitl [H11]
      · unfold owns; iexists _; isplitr
        swap; · iexact H11
        ipureintro; exact View.read_writes_of_cover _ _ _ _ _ (coverB_11 m c t h0 _)
      isplitl [H12]
      · unfold owns; iexists _; isplitr
        swap; · iexact H12
        ipureintro; exact View.read_writes_of_cover _ _ _ _ _ (coverB_12 m c t h0 _)
      isplitl [H13]
      · unfold owns; iexists _; isplitr
        swap; · iexact H13
        ipureintro; exact View.read_writes_of_cover _ _ _ _ _ (coverB_13 m c t h0 _)
      isplitl [H14]
      · unfold owns; iexists _; isplitr
        swap; · iexact H14
        ipureintro; exact View.read_writes_of_cover _ _ _ _ _ (coverB_14 m c t h0 _)
      isplitl [H15]
      · unfold owns; iexists _; isplitr
        swap; · iexact H15
        ipureintro; exact View.read_writes_of_cover _ _ _ _ _ (coverB_15 m c t h0 _)
      isplitl [H16]
      · unfold owns; iexists _; isplitr
        swap; · iexact H16
        ipureintro; exact View.read_writes_of_cover _ _ _ _ _ (coverB_16 m c t h0 _)
      isplitl [H17]
      · unfold owns; iexists _; isplitr
        swap; · iexact H17
        ipureintro; exact View.read_writes_of_cover _ _ _ _ _ (coverB_17 m c t h0 _)
      isplitl [H18]
      · unfold owns; iexists _; isplitr
        swap; · iexact H18
        ipureintro; exact View.read_writes_of_cover _ _ _ _ _ (coverB_18 m c t h0 _)
      isplitl [H19]
      · unfold owns; iexists _; isplitr
        swap; · iexact H19
        ipureintro; exact View.read_writes_of_cover _ _ _ _ _ (coverB_19 m c t h0 _)
      unfold owns; iexists _; isplitr
      swap; · iexact H20
      ipureintro; exact View.read_writes_of_cover _ _ _ _ _ (coverB_20 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3, Hq4, Hq5, Hq6, Hq7, Hq8, Hq9, Hq10, Hq11, Hq12, Hq13, Hq14, Hq15⟩, Hh0⟩
  isplitl [HS0 HS1]
  · isplitl [HS0]
    · iexists _; iexact HS0
    iexists _; iexact HS1
  isplitl [Hg]; iexact Hg
  isplitl [Hq0 Hq1 Hq2 Hq3 Hq4 Hq5 Hq6 Hq7 Hq8 Hq9 Hq10 Hq11 Hq12 Hq13 Hq14 Hq15]
  · isplitl [Hq0]; · iexact Hq0
    isplitl [Hq1]; iexact Hq1; isplitl [Hq2]; iexact Hq2; isplitl [Hq3]; iexact Hq3; isplitl [Hq4]; iexact Hq4
    isplitl [Hq5]; iexact Hq5; isplitl [Hq6]; iexact Hq6; isplitl [Hq7]; iexact Hq7; isplitl [Hq8]; iexact Hq8
    isplitl [Hq9]; iexact Hq9; isplitl [Hq10]; iexact Hq10; isplitl [Hq11]; iexact Hq11; isplitl [Hq12]; iexact Hq12
    isplitl [Hq13]; iexact Hq13; isplitl [Hq14]; iexact Hq14
    iexact Hq15
  iexact Hh0

theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Body

end
-- ==== Proof.Frames.lean ====
module

public import proofs.«01_k».proof.Proof.MixFrame
public import proofs.«01_k».proof.Proof.Gen.Kernel.Points
public import proofs.«01_k».proof.Defs

/-! The frames of the call: its run, written once for any float values, at the words and at the extended reals. -/

@[expose] public section

set_option maxRecDepth 16384
set_option maxHeartbeats 4000000

noncomputable section

namespace Cert.Rows

open Idealize.ShloMosaic Idealize.SL.Sem

theorem frame_kernelIdeal : Cert.quiescent_KernelIdeal := fun m ρ _ => Cert.KernelIdeal.Body.frame m ρ

theorem frame_kernel : Cert.quiescent_Kernel := by
  have h := fun m ρ (_ : True) => Cert.KernelIdeal.Body.frame (F := Bits) m ρ
  exact cast (by sl_kernel_rfl) h

end Cert.Rows

end
-- ==== Proof.Rows.lean ====
module

public import Idealize.ShloMosaic.Lib.Pointwise
public import Idealize.ShloMosaic.Init

/-! The rows of the mixer's backward call, over the extended reals: layer norm of a row of `c1`, its gate,
    and the gradients the call computes from it. -/

@[expose] public section

noncomputable section

namespace Cert.Rows

open Idealize.ShloMosaic

/-- The row length 1024 as the programs write it. -/
abbrev len : EReal := Ideal.ofBits .f32 0x44800000#32
/-- The layer norm's epsilon as the programs write it. -/
abbrev eps : EReal := Ideal.ofBits .f32 0x3727C5AC#32

/-- The mean of a row. -/
def mean (x : Fin 1024 → EReal) : EReal := Ideal.div (∑ k, x k) len
/-- The centred row. -/
def cen (x : Fin 1024 → EReal) (l : Fin 1024) : EReal := x l - mean x
/-- The variance of a row, with epsilon. -/
def var (x : Fin 1024 → EReal) : EReal := Ideal.div (∑ k, cen x k * cen x k) len + eps
/-- The reciprocal standard deviation. -/
def rstd (x : Fin 1024 → EReal) : EReal := Ideal.rsqrt (var x)
/-- The normalised row. -/
def xhat (x : Fin 1024 → EReal) (l : Fin 1024) : EReal := cen x l * rstd x
/-- The layer norm of a row, with gain `g` and bias `b`. -/
def c2 (x g b : Fin 1024 → EReal) (l : Fin 1024) : EReal := xhat x l * g l + b l
/-- The logistic function of the layer norm. -/
def sg (x g b : Fin 1024 → EReal) (l : Fin 1024) : EReal := Ideal.logistic (c2 x g b l)
/-- A row times the transpose of a matrix. -/
def dot (a : Fin 1024 → EReal) (w : Fin 1024 → Fin 1024 → EReal) (l : Fin 1024) : EReal := ∑ k, a k * w l k
/-- The gradient through `silu`, from the gradient `u` of its result. -/
def dc2 (x g b u : Fin 1024 → EReal) (l : Fin 1024) : EReal :=
  u l * (sg x g b l * (1 + c2 x g b l * (1 - sg x g b l)))
/-- The gradient of the normalised row. -/
def dxh (x g b u : Fin 1024 → EReal) (l : Fin 1024) : EReal := dc2 x g b u l * g l
/-- The gradient through the layer norm, as the kernel computes it. -/
def dc1 (x g b u : Fin 1024 → EReal) (l : Fin 1024) : EReal :=
  rstd x * (dxh x g b u l - Ideal.div (∑ k, dxh x g b u k) len
    - xhat x l * Ideal.div (∑ k, dxh x g b u k * xhat x k) len)

/-- The pooled branch, scaled: `q` times the pool's scale. -/
def act (q ps : Fin 1024 → EReal) (l : Fin 1024) : EReal := q l * ps l
/-- The mixer's result: the two branches under the logistic gates of `zp` and `zc`. -/
def mix (zp zc q cc ps : Fin 1024 → EReal) (l : Fin 1024) : EReal :=
  Ideal.logistic (zp l) * act q ps l + Ideal.logistic (zc l) * cc l
/-- The gradient of a gated branch, from the gradient `d` of the output: `dm` times the gate. -/
def dgated (d : Fin 1024 → EReal) (wo : Fin 1024 → Fin 1024 → EReal) (z : Fin 1024 → EReal) (l : Fin 1024) : EReal :=
  dot d wo l * Ideal.logistic (z l)
/-- The gradient of a gate's argument `z`, the branch being `v`. -/
def dgate (d : Fin 1024 → EReal) (wo : Fin 1024 → Fin 1024 → EReal) (z v : Fin 1024 → EReal) (l : Fin 1024) : EReal :=
  dot d wo l * v l * Ideal.logistic (z l) * (1 - Ideal.logistic (z l))
/-- The gradient of the pooled branch before its scale. -/
def dq (d : Fin 1024 → EReal) (wo : Fin 1024 → Fin 1024 → EReal) (zp ps : Fin 1024 → EReal) (l : Fin 1024) : EReal :=
  dgated d wo zp l * ps l
/-- Lane `256 s + k`. -/
def lane (s : Fin 4) (k : Fin 256) : Fin 1024 := ⟨256 * s.val + k.val, by omega⟩
/-- A row of gradients through the grouped pool matrices: group `s`, lane `l`. -/
def dpool (g : Fin 1024 → EReal) (pw : Fin 4 → Fin 256 → Fin 256 → EReal) (s : Fin 4) (l : Fin 256) : EReal :=
  ∑ k, g (lane s k) * pw s l k
/-- The gate's branch after `silu`. -/
def c3 (x g b : Fin 1024 → EReal) (l : Fin 1024) : EReal := c2 x g b l * sg x g b l

end Cert.Rows

end
-- ==== Proof.Pay.lean ====
module

public import proofs.«01_k».proof.Proof.Rows
public import proofs.«01_k».proof.Proof.Gen.KernelIdeal.Skeleton

/-! What the call's stores write, read at one element. -/

@[expose] public section

set_option maxRecDepth 16384

noncomputable section

namespace Cert.KernelIdeal.Pay

open Idealize.ShloMosaic Idealize.ShloMosaic.TcCoe Idealize.SL.Sem
open Cert.KernelIdeal Cert.KernelIdeal.Gen Cert.Rows

/-- Row `r` of a matrix. -/
abbrev row {n k : ℕ} (x : (⟨2, ![n, k]⟩ : Shape).Idx → EReal) (r : Fin n) : Fin k → EReal := fun l => x (ix2 r l)

section
variable (x d : FVec Ideal S256x1024 .f32) (zp zc q cc : FVec Ideal S256x1024 .bf16) (w : FVec Ideal S1024x1024 .bf16)
  (ps lg lb : FVec Ideal S1x1024 .f32) (r : Fin 256) (l : Fin 1024)

theorem p9 : k0_pay9 (F := Ideal) d w (ix2 r l) = dot (row d r) (row w) l := by
  pointwise [k0_pay9, dot]

theorem p13 : k0_pay13 (F := Ideal) zp (ix2 r l) = Ideal.logistic (zp (ix2 r l)) := by
  pointwise [k0_pay13]

theorem p14 : k0_pay14 (F := Ideal) zc (ix2 r l) = Ideal.logistic (zc (ix2 r l)) := by
  pointwise [k0_pay14]

theorem p16 : k0_pay16 (F := Ideal) q cc ps zp zc (ix2 r l) = mix (row zp r) (row zc r) (row q r) (row cc r) (row ps 0) l := by
  pointwise [k0_pay16, k0_pay15, k0_pay13, k0_pay14, k0_pay10, k0_pay11, k0_pay12, mix, act]

theorem p17 : k0_pay17 (F := Ideal) d w zp (ix2 r l) = dgated (row d r) (row w) (row zp r) l := by
  pointwise [k0_pay17, k0_pay9, k0_pay13, dgated, dot]

theorem p18 : k0_pay18 (F := Ideal) d w q ps zp (ix2 r l)
    = dgate (row d r) (row w) (row zp r) (act (row q r) (row ps 0)) l := by
  pointwise [k0_pay18, k0_pay15, k0_pay9, k0_pay13, k0_pay10, k0_pay12, dgate, act, dot]

theorem p19 : k0_pay19 (F := Ideal) (k0_pay9 (F := Ideal) d w) (k0_pay11 (F := Ideal) cc) (k0_pay14 (F := Ideal) zc) (ix2 r l)
    = dgate (row d r) (row w) (row zc r) (row cc r) l := by
  pointwise [k0_pay19, k0_pay11, k0_pay14, k0_pay9, dgate, dot]

theorem p20 (a : FVec Ideal S8x1024 .f32) (i : Fin 8) :
    k0_pay20 (F := Ideal) (k0_pay10 (F := Ideal) q) (k0_pay17 (F := Ideal) d w zp) a (ix2 i l)
      = a (ix2 i l) + ∑ j : Fin 32, dgated (row d ⟨j.val * 8 + i.val, by omega⟩) (row w) (row zp ⟨j.val * 8 + i.val, by omega⟩) l * q (ix2 ⟨j.val * 8 + i.val, by omega⟩ l) := by
  pointwise [k0_pay20, k0_pay10, k0_pay17, k0_pay9, k0_pay13, dgated, dot]

theorem p21 : k0_pay21 (F := Ideal) (k0_pay12 (F := Ideal) ps) (k0_pay17 (F := Ideal) d w zp) (ix2 r l)
    = dq (row d r) (row w) (row zp r) (row ps 0) l := by
  pointwise [k0_pay21, k0_pay12, k0_pay17, k0_pay9, k0_pay13, dq, dgated, dot]

theorem p27 : k0_pay27 (F := Ideal) (k0_pay9 (F := Ideal) d w) (k0_pay14 (F := Ideal) zc) (ix2 r l)
    = dgated (row d r) (row w) (row zc r) l := by
  pointwise [k0_pay27, k0_pay14, k0_pay9, dgated, dot]

theorem p28 : k0_pay28 (F := Ideal) x (ix2 r l) = cen (row x r) l := by
  pointwise [k0_pay28, cen, mean]

theorem p31 (l : Fin 1) : k0_pay31 (F := Ideal) (k0_pay29 (F := Ideal) x) k0_pay30 (ix2 r l) = rstd (row x r) := by
  pointwise [k0_pay31, k0_pay29, k0_pay30, k0_pay28, rstd, var, cen, mean]

theorem p32 : k0_pay32 (F := Ideal) (k0_pay28 (F := Ideal) x) (k0_pay29 (F := Ideal) x) k0_pay30 (ix2 r l) = xhat (row x r) l := by
  pointwise [k0_pay32, k0_pay31, k0_pay29, k0_pay30, k0_pay28, xhat, rstd, var, cen, mean]

theorem p34 : k0_pay34 (F := Ideal) (k0_pay28 (F := Ideal) x) (k0_pay29 (F := Ideal) x) k0_pay30 lg lb (ix2 r l)
    = c2 (row x r) (row lg 0) (row lb 0) l := by
  pointwise [k0_pay34, k0_pay33, k0_pay32, k0_pay31, k0_pay29, k0_pay30, k0_pay28, c2, xhat, rstd, var, cen, mean]

theorem p35 : k0_pay35 (F := Ideal) (k0_pay28 (F := Ideal) x) (k0_pay29 (F := Ideal) x) k0_pay30 lg lb (ix2 r l)
    = sg (row x r) (row lg 0) (row lb 0) l := by
  unfold k0_pay35 sg
  rw [← p34]
  rfl

theorem p36 : k0_pay36 (F := Ideal) (k0_pay28 (F := Ideal) x) (k0_pay29 (F := Ideal) x) k0_pay30 lg lb (ix2 r l)
    = c3 (row x r) (row lg 0) (row lb 0) l := by
  unfold k0_pay36 c3
  rw [← p34, ← p35]
  rfl

theorem p37 (g : FVec Ideal S256x1024 .bf16) :
    k0_pay37 (F := Ideal) g (k0_pay28 (F := Ideal) x) (k0_pay29 (F := Ideal) x) k0_pay30 lg lb w (ix2 r l)
    = dc2 (row x r) (row lg 0) (row lb 0) (dot (row g r) (row w)) l := by
  unfold dc2 dot
  rw [← p34, ← p35]
  generalize hA : k0_pay34 (F := Ideal) (k0_pay28 (F := Ideal) x) (k0_pay29 (F := Ideal) x) k0_pay30 lg lb = A
  generalize hB : k0_pay35 (F := Ideal) (k0_pay28 (F := Ideal) x) (k0_pay29 (F := Ideal) x) k0_pay30 lg lb = B
  unfold k0_pay37
  rw [hA, hB]
  pointwise []

theorem p2 (s : FVec Ideal S256x1 .f32) (h u : FVec Ideal S256x1024 .f32) :
    k0_pay2 (F := Ideal) s h (k0_pay33 (F := Ideal) lg) u (ix2 r l)
      = s (ix2 r 0) * (u (ix2 r l) * lg (ix2 0 l) - Ideal.div (∑ k, u (ix2 r k) * lg (ix2 0 k)) len
        - h (ix2 r l) * Ideal.div (∑ k, u (ix2 r k) * lg (ix2 0 k) * h (ix2 r k)) len) := by
  pointwise [k0_pay2, k0_pay33]

/-- The gradient through the layer norm, at one element of the block. -/
theorem p2' (g : FVec Ideal S256x1024 .bf16) :
    k0_pay2 (F := Ideal) (k0_pay31 (F := Ideal) (k0_pay29 (F := Ideal) x) k0_pay30)
      (k0_pay32 (F := Ideal) (k0_pay28 (F := Ideal) x) (k0_pay29 (F := Ideal) x) k0_pay30) (k0_pay33 (F := Ideal) lg)
      (k0_pay37 (F := Ideal) g (k0_pay28 (F := Ideal) x) (k0_pay29 (F := Ideal) x) k0_pay30 lg lb w) (ix2 r l)
    = dc1 (row x r) (row lg 0) (row lb 0) (dot (row g r) (row w)) l := by
  rw [p2]
  simp only [p31, p32, p37]
  rfl

theorem p3 (g : FVec Ideal S256x1024 .bf16) :
    k0_pay3 (F := Ideal) (k0_pay31 (F := Ideal) (k0_pay29 (F := Ideal) x) k0_pay30)
      (k0_pay32 (F := Ideal) (k0_pay28 (F := Ideal) x) (k0_pay29 (F := Ideal) x) k0_pay30) (k0_pay33 (F := Ideal) lg)
      (k0_pay37 (F := Ideal) g (k0_pay28 (F := Ideal) x) (k0_pay29 (F := Ideal) x) k0_pay30 lg lb w) (ix2 r l)
    = dc1 (row x r) (row lg 0) (row lb 0) (dot (row g r) (row w)) l := p2' x w lg lb r l g

/-- Row `i` of tile `j` of eight rows. -/
def sub8 (j : Fin 32) (i : Fin 8) : Fin 256 := ⟨j.val * 8 + i.val, by omega⟩

/-- The sums over the block's tiles of eight rows. -/
theorem red8 (a : FVec Ideal S8x1024 .f32) (v : FVec Ideal S256x1024 .f32) (i : Fin 8) :
    addf (shapeCast S8x1024 a shapeCasts_S8x1024_S8x1024)
      (multiReduction .add [0] S8x1024 (shapeCast S32x8x1024 v shapeCasts_S256x1024_S32x8x1024) 0x00000000#32
        reduces_S32x8x1024_S8x1024 (.inl rfl) rfl) (ix2 i l)
      = a (ix2 i l) + ∑ j : Fin 32, v (ix2 (sub8 j i) l) := by
  pointwise []
  rfl

theorem p4 (g : FVec Ideal S256x1024 .bf16) (a : FVec Ideal S8x1024 .f32) (i : Fin 8) :
    k0_pay4 (F := Ideal) (k0_pay31 (F := Ideal) (k0_pay29 (F := Ideal) x) k0_pay30)
      (k0_pay32 (F := Ideal) (k0_pay28 (F := Ideal) x) (k0_pay29 (F := Ideal) x) k0_pay30) (k0_pay33 (F := Ideal) lg)
      (k0_pay37 (F := Ideal) g (k0_pay28 (F := Ideal) x) (k0_pay29 (F := Ideal) x) k0_pay30 lg lb w) a (ix2 i l)
    = a (ix2 i l) + ∑ j : Fin 32, dc1 (row x (sub8 j i)) (row lg 0) (row lb 0) (dot (row g (sub8 j i)) (row w)) l := by
  unfold k0_pay4
  rw [red8]
  simp only [p2']

theorem p38 (g : FVec Ideal S256x1024 .bf16) (a : FVec Ideal S8x1024 .f32) (i : Fin 8) :
    k0_pay38 (F := Ideal) g (k0_pay28 (F := Ideal) x) (k0_pay29 (F := Ideal) x) k0_pay30 lg lb w a (ix2 i l)
    = a (ix2 i l) + ∑ j : Fin 32, dc2 (row x (sub8 j i)) (row lg 0) (row lb 0) (dot (row g (sub8 j i)) (row w)) l
        * xhat (row x (sub8 j i)) l := by
  unfold k0_pay38
  rw [red8]
  exact congrArg _ (Finset.sum_congr rfl fun j _ => by rw [← p37, ← p32]; rfl)

theorem p1 (g : FVec Ideal S256x1024 .bf16) (a : FVec Ideal S8x1024 .f32) (i : Fin 8) :
    k0_pay1 (F := Ideal) (k0_pay39 (F := Ideal) a)
      (k0_pay40 (F := Ideal) g (k0_pay28 (F := Ideal) x) (k0_pay29 (F := Ideal) x) k0_pay30 lg lb w) (ix2 i l)
    = a (ix2 i l) + ∑ j : Fin 32, dc2 (row x (sub8 j i)) (row lg 0) (row lb 0) (dot (row g (sub8 j i)) (row w)) l := by
  unfold k0_pay1 k0_pay39 k0_pay40
  rw [red8]
  simp only [p37]

/-- A tile of the pooled gradient: the tile of `dq` times the transpose of the group's matrix. -/
theorem p26 (v : FVec Ideal S256x256 .bf16) (p : FVec Ideal S1x256x256 .bf16) (k : Fin 256) :
    k0_pay26 (F := Ideal) v p (ix2 r k) = ∑ j : Fin 256, v (ix2 r j) * p (ix3 0 k j) := by
  pointwise [k0_pay26]

theorem p25 (v : FVec Ideal S256x256 .bf16) (p : FVec Ideal S1x256x256 .bf16) :
    k0_pay25 (F := Ideal) v p = k0_pay26 (F := Ideal) v p := rfl

theorem p24 (v : FVec Ideal S256x256 .bf16) (p : FVec Ideal S1x256x256 .bf16) :
    k0_pay24 (F := Ideal) (k0_pay23 (F := Ideal) v p) = k0_pay26 (F := Ideal) v p := rfl

theorem p22 (v : FVec Ideal S256x256 .bf16) (p : FVec Ideal S1x256x256 .bf16) :
    k0_pay22 (F := Ideal) v p = k0_pay26 (F := Ideal) v p := rfl

end

end Cert.KernelIdeal.Pay

end
-- ==== Proof.MixHost.lean ====
module

public import proofs.«01_k».proof.Proof.Pay
public import proofs.«01_k».proof.Proof.Gen.KernelIdeal.Frame.Runs
public import Idealize.ShloMosaic.Lib.Claim
public import Idealize.ShloMosaic.Lib.StableHlo.RunRead

/-! What the host prepares for the call, read at one element. -/

@[expose] public section

set_option maxRecDepth 16384

noncomputable section

namespace Cert.KernelIdeal.Body

open Idealize.ShloMosaic Idealize.ShloMosaic.TcCoe Idealize.SL.Sem
open Cert.KernelIdeal Cert.KernelIdeal.Gen Cert.Rows Cert.KernelIdeal.Pay

variable (m : (ℓ : Loc nD τ sig) → Buf (Elt Ideal) ℓ) (c : Dev nD)

theorem host_ps (l : Fin 1024) : V m c main_v47 (ix2 0 l) = m ((c : Thread nD τ).loc main_arg5) (ix1 l) := by
  unfold V
  simp only [hostOps0, hostOps0_1, hostOps0_2, List.flatten_cons, List.flatten_nil, List.append_nil, List.cons_append, List.nil_append]
  entry_read
  pointwise []

theorem host_lg (l : Fin 1024) : V m c main_v48 (ix2 0 l) = m ((c : Thread nD τ).loc main_arg6) (ix1 l) := by
  unfold V
  simp only [hostOps0, hostOps0_1, hostOps0_2, List.flatten_cons, List.flatten_nil, List.append_nil, List.cons_append, List.nil_append]
  entry_read
  pointwise []

theorem host_lb (l : Fin 1024) : V m c main_v49 (ix2 0 l) = m ((c : Thread nD τ).loc main_arg7) (ix1 l) := by
  unfold V
  simp only [hostOps0, hostOps0_1, hostOps0_2, List.flatten_cons, List.flatten_nil, List.append_nil, List.cons_append, List.nil_append]
  entry_read
  pointwise []

theorem host_q : V m c main_v5 = truncf (F := Ideal) .bf16 (shapeCast S8192x1024 (transpose S8192x4x256 [2, 0, 1] (Host.dotGeneral (F := Ideal) (φ₁ := .f32) dot_S4x256x256_S8192x4x256_S4x256x8192_1_2_2_0_0_1 none
    (m ((c : Thread nD τ).loc main_arg4)) (shapeCast S8192x4x256 (extf (F := Ideal) .f32 (m ((c : Thread nD τ).loc main_arg1)) bitsLt_bf16_f32) shapeCasts_S8192x1024_S8192x4x256))
    transposes_S4x256x8192_S8192x4x256_2_0_1) shapeCasts_S8192x4x256_S8192x1024) bitsLt_bf16_f32 := by
  unfold V
  simp only [hostOps0, hostOps0_1, hostOps0_2, List.flatten_cons, List.flatten_nil, List.append_nil, List.cons_append, List.nil_append]
  after_reads_simp
  rfl

theorem host_G0 (s : Fin 8) (r : Fin 128) (l : Fin 1024) :
    V m c main_v42 (ix3 s (⟨r.val, by omega⟩ : Fin 448) l) = m ((c : Thread nD τ).loc main_arg8) (ix2 ⟨s.val * 128 + r.val, by omega⟩ l) := by
  unfold V
  simp only [hostOps0, hostOps0_1, hostOps0_2, List.flatten_cons, List.flatten_nil, List.append_nil, List.cons_append, List.nil_append]
  after_reads_simp
  generalize hσ : StableHlo.upto _ _ _ = σ
  pointwise []
  subst hσ
  after_reads_simp
  pointwise []

theorem host_G1 (s : Fin 8) (r : Fin 128) (l : Fin 1024) :
    V m c main_v42 (ix3 s (⟨128 + r.val, by omega⟩ : Fin 448) l) = m ((c : Thread nD τ).loc main_arg9) (ix2 ⟨s.val * 128 + r.val, by omega⟩ l) := by
  unfold V
  simp only [hostOps0, hostOps0_1, hostOps0_2, List.flatten_cons, List.flatten_nil, List.append_nil, List.cons_append, List.nil_append]
  after_reads_simp
  generalize hσ : StableHlo.upto _ _ _ = σ
  pointwise []
  subst hσ
  after_reads_simp
  pointwise []

theorem host_pw (s : Fin 4) (k l : Fin 256) :
    V m c main_v46 (ix3 s k l) = m ((c : Thread nD τ).loc main_arg4) (ix3 s k l) := by
  unfold V
  simp only [hostOps0, hostOps0_1, hostOps0_2, List.flatten_cons, List.flatten_nil, List.append_nil, List.cons_append, List.nil_append]
  after_reads_simp
  generalize hσ : StableHlo.upto _ _ _ = σ
  pointwise []
  subst hσ
  after_reads_simp
  pointwise []
  rw [dif_neg (by omega), dif_neg (by omega), dif_neg (by omega), dif_neg (by omega)]
  congr 2
  · apply Fin.ext; simp only []; omega
  · apply Fin.ext; simp only []; omega

theorem host_cc (r : Fin 8192) (l : Fin 1024) :
    V m c main_v32 (ix2 r l) = ∑ k : Fin 1024, c3 (fun k => m ((c : Thread nD τ).loc main_arg3) (ix2 r k)) (fun k => m ((c : Thread nD τ).loc main_arg6) (ix1 k))
      (fun k => m ((c : Thread nD τ).loc main_arg7) (ix1 k)) k * m ((c : Thread nD τ).loc main_arg8) (ix2 k l) := by
  unfold V
  simp only [hostOps0, hostOps0_1, hostOps0_2, List.flatten_cons, List.flatten_nil, List.append_nil, List.cons_append, List.nil_append]
  entry_read
  simp only [StableHlo.TRef.toBuf, StableHlo.TRef.ofBuf, StableHlo.TRef.of, cast_eq]
  pointwise [c3, c2, sg, xhat, rstd, var, cen, mean]
  rfl

end Cert.KernelIdeal.Body

end
-- ==== Proof.MixScr.lean ====
module

public import proofs.«01_k».proof.Proof.MixFrame
public import proofs.«01_k».proof.Proof.Pay
public import proofs.«01_k».proof.Proof.MixHost
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ReadBack
public import Idealize.ShloMosaic.Lib.ValueLayout

/-! The two matrices the first grid point copies into scratch, and that every point finds there. -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.Rows

variable (m : (ℓ : Loc nD τ sig) → Buf (Elt Ideal) ℓ) (c : Dev nD)

/-- The matrix `conv_w_out`. -/
abbrev wco : FVec Ideal S1024x1024 .bf16 := m ((c : Thread nD τ).loc main_arg8)
/-- The matrix `w_out`. -/
abbrev wout : FVec Ideal S1024x1024 .bf16 := m ((c : Thread nD τ).loc main_arg9)

/-- Rows `q … q + 127` of shard `s` of the gathered weights. -/
abbrev shard (s q : ℕ) (h : ∀ a, (![s, q, 0] : Fin 3 → ℕ) a + S1x128x1024.size a ≤ S8x448x1024.size a) :=
  ((View.whole (κ := .tc) main_v42).slice (Rect.unit ![s, q, 0] ![1, 128, 1024] h)).reshape S128x1024 squeezes_S1x128x1024_S128x1024.numel_eq

/-- One copy: the shard's rows land at row `o` of the scratch. -/
abbrev piece (o s q : ℕ) (ho : ∀ a, (![o, 0] : Fin 2 → ℕ) a + S128x1024.size a ≤ S1024x1024.size a)
    (h : ∀ a, (![s, q, 0] : Fin 3 → ℕ) a + S1x128x1024.size a ≤ S8x448x1024.size a) : View.Piece (Elt Ideal) S1024x1024 .bf16 :=
  ⟨Rect.unit ![o, 0] ![128, 1024] ho, ReadAs.same.apply (View.read (Elt Ideal) (shard s q h) (V m c main_v42))⟩

/-- What the eight copies leave in scratch 0. -/
abbrev pieces0 : List (View.Piece (Elt Ideal) S1024x1024 .bf16) :=
  [piece m c 896 7 0 inb_S1024x1024_S128x1024_896_0 inb_S8x448x1024_S1x128x1024_7_0_0,
   piece m c 768 6 0 inb_S1024x1024_S128x1024_768_0 inb_S8x448x1024_S1x128x1024_6_0_0,
   piece m c 640 5 0 inb_S1024x1024_S128x1024_640_0 inb_S8x448x1024_S1x128x1024_5_0_0,
   piece m c 512 4 0 inb_S1024x1024_S128x1024_512_0 inb_S8x448x1024_S1x128x1024_4_0_0,
   piece m c 384 3 0 inb_S1024x1024_S128x1024_384_0 inb_S8x448x1024_S1x128x1024_3_0_0,
   piece m c 256 2 0 inb_S1024x1024_S128x1024_256_0 inb_S8x448x1024_S1x128x1024_2_0_0,
   piece m c 128 1 0 inb_S1024x1024_S128x1024_128_0 inb_S8x448x1024_S1x128x1024_1_0_0,
   piece m c 0 0 0 inb_S1024x1024_S128x1024_0_0 inb_S8x448x1024_S1x128x1024_0_0_0]

/-- What the eight copies leave in scratch 1. -/
abbrev pieces1 : List (View.Piece (Elt Ideal) S1024x1024 .bf16) :=
  [piece m c 896 7 128 inb_S1024x1024_S128x1024_896_0 inb_S8x448x1024_S1x128x1024_7_128_0,
   piece m c 768 6 128 inb_S1024x1024_S128x1024_768_0 inb_S8x448x1024_S1x128x1024_6_128_0,
   piece m c 640 5 128 inb_S1024x1024_S128x1024_640_0 inb_S8x448x1024_S1x128x1024_5_128_0,
   piece m c 512 4 128 inb_S1024x1024_S128x1024_512_0 inb_S8x448x1024_S1x128x1024_4_128_0,
   piece m c 384 3 128 inb_S1024x1024_S128x1024_384_0 inb_S8x448x1024_S1x128x1024_3_128_0,
   piece m c 256 2 128 inb_S1024x1024_S128x1024_256_0 inb_S8x448x1024_S1x128x1024_2_128_0,
   piece m c 128 1 128 inb_S1024x1024_S128x1024_128_0 inb_S8x448x1024_S1x128x1024_1_128_0,
   piece m c 0 0 128 inb_S1024x1024_S128x1024_0_0 inb_S8x448x1024_S1x128x1024_0_128_0]

theorem shard_read (s q : ℕ) (h) (hs : s < 8) (f : FVec Ideal S8x448x1024 .bf16) (r : Fin 128) (l : Fin 1024) (hq : q + r.val < 448) :
    View.read (Elt Ideal) (shard s q h) f (ix2 r l) = f (ix3 ⟨s, hs⟩ ⟨q + r.val, hq⟩ l) := by
  show f ((Rect.unit (s := S8x448x1024) ![s, q, 0] ![1, 128, 1024] h).emb (Shape.reshapeEquiv _ (ix2 r l))) = f _
  refine congrArg f ((congrArg (Rect.emb _) (ValueIdx.reshapeEquiv_ix2_1ab _ r l)).trans ?_)
  funext a
  apply Fin.ext
  fin_cases a
  · show s + 1 * 0 = s; omega
  · show q + 1 * r.val = q + r.val; omega
  · show 0 + 1 * l.val = l.val; omega

/-- One copied piece, at one element: the same element of the matrix `w` that the gathered shards hold. -/
theorem piece_at (w : FVec Ideal S1024x1024 .bf16) (s q o : ℕ) (h) (hs : s < 8) (hq : q ≤ 128) (ho : o = s * 128)
    (hw : ∀ (r : Fin 128) (l : Fin 1024), V m c main_v42 (ix3 (⟨s, hs⟩ : Fin 8) (⟨q + r.val, by omega⟩ : Fin 448) l) = w (ix2 ⟨s * 128 + r.val, by omega⟩ l))
    (x : S128x1024.Idx) (y : S1024x1024.Idx) (h0 : (y 0).val = o + (x 0).val) (h1 : (y 1).val = (x 1).val) :
    View.read (Elt Ideal) (shard s q h) (V m c main_v42) x = w y := by
  idx_vars x
  have hx : x0.val < 128 := x0.isLt
  refine (shard_read s q h hs _ x0 x1 (by omega)).trans ((hw x0 x1).trans (congrArg w ?_))
  funext a
  apply Fin.ext
  fin_cases a
  · exact (congrArg (· + x0.val) ho.symm).trans h0.symm
  · exact h1.symm

set_option maxHeartbeats 2000000 in
theorem canon0 : View.canon (pieces0 m c) = wco m c := by
  funext y
  canon_tiles x h
  · exact piece_at m c (wco m c) 7 0 896 _ (by decide) (by decide) rfl (fun r l => (congrArg (fun r' => V m c main_v42 (ix3 (⟨7, by decide⟩ : Fin 8) r' l)) (Fin.ext (Nat.zero_add _))).trans (host_G0 m c ⟨7, by decide⟩ r l)) x y h0 h1
  · exact piece_at m c (wco m c) 6 0 768 _ (by decide) (by decide) rfl (fun r l => (congrArg (fun r' => V m c main_v42 (ix3 (⟨6, by decide⟩ : Fin 8) r' l)) (Fin.ext (Nat.zero_add _))).trans (host_G0 m c ⟨6, by decide⟩ r l)) x y h0 h1
  · exact piece_at m c (wco m c) 5 0 640 _ (by decide) (by decide) rfl (fun r l => (congrArg (fun r' => V m c main_v42 (ix3 (⟨5, by decide⟩ : Fin 8) r' l)) (Fin.ext (Nat.zero_add _))).trans (host_G0 m c ⟨5, by decide⟩ r l)) x y h0 h1
  · exact piece_at m c (wco m c) 4 0 512 _ (by decide) (by decide) rfl (fun r l => (congrArg (fun r' => V m c main_v42 (ix3 (⟨4, by decide⟩ : Fin 8) r' l)) (Fin.ext (Nat.zero_add _))).trans (host_G0 m c ⟨4, by decide⟩ r l)) x y h0 h1
  · exact piece_at m c (wco m c) 3 0 384 _ (by decide) (by decide) rfl (fun r l => (congrArg (fun r' => V m c main_v42 (ix3 (⟨3, by decide⟩ : Fin 8) r' l)) (Fin.ext (Nat.zero_add _))).trans (host_G0 m c ⟨3, by decide⟩ r l)) x y h0 h1
  · exact piece_at m c (wco m c) 2 0 256 _ (by decide) (by decide) rfl (fun r l => (congrArg (fun r' => V m c main_v42 (ix3 (⟨2, by decide⟩ : Fin 8) r' l)) (Fin.ext (Nat.zero_add _))).trans (host_G0 m c ⟨2, by decide⟩ r l)) x y h0 h1
  · exact piece_at m c (wco m c) 1 0 128 _ (by decide) (by decide) rfl (fun r l => (congrArg (fun r' => V m c main_v42 (ix3 (⟨1, by decide⟩ : Fin 8) r' l)) (Fin.ext (Nat.zero_add _))).trans (host_G0 m c ⟨1, by decide⟩ r l)) x y h0 h1
  · exact piece_at m c (wco m c) 0 0 0 _ (by decide) (by decide) rfl (fun r l => (congrArg (fun r' => V m c main_v42 (ix3 (⟨0, by decide⟩ : Fin 8) r' l)) (Fin.ext (Nat.zero_add _))).trans (host_G0 m c ⟨0, by decide⟩ r l)) x y (h0.trans (Nat.zero_add _).symm) h1

set_option maxHeartbeats 2000000 in
theorem readA0 (h) : (View.whole cc0_scratch0).readCov (pieces0 m c) (Rect.unit ![0, 0] ![1024, 1024] h).toLoadRect = wco m c := by
  rw [View.readCov_eq_canon', canon0]
  exact View.ld_unit_lit (Val := Elt Ideal) (S := S1024x1024) (e := .bf16) h (wco m c) (by decide)

set_option maxHeartbeats 2000000 in
theorem soutA_0_eq (t : Fin cfg0.N) (h0 : t.val % 32 = 0) : soutA_0 m c t h0 = wco m c := by
  unfold soutA_0 atA
  frame_out
  exact canon0 m c

set_option maxHeartbeats 2000000 in
theorem canon1 : View.canon (pieces1 m c) = wout m c := by
  funext y
  canon_tiles x h
  · exact piece_at m c (wout m c) 7 128 896 _ (by decide) (by decide) rfl (host_G1 m c ⟨7, by decide⟩) x y h0 h1
  · exact piece_at m c (wout m c) 6 128 768 _ (by decide) (by decide) rfl (host_G1 m c ⟨6, by decide⟩) x y h0 h1
  · exact piece_at m c (wout m c) 5 128 640 _ (by decide) (by decide) rfl (host_G1 m c ⟨5, by decide⟩) x y h0 h1
  · exact piece_at m c (wout m c) 4 128 512 _ (by decide) (by decide) rfl (host_G1 m c ⟨4, by decide⟩) x y h0 h1
  · exact piece_at m c (wout m c) 3 128 384 _ (by decide) (by decide) rfl (host_G1 m c ⟨3, by decide⟩) x y h0 h1
  · exact piece_at m c (wout m c) 2 128 256 _ (by decide) (by decide) rfl (host_G1 m c ⟨2, by decide⟩) x y h0 h1
  · exact piece_at m c (wout m c) 1 128 128 _ (by decide) (by decide) rfl (host_G1 m c ⟨1, by decide⟩) x y h0 h1
  · exact piece_at m c (wout m c) 0 128 0 _ (by decide) (by decide) rfl (host_G1 m c ⟨0, by decide⟩) x y (h0.trans (Nat.zero_add _).symm) h1

set_option maxHeartbeats 2000000 in
theorem readA1 (h) : (View.whole cc0_scratch1).readCov (pieces1 m c) (Rect.unit ![0, 0] ![1024, 1024] h).toLoadRect = wout m c := by
  rw [View.readCov_eq_canon', canon1]
  exact View.ld_unit_lit (Val := Elt Ideal) (S := S1024x1024) (e := .bf16) h (wout m c) (by decide)

set_option maxHeartbeats 2000000 in
theorem soutA_1_eq (t : Fin cfg0.N) (h0 : t.val % 32 = 0) : soutA_1 m c t h0 = wout m c := by
  unfold soutA_1 atA
  frame_out
  exact canon1 m c

theorem stepA_0 (t : Fin cfg0.N) (h0 : t.val % 32 = 0) : (stepA m c t h0).2.2.2.2.2.2.2.2.2.2.2.1 = soutA_0 m c t h0 := by
  unfold stepA; dsimp only
theorem stepA_1 (t : Fin cfg0.N) (h0 : t.val % 32 = 0) : (stepA m c t h0).2.2.2.2.2.2.2.2.2.2.2.2 = soutA_1 m c t h0 := by
  unfold stepA; dsimp only
theorem stepB_0 (t : Fin cfg0.N) (h0 : ¬ t.val % 32 = 0) (p : Outs Ideal) : (stepB m c t h0 p).2.2.2.2.2.2.2.2.2.2.2.1 = p.2.2.2.2.2.2.2.2.2.2.2.1 := by
  unfold stepB soutB_0; dsimp only
theorem stepB_1 (t : Fin cfg0.N) (h0 : ¬ t.val % 32 = 0) (p : Outs Ideal) : (stepB m c t h0 p).2.2.2.2.2.2.2.2.2.2.2.2 = p.2.2.2.2.2.2.2.2.2.2.2.2 := by
  unfold stepB soutB_1; dsimp only

theorem scratch_aux (n : ℕ) : ∀ (t : Fin cfg0.N), t.val = n →
    (outsAt0 m c t.val t.isLt).2.2.2.2.2.2.2.2.2.2.2.1 = wco m c ∧ (outsAt0 m c t.val t.isLt).2.2.2.2.2.2.2.2.2.2.2.2 = wout m c := by
  induction n with
  | zero =>
    intro t ht
    have h0 : t.val % 32 = 0 := by rw [ht]
    rw [outsAt0_A m c t h0, stepA_0, stepA_1, soutA_0_eq, soutA_1_eq]
    exact ⟨rfl, rfl⟩
  | succ n ih =>
    intro t ht
    by_cases h0 : t.val % 32 = 0
    · rw [outsAt0_A m c t h0, stepA_0, stepA_1, soutA_0_eq, soutA_1_eq]
      exact ⟨rfl, rfl⟩
    · rw [outsAt0_B m c t h0, stepB_0, stepB_1]
      exact ih ⟨t.val - 1, by omega⟩ (show t.val - 1 = n by omega)

/-- Every point leaves `conv_w_out` in the first scratch and `w_out` in the second. -/
theorem scratch (n : ℕ) (hn : n < cfg0.N) :
    (outsAt0 m c n hn).2.2.2.2.2.2.2.2.2.2.2.1 = wco m c ∧ (outsAt0 m c n hn).2.2.2.2.2.2.2.2.2.2.2.2 = wout m c :=
  scratch_aux m c n ⟨n, hn⟩ rfl

end Cert.KernelIdeal.Body

end
-- ==== Proof.MixBlk.lean ====
module

public import proofs.«01_k».proof.Proof.MixFrame
public import proofs.«01_k».proof.Proof.Pay
public import proofs.«01_k».proof.Proof.MixHost
public import proofs.«01_k».proof.Proof.MixScr
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Claim
public import Idealize.ShloMosaic.Lib.Pipeline.ReadBack
public import Idealize.ShloMosaic.Lib.ValueLayout

/-! The blocks a grid point reads, as rows of the call's arguments. -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.KernelIdeal.Pay Cert.Rows

variable (m : (ℓ : Loc nD τ sig) → Buf (Elt Ideal) ℓ) (c : Dev nD)

/-- The rows and weights the call reads. -/
abbrev kD (R : Fin 8192) : Fin 1024 → EReal := row (m ((c : Thread nD τ).loc main_arg0) : FVec Ideal S8192x1024 .f32) R
abbrev kZP (R : Fin 8192) : Fin 1024 → EReal := fun l => (m ((c : Thread nD τ).loc main_arg2) : FVec Ideal S8192x5120 .bf16) (ix2 R ⟨3072 + l.val, by omega⟩)
abbrev kZC (R : Fin 8192) : Fin 1024 → EReal := fun l => (m ((c : Thread nD τ).loc main_arg2) : FVec Ideal S8192x5120 .bf16) (ix2 R ⟨4096 + l.val, by omega⟩)
abbrev kX (R : Fin 8192) : Fin 1024 → EReal := row (m ((c : Thread nD τ).loc main_arg3) : FVec Ideal S8192x1024 .f32) R
abbrev kPW : Fin 4 → Fin 256 → Fin 256 → EReal := fun s k l => (m ((c : Thread nD τ).loc main_arg4) : FVec Ideal S4x256x256 .f32) (ix3 s k l)
abbrev kPS : Fin 1024 → EReal := fun l => (m ((c : Thread nD τ).loc main_arg5) : FVec Ideal S1024 .f32) (ix1 l)
abbrev kLG : Fin 1024 → EReal := fun l => (m ((c : Thread nD τ).loc main_arg6) : FVec Ideal S1024 .f32) (ix1 l)
abbrev kLB : Fin 1024 → EReal := fun l => (m ((c : Thread nD τ).loc main_arg7) : FVec Ideal S1024 .f32) (ix1 l)
abbrev kWC : Fin 1024 → Fin 1024 → EReal := row (wco m c)
abbrev kWO : Fin 1024 → Fin 1024 → EReal := row (wout m c)
abbrev kQ (R : Fin 8192) : Fin 1024 → EReal := row (V m c main_v5 : FVec Ideal S8192x1024 .bf16) R
/-- The convolution branch. -/
abbrev kCC (R : Fin 8192) : Fin 1024 → EReal := fun l => ∑ k : Fin 1024, c3 (kX m c R) (kLG m c) (kLB m c) k * kWC m c k l
/-- The gradient of the convolution branch. -/
abbrev kDCC (R : Fin 8192) : Fin 1024 → EReal := dgated (kD m c R) (kWO m c) (kZC m c R)

/-- Row `r` of the grid point's block of 256 rows. -/
abbrev gr (t : Fin cfg0.N) (r : Fin 256) : Fin 8192 := ⟨t.val * 256 + r.val, by have := t.isLt; have : cfg0.N = 32 := rfl; omega⟩

theorem idx : ∀ t : Fin cfg0.N, win0_0.index t = ![t.val, 0] ∧ win0_1.index t = ![t.val, 3] ∧ win0_2.index t = ![t.val, 4]
    ∧ win0_3.index t = ![t.val, 0] ∧ win0_4.index t = ![t.val, 0] ∧ win0_5.index t = ![t.val, 0] ∧ win0_6.index t = ![0, 0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![0, 0] ∧ win0_18.index t = ![0, 0] ∧ win0_19.index t = ![0, 0] ∧ win0_20.index t = ![0, 0] :=
  (by decide +kernel : ∀ t : Fin grid0.N, _)

section
variable (t : Fin cfg0.N) (r : Fin 256)

theorem i0 (l : Fin 1024) : (iblk m c 0 t : FVec Ideal S256x1024 .f32) (ix2 r l) = (V m c main_arg0 : FVec Ideal S8192x1024 .f32) (ix2 (gr t r) l) := by
  blk_ext [iblk, idx t]

theorem b0 : row (iblk m c 0 t : FVec Ideal S256x1024 .f32) r = kD m c (gr t r) :=
  funext fun l => (i0 m c t r l).trans (congrFun (V_main_arg0 m c) _)

theorem i1 (l : Fin 1024) : (iblk m c 1 t : FVec Ideal S256x1024 .bf16) (ix2 r l) = (V m c main_arg2 : FVec Ideal S8192x5120 .bf16) (ix2 (gr t r) ⟨3072 + l.val, by omega⟩) := by
  blk_ext [iblk, idx t]

theorem b1 : row (iblk m c 1 t : FVec Ideal S256x1024 .bf16) r = kZP m c (gr t r) :=
  funext fun l => (i1 m c t r l).trans (congrFun (V_main_arg2 m c) _)

theorem i2 (l : Fin 1024) : (iblk m c 2 t : FVec Ideal S256x1024 .bf16) (ix2 r l) = (V m c main_arg2 : FVec Ideal S8192x5120 .bf16) (ix2 (gr t r) ⟨4096 + l.val, by omega⟩) := by
  blk_ext [iblk, idx t]

theorem b2 : row (iblk m c 2 t : FVec Ideal S256x1024 .bf16) r = kZC m c (gr t r) :=
  funext fun l => (i2 m c t r l).trans (congrFun (V_main_arg2 m c) _)

theorem i3 (l : Fin 1024) : (iblk m c 3 t : FVec Ideal S256x1024 .f32) (ix2 r l) = (V m c main_arg3 : FVec Ideal S8192x1024 .f32) (ix2 (gr t r) l) := by
  blk_ext [iblk, idx t]

theorem b3 : row (iblk m c 3 t : FVec Ideal S256x1024 .f32) r = kX m c (gr t r) :=
  funext fun l => (i3 m c t r l).trans (congrFun (V_main_arg3 m c) _)

theorem i4 (l : Fin 1024) : (iblk m c 4 t : FVec Ideal S256x1024 .bf16) (ix2 r l) = (V m c main_v5 : FVec Ideal S8192x1024 .bf16) (ix2 (gr t r) l) := by
  blk_ext [iblk, idx t]

theorem b4 : row (iblk m c 4 t : FVec Ideal S256x1024 .bf16) r = kQ m c (gr t r) :=
  funext fun l => (i4 m c t r l).trans rfl

theorem i5 (l : Fin 1024) : (iblk m c 5 t : FVec Ideal S256x1024 .bf16) (ix2 r l) = (V m c main_v32 : FVec Ideal S8192x1024 .bf16) (ix2 (gr t r) l) := by
  blk_ext [iblk, idx t]

theorem b5 : row (iblk m c 5 t : FVec Ideal S256x1024 .bf16) r = kCC m c (gr t r) :=
  funext fun l => (i5 m c t r l).trans (host_cc m c (gr t r) l)

theorem i6 (s : Fin 4) (k l : Fin 256) : (iblk m c 6 t : FVec Ideal S4x256x256 .bf16) (ix3 s k l) = (V m c main_v46 : FVec Ideal S4x256x256 .bf16) (ix3 s k l) := by
  blk_ext [iblk, idx t]

theorem b6 (s : Fin 4) (k l : Fin 256) : (iblk m c 6 t : FVec Ideal S4x256x256 .bf16) (ix3 s k l) = kPW m c s k l :=
  (i6 m c t s k l).trans (host_pw m c s k l)

theorem i7 (l : Fin 1024) : (iblk m c 7 t : FVec Ideal S1x1024 .f32) (ix2 0 l) = (V m c main_v47 : FVec Ideal S1x1024 .f32) (ix2 0 l) := by
  blk_ext [iblk, idx t]

theorem b7 : row (iblk m c 7 t : FVec Ideal S1x1024 .f32) 0 = kPS m c :=
  funext fun l => (i7 m c t l).trans (host_ps m c l)

theorem i8 (l : Fin 1024) : (iblk m c 8 t : FVec Ideal S1x1024 .f32) (ix2 0 l) = (V m c main_v48 : FVec Ideal S1x1024 .f32) (ix2 0 l) := by
  blk_ext [iblk, idx t]

theorem b8 : row (iblk m c 8 t : FVec Ideal S1x1024 .f32) 0 = kLG m c :=
  funext fun l => (i8 m c t l).trans (host_lg m c l)

theorem i9 (l : Fin 1024) : (iblk m c 9 t : FVec Ideal S1x1024 .f32) (ix2 0 l) = (V m c main_v49 : FVec Ideal S1x1024 .f32) (ix2 0 l) := by
  blk_ext [iblk, idx t]

theorem b9 : row (iblk m c 9 t : FVec Ideal S1x1024 .f32) 0 = kLB m c :=
  funext fun l => (i9 m c t l).trans (host_lb m c l)

end

end Cert.KernelIdeal.Body

end
-- ==== Proof.MixOut.lean ====
module

public import proofs.«01_k».proof.Proof.MixFrame
public import proofs.«01_k».proof.Proof.Pay
public import proofs.«01_k».proof.Proof.MixBlk
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Claim
public import Idealize.ShloMosaic.Lib.Pipeline.ReadBack
public import Idealize.ShloMosaic.Lib.ValueLayout

/-! What the call's result arrays hold, each element over the rows of its arguments. -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.KernelIdeal.Pay Cert.Rows

variable (m : (ℓ : Loc nD τ sig) → Buf (Elt Ideal) ℓ) (c : Dev nD)

set_option maxHeartbeats 2000000 in
theorem o10 (t : Fin cfg0.N) : (outsAt0 m c t.val t.isLt).1
    = k0_pay16 (F := Ideal) (iblk m c 4 t) (iblk m c 5 t) (iblk m c 7 t) (iblk m c 1 t) (iblk m c 2 t) := by
  by_cases h0 : t.val % 32 = 0
  · rw [outsAt0_A m c t h0]
    unfold stepA outA_10 atA
    dsimp only
    frame_out
  · rw [outsAt0_B m c t h0]
    unfold stepB outB_10 atB
    dsimp only
    frame_out

set_option maxHeartbeats 2000000 in
theorem final10 : (dats m 0 c).arrAt 10 cfg0.N = (fun y => mix (kZP m c (y 0)) (kZC m c (y 0)) (kQ m c (y 0)) (kCC m c (y 0)) (kPS m c) (y 1) : FVec Ideal S8192x1024 .bf16) := by
  refine (dats m 0 c).arrAt_eq_of_covers 10 _ (by decide +kernel) fun t hf y => ?_
  blk_simp
  rw [after0_10, o10]
  idx_vars y
  refine (p16 _ _ _ _ _ _ _).trans ?_
  rw [b1, b2, b4, b5, b7, show ((View.whole main_v50_0).slice (win0_10.rect t)).emb (ix2 y0 y1) = ix2 (gr t y0) y1 from by blk_ext [idx t]]
  rfl

set_option maxHeartbeats 2000000 in
theorem o11 (t : Fin cfg0.N) : (outsAt0 m c t.val t.isLt).2.1
    = k0_pay27 (F := Ideal) (k0_pay9 (F := Ideal) (iblk m c 0 t) (wout m c)) (k0_pay14 (F := Ideal) (iblk m c 2 t)) := by
  by_cases h0 : t.val % 32 = 0
  · rw [outsAt0_A m c t h0]
    unfold stepA outA_11 atA
    dsimp only
    frame_out
    rw [readA1]
  · rw [outsAt0_B m c t h0]
    unfold stepB outB_11 atB
    dsimp only
    frame_out
    simp only [read_unread_whole]
    rw [(scratch m c _ _).2]

set_option maxHeartbeats 2000000 in
theorem final11 : (dats m 0 c).arrAt 11 cfg0.N = (fun y => kDCC m c (y 0) (y 1) : FVec Ideal S8192x1024 .bf16) := by
  refine (dats m 0 c).arrAt_eq_of_covers 11 _ (by decide +kernel) fun t hf y => ?_
  blk_simp
  rw [after0_11, o11]
  idx_vars y
  refine (p27 _ _ _ _ _).trans ?_
  rw [b0, b2, show ((View.whole main_v50_1).slice (win0_11.rect t)).emb (ix2 y0 y1) = ix2 (gr t y0) y1 from by blk_ext [idx t]]
  rfl

set_option maxHeartbeats 2000000 in
theorem o12 (t : Fin cfg0.N) : (outsAt0 m c t.val t.isLt).2.2.1
    = k0_pay36 (F := Ideal) (k0_pay28 (F := Ideal) (iblk m c 3 t)) (k0_pay29 (F := Ideal) (iblk m c 3 t)) k0_pay30 (iblk m c 8 t) (iblk m c 9 t) := by
  by_cases h0 : t.val % 32 = 0
  · rw [outsAt0_A m c t h0]
    unfold stepA outA_12 atA
    dsimp only
    frame_out
  · rw [outsAt0_B m c t h0]
    unfold stepB outB_12 atB
    dsimp only
    frame_out

set_option maxHeartbeats 2000000 in
theorem final12 : (dats m 0 c).arrAt 12 cfg0.N = (fun y => c3 (kX m c (y 0)) (kLG m c) (kLB m c) (y 1) : FVec Ideal S8192x1024 .bf16) := by
  refine (dats m 0 c).arrAt_eq_of_covers 12 _ (by decide +kernel) fun t hf y => ?_
  blk_simp
  rw [after0_12, o12]
  idx_vars y
  refine (p36 _ _ _ _ _).trans ?_
  rw [b3, b8, b9, show ((View.whole main_v50_2).slice (win0_12.rect t)).emb (ix2 y0 y1) = ix2 (gr t y0) y1 from by blk_ext [idx t]]
  rfl

set_option maxHeartbeats 2000000 in
theorem o13 (t : Fin cfg0.N) : (outsAt0 m c t.val t.isLt).2.2.2.1
    = k0_pay21 (F := Ideal) (k0_pay12 (F := Ideal) (iblk m c 7 t)) (k0_pay17 (F := Ideal) (iblk m c 0 t) (wout m c) (iblk m c 1 t)) := by
  by_cases h0 : t.val % 32 = 0
  · rw [outsAt0_A m c t h0]
    unfold stepA outA_13 atA
    dsimp only
    frame_out
    rw [readA1]
  · rw [outsAt0_B m c t h0]
    unfold stepB outB_13 atB
    dsimp only
    frame_out
    simp only [read_unread_whole]
    rw [(scratch m c _ _).2]

set_option maxHeartbeats 2000000 in
theorem final13 : (dats m 0 c).arrAt 13 cfg0.N = (fun y => dq (kD m c (y 0)) (kWO m c) (kZP m c (y 0)) (kPS m c) (y 1) : FVec Ideal S8192x1024 .bf16) := by
  refine (dats m 0 c).arrAt_eq_of_covers 13 _ (by decide +kernel) fun t hf y => ?_
  blk_simp
  rw [after0_13, o13]
  idx_vars y
  refine (p21 _ _ _ _ _ _).trans ?_
  rw [b0, b1, b7, show ((View.whole main_v50_3).slice (win0_13.rect t)).emb (ix2 y0 y1) = ix2 (gr t y0) y1 from by blk_ext [idx t]]
  rfl

set_option maxHeartbeats 2000000 in
theorem o15 (t : Fin cfg0.N) : (outsAt0 m c t.val t.isLt).2.2.2.2.2.1
    = k0_pay3 (F := Ideal) (k0_pay31 (F := Ideal) (k0_pay29 (F := Ideal) (iblk m c 3 t)) k0_pay30) (k0_pay32 (F := Ideal) (k0_pay28 (F := Ideal) (iblk m c 3 t)) (k0_pay29 (F := Ideal) (iblk m c 3 t)) k0_pay30) (k0_pay33 (F := Ideal) (iblk m c 8 t)) (k0_pay37 (F := Ideal) (k0_pay27 (F := Ideal) (k0_pay9 (F := Ideal) (iblk m c 0 t) (wout m c)) (k0_pay14 (F := Ideal) (iblk m c 2 t))) (k0_pay28 (F := Ideal) (iblk m c 3 t)) (k0_pay29 (F := Ideal) (iblk m c 3 t)) k0_pay30 (iblk m c 8 t) (iblk m c 9 t) (wco m c)) := by
  by_cases h0 : t.val % 32 = 0
  · rw [outsAt0_A m c t h0]
    unfold stepA outA_15 atA
    dsimp only
    frame_out
    rw [readA0]
    rw [readA1]
  · rw [outsAt0_B m c t h0]
    unfold stepB outB_15 atB
    dsimp only
    frame_out
    simp only [read_unread_whole]
    rw [(scratch m c _ _).1]
    rw [(scratch m c _ _).2]

set_option maxHeartbeats 2000000 in
theorem final15 : (dats m 0 c).arrAt 15 cfg0.N = (fun y => dc1 (kX m c (y 0)) (kLG m c) (kLB m c) (dot (kDCC m c (y 0)) (kWC m c)) (y 1) : FVec Ideal S8192x1024 .bf16) := by
  refine (dats m 0 c).arrAt_eq_of_covers 15 _ (by decide +kernel) fun t hf y => ?_
  blk_simp
  rw [after0_15, o15]
  idx_vars y
  refine (p3 _ _ _ _ _ _ _).trans ?_
  rw [show row (k0_pay27 (F := Ideal) (k0_pay9 (F := Ideal) (iblk m c 0 t) (wout m c)) (k0_pay14 (F := Ideal) (iblk m c 2 t))) y0 = kDCC m c (gr t y0) from
    funext fun l => (p27 _ _ _ _ _).trans (by rw [b0, b2])]
  rw [b3, b8, b9, show ((View.whole main_v50_5).slice (win0_15.rect t)).emb (ix2 y0 y1) = ix2 (gr t y0) y1 from by blk_ext [idx t]]
  rfl

end Cert.KernelIdeal.Body

end
-- ==== Proof.MixTile.lean ====
module

public import proofs.«01_k».proof.Proof.MixFrame
public import proofs.«01_k».proof.Proof.Pay
public import proofs.«01_k».proof.Proof.MixBlk
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Claim
public import Idealize.ShloMosaic.Lib.Pipeline.ReadBack
public import Idealize.ShloMosaic.Lib.ValueLayout

/-! The two results written in several stores: the pool's gradient, a group of lanes each, and the two gates' gradients side by side. -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.KernelIdeal.Pay Cert.Rows

variable (m : (ℓ : Loc nD τ sig) → Buf (Elt Ideal) ℓ) (c : Dev nD)

/-- The pool's gradient at a lane: the lane's group of the row through the group's matrix. -/
def pooled (g : Fin 1024 → EReal) (pw : Fin 4 → Fin 256 → Fin 256 → EReal) (l : Fin 1024) : EReal :=
  dpool g pw ⟨l.val / 256, by omega⟩ ⟨l.val % 256, by omega⟩

/-- One group of the pool's gradient: the tile's element is the row's group through its matrix. -/
theorem tile14 (v : FVec Ideal S256x1024 .bf16) (pw : Fin 4 → Fin 256 → Fin 256 → EReal) (s : ℕ) (hs : s < 4) (vv : FVec Ideal S256x256 .bf16)
    (pp : FVec Ideal S1x256x256 .bf16) (hv : ∀ r j, vv (ix2 r j) = v (ix2 r (lane ⟨s, hs⟩ j))) (hp : ∀ k j, pp (ix3 0 k j) = pw ⟨s, hs⟩ k j)
    (x : S256x256.Idx) (y : S256x1024.Idx) (h0 : (y 0).val = (x 0).val) (h1 : (y 1).val = 256 * s + (x 1).val) :
    k0_pay26 (F := Ideal) vv pp x = pooled (row v (y 0)) pw (y 1) := by
  unfold pooled
  idx_vars x
  have hx : x1.val < 256 := x1.isLt
  have e0 : (y 0 : Fin 256) = x0 := Fin.ext h0
  have h1' : (y 1).val = 256 * s + x1.val := h1
  have e1 : (⟨(y 1).val / 256, by have : (y 1).val < 1024 := (y 1).isLt; omega⟩ : Fin 4) = ⟨s, hs⟩ := Fin.ext (by show (y 1).val / 256 = s; omega)
  have e2 : (⟨(y 1).val % 256, by omega⟩ : Fin 256) = x1 := Fin.ext (by show (y 1).val % 256 = x1.val; omega)
  rw [e1, e2]
  refine (p26 x0 vv pp x1).trans ?_
  unfold dpool
  refine Finset.sum_congr rfl fun j _ => ?_
  rw [hv, hp]
  exact congrArg (fun r : Fin 256 => v (ix2 r (lane ⟨s, hs⟩ j)) * pw ⟨s, hs⟩ x1 j) e0.symm

/-- A group of lanes loaded back from a block stored whole. -/
theorem back {sp : Space} (W : View sig .tc sp S256x1024 .bf16) (v : FVec Ideal S256x1024 .bf16) (h) (s : ℕ) (hs : s < 4) (o : ℕ) (h' : ∀ a, (![0, o] : Fin 2 → ℕ) a + S256x256.size a ≤ S256x1024.size a) (ho : o = 256 * s) :
    W.readCov (Val := Elt Ideal) [⟨Rect.unit (s := S256x1024) ![0, 0] ![256, 1024] h, v⟩] (Rect.unit (s := S256x1024) ![0, o] ![256, 256] h').toLoadRect
      = (fun z => v (ix2 (z 0) (lane ⟨s, hs⟩ (z 1))) : FVec Ideal S256x256 .bf16) := by
  rw [View.readCov_eq_canon']
  funext z
  idx_vars z
  refine (congrFun (View.canon_cons_unit_lit (Val := Elt Ideal) (S := S256x1024) (e := .bf16) h v [] (by decide)) _).trans (congrArg v ?_)
  subst ho
  funext a
  apply Fin.ext
  fin_cases a
  · show 0 + 1 * z0.val = z0.val; omega
  · show 256 * s + 1 * z1.val = 256 * s + z1.val; omega

theorem ld6 (t : Fin cfg0.N) (s : ℕ) (hs : s < 4) (h) (k j : Fin 256) :
    View.ld (Val := Elt Ideal) (iblk m c 6 t : FVec Ideal S4x256x256 .bf16) (Rect.unit ![s, 0, 0] ![1, 256, 256] h) (ix3 0 k j) = kPW m c ⟨s, hs⟩ k j := by
  refine Eq.trans ?_ (b6 m c t ⟨s, hs⟩ k j)
  refine congrArg (iblk m c 6 t : FVec Ideal S4x256x256 .bf16) ?_
  funext a
  apply Fin.ext
  fin_cases a
  · show s + 1 * 0 = s; omega
  · show 0 + 1 * k.val = k.val; omega
  · show 0 + 1 * j.val = j.val; omega

set_option maxHeartbeats 2000000 in
theorem o14 (t : Fin cfg0.N) : (outsAt0 m c t.val t.isLt).2.2.2.2.1
    = (fun y => pooled (row (k0_pay21 (F := Ideal) (k0_pay12 (F := Ideal) (iblk m c 7 t)) (k0_pay17 (F := Ideal) (iblk m c 0 t) (wout m c) (iblk m c 1 t))) (y 0)) (kPW m c) (y 1) : FVec Ideal S256x1024 .bf16) := by
  by_cases hc : t.val % 32 = 0
  · rw [outsAt0_A m c t hc]
    unfold stepA outA_14 atA
    dsimp only
    frame_out
    rw [readA1]
    rw [back _ (k0_pay21 (F := Ideal) (k0_pay12 (F := Ideal) (iblk m c 7 t)) (k0_pay17 (F := Ideal) (iblk m c 0 t) (wout m c) (iblk m c 1 t))) _ 3 (by decide) 768 _ rfl, back _ (k0_pay21 (F := Ideal) (k0_pay12 (F := Ideal) (iblk m c 7 t)) (k0_pay17 (F := Ideal) (iblk m c 0 t) (wout m c) (iblk m c 1 t))) _ 2 (by decide) 512 _ rfl, back _ (k0_pay21 (F := Ideal) (k0_pay12 (F := Ideal) (iblk m c 7 t)) (k0_pay17 (F := Ideal) (iblk m c 0 t) (wout m c) (iblk m c 1 t))) _ 1 (by decide) 256 _ rfl, back _ (k0_pay21 (F := Ideal) (k0_pay12 (F := Ideal) (iblk m c 7 t)) (k0_pay17 (F := Ideal) (iblk m c 0 t) (wout m c) (iblk m c 1 t))) _ 0 (by decide) 0 _ rfl]
    funext y
    canon_tiles x h
    · exact tile14 (k0_pay21 (F := Ideal) (k0_pay12 (F := Ideal) (iblk m c 7 t)) (k0_pay17 (F := Ideal) (iblk m c 0 t) (wout m c) (iblk m c 1 t))) (kPW m c) 3 (by decide) _ _ (fun r j => rfl) (ld6 m c t 3 (by decide) _) x y h0 h1
    · exact tile14 (k0_pay21 (F := Ideal) (k0_pay12 (F := Ideal) (iblk m c 7 t)) (k0_pay17 (F := Ideal) (iblk m c 0 t) (wout m c) (iblk m c 1 t))) (kPW m c) 2 (by decide) _ _ (fun r j => rfl) (ld6 m c t 2 (by decide) _) x y h0 h1
    · exact tile14 (k0_pay21 (F := Ideal) (k0_pay12 (F := Ideal) (iblk m c 7 t)) (k0_pay17 (F := Ideal) (iblk m c 0 t) (wout m c) (iblk m c 1 t))) (kPW m c) 1 (by decide) _ _ (fun r j => rfl) (ld6 m c t 1 (by decide) _) x y h0 h1
    · exact tile14 (k0_pay21 (F := Ideal) (k0_pay12 (F := Ideal) (iblk m c 7 t)) (k0_pay17 (F := Ideal) (iblk m c 0 t) (wout m c) (iblk m c 1 t))) (kPW m c) 0 (by decide) _ _ (fun r j => rfl) (ld6 m c t 0 (by decide) _) x y h0 (h1.trans (Nat.zero_add _).symm)
  · rw [outsAt0_B m c t hc]
    unfold stepB outB_14 atB
    dsimp only
    frame_out
    simp only [read_unread_whole]
    rw [(scratch m c _ _).2]
    rw [back _ (k0_pay21 (F := Ideal) (k0_pay12 (F := Ideal) (iblk m c 7 t)) (k0_pay17 (F := Ideal) (iblk m c 0 t) (wout m c) (iblk m c 1 t))) _ 3 (by decide) 768 _ rfl, back _ (k0_pay21 (F := Ideal) (k0_pay12 (F := Ideal) (iblk m c 7 t)) (k0_pay17 (F := Ideal) (iblk m c 0 t) (wout m c) (iblk m c 1 t))) _ 2 (by decide) 512 _ rfl, back _ (k0_pay21 (F := Ideal) (k0_pay12 (F := Ideal) (iblk m c 7 t)) (k0_pay17 (F := Ideal) (iblk m c 0 t) (wout m c) (iblk m c 1 t))) _ 1 (by decide) 256 _ rfl, back _ (k0_pay21 (F := Ideal) (k0_pay12 (F := Ideal) (iblk m c 7 t)) (k0_pay17 (F := Ideal) (iblk m c 0 t) (wout m c) (iblk m c 1 t))) _ 0 (by decide) 0 _ rfl]
    funext y
    canon_tiles x h
    · exact tile14 (k0_pay21 (F := Ideal) (k0_pay12 (F := Ideal) (iblk m c 7 t)) (k0_pay17 (F := Ideal) (iblk m c 0 t) (wout m c) (iblk m c 1 t))) (kPW m c) 3 (by decide) _ _ (fun r j => rfl) (ld6 m c t 3 (by decide) _) x y h0 h1
    · exact tile14 (k0_pay21 (F := Ideal) (k0_pay12 (F := Ideal) (iblk m c 7 t)) (k0_pay17 (F := Ideal) (iblk m c 0 t) (wout m c) (iblk m c 1 t))) (kPW m c) 2 (by decide) _ _ (fun r j => rfl) (ld6 m c t 2 (by decide) _) x y h0 h1
    · exact tile14 (k0_pay21 (F := Ideal) (k0_pay12 (F := Ideal) (iblk m c 7 t)) (k0_pay17 (F := Ideal) (iblk m c 0 t) (wout m c) (iblk m c 1 t))) (kPW m c) 1 (by decide) _ _ (fun r j => rfl) (ld6 m c t 1 (by decide) _) x y h0 h1
    · exact tile14 (k0_pay21 (F := Ideal) (k0_pay12 (F := Ideal) (iblk m c 7 t)) (k0_pay17 (F := Ideal) (iblk m c 0 t) (wout m c) (iblk m c 1 t))) (kPW m c) 0 (by decide) _ _ (fun r j => rfl) (ld6 m c t 0 (by decide) _) x y h0 (h1.trans (Nat.zero_add _).symm)

set_option maxHeartbeats 2000000 in
theorem final14 : (dats m 0 c).arrAt 14 cfg0.N = (fun y => pooled (dq (kD m c (y 0)) (kWO m c) (kZP m c (y 0)) (kPS m c)) (kPW m c) (y 1) : FVec Ideal S8192x1024 .bf16) := by
  refine (dats m 0 c).arrAt_eq_of_covers 14 _ (by decide +kernel) fun t hf y => ?_
  blk_simp
  rw [after0_14, o14]
  idx_vars y
  show pooled (row (k0_pay21 (F := Ideal) (k0_pay12 (F := Ideal) (iblk m c 7 t)) (k0_pay17 (F := Ideal) (iblk m c 0 t) (wout m c) (iblk m c 1 t))) y0) (kPW m c) y1 = _
  rw [show row (k0_pay21 (F := Ideal) (k0_pay12 (F := Ideal) (iblk m c 7 t)) (k0_pay17 (F := Ideal) (iblk m c 0 t) (wout m c) (iblk m c 1 t))) y0 = dq (kD m c (gr t y0)) (kWO m c) (kZP m c (gr t y0)) (kPS m c) from
    funext fun l => (p21 _ _ _ _ _ _).trans (by rw [b0, b1, b7]),
    show ((View.whole main_v50_4).slice (win0_14.rect t)).emb (ix2 y0 y1) = ix2 (gr t y0) y1 from by blk_ext [idx t]]
  rfl

/-- The two gates' gradients side by side: the pool's gate in the first 1024 lanes, the convolution's in the others. -/
def gates (u v : Fin 1024 → EReal) (l : Fin 2048) : EReal := if h : l.val < 1024 then u ⟨l.val, h⟩ else v ⟨l.val - 1024, by omega⟩

theorem right16 (u v : FVec Ideal S256x1024 .bf16) (x : S256x1024.Idx) (y : S256x2048.Idx) (h0 : (y 0).val = (x 0).val) (h1 : (y 1).val = 1024 + (x 1).val) :
    v x = gates (row u (y 0)) (row v (y 0)) (y 1) := by
  have h : ¬ ((y 1 : Fin 2048).val < 1024) := by omega
  unfold gates
  rw [dif_neg h]
  refine congrArg v ?_
  funext a
  apply Fin.ext
  fin_cases a
  · exact h0.symm
  · exact (Nat.sub_eq_of_eq_add (h1.trans (Nat.add_comm _ _))).symm

theorem left16 (u v : FVec Ideal S256x1024 .bf16) (x : S256x1024.Idx) (y : S256x2048.Idx) (h0 : (y 0).val = (x 0).val) (h1 : (y 1).val = (x 1).val) :
    u x = gates (row u (y 0)) (row v (y 0)) (y 1) := by
  have h : (y 1 : Fin 2048).val < 1024 := h1.trans_lt (x 1).isLt
  unfold gates
  rw [dif_pos h]
  refine congrArg u ?_
  funext a
  apply Fin.ext
  fin_cases a
  · exact h0.symm
  · exact h1.symm

set_option maxHeartbeats 2000000 in
theorem o16 (t : Fin cfg0.N) : (outsAt0 m c t.val t.isLt).2.2.2.2.2.2.1
    = (fun y => gates (row (k0_pay18 (F := Ideal) (iblk m c 0 t) (wout m c) (iblk m c 4 t) (iblk m c 7 t) (iblk m c 1 t)) (y 0))
        (row (k0_pay19 (F := Ideal) (k0_pay9 (F := Ideal) (iblk m c 0 t) (wout m c)) (k0_pay11 (F := Ideal) (iblk m c 5 t)) (k0_pay14 (F := Ideal) (iblk m c 2 t))) (y 0)) (y 1) : FVec Ideal S256x2048 .bf16) := by
  by_cases hc : t.val % 32 = 0
  · rw [outsAt0_A m c t hc]
    unfold stepA outA_16 atA
    dsimp only
    frame_out
    rw [readA1]
    funext y
    canon_tiles x h
    · exact right16 _ _ x y h0 h1
    · exact left16 _ _ x y h0 h1
  · rw [outsAt0_B m c t hc]
    unfold stepB outB_16 atB
    dsimp only
    frame_out
    simp only [read_unread_whole]
    rw [(scratch m c _ _).2]
    funext y
    canon_tiles x h
    · exact right16 _ _ x y h0 h1
    · exact left16 _ _ x y h0 h1

set_option maxHeartbeats 2000000 in
theorem final16 : (dats m 0 c).arrAt 16 cfg0.N = (fun y => gates (dgate (kD m c (y 0)) (kWO m c) (kZP m c (y 0)) (act (kQ m c (y 0)) (kPS m c)))
    (dgate (kD m c (y 0)) (kWO m c) (kZC m c (y 0)) (kCC m c (y 0))) (y 1) : FVec Ideal S8192x2048 .bf16) := by
  refine (dats m 0 c).arrAt_eq_of_covers 16 _ (by decide +kernel) fun t hf y => ?_
  blk_simp
  rw [after0_16, o16]
  idx_vars y
  show gates (row (k0_pay18 (F := Ideal) (iblk m c 0 t) (wout m c) (iblk m c 4 t) (iblk m c 7 t) (iblk m c 1 t)) y0)
        (row (k0_pay19 (F := Ideal) (k0_pay9 (F := Ideal) (iblk m c 0 t) (wout m c)) (k0_pay11 (F := Ideal) (iblk m c 5 t)) (k0_pay14 (F := Ideal) (iblk m c 2 t))) y0) y1 = _
  rw [show row (k0_pay18 (F := Ideal) (iblk m c 0 t) (wout m c) (iblk m c 4 t) (iblk m c 7 t) (iblk m c 1 t)) y0
      = dgate (kD m c (gr t y0)) (kWO m c) (kZP m c (gr t y0)) (act (kQ m c (gr t y0)) (kPS m c)) from
    funext fun l => (p18 _ _ _ _ _ _ _).trans (by rw [b0, b1, b4, b7]),
    show row (k0_pay19 (F := Ideal) (k0_pay9 (F := Ideal) (iblk m c 0 t) (wout m c)) (k0_pay11 (F := Ideal) (iblk m c 5 t)) (k0_pay14 (F := Ideal) (iblk m c 2 t))) y0
      = dgate (kD m c (gr t y0)) (kWO m c) (kZC m c (gr t y0)) (kCC m c (gr t y0)) from
    funext fun l => (p19 _ _ _ _ _ _).trans (by rw [b0, b2, b5]),
    show ((View.whole main_v50_6).slice (win0_16.rect t)).emb (ix2 y0 y1) = ix2 (gr t y0) y1 from by blk_ext [idx t]]
  rfl

end Cert.KernelIdeal.Body

end
-- ==== Proof.MixAcc.lean ====
module

public import proofs.«01_k».proof.Proof.MixFrame
public import proofs.«01_k».proof.Proof.Pay
public import proofs.«01_k».proof.Proof.MixBlk
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Claim
public import Idealize.ShloMosaic.Lib.Pipeline.ReadBack
public import Idealize.ShloMosaic.Lib.ValueLayout

/-! The four results summed over the rows: every grid point adds its block's rows, eight sums apart. -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.KernelIdeal.Pay Cert.Rows

variable (m : (ℓ : Loc nD τ sig) → Buf (Elt Ideal) ℓ) (c : Dev nD)

/-- Row `8 a + i` of the array. -/
abbrev row8 (a : Fin 1024) (i : Fin 8) : Fin 8192 := ⟨a.val * 8 + i.val, by omega⟩

theorem gr_sub8 (t : Fin cfg0.N) (j : Fin 32) (i : Fin 8) (h : t.val * 32 + j.val < 1024) : gr t (sub8 j i) = row8 ⟨t.val * 32 + j.val, h⟩ i := by
  apply Fin.ext
  show t.val * 256 + (j.val * 8 + i.val) = (t.val * 32 + j.val) * 8 + i.val
  omega

/-- A buffer that starts from zero at the first point and takes each point's rows, after the last point: the sum over all rows. -/
theorem acc_sum (f : (n : ℕ) → n < cfg0.N → FVec Ideal S8x1024 .f32) (T : Fin 8192 → Fin 1024 → EReal)
    (hA : ∀ t : Fin cfg0.N, t.val % 32 = 0 → ∀ (i : Fin 8) (l : Fin 1024), (f t.val t.isLt (ix2 i l) : EReal) = (0 : EReal) + ∑ j : Fin 32, T (gr t (sub8 j i)) l)
    (hB : ∀ t : Fin cfg0.N, ¬ t.val % 32 = 0 → ∀ (i : Fin 8) (l : Fin 1024),
      (f t.val t.isLt (ix2 i l) : EReal) = f (t.val - 1) (Nat.lt_of_le_of_lt (Nat.sub_le _ _) t.isLt) (ix2 i l) + ∑ j : Fin 32, T (gr t (sub8 j i)) l)
    (t : Fin cfg0.N) (ht : t.val + 1 = cfg0.N) (i : Fin 8) (l : Fin 1024) :
    (f t.val t.isLt (ix2 i l) : EReal) = ∑ a : Fin 1024, T (row8 a i) l := by
  refine (Pipeline.eq_sum_fin_of_reset_step_apply_last (M := EReal) (fun n h (y : Fin 8 × Fin 1024) => f n h (ix2 y.1 y.2)) 32 (fun _ => 0)
    (fun t y => ∑ j : Fin 32, T (gr t (sub8 j y.1)) y.2) (fun t h y => hA t h y.1 y.2) (fun t h y => hB t h y.1 y.2) (by decide +kernel) t ht (i, l)).trans ?_
  rw [zero_add]
  exact Fin.sum_mul_add_congr (L := 1024) (S := 32) (n := 32) (F := fun t j => T (gr t (sub8 j i)) l) (f := fun a => T (row8 a i) l)
    (fun t j h => congrArg (T · l) (gr_sub8 t j i h))

theorem row_dcc (t : Fin cfg0.N) (r : Fin 256) : row (k0_pay27 (F := Ideal) (k0_pay9 (F := Ideal) (iblk m c 0 t) (wout m c)) (k0_pay14 (F := Ideal) (iblk m c 2 t))) r
    = kDCC m c (gr t r) := funext fun l => (p27 _ _ _ _ _).trans (by rw [b0, b2])

/-- What the four sums add up at row `R`. -/
abbrev T17 (R : Fin 8192) (l : Fin 1024) : EReal := dgated (kD m c R) (kWO m c) (kZP m c R) l * kQ m c R l
abbrev T19 (R : Fin 8192) (l : Fin 1024) : EReal := dc2 (kX m c R) (kLG m c) (kLB m c) (dot (kDCC m c R) (kWC m c)) l
abbrev T18 (R : Fin 8192) (l : Fin 1024) : EReal := T19 m c R l * xhat (kX m c R) l
abbrev T20 (R : Fin 8192) (l : Fin 1024) : EReal := dc1 (kX m c R) (kLG m c) (kLB m c) (dot (kDCC m c R) (kWC m c)) l

theorem zero17 (i : Fin 8) (l : Fin 1024) : k0_pay5 (F := Ideal) (ix2 i l) = (0 : EReal) := Ideal.ofBits_zero_f32

set_option maxHeartbeats 2000000 in
theorem o17 (t : Fin cfg0.N) (ht : t.val + 1 = cfg0.N) (i : Fin 8) (l : Fin 1024) :
    ((outsAt0 m c t.val t.isLt).2.2.2.2.2.2.2.1 (ix2 i l) : EReal) = ∑ a : Fin 1024, T17 m c (row8 a i) l := by
  refine acc_sum (fun n h => (outsAt0 m c n h).2.2.2.2.2.2.2.1) (T17 m c) (fun t h0 i l => ?_) (fun t h0 i l => ?_) t ht i l
  · rw [outsAt0_A m c t h0]
    unfold stepA outA_17 atA
    dsimp only
    frame_out
    rw [readA1]
    refine (p20 _ _ _ _ _ _ _).trans ?_
    exact congrArg₂ (· + ·) (zero17 i l) (Finset.sum_congr rfl fun j _ => congrArg₂ (· * ·) (by rw [b0, b1]; rfl) (i4 m c t (sub8 j i) l))
  · rw [outsAt0_B m c t h0]
    unfold stepB outB_17 atB
    dsimp only
    frame_out
    simp only [read_unread_whole]
    rw [(scratch m c _ _).2]
    refine (p20 _ _ _ _ _ _ _).trans ?_
    exact congrArg₂ (· + ·) rfl (Finset.sum_congr rfl fun j _ => congrArg₂ (· * ·) (by rw [b0, b1]; rfl) (i4 m c t (sub8 j i) l))

set_option maxHeartbeats 2000000 in
theorem final17 : (dats m 0 c).arrAt 17 cfg0.N = (fun y => ∑ a : Fin 1024, T17 m c (row8 a (y 0)) (y 1) : FVec Ideal S8x1024 .f32) := by
  refine (dats m 0 c).arrAt_eq_of_covers 17 _ (by decide +kernel) fun t hf y => ?_
  have ht : t.val + 1 = cfg0.N := by
    have h1 := (flush0_17 t).mp hf
    have h2 : t.val < 32 := t.isLt
    show t.val + 1 = 32
    omega
  blk_simp
  rw [after0_17]
  idx_vars y
  refine (o17 m c t ht y0 y1).trans ?_
  rw [show ((View.whole main_v50_7).slice (win0_17.rect t)).emb (ix2 y0 y1) = ix2 y0 y1 from by blk_ext [idx t]]
  rfl

theorem zero18 (i : Fin 8) (l : Fin 1024) : k0_pay6 (F := Ideal) (ix2 i l) = (0 : EReal) := Ideal.ofBits_zero_f32

set_option maxHeartbeats 2000000 in
theorem o18 (t : Fin cfg0.N) (ht : t.val + 1 = cfg0.N) (i : Fin 8) (l : Fin 1024) :
    ((outsAt0 m c t.val t.isLt).2.2.2.2.2.2.2.2.1 (ix2 i l) : EReal) = ∑ a : Fin 1024, T18 m c (row8 a i) l := by
  refine acc_sum (fun n h => (outsAt0 m c n h).2.2.2.2.2.2.2.2.1) (T18 m c) (fun t h0 i l => ?_) (fun t h0 i l => ?_) t ht i l
  · rw [outsAt0_A m c t h0]
    unfold stepA outA_18 atA
    dsimp only
    frame_out
    rw [readA0, readA1]
    refine (p38 _ _ _ _ _ _ _ _).trans ?_
    exact congrArg₂ (· + ·) (zero18 i l) (Finset.sum_congr rfl fun j _ => by rw [b3, b8, b9, row_dcc])
  · rw [outsAt0_B m c t h0]
    unfold stepB outB_18 atB
    dsimp only
    frame_out
    simp only [read_unread_whole]
    rw [(scratch m c _ _).1, (scratch m c _ _).2]
    refine (p38 _ _ _ _ _ _ _ _).trans ?_
    exact congrArg₂ (· + ·) rfl (Finset.sum_congr rfl fun j _ => by rw [b3, b8, b9, row_dcc])

set_option maxHeartbeats 2000000 in
theorem final18 : (dats m 0 c).arrAt 18 cfg0.N = (fun y => ∑ a : Fin 1024, T18 m c (row8 a (y 0)) (y 1) : FVec Ideal S8x1024 .f32) := by
  refine (dats m 0 c).arrAt_eq_of_covers 18 _ (by decide +kernel) fun t hf y => ?_
  have ht : t.val + 1 = cfg0.N := by
    have h1 := (flush0_18 t).mp hf
    have h2 : t.val < 32 := t.isLt
    show t.val + 1 = 32
    omega
  blk_simp
  rw [after0_18]
  idx_vars y
  refine (o18 m c t ht y0 y1).trans ?_
  rw [show ((View.whole main_v50_8).slice (win0_18.rect t)).emb (ix2 y0 y1) = ix2 y0 y1 from by blk_ext [idx t]]
  rfl

theorem zero19 (i : Fin 8) (l : Fin 1024) : k0_pay7 (F := Ideal) (ix2 i l) = (0 : EReal) := Ideal.ofBits_zero_f32

set_option maxHeartbeats 2000000 in
theorem o19 (t : Fin cfg0.N) (ht : t.val + 1 = cfg0.N) (i : Fin 8) (l : Fin 1024) :
    ((outsAt0 m c t.val t.isLt).2.2.2.2.2.2.2.2.2.1 (ix2 i l) : EReal) = ∑ a : Fin 1024, T19 m c (row8 a i) l := by
  refine acc_sum (fun n h => (outsAt0 m c n h).2.2.2.2.2.2.2.2.2.1) (T19 m c) (fun t h0 i l => ?_) (fun t h0 i l => ?_) t ht i l
  · rw [outsAt0_A m c t h0]
    unfold stepA outA_19 atA
    dsimp only
    frame_out
    rw [readA0, readA1]
    refine (p1 _ _ _ _ _ _ _ _).trans ?_
    exact congrArg₂ (· + ·) (zero19 i l) (Finset.sum_congr rfl fun j _ => by rw [b3, b8, b9, row_dcc])
  · rw [outsAt0_B m c t h0]
    unfold stepB outB_19 atB
    dsimp only
    frame_out
    simp only [read_unread_whole]
    rw [(scratch m c _ _).1, (scratch m c _ _).2]
    refine (p1 _ _ _ _ _ _ _ _).trans ?_
    exact congrArg₂ (· + ·) rfl (Finset.sum_congr rfl fun j _ => by rw [b3, b8, b9, row_dcc])

set_option maxHeartbeats 2000000 in
theorem final19 : (dats m 0 c).arrAt 19 cfg0.N = (fun y => ∑ a : Fin 1024, T19 m c (row8 a (y 0)) (y 1) : FVec Ideal S8x1024 .f32) := by
  refine (dats m 0 c).arrAt_eq_of_covers 19 _ (by decide +kernel) fun t hf y => ?_
  have ht : t.val + 1 = cfg0.N := by
    have h1 := (flush0_19 t).mp hf
    have h2 : t.val < 32 := t.isLt
    show t.val + 1 = 32
    omega
  blk_simp
  rw [after0_19]
  idx_vars y
  refine (o19 m c t ht y0 y1).trans ?_
  rw [show ((View.whole main_v50_9).slice (win0_19.rect t)).emb (ix2 y0 y1) = ix2 y0 y1 from by blk_ext [idx t]]
  rfl

theorem zero20 (i : Fin 8) (l : Fin 1024) : k0_pay8 (F := Ideal) (ix2 i l) = (0 : EReal) := Ideal.ofBits_zero_f32

set_option maxHeartbeats 2000000 in
theorem o20 (t : Fin cfg0.N) (ht : t.val + 1 = cfg0.N) (i : Fin 8) (l : Fin 1024) :
    ((outsAt0 m c t.val t.isLt).2.2.2.2.2.2.2.2.2.2.1 (ix2 i l) : EReal) = ∑ a : Fin 1024, T20 m c (row8 a i) l := by
  refine acc_sum (fun n h => (outsAt0 m c n h).2.2.2.2.2.2.2.2.2.2.1) (T20 m c) (fun t h0 i l => ?_) (fun t h0 i l => ?_) t ht i l
  · rw [outsAt0_A m c t h0]
    unfold stepA outA_20 atA
    dsimp only
    frame_out
    rw [readA0, readA1]
    refine (p4 _ _ _ _ _ _ _ _).trans ?_
    exact congrArg₂ (· + ·) (zero20 i l) (Finset.sum_congr rfl fun j _ => by rw [b3, b8, b9, row_dcc])
  · rw [outsAt0_B m c t h0]
    unfold stepB outB_20 atB
    dsimp only
    frame_out
    simp only [read_unread_whole]
    rw [(scratch m c _ _).1, (scratch m c _ _).2]
    refine (p4 _ _ _ _ _ _ _ _).trans ?_
    exact congrArg₂ (· + ·) rfl (Finset.sum_congr rfl fun j _ => by rw [b3, b8, b9, row_dcc])

set_option maxHeartbeats 2000000 in
theorem final20 : (dats m 0 c).arrAt 20 cfg0.N = (fun y => ∑ a : Fin 1024, T20 m c (row8 a (y 0)) (y 1) : FVec Ideal S8x1024 .f32) := by
  refine (dats m 0 c).arrAt_eq_of_covers 20 _ (by decide +kernel) fun t hf y => ?_
  have ht : t.val + 1 = cfg0.N := by
    have h1 := (flush0_20 t).mp hf
    have h2 : t.val < 32 := t.isLt
    show t.val + 1 = 32
    omega
  blk_simp
  rw [after0_20]
  idx_vars y
  refine (o20 m c t ht y0 y1).trans ?_
  rw [show ((View.whole main_v50_10).slice (win0_20.rect t)).emb (ix2 y0 y1) = ix2 y0 y1 from by blk_ext [idx t]]
  rfl

end Cert.KernelIdeal.Body

end
-- ==== Proof.MixRef.lean ====
module

public import proofs.«01_k».proof.Proof.Rows
public import proofs.«01_k».proof.Proof.Gen.ReferenceIdeal.Run

/-! What the reference computes, read at one element. -/

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.ReferenceIdeal.Value Cert.Rows

variable (σ : Valuation τ sig (Elt Ideal)) (r : Fin 8192) (l : Fin 1024)

/-- The rows and weights the reference reads. -/
abbrev D : Fin 1024 → EReal := fun l => (σ (Proc.devRef .tc main_arg0) : FVec Ideal S8192x1024 .f32) (ix2 r l)
abbrev ZP : Fin 1024 → EReal := fun l => (σ (Proc.devRef .tc main_arg2) : FVec Ideal S8192x5120 .bf16) (ix2 r ⟨3072 + l.val, by omega⟩)
abbrev ZC : Fin 1024 → EReal := fun l => (σ (Proc.devRef .tc main_arg2) : FVec Ideal S8192x5120 .bf16) (ix2 r ⟨4096 + l.val, by omega⟩)
abbrev X : Fin 1024 → EReal := fun l => (σ (Proc.devRef .tc main_arg3) : FVec Ideal S8192x1024 .f32) (ix2 r l)
abbrev PW : Fin 4 → Fin 256 → Fin 256 → EReal := fun s k l => (σ (Proc.devRef .tc main_arg4) : FVec Ideal S4x256x256 .f32) (ix3 s k l)
abbrev PS : Fin 1024 → EReal := fun l => (σ (Proc.devRef .tc main_arg5) : FVec Ideal S1024 .f32) (ix1 l)
abbrev LG : Fin 1024 → EReal := fun l => (σ (Proc.devRef .tc main_arg6) : FVec Ideal S1024 .f32) (ix1 l)
abbrev LB : Fin 1024 → EReal := fun l => (σ (Proc.devRef .tc main_arg7) : FVec Ideal S1024 .f32) (ix1 l)
abbrev WC : Fin 1024 → Fin 1024 → EReal := fun k l => (σ (Proc.devRef .tc main_arg8) : FVec Ideal S1024x1024 .f32) (ix2 k l)
abbrev WO : Fin 1024 → Fin 1024 → EReal := fun k l => (σ (Proc.devRef .tc main_arg9) : FVec Ideal S1024x1024 .f32) (ix2 k l)
abbrev Q : Fin 1024 → EReal := fun l => (res_main_v7 σ : FVec Ideal S8192x1024 .f32) (ix2 r l)
/-- The convolution branch. -/
abbrev CC : Fin 1024 → EReal := fun l => ∑ k : Fin 1024, c3 (X σ r) (LG σ) (LB σ) k * WC σ k l
/-- The gradient of the convolution branch. -/
abbrev DCC : Fin 1024 → EReal := dgated (D σ r) (WO σ) (ZC σ r)

theorem r12 : (res_main_v12 σ : FVec Ideal S8192x1024 .f32) (ix2 r l) = LG σ l := by
  pointwise [res_main_v12]

theorem r46 : (res_main_v46 σ : FVec Ideal S8192x1024 .f32) (ix2 r l) = PS σ l := by
  pointwise [res_main_v46]

theorem r19 (l : Fin 1) : (res_main_v19 σ : FVec Ideal S8192x1 .f32) (ix2 r l) = mean (X σ r) := by
  pointwise [res_main_v19, mean]

theorem r21 : (res_main_v21 σ : FVec Ideal S8192x1024 .f32) (ix2 r l) = cen (X σ r) l := by
  pointwise [res_main_v21]
  rw [r19]
  rfl

theorem r30 : (res_main_v30 σ : FVec Ideal S8192x1024 .f32) (ix2 r l) = cen (X σ r) l := r21 σ r l

theorem r32 (l : Fin 1) : (res_main_v32 σ : FVec Ideal S8192x1 .f32) (ix2 r l) = var (X σ r) := by
  pointwise [res_main_v32]
  simp only [r21]
  rfl

theorem r33 (l : Fin 1) : (res_main_v33 σ : FVec Ideal S8192x1 .f32) (ix2 r l) = rstd (X σ r) := by
  pointwise [res_main_v33]
  rw [r32]
  rfl

theorem r38 : (res_main_v38 σ : FVec Ideal S8192x1024 .f32) (ix2 r l) = xhat (X σ r) l := by
  pointwise [res_main_v38]
  rw [r30, r33]
  rfl

theorem r40 : (res_main_v40 σ : FVec Ideal S8192x1024 .f32) (ix2 r l) = c2 (X σ r) (LG σ) (LB σ) l := by
  pointwise [res_main_v40]
  rw [r38, r12]
  rfl

theorem r41_2 : (res_main_v41_2 σ : FVec Ideal S8192x1024 .f32) (ix2 r l) = sg (X σ r) (LG σ) (LB σ) l := by
  pointwise [res_main_v41_2]
  rw [r40]
  rfl

theorem r41_0 : (res_main_v41_0 σ : FVec Ideal S8192x1024 .f32) (ix2 r l) = c3 (X σ r) (LG σ) (LB σ) l := by
  pointwise [res_main_v41_0]
  rw [r40, r41_2]
  rfl

theorem r42 : (res_main_v42 σ : FVec Ideal S8192x1024 .f32) (ix2 r l) = CC σ r l := by
  pointwise [res_main_v42]
  simp only [r41_0]

theorem r52 : (res_main_v52 σ : FVec Ideal S8192x1024 .f32) (ix2 r l) = Ideal.logistic (ZP σ r l) := by
  pointwise [res_main_v52, res_main_v0]
  rfl

theorem r63 : (res_main_v63 σ : FVec Ideal S8192x1024 .f32) (ix2 r l) = Ideal.logistic (ZC σ r l) := by
  pointwise [res_main_v63, res_main_v0]
  rfl

theorem r56 : (res_main_v56 σ : FVec Ideal S8192x1024 .f32) (ix2 r l) = act (Q σ r) (PS σ) l := by
  pointwise [res_main_v56]
  rw [r46]
  rfl

theorem r68 : (res_main_v68 σ : FVec Ideal S8192x1024 .f32) (ix2 r l) = mix (ZP σ r) (ZC σ r) (Q σ r) (CC σ r) (PS σ) l := by
  pointwise [res_main_v68]
  rw [r52, r56, r63, r42]
  rfl

theorem r70 : (res_main_v70 σ : FVec Ideal S8192x1024 .f32) (ix2 r l) = dot (D σ r) (WO σ) l := by
  pointwise [res_main_v70, dot]

theorem r71 : (res_main_v71 σ : FVec Ideal S8192x1024 .f32) (ix2 r l) = DCC σ r l := by
  pointwise [res_main_v71]
  rw [r63, r70]
  exact mul_comm (G := EReal) _ _

theorem r74 : (res_main_v74 σ : FVec Ideal S8192x1024 .f32) (ix2 r l) = dgated (D σ r) (WO σ) (ZP σ r) l := by
  pointwise [res_main_v74]
  rw [r52, r70]
  exact mul_comm (G := EReal) _ _

theorem r77 : (res_main_v77 σ : FVec Ideal S8192x1024 .f32) (ix2 r l) = dq (D σ r) (WO σ) (ZP σ r) (PS σ) l := by
  pointwise [res_main_v77]
  rw [r74, r46]
  rfl

theorem r88 : (res_main_v88 σ : FVec Ideal S8192x1024 .f32) (ix2 r l) = dot (DCC σ r) (WC σ) l := by
  pointwise [res_main_v88, dot]
  simp only [r71]

/-- The gradient through `silu` as differentiation writes it. -/
def dc2R (x g b u : Fin 1024 → EReal) (l : Fin 1024) : EReal :=
  u l * sg x g b l + c2 x g b l * u l * (sg x g b l * (1 - sg x g b l))

theorem r89 : (res_main_v89 σ : FVec Ideal S8192x1024 .f32) (ix2 r l)
    = dc2R (X σ r) (LG σ) (LB σ) (dot (DCC σ r) (WC σ)) l := by
  pointwise [res_main_v89]
  rw [r88, r41_2, r40]
  rfl

/-- The gradient of the layer norm's normalised row, and the two parts of the row's own gradient, as differentiation
    writes them. -/
def dxhR (x g b u : Fin 1024 → EReal) (l : Fin 1024) : EReal := dc2R x g b u l * g l
def headR (x g b u : Fin 1024 → EReal) (l : Fin 1024) : EReal := dxhR x g b u l * rstd x
def varR (x g b u : Fin 1024 → EReal) (l : Fin 1024) : EReal :=
  Ideal.div ((∑ k, cen x k * dxhR x g b u k) * (Ideal.ofBits .f32 0xBF000000#32 * Ideal.div (rstd x) (var x))) len
    * (Ideal.ofBits .f32 0x40000000#32 * cen x l)
def dc1R (x g b u : Fin 1024 → EReal) (l : Fin 1024) : EReal :=
  headR x g b u l + varR x g b u l + Ideal.div ((∑ k, -headR x g b u k) + ∑ k, -varR x g b u k) len

theorem r91 : (res_main_v91 σ : FVec Ideal S8192x1024 .f32) (ix2 r l)
    = dxhR (X σ r) (LG σ) (LB σ) (dot (DCC σ r) (WC σ)) l := by
  pointwise [res_main_v91]
  rw [r89, r12]
  rfl

theorem r96 : (res_main_v96 σ : FVec Ideal S8192x1024 .f32) (ix2 r l)
    = headR (X σ r) (LG σ) (LB σ) (dot (DCC σ r) (WC σ)) l := by
  pointwise [res_main_v96]
  rw [r91, r33]
  rfl

theorem r105 : (res_main_v105 σ : FVec Ideal S8192x1024 .f32) (ix2 r l)
    = varR (X σ r) (LG σ) (LB σ) (dot (DCC σ r) (WC σ)) l := by
  pointwise [res_main_v105]
  simp only [r91, r33, r32, r21, r30, Fin.sum_univ_one, Fin.isValue, Finset.univ_unique, Finset.sum_singleton]
  rfl

theorem r115 : (res_main_v115 σ : FVec Ideal S8192x1024 .f32) (ix2 r l)
    = dc1R (X σ r) (LG σ) (LB σ) (dot (DCC σ r) (WC σ)) l := by
  pointwise [res_main_v115]
  simp only [r96, r105, Finset.univ_unique, Finset.sum_singleton]
  rfl

end Cert.ReferenceIdeal.Ref

end
-- ==== Proof.RefRes.lean ====
module

public import proofs.«01_k».proof.Proof.MixRef

/-! The reference's last steps, read at one element: the pool's gradient, the gates' gradients side by side, and the sums
over the rows. -/

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen Cert.ReferenceIdeal.Value Cert.Rows

variable (σ : Valuation τ sig (Elt Ideal)) (r : Fin 8192)

/-- The rows summed, eight sums apart. -/
theorem sum8 (v : FVec Ideal S8192x1024 .f32) (i : Fin 8) (l : Fin 1024) :
    (Host.reduceAdd (F := Ideal) (broadcastInDim S1x8x1024 ![1, 2] bcast_S8x1024_S1x8x1024_1_2 (Host.reduceAdd (F := Ideal) (shapeCast S1024x8x1024 v shapeCasts_S8192x1024_S1024x8x1024) (constant S_ .f32 0x00000000#32) reducesTo_S1024x8x1024_S8x1024_d0 h_S_)) (constant S_ .f32 0x00000000#32) reducesTo_S1x8x1024_S8x1024_d0 h_S_ : FVec Ideal S8x1024 .f32) (ix2 i l)
      = ∑ a : Fin 1024, v (ix2 ⟨a.val * 8 + i.val, by omega⟩ l) := by
  pointwise []
  simp only [Finset.univ_unique, Finset.sum_singleton]

theorem r136 (l : Fin 1024) : (truncf (F := Ideal) .bf16 (shapeCast S8192x1024 (transpose S8192x4x256 [1, 0, 2] (Host.dotGeneral (F := Ideal) (φ₁ := .f32) (φ₂ := .f32) dot_S4x256x8192_S4x256x256_S4x8192x256_1_2_2_1_0_0 none (transpose S4x256x8192 [1, 2, 0] (shapeCast S8192x4x256 (res_main_v77 σ : FVec Ideal S8192x1024 .f32) shapeCasts_S8192x1024_S8192x4x256) transposes_S8192x4x256_S4x256x8192_1_2_0) (σ (Proc.devRef .tc main_arg4))) transposes_S4x8192x256_S8192x4x256_1_0_2) shapeCasts_S8192x4x256_S8192x1024) bitsLt_bf16_f32 : FVec Ideal S8192x1024 .bf16) (ix2 r l)
    = dpool (dq (D σ r) (WO σ) (ZP σ r) (PS σ)) (PW σ) ⟨l.val / 256, by omega⟩ ⟨l.val % 256, by omega⟩ := by
  pointwise []
  unfold dpool
  refine Finset.sum_congr rfl fun x _ => ?_
  rw [r77]
  exact congrArg (fun k : Fin 1024 => dq (D σ r) (WO σ) (ZP σ r) (PS σ) k * PW σ ⟨l.val / 256, by omega⟩ ⟨l.val % 256, by omega⟩ x)
    (Fin.ext (congrArg (· + x.val) (Nat.mul_comm _ _)))

theorem r139 (l : Fin 2048) : (truncf (F := Ideal) .bf16 (concatenate S8192x2048 1 [⟨S8192x1024, (mulf (F := Ideal) (mulf (res_main_v70 σ) (res_main_v56 σ)) (mulf (res_main_v52 σ) (subf (broadcastInDim S8192x1024 ![] bcast_S_S8192x1024 (constant S_ .f32 0x3F800000#32)) (res_main_v52 σ))) : FVec Ideal S8192x1024 .f32)⟩, ⟨S8192x1024, (mulf (mulf (res_main_v70 σ) (res_main_v42 σ)) (mulf (res_main_v63 σ) (subf (broadcastInDim S8192x1024 ![] bcast_S_S8192x1024 (constant S_ .f32 0x3F800000#32)) (res_main_v63 σ))))⟩] concatenates_S8192x1024_S8192x1024_S8192x2048_d1) bitsLt_bf16_f32 : FVec Ideal S8192x2048 .bf16) (ix2 r l)
    = if h : l.val < 1024 then dgate (D σ r) (WO σ) (ZP σ r) (act (Q σ r) (PS σ)) ⟨l.val, h⟩ else dgate (D σ r) (WO σ) (ZC σ r) (CC σ r) ⟨l.val - 1024, by omega⟩ := by
  pointwise []
  split
  · rw [r70, r56, r52]
    exact (mul_assoc (G := EReal) _ _ _).symm
  · rw [r70, r42, r63]
    exact (mul_assoc (G := EReal) _ _ _).symm

end Cert.ReferenceIdeal.Ref

end
-- ==== Proof.MixReal.lean ====
module

public import proofs.«01_k».proof.Proof.MixRef

/-! The two ways of writing the gradients through `silu` and through the layer norm agree on finite rows. -/

@[expose] public section

set_option maxRecDepth 16384

noncomputable section

namespace Cert.Rows

open Idealize.ShloMosaic
open Cert.ReferenceIdeal.Ref (dc2R dxhR headR varR dc1R)

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem len_eq : len = ((1024 : ℝ) : EReal) := by
  simp [Ideal.ofBits, Ideal.ieee, -EReal.coe_mul]; norm_num

theorem eps_pos : ∃ e : ℝ, 0 < e ∧ eps = (e : EReal) := by
  refine ⟨_, ?_, by simp [Ideal.ofBits, Ideal.ieee, -EReal.coe_mul]; rfl⟩
  norm_num

theorem neg_half_eq : Ideal.ofBits .f32 0xBF000000#32 = ((-1 / 2 : ℝ) : EReal) := by
  simp [Ideal.ofBits, Ideal.ieee, -EReal.coe_mul, -EReal.coe_neg]; norm_num

theorem two_eq : Ideal.ofBits .f32 0x40000000#32 = ((2 : ℝ) : EReal) := by
  simp [Ideal.ofBits, Ideal.ieee, -EReal.coe_mul]; norm_num

theorem div_real (a b : ℝ) (h : b ≠ 0) : Ideal.div (a : EReal) (b : EReal) = ((a / b : ℝ) : EReal) := by
  rw [Ideal.div_coe h, ← EReal.coe_mul, mul_one_div]

theorem div_len (a : ℝ) : Ideal.div (a : EReal) len = ((a / 1024 : ℝ) : EReal) := by
  rw [len_eq, div_real _ _ (by norm_num)]

/-- A row of reals as extended reals. -/
abbrev up (x : Fin 1024 → ℝ) : Fin 1024 → EReal := fun l => (x l : EReal)

variable (x g b u : Fin 1024 → ℝ) (e : ℝ)

def meanᵣ : ℝ := (∑ k, x k) / 1024
def cenᵣ (l : Fin 1024) : ℝ := x l - meanᵣ x
def varᵣ : ℝ := (∑ k, cenᵣ x k * cenᵣ x k) / 1024 + e
def rstdᵣ : ℝ := (Real.sqrt (varᵣ x e))⁻¹
def c2ᵣ (l : Fin 1024) : ℝ := cenᵣ x l * rstdᵣ x e * g l + b l
def sgᵣ (l : Fin 1024) : ℝ := (1 + Real.exp (-c2ᵣ x g b e l))⁻¹

theorem mean_up : mean (up x) = (meanᵣ x : EReal) := by
  unfold mean meanᵣ; rw [coe_sum, div_len]

theorem cen_up (l : Fin 1024) : cen (up x) l = (cenᵣ x l : EReal) := by
  unfold cen cenᵣ; rw [mean_up, EReal.coe_sub]

theorem var_up (he : eps = (e : EReal)) : var (up x) = (varᵣ x e : EReal) := by
  unfold var varᵣ
  simp only [cen_up, ← EReal.coe_mul]
  rw [coe_sum, div_len, he, EReal.coe_add]

theorem varᵣ_pos (h : 0 < e) : 0 < varᵣ x e := by
  unfold varᵣ
  have : 0 ≤ (∑ k, cenᵣ x k * cenᵣ x k) := Finset.sum_nonneg fun k _ => mul_self_nonneg _
  positivity

theorem rstd_up (he : eps = (e : EReal)) (h : 0 < e) : rstd (up x) = (rstdᵣ x e : EReal) := by
  unfold rstd rstdᵣ
  have hv := varᵣ_pos x e h
  rw [var_up x e he, Ideal.rsqrt_coe, if_neg (not_lt.mpr hv.le), if_neg hv.ne']

theorem c2_up (he : eps = (e : EReal)) (h : 0 < e) (l : Fin 1024) :
    c2 (up x) (up g) (up b) l = (c2ᵣ x g b e l : EReal) := by
  unfold c2 xhat c2ᵣ
  rw [cen_up, rstd_up x e he h, ← EReal.coe_mul, ← EReal.coe_mul, ← EReal.coe_add]

theorem sg_up (he : eps = (e : EReal)) (h : 0 < e) (l : Fin 1024) :
    sg (up x) (up g) (up b) l = (sgᵣ x g b e l : EReal) := by
  unfold sg sgᵣ
  rw [c2_up x g b e he h, Ideal.logistic_coe]

/-- The gradient through `silu`, in reals. -/
def dc2ᵣ (l : Fin 1024) : ℝ := u l * (sgᵣ x g b e l * (1 + c2ᵣ x g b e l * (1 - sgᵣ x g b e l)))

theorem dc2_up (he : eps = (e : EReal)) (h : 0 < e) (l : Fin 1024) :
    dc2 (up x) (up g) (up b) (up u) l = (dc2ᵣ x g b u e l : EReal) := by
  unfold dc2 dc2ᵣ
  rw [sg_up x g b e he h, c2_up x g b e he h, ← EReal.coe_one, ← EReal.coe_sub, ← EReal.coe_mul, ← EReal.coe_add,
    ← EReal.coe_mul, ← EReal.coe_mul]

theorem dc2R_up (he : eps = (e : EReal)) (h : 0 < e) (l : Fin 1024) :
    dc2R (up x) (up g) (up b) (up u) l = (dc2ᵣ x g b u e l : EReal) := by
  unfold dc2R dc2ᵣ
  rw [sg_up x g b e he h, c2_up x g b e he h, ← EReal.coe_one, ← EReal.coe_sub]
  simp only [← EReal.coe_mul, ← EReal.coe_add]
  congr 1; ring

theorem sum_cenᵣ : ∑ k, cenᵣ x k = 0 := by
  unfold cenᵣ
  rw [Finset.sum_sub_distrib, Finset.sum_const]
  simp only [Finset.card_univ, Fintype.card_fin, nsmul_eq_mul, meanᵣ]
  push_cast; ring

theorem rstdᵣ_sq (h : 0 < e) : rstdᵣ x e / varᵣ x e = rstdᵣ x e * rstdᵣ x e * rstdᵣ x e := by
  have hv := varᵣ_pos x e h
  have hs : rstdᵣ x e * rstdᵣ x e = (varᵣ x e)⁻¹ := by
    unfold rstdᵣ; rw [← mul_inv, Real.mul_self_sqrt hv.le]
  rw [div_eq_mul_inv, ← hs, mul_assoc]

theorem dc1_up (he : eps = (e : EReal)) (h : 0 < e) (l : Fin 1024) :
    dc1R (up x) (up g) (up b) (up u) l = dc1 (up x) (up g) (up b) (up u) l := by
  have hv := varᵣ_pos x e h
  unfold dc1R dc1 varR headR dxhR dxh xhat
  simp only [dc2_up x g b u e he h, dc2R_up x g b u e he h, rstd_up x e he h, var_up x e he, cen_up,
    neg_half_eq, two_eq, div_real _ _ hv.ne', ← EReal.coe_mul, ← EReal.coe_neg, coe_sum, div_len, ← EReal.coe_add,
    ← EReal.coe_sub]
  congr 1
  have h1 : ∑ k, -(dc2ᵣ x g b u e k * g k * rstdᵣ x e) = -(rstdᵣ x e * ∑ k, dc2ᵣ x g b u e k * g k) := by
    rw [Finset.sum_neg_distrib, Finset.mul_sum]
    exact congrArg _ (Finset.sum_congr rfl fun k _ => by ring)
  have h2 (a : ℝ) : ∑ k, -(a * (2 * cenᵣ x k)) = 0 := by
    rw [Finset.sum_neg_distrib, ← Finset.mul_sum, ← Finset.mul_sum, sum_cenᵣ]; ring
  have h3 : ∑ k, dc2ᵣ x g b u e k * g k * (cenᵣ x k * rstdᵣ x e)
      = rstdᵣ x e * ∑ k, cenᵣ x k * (dc2ᵣ x g b u e k * g k) := by
    rw [Finset.mul_sum]; exact Finset.sum_congr rfl fun k _ => by ring
  rw [h1, h2, h3, rstdᵣ_sq x e h]
  ring

/-- An extended real that is neither infinity is a real. -/
theorem real_of (y : Fin 1024 → EReal) (h : ∀ l, y l ≠ ⊥ ∧ y l ≠ ⊤) : ∃ x : Fin 1024 → ℝ, y = up x :=
  ⟨fun l => (y l).toReal, funext fun l => (EReal.coe_toReal (h l).2 (h l).1).symm⟩

/-- The two gradients through `silu` agree on real rows. -/
theorem dc2R_eq (x g b u : Fin 1024 → EReal) (hx : ∀ l, x l ≠ ⊥ ∧ x l ≠ ⊤) (hg : ∀ l, g l ≠ ⊥ ∧ g l ≠ ⊤)
    (hb : ∀ l, b l ≠ ⊥ ∧ b l ≠ ⊤) (hu : ∀ l, u l ≠ ⊥ ∧ u l ≠ ⊤) (l : Fin 1024) : dc2R x g b u l = dc2 x g b u l := by
  obtain ⟨x, rfl⟩ := real_of x hx; obtain ⟨g, rfl⟩ := real_of g hg
  obtain ⟨b, rfl⟩ := real_of b hb; obtain ⟨u, rfl⟩ := real_of u hu
  obtain ⟨e, h, he⟩ := eps_pos
  rw [dc2R_up x g b u e he h, dc2_up x g b u e he h]

/-- The two gradients through the layer norm agree on real rows. -/
theorem dc1R_eq (x g b u : Fin 1024 → EReal) (hx : ∀ l, x l ≠ ⊥ ∧ x l ≠ ⊤) (hg : ∀ l, g l ≠ ⊥ ∧ g l ≠ ⊤)
    (hb : ∀ l, b l ≠ ⊥ ∧ b l ≠ ⊤) (hu : ∀ l, u l ≠ ⊥ ∧ u l ≠ ⊤) (l : Fin 1024) : dc1R x g b u l = dc1 x g b u l := by
  obtain ⟨x, rfl⟩ := real_of x hx; obtain ⟨g, rfl⟩ := real_of g hg
  obtain ⟨b, rfl⟩ := real_of b hb; obtain ⟨u, rfl⟩ := real_of u hu
  obtain ⟨e, h, he⟩ := eps_pos
  exact dc1_up x g b u e he h l

/-- A product of two reals, and a sum of reals, is a real. -/
theorem fin_mul {a b : EReal} (ha : a ≠ ⊥ ∧ a ≠ ⊤) (hb : b ≠ ⊥ ∧ b ≠ ⊤) : a * b ≠ ⊥ ∧ a * b ≠ ⊤ := by
  lift a to ℝ using ⟨ha.2, ha.1⟩
  lift b to ℝ using ⟨hb.2, hb.1⟩
  rw [← EReal.coe_mul]; exact ⟨EReal.coe_ne_bot _, EReal.coe_ne_top _⟩

theorem fin_sum {ι : Type} (s : Finset ι) (f : ι → EReal) (hf : ∀ k, f k ≠ ⊥ ∧ f k ≠ ⊤) :
    ∑ k ∈ s, f k ≠ ⊥ ∧ ∑ k ∈ s, f k ≠ ⊤ := by
  have e : f = fun k => ((f k).toReal : EReal) := funext fun k => (EReal.coe_toReal (hf k).2 (hf k).1).symm
  rw [e, coe_sum]; exact ⟨EReal.coe_ne_bot _, EReal.coe_ne_top _⟩

/-- The logistic function takes real values at every extended real. -/
theorem fin_logistic (a : EReal) : Ideal.logistic a ≠ ⊥ ∧ Ideal.logistic a ≠ ⊤ := by
  induction a with
  | bot => simp
  | top => simp [← EReal.coe_one, EReal.coe_ne_bot, EReal.coe_ne_top]
  | coe a => rw [Ideal.logistic_coe]; exact ⟨EReal.coe_ne_bot _, EReal.coe_ne_top _⟩

theorem fin_dot (a : Fin 1024 → EReal) (w : Fin 1024 → Fin 1024 → EReal) (ha : ∀ k, a k ≠ ⊥ ∧ a k ≠ ⊤)
    (hw : ∀ k l, w k l ≠ ⊥ ∧ w k l ≠ ⊤) (l : Fin 1024) : dot a w l ≠ ⊥ ∧ dot a w l ≠ ⊤ :=
  fin_sum _ _ fun k => fin_mul (ha k) (hw l k)

end Cert.Rows

end
-- ==== Proof.MixPre.lean ====
module

public import proofs.«01_k».proof.Defs
public import Idealize.ShloMosaic.Lib.Pointwise

/-! What the precondition says: the arrays it names hold real numbers only. -/

@[expose] public section

set_option maxRecDepth 16384

noncomputable section

namespace Cert.Rows

open Idealize.ShloMosaic

instance preFacts : Cert.Pre_finite.Facts where
  bcast_S_S8192x1024 := by decide
  bcast_S_S1024 := by decide
  bcast_S_S1024x1024 := by decide

theorem inf_eq : Ideal.ofBits .f32 0x7F800000#32 = ⊤ := by
  simp [Ideal.ofBits, Ideal.ieee]

/-- An array of real numbers. -/
abbrev IsReal {s : Shape} (x : FVec Ideal s .f32) : Prop := ∀ i : s.Idx, (x i : EReal) ≠ ⊥ ∧ (x i : EReal) ≠ ⊤

/-- An array whose absolute value is below infinity everywhere holds real numbers only. -/
theorem real_of_lt {s : Shape} (x : FVec Ideal s .f32) (h : Cert.Pre_finite.S_.BroadcastsInDim s ![])
    (e : cmpf .olt (Host.absf x) (broadcastInDim s ![] h (constant Cert.Pre_finite.S_ .f32 0x7F800000#32)) = (fun _ => 1#1)) : IsReal x := by
  intro i
  have h1 : Ideal.cmp .olt (max (x i : EReal) (-(x i : EReal))) (Ideal.ofBits .f32 0x7F800000#32) = 1#1 := congrFun e i
  rw [inf_eq] at h1
  refine ⟨fun hb => ?_, fun ht => ?_⟩
  · rw [hb] at h1; simp [Ideal.cmp] at h1
  · rw [ht] at h1; simp [Ideal.cmp] at h1

variable (m : (ℓ : Loc Cert.KernelIdeal.nD Cert.KernelIdeal.τ Cert.KernelIdeal.sig) → Buf (Elt Ideal) ℓ)
  (H : Cert.Pre_KernelIdeal_finite m) (c : Dev Cert.KernelIdeal.nD)

include H

theorem pre_d : IsReal (s := Cert.Pre_finite.S8192x1024) (m ((c.tc : Thread Cert.KernelIdeal.nD Cert.KernelIdeal.τ).loc Cert.KernelIdeal.main_arg0)) :=
  real_of_lt _ _ (H c).1

theorem pre_x : IsReal (s := Cert.Pre_finite.S8192x1024) (m ((c.tc : Thread Cert.KernelIdeal.nD Cert.KernelIdeal.τ).loc Cert.KernelIdeal.main_arg3)) :=
  real_of_lt _ _ (H c).2.1

theorem pre_g : IsReal (s := Cert.Pre_finite.S1024) (m ((c.tc : Thread Cert.KernelIdeal.nD Cert.KernelIdeal.τ).loc Cert.KernelIdeal.main_arg6)) :=
  real_of_lt _ _ (H c).2.2.1

theorem pre_b : IsReal (s := Cert.Pre_finite.S1024) (m ((c.tc : Thread Cert.KernelIdeal.nD Cert.KernelIdeal.τ).loc Cert.KernelIdeal.main_arg7)) :=
  real_of_lt _ _ (H c).2.2.2.1

theorem pre_wc : IsReal (s := Cert.Pre_finite.S1024x1024) (m ((c.tc : Thread Cert.KernelIdeal.nD Cert.KernelIdeal.τ).loc Cert.KernelIdeal.main_arg8)) :=
  real_of_lt _ _ (H c).2.2.2.2.1

theorem pre_wo : IsReal (s := Cert.Pre_finite.S1024x1024) (m ((c.tc : Thread Cert.KernelIdeal.nD Cert.KernelIdeal.τ).loc Cert.KernelIdeal.main_arg9)) :=
  real_of_lt _ _ (H c).2.2.2.2.2

end Cert.Rows

end
-- ==== Proof.MixValue.lean ====
module

public import proofs.«01_k».proof.Proof.MixOut
public import proofs.«01_k».proof.Proof.MixTile
public import proofs.«01_k».proof.Proof.MixAcc
public import proofs.«01_k».proof.Proof.RefRes
public import proofs.«01_k».proof.Proof.MixReal
public import proofs.«01_k».proof.Proof.MixPre

/-! Each result of the kernel is the reference's, on the same arguments. -/

@[expose] public section

set_option maxRecDepth 16384

noncomputable section

namespace Cert.Rows

open Idealize.ShloMosaic Idealize.ShloMosaic.TcCoe Idealize.SL.Sem
open Cert.KernelIdeal.Body Cert.ReferenceIdeal.Ref Cert.ReferenceIdeal.Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's arguments on device `c`. -/
abbrev args : Valuation Cert.ReferenceIdeal.τ Cert.ReferenceIdeal.sig (Elt Ideal) := StableHlo.launchContents m' c

/-- The two programs read the same arguments. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable (h : Same m m' c)
include h

theorem eD (R : Fin 8192) : D (args m' c) R = kD m c R := congrArg (fun v : FVec Ideal Cert.KernelIdeal.S8192x1024 .f32 => fun l : Fin 1024 => (v (ix2 R l) : EReal)) (h.1)
theorem eZP (R : Fin 8192) : ZP (args m' c) R = kZP m c R := congrArg (fun v : FVec Ideal Cert.KernelIdeal.S8192x5120 .bf16 => fun l : Fin 1024 => (v (ix2 R ⟨3072 + l.val, by omega⟩) : EReal)) (h.2.2.1)
theorem eZC (R : Fin 8192) : ZC (args m' c) R = kZC m c R := congrArg (fun v : FVec Ideal Cert.KernelIdeal.S8192x5120 .bf16 => fun l : Fin 1024 => (v (ix2 R ⟨4096 + l.val, by omega⟩) : EReal)) (h.2.2.1)
theorem eX (R : Fin 8192) : X (args m' c) R = kX m c R := congrArg (fun v : FVec Ideal Cert.KernelIdeal.S8192x1024 .f32 => fun l : Fin 1024 => (v (ix2 R l) : EReal)) (h.2.2.2.1)
theorem ePW : PW (args m' c) = kPW m c := congrArg (fun v : FVec Ideal Cert.KernelIdeal.S4x256x256 .f32 => fun (s : Fin 4) (k l : Fin 256) => (v (ix3 s k l) : EReal)) (h.2.2.2.2.1)
theorem ePS : PS (args m' c) = kPS m c := congrArg (fun v : FVec Ideal Cert.KernelIdeal.S1024 .f32 => fun l : Fin 1024 => (v (ix1 l) : EReal)) (h.2.2.2.2.2.1)
theorem eLG : LG (args m' c) = kLG m c := congrArg (fun v : FVec Ideal Cert.KernelIdeal.S1024 .f32 => fun l : Fin 1024 => (v (ix1 l) : EReal)) (h.2.2.2.2.2.2.1)
theorem eLB : LB (args m' c) = kLB m c := congrArg (fun v : FVec Ideal Cert.KernelIdeal.S1024 .f32 => fun l : Fin 1024 => (v (ix1 l) : EReal)) (h.2.2.2.2.2.2.2.1)
theorem eWC : WC (args m' c) = kWC m c := congrArg (fun v : FVec Ideal Cert.KernelIdeal.S1024x1024 .f32 => fun k l : Fin 1024 => (v (ix2 k l) : EReal)) (h.2.2.2.2.2.2.2.2.1)
theorem eWO : WO (args m' c) = kWO m c := congrArg (fun v : FVec Ideal Cert.KernelIdeal.S1024x1024 .f32 => fun k l : Fin 1024 => (v (ix2 k l) : EReal)) (h.2.2.2.2.2.2.2.2.2.1)

theorem eQ (R : Fin 8192) : Q (args m' c) R = kQ m c R := by
  unfold Q kQ
  rw [host_q]
  have h1 : args m' c (Proc.devRef .tc Cert.ReferenceIdeal.main_arg1) = m ((c : Thread Cert.KernelIdeal.nD Cert.KernelIdeal.τ).loc Cert.KernelIdeal.main_arg1) := h.2.1
  have h4 : args m' c (Proc.devRef .tc Cert.ReferenceIdeal.main_arg4) = m ((c : Thread Cert.KernelIdeal.nD Cert.KernelIdeal.τ).loc Cert.KernelIdeal.main_arg4) := h.2.2.2.2.1
  unfold res_main_v7
  rw [h1, h4]
  rfl

theorem eCC (R : Fin 8192) : CC (args m' c) R = kCC m c R := by
  unfold CC kCC
  rw [eX m m' c h, eLG m m' c h, eLB m m' c h, eWC m m' c h]

theorem eDCC (R : Fin 8192) : DCC (args m' c) R = kDCC m c R := by
  unfold DCC kDCC
  rw [eD m m' c h, eWO m m' c h, eZC m m' c h]

omit h in
theorem hx (H : Cert.Pre_KernelIdeal_finite m) (R : Fin 8192) (l : Fin 1024) : kX m c R l ≠ ⊥ ∧ kX m c R l ≠ ⊤ := pre_x m H c (ix2 R l)
omit h in
theorem hg (H : Cert.Pre_KernelIdeal_finite m) (l : Fin 1024) : kLG m c l ≠ ⊥ ∧ kLG m c l ≠ ⊤ := pre_g m H c (ix1 l)
omit h in
theorem hb (H : Cert.Pre_KernelIdeal_finite m) (l : Fin 1024) : kLB m c l ≠ ⊥ ∧ kLB m c l ≠ ⊤ := pre_b m H c (ix1 l)
omit h in
theorem hu (H : Cert.Pre_KernelIdeal_finite m) (R : Fin 8192) (l : Fin 1024) : dot (kDCC m c R) (kWC m c) l ≠ ⊥ ∧ dot (kDCC m c R) (kWC m c) l ≠ ⊤ :=
  fin_dot _ _ (fun k => fin_mul (fin_dot _ _ (fun k => pre_d m H c (ix2 R k)) (fun k l => pre_wo m H c (ix2 k l)) k) (fin_logistic _))
    (fun k l => pre_wc m H c (ix2 k l)) l

open Cert.ReferenceIdeal Cert.ReferenceIdeal.Gen in
theorem same10 : ((truncf .bf16 (res_main_v68 (args m' c)) bitsLt_bf16_f32 : FVec Ideal Cert.KernelIdeal.S8192x1024 .bf16)) = (dats m 0 c).arrAt 10 Cert.KernelIdeal.cfg0.N := by
  rw [final10]
  funext y
  idx_vars y
  refine (r68 (args m' c) y0 y1).trans ?_
  rw [eZP m m' c h, eZC m m' c h, eQ m m' c h, eCC m m' c h, ePS m m' c h]

open Cert.ReferenceIdeal Cert.ReferenceIdeal.Gen in
theorem same11 : ((truncf .bf16 (res_main_v71 (args m' c)) bitsLt_bf16_f32 : FVec Ideal Cert.KernelIdeal.S8192x1024 .bf16)) = (dats m 0 c).arrAt 11 Cert.KernelIdeal.cfg0.N := by
  rw [final11]
  funext y
  idx_vars y
  refine (r71 (args m' c) y0 y1).trans ?_
  rw [eDCC m m' c h]

open Cert.ReferenceIdeal Cert.ReferenceIdeal.Gen in
theorem same12 : ((truncf .bf16 (res_main_v41_0 (args m' c)) bitsLt_bf16_f32 : FVec Ideal Cert.KernelIdeal.S8192x1024 .bf16)) = (dats m 0 c).arrAt 12 Cert.KernelIdeal.cfg0.N := by
  rw [final12]
  funext y
  idx_vars y
  refine (r41_0 (args m' c) y0 y1).trans ?_
  rw [eX m m' c h, eLG m m' c h, eLB m m' c h]

open Cert.ReferenceIdeal Cert.ReferenceIdeal.Gen in
theorem same13 : ((truncf .bf16 (res_main_v77 (args m' c)) bitsLt_bf16_f32 : FVec Ideal Cert.KernelIdeal.S8192x1024 .bf16)) = (dats m 0 c).arrAt 13 Cert.KernelIdeal.cfg0.N := by
  rw [final13]
  funext y
  idx_vars y
  refine (r77 (args m' c) y0 y1).trans ?_
  rw [eD m m' c h, eWO m m' c h, eZP m m' c h, ePS m m' c h]

open Cert.ReferenceIdeal Cert.ReferenceIdeal.Gen in
theorem same14 : ((truncf (F := Ideal) .bf16 (shapeCast S8192x1024 (transpose S8192x4x256 [1, 0, 2] (Host.dotGeneral (F := Ideal) (φ₁ := .f32) (φ₂ := .f32) dot_S4x256x8192_S4x256x256_S4x8192x256_1_2_2_1_0_0 none (transpose S4x256x8192 [1, 2, 0] (shapeCast S8192x4x256 (res_main_v77 (args m' c) : FVec Ideal S8192x1024 .f32) shapeCasts_S8192x1024_S8192x4x256) transposes_S8192x4x256_S4x256x8192_1_2_0) ((args m' c) (Proc.devRef .tc main_arg4))) transposes_S4x8192x256_S8192x4x256_1_0_2) shapeCasts_S8192x4x256_S8192x1024) bitsLt_bf16_f32 : FVec Ideal Cert.KernelIdeal.S8192x1024 .bf16)) = (dats m 0 c).arrAt 14 Cert.KernelIdeal.cfg0.N := by
  rw [final14]
  funext y
  idx_vars y
  refine (r136 (args m' c) y0 y1).trans ?_
  rw [eD m m' c h, eWO m m' c h, eZP m m' c h, ePS m m' c h, ePW m m' c h]
  rfl

open Cert.ReferenceIdeal Cert.ReferenceIdeal.Gen in
theorem same15 (H : Cert.Pre_KernelIdeal_finite m) : ((truncf .bf16 (res_main_v115 (args m' c)) bitsLt_bf16_f32 : FVec Ideal Cert.KernelIdeal.S8192x1024 .bf16)) = (dats m 0 c).arrAt 15 Cert.KernelIdeal.cfg0.N := by
  rw [final15]
  funext y
  idx_vars y
  refine (r115 (args m' c) y0 y1).trans ?_
  rw [eX m m' c h, eLG m m' c h, eLB m m' c h, eDCC m m' c h, eWC m m' c h]
  exact dc1R_eq _ _ _ _ (hx m c H y0) (hg m c H) (hb m c H) (hu m c H y0) y1

open Cert.ReferenceIdeal Cert.ReferenceIdeal.Gen in
theorem same16 : ((truncf (F := Ideal) .bf16 (concatenate S8192x2048 1 [⟨S8192x1024, (mulf (F := Ideal) (mulf (res_main_v70 (args m' c)) (res_main_v56 (args m' c))) (mulf (res_main_v52 (args m' c)) (subf (broadcastInDim S8192x1024 ![] bcast_S_S8192x1024 (constant S_ .f32 0x3F800000#32)) (res_main_v52 (args m' c)))) : FVec Ideal S8192x1024 .f32)⟩, ⟨S8192x1024, (mulf (mulf (res_main_v70 (args m' c)) (res_main_v42 (args m' c))) (mulf (res_main_v63 (args m' c)) (subf (broadcastInDim S8192x1024 ![] bcast_S_S8192x1024 (constant S_ .f32 0x3F800000#32)) (res_main_v63 (args m' c)))))⟩] concatenates_S8192x1024_S8192x1024_S8192x2048_d1) bitsLt_bf16_f32 : FVec Ideal Cert.KernelIdeal.S8192x2048 .bf16)) = (dats m 0 c).arrAt 16 Cert.KernelIdeal.cfg0.N := by
  rw [final16]
  funext y
  idx_vars y
  refine (r139 (args m' c) y0 y1).trans ?_
  rw [eD m m' c h, eWO m m' c h, eZP m m' c h, eQ m m' c h, ePS m m' c h, eZC m m' c h, eCC m m' c h]
  rfl

open Cert.ReferenceIdeal Cert.ReferenceIdeal.Gen in
theorem same17 : ((Host.reduceAdd (broadcastInDim S1x8x1024 ![1, 2] bcast_S8x1024_S1x8x1024_1_2 (Host.reduceAdd (shapeCast _ (mulf (F := Ideal) (φ := .f32) (res_main_v7 (args m' c)) (res_main_v74 (args m' c))) shapeCasts_S8192x1024_S1024x8x1024) (constant S_ .f32 0x00000000#32) reducesTo_S1024x8x1024_S8x1024_d0 h_S_)) (constant S_ .f32 0x00000000#32) reducesTo_S1x8x1024_S8x1024_d0 h_S_ : FVec Ideal Cert.KernelIdeal.S8x1024 .f32)) = (dats m 0 c).arrAt 17 Cert.KernelIdeal.cfg0.N := by
  rw [final17]
  funext y
  idx_vars y
  refine (sum8 _ y0 y1).trans (Finset.sum_congr rfl fun a _ => ?_)
  refine (congrArg₂ (fun p q : EReal => p * q) rfl (r74 (args m' c) (row8 a y0) y1)).trans ?_
  refine (mul_comm (G := EReal) _ _).trans ?_
  rw [eD m m' c h, eWO m m' c h, eZP m m' c h]
  exact congrArg (fun q : Fin 1024 → EReal => dgated (kD m c (row8 a y0)) (kWO m c) (kZP m c (row8 a y0)) y1 * q y1) (eQ m m' c h (row8 a y0))

open Cert.ReferenceIdeal Cert.ReferenceIdeal.Gen in
theorem same18 (H : Cert.Pre_KernelIdeal_finite m) : ((Host.reduceAdd (broadcastInDim S1x8x1024 ![1, 2] bcast_S8x1024_S1x8x1024_1_2 (Host.reduceAdd (shapeCast _ (mulf (F := Ideal) (φ := .f32) (res_main_v38 (args m' c)) (res_main_v89 (args m' c))) shapeCasts_S8192x1024_S1024x8x1024) (constant S_ .f32 0x00000000#32) reducesTo_S1024x8x1024_S8x1024_d0 h_S_)) (constant S_ .f32 0x00000000#32) reducesTo_S1x8x1024_S8x1024_d0 h_S_ : FVec Ideal Cert.KernelIdeal.S8x1024 .f32)) = (dats m 0 c).arrAt 18 Cert.KernelIdeal.cfg0.N := by
  rw [final18]
  funext y
  idx_vars y
  refine (sum8 _ y0 y1).trans (Finset.sum_congr rfl fun a _ => ?_)
  refine (congrArg₂ (fun p q : EReal => p * q) (r38 (args m' c) (row8 a y0) y1) (r89 (args m' c) (row8 a y0) y1)).trans ?_
  refine (mul_comm (G := EReal) _ _).trans ?_
  rw [eX m m' c h, eLG m m' c h, eLB m m' c h, eDCC m m' c h, eWC m m' c h, dc2R_eq _ _ _ _ (hx m c H _) (hg m c H) (hb m c H) (hu m c H _) y1]

open Cert.ReferenceIdeal Cert.ReferenceIdeal.Gen in
theorem same19 (H : Cert.Pre_KernelIdeal_finite m) : ((Host.reduceAdd (broadcastInDim S1x8x1024 ![1, 2] bcast_S8x1024_S1x8x1024_1_2 (Host.reduceAdd (shapeCast _ (res_main_v89 (args m' c) : FVec Ideal S8192x1024 .f32) shapeCasts_S8192x1024_S1024x8x1024) (constant S_ .f32 0x00000000#32) reducesTo_S1024x8x1024_S8x1024_d0 h_S_)) (constant S_ .f32 0x00000000#32) reducesTo_S1x8x1024_S8x1024_d0 h_S_ : FVec Ideal Cert.KernelIdeal.S8x1024 .f32)) = (dats m 0 c).arrAt 19 Cert.KernelIdeal.cfg0.N := by
  rw [final19]
  funext y
  idx_vars y
  refine (sum8 _ y0 y1).trans (Finset.sum_congr rfl fun a _ => ?_)
  refine (r89 (args m' c) (row8 a y0) y1).trans ?_
  rw [eX m m' c h, eLG m m' c h, eLB m m' c h, eDCC m m' c h, eWC m m' c h, dc2R_eq _ _ _ _ (hx m c H _) (hg m c H) (hb m c H) (hu m c H _) y1]

open Cert.ReferenceIdeal Cert.ReferenceIdeal.Gen in
theorem same20 (H : Cert.Pre_KernelIdeal_finite m) : ((Host.reduceAdd (broadcastInDim S1x8x1024 ![1, 2] bcast_S8x1024_S1x8x1024_1_2 (Host.reduceAdd (shapeCast _ (res_main_v115 (args m' c) : FVec Ideal S8192x1024 .f32) shapeCasts_S8192x1024_S1024x8x1024) (constant S_ .f32 0x00000000#32) reducesTo_S1024x8x1024_S8x1024_d0 h_S_)) (constant S_ .f32 0x00000000#32) reducesTo_S1x8x1024_S8x1024_d0 h_S_ : FVec Ideal Cert.KernelIdeal.S8x1024 .f32)) = (dats m 0 c).arrAt 20 Cert.KernelIdeal.cfg0.N := by
  rw [final20]
  funext y
  idx_vars y
  refine (sum8 _ y0 y1).trans (Finset.sum_congr rfl fun a _ => ?_)
  refine (r115 (args m' c) (row8 a y0) y1).trans ?_
  rw [eX m m' c h, eLG m m' c h, eLB m m' c h, eDCC m m' c h, eWC m m' c h, dc1R_eq _ _ _ _ (hx m c H _) (hg m c H) (hb m c H) (hu m c H _) y1]

end Cert.Rows

end
-- ==== Proof.MixClaim.lean ====
module

public import proofs.«01_k».proof.Proof.Frames
public import proofs.«01_k».proof.Proof.MixValue
public import proofs.«01_k».proof.Proof.Gen.ReferenceIdeal.Run
public import Idealize.ShloMosaic.Lib.Claim
public import Idealize.ShloMosaic.Lib.Quiescent

/-! The reference's frame, and the value claim: on real arguments the kernel's eleven results are the reference's. -/

@[expose] public section

set_option maxRecDepth 16384

noncomputable section

namespace Cert.Rows

open Idealize.ShloMosaic Idealize.SL.Sem

/-- The reference runs to its end and leaves its arguments as they were. -/
theorem frame_referenceIdeal : Cert.quiescent_ReferenceIdeal := fun m g _ =>
  (θ_run _ _ _).mono (fun r h => And.intro (fun c => (h c).2.2.2.2.2.2.2.2.2.2.2) (sem_eq_zero_of_no_sems rfl r.2))
    (Cert.ReferenceIdeal.Value.run (F := Ideal) m g)

theorem frame_referenceIdeal_pre : Cert.quiescent_ReferenceIdeal_pre_finite := fun m g _ => frame_referenceIdeal m g trivial

theorem frame_kernelIdeal_pre : Cert.quiescent_KernelIdeal_pre_finite := fun m g _ => frame_kernelIdeal m g trivial

set_option maxHeartbeats 4000000 in
theorem value : Cert.algebraic_KernelIdeal_ReferenceIdeal_pre_finite := by
  intro m g m' g' H h
  have hs : ∀ c, Same m m' c := h
  refine ⟨fun c => (Cert.KernelIdeal.Body.dats m 0 c).arrAt 10 Cert.KernelIdeal.cfg0.N,
    fun c => (Cert.KernelIdeal.Body.dats m 0 c).arrAt 11 Cert.KernelIdeal.cfg0.N,
    fun c => (Cert.KernelIdeal.Body.dats m 0 c).arrAt 12 Cert.KernelIdeal.cfg0.N,
    fun c => (Cert.KernelIdeal.Body.dats m 0 c).arrAt 13 Cert.KernelIdeal.cfg0.N,
    fun c => (Cert.KernelIdeal.Body.dats m 0 c).arrAt 14 Cert.KernelIdeal.cfg0.N,
    fun c => (Cert.KernelIdeal.Body.dats m 0 c).arrAt 15 Cert.KernelIdeal.cfg0.N,
    fun c => (Cert.KernelIdeal.Body.dats m 0 c).arrAt 16 Cert.KernelIdeal.cfg0.N,
    fun c => (Cert.KernelIdeal.Body.dats m 0 c).arrAt 17 Cert.KernelIdeal.cfg0.N,
    fun c => (Cert.KernelIdeal.Body.dats m 0 c).arrAt 18 Cert.KernelIdeal.cfg0.N,
    fun c => (Cert.KernelIdeal.Body.dats m 0 c).arrAt 19 Cert.KernelIdeal.cfg0.N,
    fun c => (Cert.KernelIdeal.Body.dats m 0 c).arrAt 20 Cert.KernelIdeal.cfg0.N, ?_, ?_⟩
  · exact (θ_run _ _ _).mono (fun r k c => ⟨(k.1 c).1 10, (k.1 c).1 11, (k.1 c).1 12, (k.1 c).1 13, (k.1 c).1 14, (k.1 c).1 15, (k.1 c).1 16, (k.1 c).1 17, (k.1 c).1 18, (k.1 c).1 19, (k.1 c).1 20, k.2 c⟩) (θ_run_and (Cert.KernelIdeal.Body.run_main (F := Ideal) m g) (Cert.KernelIdeal.Body.unchanged (F := Ideal) m g))
  · exact (θ_run _ _ _).mono (fun r k c => ⟨(k c).1.trans (same10 m m' c (hs c)),
      (k c).2.1.trans (same11 m m' c (hs c)),
      (k c).2.2.1.trans (same12 m m' c (hs c)),
      (k c).2.2.2.1.trans (same13 m m' c (hs c)),
      (k c).2.2.2.2.1.trans (same14 m m' c (hs c)),
      (k c).2.2.2.2.2.1.trans (same15 m m' c (hs c) H),
      (k c).2.2.2.2.2.2.1.trans (same16 m m' c (hs c)),
      (k c).2.2.2.2.2.2.2.1.trans (same17 m m' c (hs c)),
      (k c).2.2.2.2.2.2.2.2.1.trans (same18 m m' c (hs c) H),
      (k c).2.2.2.2.2.2.2.2.2.1.trans (same19 m m' c (hs c) H),
      (k c).2.2.2.2.2.2.2.2.2.2.1.trans (same20 m m' c (hs c) H), (k c).2.2.2.2.2.2.2.2.2.2.2⟩) (Cert.ReferenceIdeal.Value.run (F := Ideal) m' g')

end Cert.Rows

end
-- ==== Proof.Tn.lean ====
module

public import proofs.«01_k».proof.Defs
public import Idealize.ShloMosaic.Lib.Pipeline.Value
public import Idealize.ShloMosaic.Lib.Pipeline.ValueKit.Acc
public import Idealize.ShloMosaic.Lib.Pipeline.ValueKit.Tiles
public import Idealize.ShloMosaic.Lib.ValueLayout

/-! A weight's gradient is a sum over the 8192 rows, taken in eight parts of 1024. -/

@[expose] public section

set_option maxRecDepth 16384

noncomputable section

namespace Cert.Tn

open Idealize.ShloMosaic

/-- Row `k` of part `p`. -/
abbrev part (p : ℕ) (k : Fin 1024) : Fin 8192 := ⟨p % 8 * 1024 + k.val, by have := Nat.mod_lt p (show 0 < 8 by decide); omega⟩

/-- A buffer that starts from zero at every eighth point and takes a part of the rows at each, after the eighth: the sum
    over all rows. -/
theorem sum_rows {N : ℕ} {ι : Type} (f : (n : ℕ) → n < N → ι → EReal) (T : ℕ → Fin 8192 → ι → EReal)
    (h0 : ∀ t : Fin N, t.val % 8 = 0 → ∀ y, f t.val t.isLt y = 0 + ∑ k : Fin 1024, T (t.val / 8) (part t.val k) y)
    (hs : ∀ t : Fin N, ¬t.val % 8 = 0 → ∀ y,
      f t.val t.isLt y = f (t.val - 1) (Nat.lt_of_le_of_lt (Nat.sub_le _ _) t.isLt) y + ∑ k : Fin 1024, T (t.val / 8) (part t.val k) y)
    (t : Fin N) (ht : t.val % 8 = 7) (y : ι) : f t.val t.isLt y = ∑ r : Fin 8192, T (t.val / 8) r y := by
  have h := Pipeline.eq_sum_of_reset_step_divmod (M := EReal) (fun n h => f n h y) 8 0 (fun q p => ∑ k : Fin 1024, T q (part p k) y)
    (fun t h => by have e : ∀ k, part (t.val % 8) k = part t.val k := fun k => Fin.ext (by simp only [part, Nat.mod_mod])
                   simp only [e]; exact h0 t h y)
    (fun t h => by have e : ∀ k, part (t.val % 8) k = part t.val k := fun k => Fin.ext (by simp only [part, Nat.mod_mod])
                   simp only [e]; exact hs t h y) t
  refine h.trans ?_
  rw [zero_add, ht, Finset.sum_range]
  exact Fin.sum_mul_add_congr (L := 8192) (S := 8) (n := 1024) (F := fun p k => T (t.val / 8) (part p.val k) y) (f := fun r => T (t.val / 8) r y)
    (fun p k h => congrArg (T (t.val / 8) · y) (Fin.ext (congrArg (· * 1024 + k.val) (Nat.mod_eq_of_lt p.isLt))))

end Cert.Tn

end
-- ==== Proof.Tn2.lean ====
module

public import proofs.«01_k».proof.Defs
public import proofs.«01_k».proof.Proof.Tn
public import proofs.«01_k».proof.Proof.Gen.Kernel2
public import proofs.«01_k».proof.Proof.Gen.Kernel2Ideal.Frame
public import proofs.«01_k».proof.Proof.Gen.Reference2Ideal
public import proofs.«01_k».proof.Proof.Gen.Reference2Ideal.Run
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent

/-! The gradient of a feed-forward gate or up matrix. -/

@[expose] public section

set_option maxRecDepth 16384

noncomputable section

namespace Cert.Reference2Ideal.Tn

open Idealize.ShloMosaic Cert.Reference2Ideal Cert.Reference2Ideal.Gen

/-- The reference's result, entry by entry. -/
theorem ref (a : FVec Ideal S8192x2816 .bf16) (b : FVec Ideal S8192x1024 .bf16) :
    (truncf (F := Ideal) .bf16 (transpose S2816x1024 [1, 0] (transpose S1024x2816 [1, 0] (Host.dotGeneral (F := Ideal) (φ₁ := .f32) (φ₂ := .f32) dot_S8192x2816_S8192x1024_S2816x1024_0_0_1_1_n_n none (extf (F := Ideal) (φ := .bf16) .f32 a bitsLt_bf16_f32) (extf (F := Ideal) (φ := .bf16) .f32 b bitsLt_bf16_f32)) transposes_S2816x1024_S1024x2816_1_0) transposes_S1024x2816_S2816x1024_1_0) bitsLt_bf16_f32 : FVec Ideal S2816x1024 .bf16)
      = fun y' => ∑ r : Fin 8192, (a (ix2 r (y' 0)) : EReal) * ((b (ix2 r (y' 1)) : EReal)) := by
  funext y'
  idx_vars y'
  pointwise []

end Cert.Reference2Ideal.Tn

namespace Cert.Kernel2Ideal.Tn

open Idealize.ShloMosaic Idealize.ShloMosaic.TcCoe Idealize.SL.Sem
open Cert.Kernel2Ideal Cert.Kernel2Ideal.Gen Cert.Tn

variable (m : (ℓ : Loc nD τ sig) → Buf (Elt Ideal) ℓ) (c : Dev nD)

/-- The two arrays the call multiplies. -/
abbrev x (r : Fin 8192) (p : Fin 2816) : EReal := (m ((c : Thread nD τ).loc main_arg0) : FVec Ideal S8192x2816 .bf16) (ix2 r p)
abbrev y (r : Fin 8192) (q : Fin 1024) : EReal := (m ((c : Thread nD τ).loc main_arg1) : FVec Ideal S8192x1024 .bf16) (ix2 r q)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Column `p` of block `b`. -/
abbrev col (b : ℕ) (p : Fin 2816) : Fin 2816 := ⟨b % 1 * 2816 + p.val, by have := Nat.mod_lt b (show 0 < 1 by decide); omega⟩

theorem i0 (t : Fin cfg0.N) (k : Fin 1024) (p : Fin 2816) : (iblk m c 0 t : FVec Ideal S1024x2816 .bf16) (ix2 k p) = x m c (part t.val k) (col (t.val / 8) p) := by
  refine Eq.trans (?_ : _ = (V m c main_arg0 : FVec Ideal S8192x2816 .bf16) (ix2 (part t.val k) (col (t.val / 8) p))) (congrFun (V_main_arg0 m c) _)
  have hN : t.val < 8 := t.isLt
  blk_ext [iblk, idx t]

theorem i1 (t : Fin cfg0.N) (k : Fin 1024) (q : Fin 1024) : (iblk m c 1 t : FVec Ideal S1024x1024 .bf16) (ix2 k q) = y m c (part t.val k) q := by
  refine Eq.trans (?_ : _ = (V m c main_arg1 : FVec Ideal S8192x1024 .bf16) (ix2 (part t.val k) q)) (congrFun (V_main_arg1 m c) _)
  blk_ext [iblk, idx t]

theorem p1 (p : Fin 2816) (q : Fin 1024) : (k0_pay1 (F := Ideal) : FVec Ideal S2816x1024 .f32) (ix2 p q) = (0 : EReal) := Ideal.ofBits_zero_f32

theorem p2 (v3 : FVec Ideal S1024x1024 .bf16) (v4 : FVec Ideal S2816x1024 .f32) (v5 : FVec Ideal S1024x2816 .bf16) (p : Fin 2816) (q : Fin 1024) :
    (k0_pay2 (F := Ideal) v3 v4 v5 : FVec Ideal S2816x1024 .f32) (ix2 p q) = v4 (ix2 p q) + ∑ k : Fin 1024, v5 (ix2 k p) * (v3 (ix2 k q)) := by
  pointwise [k0_pay2]

/-- What row `r` adds to the gradient. -/
abbrev T (b : ℕ) (r : Fin 8192) (i : Fin 2816 × Fin 1024) : EReal := x m c r (col b i.1) * (y m c r i.2)

theorem step (t : Fin cfg0.N) (v : FVec Ideal S2816x1024 .f32) (i : Fin 2816 × Fin 1024) :
    (k0_pay2 (F := Ideal) (iblk m c 1 t) v (iblk m c 0 t) : FVec Ideal S2816x1024 .f32) (ix2 i.1 i.2) = v (ix2 i.1 i.2) + ∑ k : Fin 1024, T m c (t.val / 8) (part t.val k) i :=
  (p2 _ _ _ _ _).trans (congrArg (v (ix2 i.1 i.2) + ·) (Finset.sum_congr rfl fun k _ => by rw [i0, i1]))

set_option maxHeartbeats 2000000 in
theorem acc (t : Fin cfg0.N) (ht : t.val % 8 = 7) (p : Fin 2816) (q : Fin 1024) :
    ((outsAt0 m c t.val t.isLt).2 (ix2 p q) : EReal) = ∑ r : Fin 8192, T m c (t.val / 8) r (p, q) := by
  refine sum_rows (fun n h (i : Fin 2816 × Fin 1024) => (outsAt0 m c n h).2 (ix2 i.1 i.2)) (T m c) (fun t h0 i => ?_) (fun t h0 i => ?_) t ht (p, q)
  · have h1 : ¬t.val % 8 = 7 := by omega
    rw [outsAt0_A m c t h0 h1]
    frame_out
    exact (step m c t _ i).trans (congrArg₂ (· + ·) (p1 _ _) rfl)
  · by_cases h1 : t.val % 8 = 7
    · rw [outsAt0_C m c t h0 h1]
      frame_out
      simp only [read_unread_whole]
      exact step m c t _ i
    · rw [outsAt0_B m c t h0 h1]
      frame_out
      simp only [read_unread_whole]
      exact step m c t _ i

set_option maxHeartbeats 2000000 in
theorem out (t : Fin cfg0.N) (ht : t.val % 8 = 7) (p : Fin 2816) (q : Fin 1024) :
    ((outsAt0 m c t.val t.isLt).1 (ix2 p q) : EReal) = ∑ r : Fin 8192, T m c (t.val / 8) r (p, q) := by
  refine Eq.trans ?_ (acc m c t ht p q)
  rw [outsAt0_C m c t (by omega) ht]
  frame_out
  rfl

set_option maxHeartbeats 2000000 in
/-- The call's result. -/
theorem final : (dats m 0 c).arrAt 2 cfg0.N = (fun y' => ∑ r : Fin 8192, x m c r (y' 0) * (y m c r (y' 1)) : FVec Ideal S2816x1024 .bf16) := by
  refine (dats m 0 c).arrAt_eq_of_covers 2 _ (by decide +kernel) fun t hf y => ?_
  have ht : t.val % 8 = 7 := (flush0_2 t).mp hf
  have hN : t.val < 8 := t.isLt
  blk_simp
  rw [after0_2]
  idx_vars y
  refine (out m c t ht y0 y1).trans ?_
  rw [show ((View.whole main_v0).slice (win0_2.rect t)).emb (ix2 y0 y1) = ix2 (col (t.val / 8) y0) y1 from by blk_ext [idx t]]
  rfl

/-! ## The claims -/

theorem frame_ideal : Cert.quiescent_Kernel2Ideal := fun m ρ _ => frame m ρ

theorem frame_bits : Cert.quiescent_Kernel2 := by
  have h := fun m ρ (_ : True) => frame (F := Bits) m ρ
  exact cast (by sl_kernel_rfl) h

theorem frame_ref : Cert.quiescent_Reference2Ideal := fun m g _ =>
  (θ_run _ _ _).mono (fun r h => And.intro (fun c => (h c).2) (sem_eq_zero_of_no_sems rfl r.2))
    (Cert.Reference2Ideal.Value.run (F := Ideal) m g)

theorem value : Cert.algebraic_Kernel2Ideal_Reference2Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference2Ideal.Tn.ref _ _).trans (by rw [(h c).1, (h c).2]; exact (final m c).symm)), (k c).2⟩)
      (Cert.Reference2Ideal.Value.run (F := Ideal) m' g')

end Cert.Kernel2Ideal.Tn

end
-- ==== Proof.Tn3.lean ====
module

public import proofs.«01_k».proof.Defs
public import proofs.«01_k».proof.Proof.Tn
public import proofs.«01_k».proof.Proof.Gen.Kernel3
public import proofs.«01_k».proof.Proof.Gen.Kernel3Ideal.Frame
public import proofs.«01_k».proof.Proof.Gen.Reference3Ideal
public import proofs.«01_k».proof.Proof.Gen.Reference3Ideal.Run
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent

/-! The gradient of a feed-forward down matrix, its branch entering by half. -/

@[expose] public section

set_option maxRecDepth 16384

noncomputable section

namespace Cert.Reference3Ideal.Tn

open Idealize.ShloMosaic Cert.Reference3Ideal Cert.Reference3Ideal.Gen

/-- The reference's result, entry by entry. -/
theorem ref (a : FVec Ideal S8192x2816 .bf16) (b : FVec Ideal S8192x1024 .f32) :
    (truncf (F := Ideal) .bf16 (transpose S2816x1024 [1, 0] (Host.dotGeneral (F := Ideal) (φ₁ := .f32) (φ₂ := .f32) dot_S8192x1024_S8192x2816_S1024x2816_0_0_1_1_n_n none (mulf (F := Ideal) (φ := .f32) (broadcastInDim S8192x1024 ![] bcast_S_S8192x1024 (constant S_ .f32 0x3F000000#32)) b) (extf (F := Ideal) (φ := .bf16) .f32 a bitsLt_bf16_f32)) transposes_S1024x2816_S2816x1024_1_0) bitsLt_bf16_f32 : FVec Ideal S2816x1024 .bf16)
      = fun y' => ∑ r : Fin 8192, (a (ix2 r (y' 0)) : EReal) * (Ideal.ofBits .f32 0x3F000000#32 * (b (ix2 r (y' 1)) : EReal)) := by
  funext y'
  idx_vars y'
  pointwise []
  exact Finset.sum_congr rfl fun r _ => mul_comm (G := EReal) _ _

end Cert.Reference3Ideal.Tn

namespace Cert.Kernel3Ideal.Tn

open Idealize.ShloMosaic Idealize.ShloMosaic.TcCoe Idealize.SL.Sem
open Cert.Kernel3Ideal Cert.Kernel3Ideal.Gen Cert.Tn

variable (m : (ℓ : Loc nD τ sig) → Buf (Elt Ideal) ℓ) (c : Dev nD)

/-- The two arrays the call multiplies. -/
abbrev x (r : Fin 8192) (p : Fin 2816) : EReal := (m ((c : Thread nD τ).loc main_arg0) : FVec Ideal S8192x2816 .bf16) (ix2 r p)
abbrev y (r : Fin 8192) (q : Fin 1024) : EReal := (m ((c : Thread nD τ).loc main_arg1) : FVec Ideal S8192x1024 .f32) (ix2 r q)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Column `p` of block `b`. -/
abbrev col (b : ℕ) (p : Fin 2816) : Fin 2816 := ⟨b % 1 * 2816 + p.val, by have := Nat.mod_lt b (show 0 < 1 by decide); omega⟩

theorem i0 (t : Fin cfg0.N) (k : Fin 1024) (p : Fin 2816) : (iblk m c 0 t : FVec Ideal S1024x2816 .bf16) (ix2 k p) = x m c (part t.val k) (col (t.val / 8) p) := by
  refine Eq.trans (?_ : _ = (V m c main_arg0 : FVec Ideal S8192x2816 .bf16) (ix2 (part t.val k) (col (t.val / 8) p))) (congrFun (V_main_arg0 m c) _)
  have hN : t.val < 8 := t.isLt
  blk_ext [iblk, idx t]

theorem i1 (t : Fin cfg0.N) (k : Fin 1024) (q : Fin 1024) : (iblk m c 1 t : FVec Ideal S1024x1024 .f32) (ix2 k q) = y m c (part t.val k) q := by
  refine Eq.trans (?_ : _ = (V m c main_arg1 : FVec Ideal S8192x1024 .f32) (ix2 (part t.val k) q)) (congrFun (V_main_arg1 m c) _)
  blk_ext [iblk, idx t]

theorem p1 (p : Fin 2816) (q : Fin 1024) : (k0_pay1 (F := Ideal) : FVec Ideal S2816x1024 .f32) (ix2 p q) = (0 : EReal) := Ideal.ofBits_zero_f32

theorem p2 (v3 : FVec Ideal S1024x1024 .f32) (v7 : FVec Ideal S2816x1024 .f32) (v8 : FVec Ideal S1024x2816 .bf16) (p : Fin 2816) (q : Fin 1024) :
    (k0_pay2 (F := Ideal) v3 v7 v8 : FVec Ideal S2816x1024 .f32) (ix2 p q) = v7 (ix2 p q) + ∑ k : Fin 1024, v8 (ix2 k p) * (Ideal.ofBits .f32 0x3F000000#32 * v3 (ix2 k q)) := by
  pointwise [k0_pay2]

/-- What row `r` adds to the gradient. -/
abbrev T (b : ℕ) (r : Fin 8192) (i : Fin 2816 × Fin 1024) : EReal := x m c r (col b i.1) * (Ideal.ofBits .f32 0x3F000000#32 * y m c r i.2)

theorem step (t : Fin cfg0.N) (v : FVec Ideal S2816x1024 .f32) (i : Fin 2816 × Fin 1024) :
    (k0_pay2 (F := Ideal) (iblk m c 1 t) v (iblk m c 0 t) : FVec Ideal S2816x1024 .f32) (ix2 i.1 i.2) = v (ix2 i.1 i.2) + ∑ k : Fin 1024, T m c (t.val / 8) (part t.val k) i :=
  (p2 _ _ _ _ _).trans (congrArg (v (ix2 i.1 i.2) + ·) (Finset.sum_congr rfl fun k _ => by rw [i0, i1]))

set_option maxHeartbeats 2000000 in
theorem acc (t : Fin cfg0.N) (ht : t.val % 8 = 7) (p : Fin 2816) (q : Fin 1024) :
    ((outsAt0 m c t.val t.isLt).2 (ix2 p q) : EReal) = ∑ r : Fin 8192, T m c (t.val / 8) r (p, q) := by
  refine sum_rows (fun n h (i : Fin 2816 × Fin 1024) => (outsAt0 m c n h).2 (ix2 i.1 i.2)) (T m c) (fun t h0 i => ?_) (fun t h0 i => ?_) t ht (p, q)
  · have h1 : ¬t.val % 8 = 7 := by omega
    rw [outsAt0_A m c t h0 h1]
    frame_out
    exact (step m c t _ i).trans (congrArg₂ (· + ·) (p1 _ _) rfl)
  · by_cases h1 : t.val % 8 = 7
    · rw [outsAt0_C m c t h0 h1]
      frame_out
      simp only [read_unread_whole]
      exact step m c t _ i
    · rw [outsAt0_B m c t h0 h1]
      frame_out
      simp only [read_unread_whole]
      exact step m c t _ i

set_option maxHeartbeats 2000000 in
theorem out (t : Fin cfg0.N) (ht : t.val % 8 = 7) (p : Fin 2816) (q : Fin 1024) :
    ((outsAt0 m c t.val t.isLt).1 (ix2 p q) : EReal) = ∑ r : Fin 8192, T m c (t.val / 8) r (p, q) := by
  refine Eq.trans ?_ (acc m c t ht p q)
  rw [outsAt0_C m c t (by omega) ht]
  frame_out
  rfl

set_option maxHeartbeats 2000000 in
/-- The call's result. -/
theorem final : (dats m 0 c).arrAt 2 cfg0.N = (fun y' => ∑ r : Fin 8192, x m c r (y' 0) * (Ideal.ofBits .f32 0x3F000000#32 * y m c r (y' 1)) : FVec Ideal S2816x1024 .bf16) := by
  refine (dats m 0 c).arrAt_eq_of_covers 2 _ (by decide +kernel) fun t hf y => ?_
  have ht : t.val % 8 = 7 := (flush0_2 t).mp hf
  have hN : t.val < 8 := t.isLt
  blk_simp
  rw [after0_2]
  idx_vars y
  refine (out m c t ht y0 y1).trans ?_
  rw [show ((View.whole main_v0).slice (win0_2.rect t)).emb (ix2 y0 y1) = ix2 (col (t.val / 8) y0) y1 from by blk_ext [idx t]]
  rfl

/-! ## The claims -/

theorem frame_ideal : Cert.quiescent_Kernel3Ideal := fun m ρ _ => frame m ρ

theorem frame_bits : Cert.quiescent_Kernel3 := by
  have h := fun m ρ (_ : True) => frame (F := Bits) m ρ
  exact cast (by sl_kernel_rfl) h

theorem frame_ref : Cert.quiescent_Reference3Ideal := fun m g _ =>
  (θ_run _ _ _).mono (fun r h => And.intro (fun c => (h c).2) (sem_eq_zero_of_no_sems rfl r.2))
    (Cert.Reference3Ideal.Value.run (F := Ideal) m g)

theorem value : Cert.algebraic_Kernel3Ideal_Reference3Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference3Ideal.Tn.ref _ _).trans (by rw [(h c).1, (h c).2]; exact (final m c).symm)), (k c).2⟩)
      (Cert.Reference3Ideal.Value.run (F := Ideal) m' g')

end Cert.Kernel3Ideal.Tn

end
-- ==== Proof.Tn4.lean ====
module

public import proofs.«01_k».proof.Defs
public import proofs.«01_k».proof.Proof.Tn
public import proofs.«01_k».proof.Proof.Gen.Kernel4
public import proofs.«01_k».proof.Proof.Gen.Kernel4Ideal.Frame
public import proofs.«01_k».proof.Proof.Gen.Reference4Ideal
public import proofs.«01_k».proof.Proof.Gen.Reference4Ideal.Run
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent

/-! The gradient of the mixing layer's input matrix, the columns of the pooling and the convolution. -/

@[expose] public section

set_option maxRecDepth 16384

noncomputable section

namespace Cert.Reference4Ideal.Tn

open Idealize.ShloMosaic Cert.Reference4Ideal Cert.Reference4Ideal.Gen

/-- The reference's result, entry by entry. -/
theorem ref (a : FVec Ideal S8192x3072 .bf16) (b : FVec Ideal S8192x1024 .bf16) :
    (truncf (F := Ideal) .bf16 (transpose S3072x1024 [1, 0] (transpose S1024x3072 [1, 0] (Host.dotGeneral (F := Ideal) (φ₁ := .f32) (φ₂ := .f32) dot_S8192x3072_S8192x1024_S3072x1024_0_0_1_1_n_n none (extf (F := Ideal) (φ := .bf16) .f32 a bitsLt_bf16_f32) (extf (F := Ideal) (φ := .bf16) .f32 b bitsLt_bf16_f32)) transposes_S3072x1024_S1024x3072_1_0) transposes_S1024x3072_S3072x1024_1_0) bitsLt_bf16_f32 : FVec Ideal S3072x1024 .bf16)
      = fun y' => ∑ r : Fin 8192, (a (ix2 r (y' 0)) : EReal) * ((b (ix2 r (y' 1)) : EReal)) := by
  funext y'
  idx_vars y'
  pointwise []

end Cert.Reference4Ideal.Tn

namespace Cert.Kernel4Ideal.Tn

open Idealize.ShloMosaic Idealize.ShloMosaic.TcCoe Idealize.SL.Sem
open Cert.Kernel4Ideal Cert.Kernel4Ideal.Gen Cert.Tn

variable (m : (ℓ : Loc nD τ sig) → Buf (Elt Ideal) ℓ) (c : Dev nD)

/-- The two arrays the call multiplies. -/
abbrev x (r : Fin 8192) (p : Fin 3072) : EReal := (m ((c : Thread nD τ).loc main_arg0) : FVec Ideal S8192x3072 .bf16) (ix2 r p)
abbrev y (r : Fin 8192) (q : Fin 1024) : EReal := (m ((c : Thread nD τ).loc main_arg1) : FVec Ideal S8192x1024 .bf16) (ix2 r q)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Column `p` of block `b`. -/
abbrev col (b : ℕ) (p : Fin 1536) : Fin 3072 := ⟨b % 2 * 1536 + p.val, by have := Nat.mod_lt b (show 0 < 2 by decide); omega⟩

theorem i0 (t : Fin cfg0.N) (k : Fin 1024) (p : Fin 1536) : (iblk m c 0 t : FVec Ideal S1024x1536 .bf16) (ix2 k p) = x m c (part t.val k) (col (t.val / 8) p) := by
  refine Eq.trans (?_ : _ = (V m c main_arg0 : FVec Ideal S8192x3072 .bf16) (ix2 (part t.val k) (col (t.val / 8) p))) (congrFun (V_main_arg0 m c) _)
  have hN : t.val < 16 := t.isLt
  blk_ext [iblk, idx t]

theorem i1 (t : Fin cfg0.N) (k : Fin 1024) (q : Fin 1024) : (iblk m c 1 t : FVec Ideal S1024x1024 .bf16) (ix2 k q) = y m c (part t.val k) q := by
  refine Eq.trans (?_ : _ = (V m c main_arg1 : FVec Ideal S8192x1024 .bf16) (ix2 (part t.val k) q)) (congrFun (V_main_arg1 m c) _)
  blk_ext [iblk, idx t]

theorem p1 (p : Fin 1536) (q : Fin 1024) : (k0_pay1 (F := Ideal) : FVec Ideal S1536x1024 .f32) (ix2 p q) = (0 : EReal) := Ideal.ofBits_zero_f32

theorem p2 (v3 : FVec Ideal S1024x1024 .bf16) (v4 : FVec Ideal S1536x1024 .f32) (v5 : FVec Ideal S1024x1536 .bf16) (p : Fin 1536) (q : Fin 1024) :
    (k0_pay2 (F := Ideal) v3 v4 v5 : FVec Ideal S1536x1024 .f32) (ix2 p q) = v4 (ix2 p q) + ∑ k : Fin 1024, v5 (ix2 k p) * (v3 (ix2 k q)) := by
  pointwise [k0_pay2]

/-- What row `r` adds to the gradient. -/
abbrev T (b : ℕ) (r : Fin 8192) (i : Fin 1536 × Fin 1024) : EReal := x m c r (col b i.1) * (y m c r i.2)

theorem step (t : Fin cfg0.N) (v : FVec Ideal S1536x1024 .f32) (i : Fin 1536 × Fin 1024) :
    (k0_pay2 (F := Ideal) (iblk m c 1 t) v (iblk m c 0 t) : FVec Ideal S1536x1024 .f32) (ix2 i.1 i.2) = v (ix2 i.1 i.2) + ∑ k : Fin 1024, T m c (t.val / 8) (part t.val k) i :=
  (p2 _ _ _ _ _).trans (congrArg (v (ix2 i.1 i.2) + ·) (Finset.sum_congr rfl fun k _ => by rw [i0, i1]))

set_option maxHeartbeats 2000000 in
theorem acc (t : Fin cfg0.N) (ht : t.val % 8 = 7) (p : Fin 1536) (q : Fin 1024) :
    ((outsAt0 m c t.val t.isLt).2 (ix2 p q) : EReal) = ∑ r : Fin 8192, T m c (t.val / 8) r (p, q) := by
  refine sum_rows (fun n h (i : Fin 1536 × Fin 1024) => (outsAt0 m c n h).2 (ix2 i.1 i.2)) (T m c) (fun t h0 i => ?_) (fun t h0 i => ?_) t ht (p, q)
  · have h1 : ¬t.val % 8 = 7 := by omega
    rw [outsAt0_A m c t h0 h1]
    frame_out
    exact (step m c t _ i).trans (congrArg₂ (· + ·) (p1 _ _) rfl)
  · by_cases h1 : t.val % 8 = 7
    · rw [outsAt0_C m c t h0 h1]
      frame_out
      simp only [read_unread_whole]
      exact step m c t _ i
    · rw [outsAt0_B m c t h0 h1]
      frame_out
      simp only [read_unread_whole]
      exact step m c t _ i

set_option maxHeartbeats 2000000 in
theorem out (t : Fin cfg0.N) (ht : t.val % 8 = 7) (p : Fin 1536) (q : Fin 1024) :
    ((outsAt0 m c t.val t.isLt).1 (ix2 p q) : EReal) = ∑ r : Fin 8192, T m c (t.val / 8) r (p, q) := by
  refine Eq.trans ?_ (acc m c t ht p q)
  rw [outsAt0_C m c t (by omega) ht]
  frame_out
  rfl

set_option maxHeartbeats 2000000 in
/-- The call's result. -/
theorem final : (dats m 0 c).arrAt 2 cfg0.N = (fun y' => ∑ r : Fin 8192, x m c r (y' 0) * (y m c r (y' 1)) : FVec Ideal S3072x1024 .bf16) := by
  refine (dats m 0 c).arrAt_eq_of_covers 2 _ (by decide +kernel) fun t hf y => ?_
  have ht : t.val % 8 = 7 := (flush0_2 t).mp hf
  have hN : t.val < 16 := t.isLt
  blk_simp
  rw [after0_2]
  idx_vars y
  refine (out m c t ht y0 y1).trans ?_
  rw [show ((View.whole main_v0).slice (win0_2.rect t)).emb (ix2 y0 y1) = ix2 (col (t.val / 8) y0) y1 from by blk_ext [idx t]]
  rfl

/-! ## The claims -/

theorem frame_ideal : Cert.quiescent_Kernel4Ideal := fun m ρ _ => frame m ρ

theorem frame_bits : Cert.quiescent_Kernel4 := by
  have h := fun m ρ (_ : True) => frame (F := Bits) m ρ
  exact cast (by sl_kernel_rfl) h

theorem frame_ref : Cert.quiescent_Reference4Ideal := fun m g _ =>
  (θ_run _ _ _).mono (fun r h => And.intro (fun c => (h c).2) (sem_eq_zero_of_no_sems rfl r.2))
    (Cert.Reference4Ideal.Value.run (F := Ideal) m g)

theorem value : Cert.algebraic_Kernel4Ideal_Reference4Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference4Ideal.Tn.ref _ _).trans (by rw [(h c).1, (h c).2]; exact (final m c).symm)), (k c).2⟩)
      (Cert.Reference4Ideal.Value.run (F := Ideal) m' g')

end Cert.Kernel4Ideal.Tn

end
-- ==== Proof.Tn5.lean ====
module

public import proofs.«01_k».proof.Defs
public import proofs.«01_k».proof.Proof.Tn
public import proofs.«01_k».proof.Proof.Gen.Kernel5
public import proofs.«01_k».proof.Proof.Gen.Kernel5Ideal.Frame
public import proofs.«01_k».proof.Proof.Gen.Reference5Ideal
public import proofs.«01_k».proof.Proof.Gen.Reference5Ideal.Run
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent

/-! The gradient of the mixing layer's input matrix, the columns of the two gates. -/

@[expose] public section

set_option maxRecDepth 16384

noncomputable section

namespace Cert.Reference5Ideal.Tn

open Idealize.ShloMosaic Cert.Reference5Ideal Cert.Reference5Ideal.Gen

/-- The reference's result, entry by entry. -/
theorem ref (a : FVec Ideal S8192x2048 .bf16) (b : FVec Ideal S8192x1024 .bf16) :
    (truncf (F := Ideal) .bf16 (transpose S2048x1024 [1, 0] (transpose S1024x2048 [1, 0] (Host.dotGeneral (F := Ideal) (φ₁ := .f32) (φ₂ := .f32) dot_S8192x2048_S8192x1024_S2048x1024_0_0_1_1_n_n none (extf (F := Ideal) (φ := .bf16) .f32 a bitsLt_bf16_f32) (extf (F := Ideal) (φ := .bf16) .f32 b bitsLt_bf16_f32)) transposes_S2048x1024_S1024x2048_1_0) transposes_S1024x2048_S2048x1024_1_0) bitsLt_bf16_f32 : FVec Ideal S2048x1024 .bf16)
      = fun y' => ∑ r : Fin 8192, (a (ix2 r (y' 0)) : EReal) * ((b (ix2 r (y' 1)) : EReal)) := by
  funext y'
  idx_vars y'
  pointwise []

end Cert.Reference5Ideal.Tn

namespace Cert.Kernel5Ideal.Tn

open Idealize.ShloMosaic Idealize.ShloMosaic.TcCoe Idealize.SL.Sem
open Cert.Kernel5Ideal Cert.Kernel5Ideal.Gen Cert.Tn

variable (m : (ℓ : Loc nD τ sig) → Buf (Elt Ideal) ℓ) (c : Dev nD)

/-- The two arrays the call multiplies. -/
abbrev x (r : Fin 8192) (p : Fin 2048) : EReal := (m ((c : Thread nD τ).loc main_arg0) : FVec Ideal S8192x2048 .bf16) (ix2 r p)
abbrev y (r : Fin 8192) (q : Fin 1024) : EReal := (m ((c : Thread nD τ).loc main_arg1) : FVec Ideal S8192x1024 .bf16) (ix2 r q)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Column `p` of block `b`. -/
abbrev col (b : ℕ) (p : Fin 1024) : Fin 2048 := ⟨b % 2 * 1024 + p.val, by have := Nat.mod_lt b (show 0 < 2 by decide); omega⟩

theorem i0 (t : Fin cfg0.N) (k : Fin 1024) (p : Fin 1024) : (iblk m c 0 t : FVec Ideal S1024x1024 .bf16) (ix2 k p) = x m c (part t.val k) (col (t.val / 8) p) := by
  refine Eq.trans (?_ : _ = (V m c main_arg0 : FVec Ideal S8192x2048 .bf16) (ix2 (part t.val k) (col (t.val / 8) p))) (congrFun (V_main_arg0 m c) _)
  have hN : t.val < 16 := t.isLt
  blk_ext [iblk, idx t]

theorem i1 (t : Fin cfg0.N) (k : Fin 1024) (q : Fin 1024) : (iblk m c 1 t : FVec Ideal S1024x1024 .bf16) (ix2 k q) = y m c (part t.val k) q := by
  refine Eq.trans (?_ : _ = (V m c main_arg1 : FVec Ideal S8192x1024 .bf16) (ix2 (part t.val k) q)) (congrFun (V_main_arg1 m c) _)
  blk_ext [iblk, idx t]

theorem p1 (p : Fin 1024) (q : Fin 1024) : (k0_pay1 (F := Ideal) : FVec Ideal S1024x1024 .f32) (ix2 p q) = (0 : EReal) := Ideal.ofBits_zero_f32

theorem p2 (v3 : FVec Ideal S1024x1024 .bf16) (v4 : FVec Ideal S1024x1024 .f32) (v5 : FVec Ideal S1024x1024 .bf16) (p : Fin 1024) (q : Fin 1024) :
    (k0_pay2 (F := Ideal) v3 v4 v5 : FVec Ideal S1024x1024 .f32) (ix2 p q) = v4 (ix2 p q) + ∑ k : Fin 1024, v5 (ix2 k p) * (v3 (ix2 k q)) := by
  pointwise [k0_pay2]

/-- What row `r` adds to the gradient. -/
abbrev T (b : ℕ) (r : Fin 8192) (i : Fin 1024 × Fin 1024) : EReal := x m c r (col b i.1) * (y m c r i.2)

theorem step (t : Fin cfg0.N) (v : FVec Ideal S1024x1024 .f32) (i : Fin 1024 × Fin 1024) :
    (k0_pay2 (F := Ideal) (iblk m c 1 t) v (iblk m c 0 t) : FVec Ideal S1024x1024 .f32) (ix2 i.1 i.2) = v (ix2 i.1 i.2) + ∑ k : Fin 1024, T m c (t.val / 8) (part t.val k) i :=
  (p2 _ _ _ _ _).trans (congrArg (v (ix2 i.1 i.2) + ·) (Finset.sum_congr rfl fun k _ => by rw [i0, i1]))

set_option maxHeartbeats 2000000 in
theorem acc (t : Fin cfg0.N) (ht : t.val % 8 = 7) (p : Fin 1024) (q : Fin 1024) :
    ((outsAt0 m c t.val t.isLt).2 (ix2 p q) : EReal) = ∑ r : Fin 8192, T m c (t.val / 8) r (p, q) := by
  refine sum_rows (fun n h (i : Fin 1024 × Fin 1024) => (outsAt0 m c n h).2 (ix2 i.1 i.2)) (T m c) (fun t h0 i => ?_) (fun t h0 i => ?_) t ht (p, q)
  · have h1 : ¬t.val % 8 = 7 := by omega
    rw [outsAt0_A m c t h0 h1]
    frame_out
    exact (step m c t _ i).trans (congrArg₂ (· + ·) (p1 _ _) rfl)
  · by_cases h1 : t.val % 8 = 7
    · rw [outsAt0_C m c t h0 h1]
      frame_out
      simp only [read_unread_whole]
      exact step m c t _ i
    · rw [outsAt0_B m c t h0 h1]
      frame_out
      simp only [read_unread_whole]
      exact step m c t _ i

set_option maxHeartbeats 2000000 in
theorem out (t : Fin cfg0.N) (ht : t.val % 8 = 7) (p : Fin 1024) (q : Fin 1024) :
    ((outsAt0 m c t.val t.isLt).1 (ix2 p q) : EReal) = ∑ r : Fin 8192, T m c (t.val / 8) r (p, q) := by
  refine Eq.trans ?_ (acc m c t ht p q)
  rw [outsAt0_C m c t (by omega) ht]
  frame_out
  rfl

set_option maxHeartbeats 2000000 in
/-- The call's result. -/
theorem final : (dats m 0 c).arrAt 2 cfg0.N = (fun y' => ∑ r : Fin 8192, x m c r (y' 0) * (y m c r (y' 1)) : FVec Ideal S2048x1024 .bf16) := by
  refine (dats m 0 c).arrAt_eq_of_covers 2 _ (by decide +kernel) fun t hf y => ?_
  have ht : t.val % 8 = 7 := (flush0_2 t).mp hf
  have hN : t.val < 16 := t.isLt
  blk_simp
  rw [after0_2]
  idx_vars y
  refine (out m c t ht y0 y1).trans ?_
  rw [show ((View.whole main_v0).slice (win0_2.rect t)).emb (ix2 y0 y1) = ix2 (col (t.val / 8) y0) y1 from by blk_ext [idx t]]
  rfl

/-! ## The claims -/

theorem frame_ideal : Cert.quiescent_Kernel5Ideal := fun m ρ _ => frame m ρ

theorem frame_bits : Cert.quiescent_Kernel5 := by
  have h := fun m ρ (_ : True) => frame (F := Bits) m ρ
  exact cast (by sl_kernel_rfl) h

theorem frame_ref : Cert.quiescent_Reference5Ideal := fun m g _ =>
  (θ_run _ _ _).mono (fun r h => And.intro (fun c => (h c).2) (sem_eq_zero_of_no_sems rfl r.2))
    (Cert.Reference5Ideal.Value.run (F := Ideal) m g)

theorem value : Cert.algebraic_Kernel5Ideal_Reference5Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference5Ideal.Tn.ref _ _).trans (by rw [(h c).1, (h c).2]; exact (final m c).symm)), (k c).2⟩)
      (Cert.Reference5Ideal.Value.run (F := Ideal) m' g')

end Cert.Kernel5Ideal.Tn

end
-- ==== Proof.Tn6.lean ====
module

public import proofs.«01_k».proof.Defs
public import proofs.«01_k».proof.Proof.Tn
public import proofs.«01_k».proof.Proof.Gen.Kernel6
public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent

/-! The gradient of a square matrix, both factors in bf16. -/

@[expose] public section

set_option maxRecDepth 16384

noncomputable section

namespace Cert.Reference6Ideal.Tn

open Idealize.ShloMosaic Cert.Reference6Ideal Cert.Reference6Ideal.Gen

/-- The reference's result, entry by entry. -/
theorem ref (a : FVec Ideal S8192x1024 .bf16) (b : FVec Ideal S8192x1024 .bf16) :
    (truncf (F := Ideal) .bf16 (transpose S1024x1024 [1, 0] (Host.dotGeneral (F := Ideal) (φ₁ := .f32) (φ₂ := .f32) dot_S8192x1024_S8192x1024_S1024x1024_0_0_1_1_n_n none (extf (F := Ideal) (φ := .bf16) .f32 b bitsLt_bf16_f32) (extf (F := Ideal) (φ := .bf16) .f32 a bitsLt_bf16_f32)) transposes_S1024x1024_S1024x1024_1_0) bitsLt_bf16_f32 : FVec Ideal S1024x1024 .bf16)
      = fun y' => ∑ r : Fin 8192, (a (ix2 r (y' 0)) : EReal) * ((b (ix2 r (y' 1)) : EReal)) := by
  funext y'
  idx_vars y'
  pointwise []
  exact Finset.sum_congr rfl fun r _ => mul_comm (G := EReal) _ _

end Cert.Reference6Ideal.Tn

namespace Cert.Kernel6Ideal.Tn

open Idealize.ShloMosaic Idealize.ShloMosaic.TcCoe Idealize.SL.Sem
open Cert.Kernel6Ideal Cert.Kernel6Ideal.Gen Cert.Tn

variable (m : (ℓ : Loc nD τ sig) → Buf (Elt Ideal) ℓ) (c : Dev nD)

/-- The two arrays the call multiplies. -/
abbrev x (r : Fin 8192) (p : Fin 1024) : EReal := (m ((c : Thread nD τ).loc main_arg0) : FVec Ideal S8192x1024 .bf16) (ix2 r p)
abbrev y (r : Fin 8192) (q : Fin 1024) : EReal := (m ((c : Thread nD τ).loc main_arg1) : FVec Ideal S8192x1024 .bf16) (ix2 r q)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Column `p` of block `b`. -/
abbrev col (b : ℕ) (p : Fin 1024) : Fin 1024 := ⟨b % 1 * 1024 + p.val, by have := Nat.mod_lt b (show 0 < 1 by decide); omega⟩

theorem i0 (t : Fin cfg0.N) (k : Fin 1024) (p : Fin 1024) : (iblk m c 0 t : FVec Ideal S1024x1024 .bf16) (ix2 k p) = x m c (part t.val k) (col (t.val / 8) p) := by
  refine Eq.trans (?_ : _ = (V m c main_arg0 : FVec Ideal S8192x1024 .bf16) (ix2 (part t.val k) (col (t.val / 8) p))) (congrFun (V_main_arg0 m c) _)
  have hN : t.val < 8 := t.isLt
  blk_ext [iblk, idx t]

theorem i1 (t : Fin cfg0.N) (k : Fin 1024) (q : Fin 1024) : (iblk m c 1 t : FVec Ideal S1024x1024 .bf16) (ix2 k q) = y m c (part t.val k) q := by
  refine Eq.trans (?_ : _ = (V m c main_arg1 : FVec Ideal S8192x1024 .bf16) (ix2 (part t.val k) q)) (congrFun (V_main_arg1 m c) _)
  blk_ext [iblk, idx t]

theorem p1 (p : Fin 1024) (q : Fin 1024) : (k0_pay1 (F := Ideal) : FVec Ideal S1024x1024 .f32) (ix2 p q) = (0 : EReal) := Ideal.ofBits_zero_f32

theorem p2 (v3 : FVec Ideal S1024x1024 .bf16) (v4 : FVec Ideal S1024x1024 .f32) (v5 : FVec Ideal S1024x1024 .bf16) (p : Fin 1024) (q : Fin 1024) :
    (k0_pay2 (F := Ideal) v3 v4 v5 : FVec Ideal S1024x1024 .f32) (ix2 p q) = v4 (ix2 p q) + ∑ k : Fin 1024, v5 (ix2 k p) * (v3 (ix2 k q)) := by
  pointwise [k0_pay2]

/-- What row `r` adds to the gradient. -/
abbrev T (b : ℕ) (r : Fin 8192) (i : Fin 1024 × Fin 1024) : EReal := x m c r (col b i.1) * (y m c r i.2)

theorem step (t : Fin cfg0.N) (v : FVec Ideal S1024x1024 .f32) (i : Fin 1024 × Fin 1024) :
    (k0_pay2 (F := Ideal) (iblk m c 1 t) v (iblk m c 0 t) : FVec Ideal S1024x1024 .f32) (ix2 i.1 i.2) = v (ix2 i.1 i.2) + ∑ k : Fin 1024, T m c (t.val / 8) (part t.val k) i :=
  (p2 _ _ _ _ _).trans (congrArg (v (ix2 i.1 i.2) + ·) (Finset.sum_congr rfl fun k _ => by rw [i0, i1]))

set_option maxHeartbeats 2000000 in
theorem acc (t : Fin cfg0.N) (ht : t.val % 8 = 7) (p : Fin 1024) (q : Fin 1024) :
    ((outsAt0 m c t.val t.isLt).2 (ix2 p q) : EReal) = ∑ r : Fin 8192, T m c (t.val / 8) r (p, q) := by
  refine sum_rows (fun n h (i : Fin 1024 × Fin 1024) => (outsAt0 m c n h).2 (ix2 i.1 i.2)) (T m c) (fun t h0 i => ?_) (fun t h0 i => ?_) t ht (p, q)
  · have h1 : ¬t.val % 8 = 7 := by omega
    rw [outsAt0_A m c t h0 h1]
    frame_out
    exact (step m c t _ i).trans (congrArg₂ (· + ·) (p1 _ _) rfl)
  · by_cases h1 : t.val % 8 = 7
    · rw [outsAt0_C m c t h0 h1]
      frame_out
      simp only [read_unread_whole]
      exact step m c t _ i
    · rw [outsAt0_B m c t h0 h1]
      frame_out
      simp only [read_unread_whole]
      exact step m c t _ i

set_option maxHeartbeats 2000000 in
theorem out (t : Fin cfg0.N) (ht : t.val % 8 = 7) (p : Fin 1024) (q : Fin 1024) :
    ((outsAt0 m c t.val t.isLt).1 (ix2 p q) : EReal) = ∑ r : Fin 8192, T m c (t.val / 8) r (p, q) := by
  refine Eq.trans ?_ (acc m c t ht p q)
  rw [outsAt0_C m c t (by omega) ht]
  frame_out
  rfl

set_option maxHeartbeats 2000000 in
/-- The call's result. -/
theorem final : (dats m 0 c).arrAt 2 cfg0.N = (fun y' => ∑ r : Fin 8192, x m c r (y' 0) * (y m c r (y' 1)) : FVec Ideal S1024x1024 .bf16) := by
  refine (dats m 0 c).arrAt_eq_of_covers 2 _ (by decide +kernel) fun t hf y => ?_
  have ht : t.val % 8 = 7 := (flush0_2 t).mp hf
  have hN : t.val < 8 := t.isLt
  blk_simp
  rw [after0_2]
  idx_vars y
  refine (out m c t ht y0 y1).trans ?_
  rw [show ((View.whole main_v0).slice (win0_2.rect t)).emb (ix2 y0 y1) = ix2 (col (t.val / 8) y0) y1 from by blk_ext [idx t]]
  rfl

/-! ## The claims -/

theorem frame_ideal : Cert.quiescent_Kernel6Ideal := fun m ρ _ => frame m ρ

theorem frame_bits : Cert.quiescent_Kernel6 := by
  have h := fun m ρ (_ : True) => frame (F := Bits) m ρ
  exact cast (by sl_kernel_rfl) h

theorem frame_ref : Cert.quiescent_Reference6Ideal := fun m g _ =>
  (θ_run _ _ _).mono (fun r h => And.intro (fun c => (h c).2) (sem_eq_zero_of_no_sems rfl r.2))
    (Cert.Reference6Ideal.Value.run (F := Ideal) m g)

theorem value : Cert.algebraic_Kernel6Ideal_Reference6Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference6Ideal.Tn.ref _ _).trans (by rw [(h c).1, (h c).2]; exact (final m c).symm)), (k c).2⟩)
      (Cert.Reference6Ideal.Value.run (F := Ideal) m' g')

end Cert.Kernel6Ideal.Tn

end
-- ==== Proof.Tn7.lean ====
module

public import proofs.«01_k».proof.Defs
public import proofs.«01_k».proof.Proof.Tn
public import proofs.«01_k».proof.Proof.Gen.Kernel7
public import proofs.«01_k».proof.Proof.Gen.Kernel7Ideal.Frame
public import proofs.«01_k».proof.Proof.Gen.Reference7Ideal
public import proofs.«01_k».proof.Proof.Gen.Reference7Ideal.Run
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent

/-! The gradient of the mixing layer's output matrix. -/

@[expose] public section

set_option maxRecDepth 16384

noncomputable section

namespace Cert.Reference7Ideal.Tn

open Idealize.ShloMosaic Cert.Reference7Ideal Cert.Reference7Ideal.Gen

/-- The reference's result, entry by entry. -/
theorem ref (a : FVec Ideal S8192x1024 .bf16) (b : FVec Ideal S8192x1024 .f32) :
    (truncf (F := Ideal) .bf16 (transpose S1024x1024 [1, 0] (Host.dotGeneral (F := Ideal) (φ₁ := .f32) (φ₂ := .f32) dot_S8192x1024_S8192x1024_S1024x1024_0_0_1_1_n_n none b (extf (F := Ideal) (φ := .bf16) .f32 a bitsLt_bf16_f32)) transposes_S1024x1024_S1024x1024_1_0) bitsLt_bf16_f32 : FVec Ideal S1024x1024 .bf16)
      = fun y' => ∑ r : Fin 8192, (a (ix2 r (y' 0)) : EReal) * ((b (ix2 r (y' 1)) : EReal)) := by
  funext y'
  idx_vars y'
  pointwise []
  exact Finset.sum_congr rfl fun r _ => mul_comm (G := EReal) _ _

end Cert.Reference7Ideal.Tn

namespace Cert.Kernel7Ideal.Tn

open Idealize.ShloMosaic Idealize.ShloMosaic.TcCoe Idealize.SL.Sem
open Cert.Kernel7Ideal Cert.Kernel7Ideal.Gen Cert.Tn

variable (m : (ℓ : Loc nD τ sig) → Buf (Elt Ideal) ℓ) (c : Dev nD)

/-- The two arrays the call multiplies. -/
abbrev x (r : Fin 8192) (p : Fin 1024) : EReal := (m ((c : Thread nD τ).loc main_arg0) : FVec Ideal S8192x1024 .bf16) (ix2 r p)
abbrev y (r : Fin 8192) (q : Fin 1024) : EReal := (m ((c : Thread nD τ).loc main_arg1) : FVec Ideal S8192x1024 .f32) (ix2 r q)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Column `p` of block `b`. -/
abbrev col (b : ℕ) (p : Fin 1024) : Fin 1024 := ⟨b % 1 * 1024 + p.val, by have := Nat.mod_lt b (show 0 < 1 by decide); omega⟩

theorem i0 (t : Fin cfg0.N) (k : Fin 1024) (p : Fin 1024) : (iblk m c 0 t : FVec Ideal S1024x1024 .bf16) (ix2 k p) = x m c (part t.val k) (col (t.val / 8) p) := by
  refine Eq.trans (?_ : _ = (V m c main_arg0 : FVec Ideal S8192x1024 .bf16) (ix2 (part t.val k) (col (t.val / 8) p))) (congrFun (V_main_arg0 m c) _)
  have hN : t.val < 8 := t.isLt
  blk_ext [iblk, idx t]

theorem i1 (t : Fin cfg0.N) (k : Fin 1024) (q : Fin 1024) : (iblk m c 1 t : FVec Ideal S1024x1024 .f32) (ix2 k q) = y m c (part t.val k) q := by
  refine Eq.trans (?_ : _ = (V m c main_arg1 : FVec Ideal S8192x1024 .f32) (ix2 (part t.val k) q)) (congrFun (V_main_arg1 m c) _)
  blk_ext [iblk, idx t]

theorem p1 (p : Fin 1024) (q : Fin 1024) : (k0_pay1 (F := Ideal) : FVec Ideal S1024x1024 .f32) (ix2 p q) = (0 : EReal) := Ideal.ofBits_zero_f32

theorem p2 (v3 : FVec Ideal S1024x1024 .f32) (v7 : FVec Ideal S1024x1024 .f32) (v8 : FVec Ideal S1024x1024 .bf16) (p : Fin 1024) (q : Fin 1024) :
    (k0_pay2 (F := Ideal) v3 v7 v8 : FVec Ideal S1024x1024 .f32) (ix2 p q) = v7 (ix2 p q) + ∑ k : Fin 1024, v8 (ix2 k p) * (v3 (ix2 k q)) := by
  pointwise [k0_pay2]

/-- What row `r` adds to the gradient. -/
abbrev T (b : ℕ) (r : Fin 8192) (i : Fin 1024 × Fin 1024) : EReal := x m c r (col b i.1) * (y m c r i.2)

theorem step (t : Fin cfg0.N) (v : FVec Ideal S1024x1024 .f32) (i : Fin 1024 × Fin 1024) :
    (k0_pay2 (F := Ideal) (iblk m c 1 t) v (iblk m c 0 t) : FVec Ideal S1024x1024 .f32) (ix2 i.1 i.2) = v (ix2 i.1 i.2) + ∑ k : Fin 1024, T m c (t.val / 8) (part t.val k) i :=
  (p2 _ _ _ _ _).trans (congrArg (v (ix2 i.1 i.2) + ·) (Finset.sum_congr rfl fun k _ => by rw [i0, i1]))

set_option maxHeartbeats 2000000 in
theorem acc (t : Fin cfg0.N) (ht : t.val % 8 = 7) (p : Fin 1024) (q : Fin 1024) :
    ((outsAt0 m c t.val t.isLt).2 (ix2 p q) : EReal) = ∑ r : Fin 8192, T m c (t.val / 8) r (p, q) := by
  refine sum_rows (fun n h (i : Fin 1024 × Fin 1024) => (outsAt0 m c n h).2 (ix2 i.1 i.2)) (T m c) (fun t h0 i => ?_) (fun t h0 i => ?_) t ht (p, q)
  · have h1 : ¬t.val % 8 = 7 := by omega
    rw [outsAt0_A m c t h0 h1]
    frame_out
    exact (step m c t _ i).trans (congrArg₂ (· + ·) (p1 _ _) rfl)
  · by_cases h1 : t.val % 8 = 7
    · rw [outsAt0_C m c t h0 h1]
      frame_out
      simp only [read_unread_whole]
      exact step m c t _ i
    · rw [outsAt0_B m c t h0 h1]
      frame_out
      simp only [read_unread_whole]
      exact step m c t _ i

set_option maxHeartbeats 2000000 in
theorem out (t : Fin cfg0.N) (ht : t.val % 8 = 7) (p : Fin 1024) (q : Fin 1024) :
    ((outsAt0 m c t.val t.isLt).1 (ix2 p q) : EReal) = ∑ r : Fin 8192, T m c (t.val / 8) r (p, q) := by
  refine Eq.trans ?_ (acc m c t ht p q)
  rw [outsAt0_C m c t (by omega) ht]
  frame_out
  rfl

set_option maxHeartbeats 2000000 in
/-- The call's result. -/
theorem final : (dats m 0 c).arrAt 2 cfg0.N = (fun y' => ∑ r : Fin 8192, x m c r (y' 0) * (y m c r (y' 1)) : FVec Ideal S1024x1024 .bf16) := by
  refine (dats m 0 c).arrAt_eq_of_covers 2 _ (by decide +kernel) fun t hf y => ?_
  have ht : t.val % 8 = 7 := (flush0_2 t).mp hf
  have hN : t.val < 8 := t.isLt
  blk_simp
  rw [after0_2]
  idx_vars y
  refine (out m c t ht y0 y1).trans ?_
  rw [show ((View.whole main_v0).slice (win0_2.rect t)).emb (ix2 y0 y1) = ix2 (col (t.val / 8) y0) y1 from by blk_ext [idx t]]
  rfl

/-! ## The claims -/

theorem frame_ideal : Cert.quiescent_Kernel7Ideal := fun m ρ _ => frame m ρ

theorem frame_bits : Cert.quiescent_Kernel7 := by
  have h := fun m ρ (_ : True) => frame (F := Bits) m ρ
  exact cast (by sl_kernel_rfl) h

theorem frame_ref : Cert.quiescent_Reference7Ideal := fun m g _ =>
  (θ_run _ _ _).mono (fun r h => And.intro (fun c => (h c).2) (sem_eq_zero_of_no_sems rfl r.2))
    (Cert.Reference7Ideal.Value.run (F := Ideal) m g)

theorem value : Cert.algebraic_Kernel7Ideal_Reference7Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference7Ideal.Tn.ref _ _).trans (by rw [(h c).1, (h c).2]; exact (final m c).symm)), (k c).2⟩)
      (Cert.Reference7Ideal.Value.run (F := Ideal) m' g')

end Cert.Kernel7Ideal.Tn

end
-- ==== Proof.Tn8.lean ====
module

public import proofs.«01_k».proof.Defs
public import proofs.«01_k».proof.Proof.Tn
public import proofs.«01_k».proof.Proof.Gen.Kernel8
public import proofs.«01_k».proof.Proof.Gen.Kernel8Ideal.Frame
public import proofs.«01_k».proof.Proof.Gen.Reference8Ideal
public import proofs.«01_k».proof.Proof.Gen.Reference8Ideal.Run
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent

/-! The gradient of the per-layer embedding's projection. -/

@[expose] public section

set_option maxRecDepth 16384

noncomputable section

namespace Cert.Reference8Ideal.Tn

open Idealize.ShloMosaic Cert.Reference8Ideal Cert.Reference8Ideal.Gen

/-- The reference's result, entry by entry. -/
theorem ref (a : FVec Ideal S8192x1024 .bf16) (b : FVec Ideal S8192x256 .bf16) :
    (truncf (F := Ideal) .bf16 (transpose S1024x256 [1, 0] (transpose S256x1024 [1, 0] (Host.dotGeneral (F := Ideal) (φ₁ := .f32) (φ₂ := .f32) dot_S8192x1024_S8192x256_S1024x256_0_0_1_1_n_n none (extf (F := Ideal) (φ := .bf16) .f32 a bitsLt_bf16_f32) (extf (F := Ideal) (φ := .bf16) .f32 b bitsLt_bf16_f32)) transposes_S1024x256_S256x1024_1_0) transposes_S256x1024_S1024x256_1_0) bitsLt_bf16_f32 : FVec Ideal S1024x256 .bf16)
      = fun y' => ∑ r : Fin 8192, (a (ix2 r (y' 0)) : EReal) * ((b (ix2 r (y' 1)) : EReal)) := by
  funext y'
  idx_vars y'
  pointwise []

end Cert.Reference8Ideal.Tn

namespace Cert.Kernel8Ideal.Tn

open Idealize.ShloMosaic Idealize.ShloMosaic.TcCoe Idealize.SL.Sem
open Cert.Kernel8Ideal Cert.Kernel8Ideal.Gen Cert.Tn

variable (m : (ℓ : Loc nD τ sig) → Buf (Elt Ideal) ℓ) (c : Dev nD)

/-- The two arrays the call multiplies. -/
abbrev x (r : Fin 8192) (p : Fin 1024) : EReal := (m ((c : Thread nD τ).loc main_arg0) : FVec Ideal S8192x1024 .bf16) (ix2 r p)
abbrev y (r : Fin 8192) (q : Fin 256) : EReal := (m ((c : Thread nD τ).loc main_arg1) : FVec Ideal S8192x256 .bf16) (ix2 r q)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- Column `p` of block `b`. -/
abbrev col (b : ℕ) (p : Fin 1024) : Fin 1024 := ⟨b % 1 * 1024 + p.val, by have := Nat.mod_lt b (show 0 < 1 by decide); omega⟩

theorem i0 (t : Fin cfg0.N) (k : Fin 1024) (p : Fin 1024) : (iblk m c 0 t : FVec Ideal S1024x1024 .bf16) (ix2 k p) = x m c (part t.val k) (col (t.val / 8) p) := by
  refine Eq.trans (?_ : _ = (V m c main_arg0 : FVec Ideal S8192x1024 .bf16) (ix2 (part t.val k) (col (t.val / 8) p))) (congrFun (V_main_arg0 m c) _)
  have hN : t.val < 8 := t.isLt
  blk_ext [iblk, idx t]

theorem i1 (t : Fin cfg0.N) (k : Fin 1024) (q : Fin 256) : (iblk m c 1 t : FVec Ideal S1024x256 .bf16) (ix2 k q) = y m c (part t.val k) q := by
  refine Eq.trans (?_ : _ = (V m c main_arg1 : FVec Ideal S8192x256 .bf16) (ix2 (part t.val k) q)) (congrFun (V_main_arg1 m c) _)
  blk_ext [iblk, idx t]

theorem p1 (p : Fin 1024) (q : Fin 256) : (k0_pay1 (F := Ideal) : FVec Ideal S1024x256 .f32) (ix2 p q) = (0 : EReal) := Ideal.ofBits_zero_f32

theorem p2 (v3 : FVec Ideal S1024x256 .bf16) (v4 : FVec Ideal S1024x256 .f32) (v5 : FVec Ideal S1024x1024 .bf16) (p : Fin 1024) (q : Fin 256) :
    (k0_pay2 (F := Ideal) v3 v4 v5 : FVec Ideal S1024x256 .f32) (ix2 p q) = v4 (ix2 p q) + ∑ k : Fin 1024, v5 (ix2 k p) * (v3 (ix2 k q)) := by
  pointwise [k0_pay2]

/-- What row `r` adds to the gradient. -/
abbrev T (b : ℕ) (r : Fin 8192) (i : Fin 1024 × Fin 256) : EReal := x m c r (col b i.1) * (y m c r i.2)

theorem step (t : Fin cfg0.N) (v : FVec Ideal S1024x256 .f32) (i : Fin 1024 × Fin 256) :
    (k0_pay2 (F := Ideal) (iblk m c 1 t) v (iblk m c 0 t) : FVec Ideal S1024x256 .f32) (ix2 i.1 i.2) = v (ix2 i.1 i.2) + ∑ k : Fin 1024, T m c (t.val / 8) (part t.val k) i :=
  (p2 _ _ _ _ _).trans (congrArg (v (ix2 i.1 i.2) + ·) (Finset.sum_congr rfl fun k _ => by rw [i0, i1]))

set_option maxHeartbeats 2000000 in
theorem acc (t : Fin cfg0.N) (ht : t.val % 8 = 7) (p : Fin 1024) (q : Fin 256) :
    ((outsAt0 m c t.val t.isLt).2 (ix2 p q) : EReal) = ∑ r : Fin 8192, T m c (t.val / 8) r (p, q) := by
  refine sum_rows (fun n h (i : Fin 1024 × Fin 256) => (outsAt0 m c n h).2 (ix2 i.1 i.2)) (T m c) (fun t h0 i => ?_) (fun t h0 i => ?_) t ht (p, q)
  · have h1 : ¬t.val % 8 = 7 := by omega
    rw [outsAt0_A m c t h0 h1]
    frame_out
    exact (step m c t _ i).trans (congrArg₂ (· + ·) (p1 _ _) rfl)
  · by_cases h1 : t.val % 8 = 7
    · rw [outsAt0_C m c t h0 h1]
      frame_out
      simp only [read_unread_whole]
      exact step m c t _ i
    · rw [outsAt0_B m c t h0 h1]
      frame_out
      simp only [read_unread_whole]
      exact step m c t _ i

set_option maxHeartbeats 2000000 in
theorem out (t : Fin cfg0.N) (ht : t.val % 8 = 7) (p : Fin 1024) (q : Fin 256) :
    ((outsAt0 m c t.val t.isLt).1 (ix2 p q) : EReal) = ∑ r : Fin 8192, T m c (t.val / 8) r (p, q) := by
  refine Eq.trans ?_ (acc m c t ht p q)
  rw [outsAt0_C m c t (by omega) ht]
  frame_out
  rfl

set_option maxHeartbeats 2000000 in
/-- The call's result. -/
theorem final : (dats m 0 c).arrAt 2 cfg0.N = (fun y' => ∑ r : Fin 8192, x m c r (y' 0) * (y m c r (y' 1)) : FVec Ideal S1024x256 .bf16) := by
  refine (dats m 0 c).arrAt_eq_of_covers 2 _ (by decide +kernel) fun t hf y => ?_
  have ht : t.val % 8 = 7 := (flush0_2 t).mp hf
  have hN : t.val < 8 := t.isLt
  blk_simp
  rw [after0_2]
  idx_vars y
  refine (out m c t ht y0 y1).trans ?_
  rw [show ((View.whole main_v0).slice (win0_2.rect t)).emb (ix2 y0 y1) = ix2 (col (t.val / 8) y0) y1 from by blk_ext [idx t]]
  rfl

/-! ## The claims -/

theorem frame_ideal : Cert.quiescent_Kernel8Ideal := fun m ρ _ => frame m ρ

theorem frame_bits : Cert.quiescent_Kernel8 := by
  have h := fun m ρ (_ : True) => frame (F := Bits) m ρ
  exact cast (by sl_kernel_rfl) h

theorem frame_ref : Cert.quiescent_Reference8Ideal := fun m g _ =>
  (θ_run _ _ _).mono (fun r h => And.intro (fun c => (h c).2) (sem_eq_zero_of_no_sems rfl r.2))
    (Cert.Reference8Ideal.Value.run (F := Ideal) m g)

theorem value : Cert.algebraic_Kernel8Ideal_Reference8Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference8Ideal.Tn.ref _ _).trans (by rw [(h c).1, (h c).2]; exact (final m c).symm)), (k c).2⟩)
      (Cert.Reference8Ideal.Value.run (F := Ideal) m' g')

end Cert.Kernel8Ideal.Tn

end
-- ==== Proof.Tn9.lean ====
module

public import proofs.«01_k».proof.Defs
public import proofs.«01_k».proof.Proof.Tn
public import proofs.«01_k».proof.Proof.Gen.Kernel9
public import proofs.«01_k».proof.Proof.Gen.Kernel9Ideal.Frame
public import proofs.«01_k».proof.Proof.Gen.Reference9Ideal
public import proofs.«01_k».proof.Proof.Gen.Reference9Ideal.Run
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent

/-! The gradient of the pooling branch's matrices. -/

@[expose] public section

set_option maxRecDepth 16384

noncomputable section

namespace Cert.Tn

/-- Column `q` of the group that column `p` belongs to. -/
abbrev gcol (p : Fin 1024) (q : Fin 256) : Fin 1024 := ⟨p.val / 256 * 256 + q.val, by omega⟩

end Cert.Tn

namespace Cert.Reference9Ideal.Tn

open Idealize.ShloMosaic Cert.Reference9Ideal Cert.Reference9Ideal.Gen

/-- The reference's result, entry by entry. -/
theorem ref (a b : FVec Ideal S8192x1024 .bf16) :
    (truncf (F := Ideal) .bf16 (shapeCast S1024x256 (transpose S4x256x256 [0, 2, 1] (Host.dotGeneral (F := Ideal) (φ₁ := .f32) (φ₂ := .f32) dot_S4x256x8192_S8192x4x256_S4x256x256_2_0_1_2_0_1 none (transpose S4x256x8192 [1, 2, 0] (shapeCast S8192x4x256 (extf (F := Ideal) (φ := .bf16) .f32 b bitsLt_bf16_f32) shapeCasts_S8192x1024_S8192x4x256) transposes_S8192x4x256_S4x256x8192_1_2_0) (shapeCast S8192x4x256 (extf (F := Ideal) (φ := .bf16) .f32 a bitsLt_bf16_f32) shapeCasts_S8192x1024_S8192x4x256)) transposes_S4x256x256_S4x256x256_0_2_1) shapeCasts_S4x256x256_S1024x256) bitsLt_bf16_f32 : FVec Ideal S1024x256 .bf16)
      = fun y' => ∑ r : Fin 8192, (a (ix2 r (y' 0)) : EReal) * ((b (ix2 r (Cert.Tn.gcol (y' 0) (y' 1))) : EReal)) := by
  funext y'
  idx_vars y'
  pointwise []
  exact Finset.sum_congr rfl fun _ _ => mul_comm _ _

end Cert.Reference9Ideal.Tn

namespace Cert.Kernel9Ideal.Tn

open Idealize.ShloMosaic Idealize.ShloMosaic.TcCoe Idealize.SL.Sem
open Cert.Kernel9Ideal Cert.Kernel9Ideal.Gen Cert.Tn

variable (m : (ℓ : Loc nD τ sig) → Buf (Elt Ideal) ℓ) (c : Dev nD)

/-- The two arrays the call multiplies. -/
abbrev x (r : Fin 8192) (p : Fin 1024) : EReal := (m ((c : Thread nD τ).loc main_arg0) : FVec Ideal S8192x1024 .bf16) (ix2 r p)
abbrev y (r : Fin 8192) (q : Fin 1024) : EReal := (m ((c : Thread nD τ).loc main_arg1) : FVec Ideal S8192x1024 .bf16) (ix2 r q)

theorem idx : ∀ t : Fin cfg0.N, win0_0.index t = ![t.val % 8, 0] ∧ win0_1.index t = ![t.val % 8, 0] ∧ win0_2.index t = ![0, 0] :=
  (by decide +kernel : ∀ t : Fin grid0.N, _)

theorem i0 (t : Fin cfg0.N) (k p : Fin 1024) : (iblk m c 0 t : FVec Ideal S1024x1024 .bf16) (ix2 k p) = x m c (part t.val k) p := by
  refine Eq.trans (?_ : _ = (V m c main_arg0 : FVec Ideal S8192x1024 .bf16) (ix2 (part t.val k) p)) (congrFun (V_main_arg0 m c) _)
  blk_ext [iblk, idx t]

theorem i1 (t : Fin cfg0.N) (k q : Fin 1024) : (iblk m c 1 t : FVec Ideal S1024x1024 .bf16) (ix2 k q) = y m c (part t.val k) q := by
  refine Eq.trans (?_ : _ = (V m c main_arg1 : FVec Ideal S8192x1024 .bf16) (ix2 (part t.val k) q)) (congrFun (V_main_arg1 m c) _)
  blk_ext [iblk, idx t]

theorem p3 (p : Fin 1024) (q : Fin 256) : (k0_pay3 (F := Ideal) : FVec Ideal S1024x256 .f32) (ix2 p q) = (0 : EReal) := Ideal.ofBits_zero_f32

theorem p1 (v : FVec Ideal S256x256 .f32) (a b : FVec Ideal S1024x256 .bf16) (p q : Fin 256) :
    (k0_pay1 (F := Ideal) v a b : FVec Ideal S256x256 .f32) (ix2 p q) = v (ix2 p q) + ∑ k : Fin 1024, a (ix2 k p) * b (ix2 k q) := by
  pointwise [k0_pay1]

/-- The four groups' stores of one point, over what the buffer held. -/
abbrev pcs (v : FVec Ideal S1024x256 .f32) (a b : FVec Ideal S1024x1024 .bf16) : List (View.Piece (Elt Ideal) S1024x256 .f32) :=
  [⟨Rect.unit (s := S1024x256) ![768, 0] ![256, 256] inb_S1024x256_S256x256_768_0,
      k0_pay1 (F := Ideal) (View.ld (Val := Elt Ideal) (S := S1024x256) (e' := .f32) v (Rect.unit (s := S1024x256) ![768, 0] ![256, 256] inb_S1024x256_S256x256_768_0))
        (View.ld (Val := Elt Ideal) (S := S1024x1024) (e' := .bf16) a (Rect.unit (s := S1024x1024) ![0, 768] ![1024, 256] inb_S1024x1024_S1024x256_0_768))
        (View.ld (Val := Elt Ideal) (S := S1024x1024) (e' := .bf16) b (Rect.unit (s := S1024x1024) ![0, 768] ![1024, 256] inb_S1024x1024_S1024x256_0_768))⟩,
    ⟨Rect.unit (s := S1024x256) ![512, 0] ![256, 256] inb_S1024x256_S256x256_512_0,
      k0_pay6 (F := Ideal) (View.ld (Val := Elt Ideal) (S := S1024x256) (e' := .f32) v (Rect.unit (s := S1024x256) ![512, 0] ![256, 256] inb_S1024x256_S256x256_512_0))
        (View.ld (Val := Elt Ideal) (S := S1024x1024) (e' := .bf16) a (Rect.unit (s := S1024x1024) ![0, 512] ![1024, 256] inb_S1024x1024_S1024x256_0_512))
        (View.ld (Val := Elt Ideal) (S := S1024x1024) (e' := .bf16) b (Rect.unit (s := S1024x1024) ![0, 512] ![1024, 256] inb_S1024x1024_S1024x256_0_512))⟩,
    ⟨Rect.unit (s := S1024x256) ![256, 0] ![256, 256] inb_S1024x256_S256x256_256_0,
      k0_pay5 (F := Ideal) (View.ld (Val := Elt Ideal) (S := S1024x256) (e' := .f32) v (Rect.unit (s := S1024x256) ![256, 0] ![256, 256] inb_S1024x256_S256x256_256_0))
        (View.ld (Val := Elt Ideal) (S := S1024x1024) (e' := .bf16) a (Rect.unit (s := S1024x1024) ![0, 256] ![1024, 256] inb_S1024x1024_S1024x256_0_256))
        (View.ld (Val := Elt Ideal) (S := S1024x1024) (e' := .bf16) b (Rect.unit (s := S1024x1024) ![0, 256] ![1024, 256] inb_S1024x1024_S1024x256_0_256))⟩,
    ⟨Rect.unit (s := S1024x256) ![0, 0] ![256, 256] inb_S1024x256_S256x256_0_0,
      k0_pay4 (F := Ideal) (View.ld (Val := Elt Ideal) (S := S1024x256) (e' := .f32) v (Rect.unit (s := S1024x256) ![0, 0] ![256, 256] inb_S1024x256_S256x256_0_0))
        (View.ld (Val := Elt Ideal) (S := S1024x1024) (e' := .bf16) a (Rect.unit (s := S1024x1024) ![0, 0] ![1024, 256] inb_S1024x1024_S1024x256_0_0))
        (View.ld (Val := Elt Ideal) (S := S1024x1024) (e' := .bf16) b (Rect.unit (s := S1024x1024) ![0, 0] ![1024, 256] inb_S1024x1024_S1024x256_0_0))⟩]

/-- What they leave. -/
abbrev next (v : FVec Ideal S1024x256 .f32) (a b : FVec Ideal S1024x1024 .bf16) : FVec Ideal S1024x256 .f32 :=
  fun y => v y + ∑ k : Fin 1024, a (ix2 k (y 0)) * b (ix2 k (gcol (y 0) (y 1)))

theorem grp (o : ℕ) (ho : o % 256 = 0) (v : FVec Ideal S1024x256 .f32) (a b : FVec Ideal S1024x1024 .bf16) (h) (h') (i : S256x256.Idx) :
    (k0_pay1 (F := Ideal) (View.ld (Val := Elt Ideal) (S := S1024x256) (e' := .f32) v (Rect.unit (s := S1024x256) ![o, 0] ![256, 256] h))
      (View.ld (Val := Elt Ideal) (S := S1024x1024) (e' := .bf16) a (Rect.unit (s := S1024x1024) ![0, o] ![1024, 256] h'))
      (View.ld (Val := Elt Ideal) (S := S1024x1024) (e' := .bf16) b (Rect.unit (s := S1024x1024) ![0, o] ![1024, 256] h')) : FVec Ideal S256x256 .f32) i
      = next v a b ((Rect.unit (s := S1024x256) ![o, 0] ![256, 256] h).emb i) := by
  idx_vars i
  rw [p1]
  have e : ∀ k, (Rect.unit (s := S1024x1024) ![0, o] ![1024, 256] h').idx (ix2 k i0) = ix2 k ((Rect.unit (s := S1024x256) ![o, 0] ![256, 256] h).emb (ix2 i0 i1) 0) := fun k => by
    funext d; fin_cases d <;> refine Fin.ext ?_
    · show 0 + 1 * _ = _; simp
    · rfl
  have e' : ∀ k, (Rect.unit (s := S1024x1024) ![0, o] ![1024, 256] h').idx (ix2 k i1) = ix2 k (gcol ((Rect.unit (s := S1024x256) ![o, 0] ![256, 256] h).emb (ix2 i0 i1) 0) ((Rect.unit (s := S1024x256) ![o, 0] ![256, 256] h).emb (ix2 i0 i1) 1)) := fun k => by
    funext d; fin_cases d <;> refine Fin.ext ?_
    · show 0 + 1 * _ = _; simp
    · show o + 1 * i1.val = (o + 1 * i0.val) / 256 * 256 + (0 + 1 * i1.val); omega
  exact congrArg₂ (· + ·) rfl (Finset.sum_congr rfl fun k _ => congrArg₂ (· * ·) (congrArg a (e k)) (congrArg b (e' k)))

theorem left (v : FVec Ideal S1024x256 .f32) (a b : FVec Ideal S1024x1024 .bf16) (L : List (View.Piece (Elt Ideal) S1024x256 .f32)) (y : S1024x256.Idx) :
    View.canon (pcs v a b ++ L) y = next v a b y := by
  have hp : View.PiecesOf (next v a b) (pcs v a b) :=
    ⟨grp 768 rfl v a b _ _, grp 512 rfl v a b _ _, grp 256 rfl v a b _ _, grp 0 rfl v a b _ _, trivial⟩
  exact View.canon_append_of_piecesOf _ L _ hp y (View.cover_of_tiledL (pcs v a b) S256x256.size (by sl_kernel_rfl) y)

/-- What a load of one group's rows reads after the first point's stores: a store of other rows, or the fill. -/
theorem skip (o o' : ℕ) (hne : o + 256 ≤ o') (h) (h') (w : FVec Ideal S256x256 .f32) (L : List (View.Piece (Elt Ideal) S1024x256 .f32)) :
    (View.whole cc0_scratch0).readCov (Val := Elt Ideal) (⟨Rect.unit (s := S1024x256) ![o, 0] ![256, 256] h, w⟩ :: L) (Rect.unit (s := S1024x256) ![o', 0] ![256, 256] h').toLoadRect
      = (View.whole cc0_scratch0).readCov (Val := Elt Ideal) L (Rect.unit (s := S1024x256) ![o', 0] ![256, 256] h').toLoadRect := by
  rw [View.readCov_eq_canon', View.readCov_eq_canon']
  funext j
  refine View.canon_cons_of_not_mem _ L fun hm => ?_
  obtain ⟨x, hx⟩ := (Rect.unit (s := S1024x256) ![o, 0] ![256, 256] h).exists_idx_of_mem hm
  have e : o + 1 * (x 0).val = o' + 1 * (j 0).val := congrArg (fun y : S1024x256.Idx => (y 0).val) hx
  have hx0 : (x 0).val < 256 := (x 0).isLt
  omega

theorem fill (o : ℕ) (h) (h') (w : FVec Ideal S1024x256 .f32) :
    (View.whole cc0_scratch0).readCov (Val := Elt Ideal) [⟨Rect.unit (s := S1024x256) ![0, 0] ![1024, 256] h, w⟩] (Rect.unit (s := S1024x256) ![o, 0] ![256, 256] h').toLoadRect
      = View.ld (Val := Elt Ideal) (S := S1024x256) (e' := .f32) w (Rect.unit (s := S1024x256) ![o, 0] ![256, 256] h') :=
  View.readCov_fill _ _ _ _ _ (by decide)

theorem p2 (v : FVec Ideal S1024x256 .f32) (p : Fin 1024) (q : Fin 256) : (k0_pay2 (F := Ideal) v : FVec Ideal S1024x256 .bf16) (ix2 p q) = v (ix2 p q) := rfl

/-- What row `r` adds to the gradient. -/
abbrev T (b : ℕ) (r : Fin 8192) (i : Fin 1024 × Fin 256) : EReal := x m c r i.1 * y m c r (gcol i.1 i.2)

theorem step (t : Fin cfg0.N) (v : FVec Ideal S1024x256 .f32) (i : Fin 1024 × Fin 256) :
    next v (iblk m c 0 t) (iblk m c 1 t) (ix2 i.1 i.2) = v (ix2 i.1 i.2) + ∑ k : Fin 1024, T m c (t.val / 8) (part t.val k) i :=
  congrArg (v (ix2 i.1 i.2) + ·) (Finset.sum_congr rfl fun k _ => congrArg₂ (· * ·) (i0 m c t k _) (i1 m c t k _))

set_option maxHeartbeats 4000000 in
theorem acc (t : Fin cfg0.N) (ht : t.val % 8 = 7) (p : Fin 1024) (q : Fin 256) :
    ((outsAt0 m c t.val t.isLt).2 (ix2 p q) : EReal) = ∑ r : Fin 8192, T m c (t.val / 8) r (p, q) := by
  refine sum_rows (fun n h (i : Fin 1024 × Fin 256) => (outsAt0 m c n h).2 (ix2 i.1 i.2)) (T m c) (fun t h0 i => ?_) (fun t h0 i => ?_) t ht (p, q)
  · have h1 : ¬t.val % 8 = 7 := by omega
    rw [outsAt0_A m c t h0 h1]
    frame_out
    rw [skip 512 768 (by decide), skip 256 768 (by decide), skip 0 768 (by decide), fill 768, skip 256 512 (by decide), skip 0 512 (by decide), fill 512,
      skip 0 256 (by decide), fill 256, fill 0]
    exact (left (k0_pay3 (F := Ideal)) _ _ _ _).trans ((step m c t _ i).trans (congrArg₂ (· + ·) (p3 _ _) rfl))
  · by_cases h1 : t.val % 8 = 7
    · rw [outsAt0_C m c t h0 h1]
      frame_out
      simp only [read_unread_whole]
      exact (left _ _ _ [] _).trans (step m c t _ i)
    · rw [outsAt0_B m c t h0 h1]
      frame_out
      simp only [read_unread_whole]
      exact (left _ _ _ [] _).trans (step m c t _ i)

set_option maxHeartbeats 2000000 in
theorem out (t : Fin cfg0.N) (ht : t.val % 8 = 7) (p : Fin 1024) (q : Fin 256) :
    ((outsAt0 m c t.val t.isLt).1 (ix2 p q) : EReal) = ∑ r : Fin 8192, T m c (t.val / 8) r (p, q) := by
  refine Eq.trans ?_ (acc m c t ht p q)
  rw [outsAt0_C m c t (by omega) ht]
  frame_out
  rw [View.readCov_eq_canon']
  refine (p2 _ p q).trans (congrArg (View.canon _) (funext fun d => ?_))
  fin_cases d <;> refine Fin.ext ?_ <;> show 0 + 1 * _ = _ <;> simp

set_option maxHeartbeats 2000000 in
/-- The call's result. -/
theorem final : (dats m 0 c).arrAt 2 cfg0.N = (fun y' => ∑ r : Fin 8192, x m c r (y' 0) * y m c r (gcol (y' 0) (y' 1)) : FVec Ideal S1024x256 .bf16) := by
  refine (dats m 0 c).arrAt_eq_of_covers 2 _ (by decide +kernel) fun t hf y => ?_
  have ht : t.val % 8 = 7 := (flush0_2 t).mp hf
  blk_simp
  rw [after0_2]
  idx_vars y
  refine (out m c t ht y0 y1).trans ?_
  rw [show ((View.whole main_v0).slice (win0_2.rect t)).emb (ix2 y0 y1) = ix2 y0 y1 from by blk_ext [idx t]]
  rfl

/-! ## The claims -/

theorem frame_ideal : Cert.quiescent_Kernel9Ideal := fun m ρ _ => frame m ρ

theorem frame_bits : Cert.quiescent_Kernel9 := by
  have h := fun m ρ (_ : True) => frame (F := Bits) m ρ
  exact cast (by sl_kernel_rfl) h

theorem frame_ref : Cert.quiescent_Reference9Ideal := fun m g _ =>
  (θ_run _ _ _).mono (fun r h => And.intro (fun c => (h c).2) (sem_eq_zero_of_no_sems rfl r.2))
    (Cert.Reference9Ideal.Value.run (F := Ideal) m g)

theorem value : Cert.algebraic_Kernel9Ideal_Reference9Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference9Ideal.Tn.ref _ _).trans (by rw [(h c).1, (h c).2]; exact (final m c).symm)), (k c).2⟩)
      (Cert.Reference9Ideal.Value.run (F := Ideal) m' g')

end Cert.Kernel9Ideal.Tn

end
-- ==== Proof.InFwdRunA.lean ====
module

public import proofs.«01_k».proof.Proof.Gen.Kernel10Ideal.Frame.Runs

@[expose] public section

set_option maxRecDepth 16384

noncomputable section

namespace Cert.Kernel10Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F]

local notation "𝕄" => MT nD τ sig Unit (Elt F) ℕ (Pipeline.UD sig nD τ) ℕ

set_option maxHeartbeats 8000000 in
set_option sl_exec.dmaWindow true in
set_option sl_exec.dmaWindowSet true in
set_option sl_exec.rejoinHeartbeats 1000000 in
/-- The body at a point that fetches the two matrices: with every staging buffer whole, it runs to the end, and the
    pieces its stores leave in each output and in each scratch are the components of the tuple. -/
def runA (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x5120 .bf16) (harg4 : arg4.IsWhole) (arg5 : Memref sig .tc .vmem S5120x1024 .bf16) (harg5 : arg5.IsWhole) (hc0 : cond0_0 i)
    (x0 : Vec F S512x1024 .f32) (x1 : Vec F S1x1024 .f32) (fh0 : HbBuf0 (F := F) c hbM0_0) :
    Σ' (L2 : List (View.Piece (Elt F) S512x5120 .bf16)), { LS0 : List (View.Piece (Elt F) S5120x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_inproj_fwd i arg1 harg1 arg2 harg2 (Memref.whole main_v3) (Memref.isWhole_whole _) arg4 harg4 arg5 harg5 cc0_scratch1) K } := by
  refine ⟨?_, ?_, fun W K => ?run⟩
  case run =>
    simp only [cc0_inproj_fwd_eq_skeleton]; unfold cc0_inproj_fwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%d2, %f2, -, H2⟩, ⟨%ds0, %fs0, -, HS0⟩, Hq0, Hq1, Hq2, Hq3, Hq4, Hq5, Hq6, Hq7, Hh0, HW, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.Kernel10Ideal.Body

end
-- ==== Proof.InFwdRunB.lean ====
module

public import proofs.«01_k».proof.Proof.InFwdRunA

@[expose] public section

set_option maxRecDepth 16384

noncomputable section

namespace Cert.Kernel10Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F]

local notation "𝕄" => MT nD τ sig Unit (Elt F) ℕ (Pipeline.UD sig nD τ) ℕ

set_option maxHeartbeats 8000000 in
/-- The body at a point that finds the two matrices in the scratch: as `runA`, over the scratch contents and the
    accumulated outputs the point before left. -/
def runB (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x5120 .bf16) (harg4 : arg4.IsWhole) (arg5 : Memref sig .tc .vmem S5120x1024 .bf16) (harg5 : arg5.IsWhole) (hc0 : ¬cond0_0 i)
    (x0 : Vec F S512x1024 .f32) (x1 : Vec F S1x1024 .f32) (xs0 : Vec F S5120x1024 .bf16) (fh0 : HbBuf0 (F := F) c hbM0_0) :
    Σ' (L2 : List (View.Piece (Elt F) S512x5120 .bf16)), { LS0 : List (View.Piece (Elt F) S5120x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ owns (c : Thread nD τ) arg5 fullShare xs0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ owns (c : Thread nD τ) arg5 fullShare xs0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_inproj_fwd i arg1 harg1 arg2 harg2 (Memref.whole main_v3) (Memref.isWhole_whole _) arg4 harg4 arg5 harg5 cc0_scratch1) K } := by
  refine ⟨?_, [], fun W K => ?run⟩
  case run =>
    simp only [cc0_inproj_fwd_eq_skeleton]; unfold cc0_inproj_fwd_skel
    simp only [k0_part4_eq_skeleton]
    unfold owns
    iintro ⟨⟨%f0, %hf0, H0⟩, ⟨%f1, %hf1, H1⟩, ⟨%d2, %f2, -, H2⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg5.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.Kernel10Ideal.Body

end
-- ==== Proof.InFwdFrame.lean ====
module

public import proofs.«01_k».proof.Proof.InFwdRunB
public import Idealize.ShloMosaic.Lib.Claim

@[expose] public section

set_option maxRecDepth 16384

noncomputable section

namespace Cert.Kernel10Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the staging buffers of the outputs, and then the scratch buffers, hold after a point. -/
abbrev Outs (F : FTy → Type) [FloatOps F] : Type :=
  Vec F S512x5120 .bf16 × Vec F S5120x1024 .bf16

/-- The first case's run, at point `t`. -/
abbrev atA (c : Dev nD) (t : Fin cfg0.N) (h0 : t.val % 16 = 0) :=
  runA c (grid0.coords t) (ms0_0 t) (hs0_0 t) (ms0_1 t) (hs0_1 t) (ms0_2 t) (hs0_2 t) scM0_0 (Memref.isWhole_whole _)
  ((hcond0_0 t).mpr h0) (iblk m c 0 t) (iblk m c 1 t) (V m c main_v3)

/-- The second case's run, at point `t`, over what the point before left. -/
abbrev atB (c : Dev nD) (t : Fin cfg0.N) (h0 : ¬t.val % 16 = 0) (p : Outs F) :=
  runB c (grid0.coords t) (ms0_0 t) (hs0_0 t) (ms0_1 t) (hs0_1 t) (ms0_2 t) (hs0_2 t) scM0_0 (Memref.isWhole_whole _)
  (fun h => h0 ((hcond0_0 t).mp h)) (iblk m c 0 t) (iblk m c 1 t) p.2 (V m c main_v3)

section

variable (c : Dev nD) (t : Fin cfg0.N) (h0 : t.val % 16 = 0)

theorem coverA_2 (y : S512x5120.Idx) :
    ∃ pc ∈ (atA m c t h0).1, y ∈ pc.1.set :=
  View.cover_of_tiledL (atA m c t h0).1 S512x1280.size (by sl_kernel_rfl) y

def outA_2 : Vec F S512x5120 .bf16 :=
  VO0_2.read (Elt F) (VO0_2.writes (Elt F) VO0_2.junk (atA m c t h0).1)

theorem scoverA_0 (y : S5120x1024.Idx) :
    ∃ pc ∈ (atA m c t h0).2.1, y ∈ pc.1.set :=
  View.cover_of_tiledL (atA m c t h0).2.1 S640x1024.size (by sl_kernel_rfl) y

def soutA_0 : Vec F S5120x1024 .bf16 :=
  VS0_0.read (Elt F) (VS0_0.writes (Elt F) VS0_0.junk (atA m c t h0).2.1)

/-- All of what the case leaves. -/
abbrev stepA : Outs F :=
  (outA_2 m c t h0, soutA_0 m c t h0)

end

section

variable (c : Dev nD) (t : Fin cfg0.N) (h0 : ¬t.val % 16 = 0) (p : Outs F)

theorem coverB_2 (y : S512x5120.Idx) :
    ∃ pc ∈ (atB m c t h0 p).1, y ∈ pc.1.set :=
  View.cover_of_tiledL (atB m c t h0 p).1 S512x1280.size (by sl_kernel_rfl) y

def outB_2 : Vec F S512x5120 .bf16 :=
  VO0_2.read (Elt F) (VO0_2.writes (Elt F) VO0_2.junk (atB m c t h0 p).1)

def soutB_0 : Vec F S5120x1024 .bf16 :=
  p.2

/-- All of what the case leaves. -/
abbrev stepB : Outs F :=
  (outB_2 m c t h0 p, soutB_0 p)

end

/-- What the buffers hold after the body at position `n`: the case of that point, the second one over what position
    `n - 1` left. -/
def outsAt0 (c : Dev nD) : (n : ℕ) → n < cfg0.N → Outs F
  | 0, hn => stepA m c ⟨0, hn⟩ (Nat.zero_mod _)
  | n + 1, hn =>
    if h0 : (n + 1) % 16 = 0 then stepA m c ⟨n + 1, hn⟩ h0
    else stepB m c ⟨n + 1, hn⟩ h0 (outsAt0 c n (Nat.lt_of_succ_lt hn))

theorem outsAt0_A (c : Dev nD) (t : Fin cfg0.N) (h0 : t.val % 16 = 0) :
    outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt =
      stepB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The part of the invariant no point changes: the generator register, the copies' counters at zero, the operand in
    the large memory. -/
abbrev Rest (c : Dev nD) : sProp 𝕄 :=
  iprop((∃ r, prngReg c r) ∗ iprop(semVal ((c : Thread nD τ), SemLoc.dma 5) 0 ∗ semVal ((c : Thread nD τ), SemLoc.dma
  6) 0 ∗ semVal ((c : Thread nD τ), SemLoc.dma 7) 0 ∗ semVal ((c : Thread nD τ), SemLoc.dma 8) 0 ∗ semVal ((c :
  Thread nD τ), SemLoc.dma 9) 0 ∗ semVal ((c : Thread nD τ), SemLoc.dma 10) 0 ∗ semVal ((c : Thread nD τ), SemLoc.dma
  11) 0 ∗ semVal ((c : Thread nD τ), SemLoc.dma 12) 0) ∗ iprop(hbPt0 c hbM0_0 (V m c main_v3)))

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2)) ∗ Rest m c)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2)) ∗ Rest m c) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ Rest m c) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      (try unfold stepA); unfold outA_2 soutA_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩⟩
      iapply ((atA m c t h0).2.2 W _)
      isplitl [H0]; iexact H0; isplitl [H1]; iexact H1
      isplitl [H2]; · iexists _; iexact H2
      isplitl [HS0]; iexact HS0; isplitl [Hq0]; iexact Hq0; isplitl [Hq1]; iexact Hq1; isplitl [Hq2]; iexact Hq2
      isplitl [Hq3]; iexact Hq3; isplitl [Hq4]; iexact Hq4; isplitl [Hq5]; iexact Hq5; isplitl [Hq6]; iexact Hq6
      isplitl [Hq7]; iexact Hq7; isplitl [Hh0]; iexact Hh0; isplitl [HW]; iexact HW
      iintro ⟨H0, H1, ⟨%e2, H2⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scoverA_0 m c t h0)
        isplitl [Hg]
        · iexact Hg
        isplitl [Hq0 Hq1 Hq2 Hq3 Hq4 Hq5 Hq6 Hq7]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6
          iexact Hq7
        iexact Hh0
      isplitl [HW']
      · iexists W'; isplitr; · ipureintro; exact fun _ _ => Or.inl trivial
        iexact HW'
      isplitl [H0]; iexact H0; isplitl [H1]; iexact H1
      unfold owns; iexists _; isplitr
      swap; · iexact H2
      ipureintro; exact View.read_writes_of_cover _ _ _ _ _ (coverA_2 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      (try unfold stepB); unfold outB_2 soutB_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩⟩
      iapply ((atB m c t h0 (outsAt0 m c (t.val - 1) (Nat.lt_of_le_of_lt (Nat.sub_le _ _) t.isLt))).2.2 W _)
      isplitl [H0]; iexact H0; isplitl [H1]; iexact H1
      isplitl [H2]; · iexists _; iexact H2
      isplitl [HS0]; iexact HS0; isplitl [Hq0]; iexact Hq0; isplitl [Hq1]; iexact Hq1; isplitl [Hq2]; iexact Hq2
      isplitl [Hq3]; iexact Hq3; isplitl [Hq4]; iexact Hq4; isplitl [Hq5]; iexact Hq5; isplitl [Hq6]; iexact Hq6
      isplitl [Hq7]; iexact Hq7; isplitl [Hh0]; iexact Hh0; isplitl [HW]; iexact HW
      iintro ⟨H0, H1, ⟨%e2, H2⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6
          iexact Hq7
        iexact Hh0
      isplitl [HW']
      · iexists W'; isplitr; · ipureintro; exact fun _ _ => Or.inl trivial
        iexact HW'
      isplitl [H0]; iexact H0; isplitl [H1]; iexact H1
      unfold owns; iexists _; isplitr
      swap; · iexact H2
      ipureintro; exact View.read_writes_of_cover _ _ _ _ _ (coverB_2 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; iexact Hg
  isplitl [Hq0 Hq1 Hq2 Hq3 Hq4 Hq5 Hq6 Hq7]
  · isplitl [Hq0]; · iexact Hq0
    isplitl [Hq1]; iexact Hq1; isplitl [Hq2]; iexact Hq2; isplitl [Hq3]; iexact Hq3; isplitl [Hq4]; iexact Hq4
    isplitl [Hq5]; iexact Hq5; isplitl [Hq6]; iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel10Ideal.Body

end
-- ==== Proof.Rms.lean ====
module

public import proofs.«01_k».proof.Proof.Rows
public import Idealize.ShloMosaic.Lib.Claim

/-! The root mean square norm of a row, over the extended reals. -/

@[expose] public section

noncomputable section

namespace Cert.Rms

open Idealize.ShloMosaic Cert.Rows

/-- Row `r` of a matrix. -/
abbrev row {n k : ℕ} (x : (⟨2, ![n, k]⟩ : Shape).Idx → EReal) (r : Fin n) : Fin k → EReal := fun l => x (ix2 r l)

/-- A vector as a row. -/
abbrev vec {k : ℕ} (x : (⟨1, ![k]⟩ : Shape).Idx → EReal) : Fin k → EReal := fun l => x (ix1 l)

/-- The norm's epsilon as the programs write it. -/
abbrev eps6 : EReal := Ideal.ofBits .f32 0x358637BD#32

/-- The mean square of a row, with epsilon. -/
def ms (x : Fin 1024 → EReal) : EReal := Ideal.div (∑ k, x k * x k) len + eps6
/-- The reciprocal root of the mean square. -/
def rr (x : Fin 1024 → EReal) : EReal := Ideal.rsqrt (ms x)
/-- The row normalised, before its gain. -/
def hat (x : Fin 1024 → EReal) (l : Fin 1024) : EReal := x l * rr x
/-- The row normalised, with gain `g`. -/
def nrm (x g : Fin 1024 → EReal) (l : Fin 1024) : EReal := hat x l * g l

end Cert.Rms

end
-- ==== Proof.InFwdOut.lean ====
module

public import proofs.«01_k».proof.Proof.InFwdFrame
public import proofs.«01_k».proof.Proof.Rms
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The weights the first grid point of the input projection copies into scratch, and that every point finds there. -/

@[expose] public section

set_option maxRecDepth 16384

noncomputable section

namespace Cert.Kernel10Ideal.Body

open Idealize.ShloMosaic Idealize.ShloMosaic.TcCoe Idealize.SL.Sem
open Idealize.ShloMosaic.Pipeline (Dat)
open Cert.Kernel10Ideal Cert.Kernel10Ideal.Gen Cert.Rms

variable (m : (ℓ : Loc nD τ sig) → Buf (Elt Ideal) ℓ) (c : Dev nD)

/-- The activations. -/
abbrev kH : FVec Ideal S8192x1024 .f32 := m ((c : Thread nD τ).loc main_arg0)
/-- The norm's gain. -/
abbrev kG : FVec Ideal S1024 .f32 := m ((c : Thread nD τ).loc main_arg1)
/-- The weights. -/
abbrev kW : FVec Ideal S1024x5120 .f32 := m ((c : Thread nD τ).loc main_arg2)
/-- The weights transposed, as the scratch holds them. -/
def wT : FVec Ideal S5120x1024 .bf16 := fun y => kW m c (ix2 (y 1) (y 0))

theorem host_g (l : Fin 1024) : V m c main_v0 (ix2 0 l) = kG m c (ix1 l) := by
  unfold V
  simp only [hostOps0, List.flatten_cons, List.flatten_nil, List.append_nil, List.cons_append, List.nil_append]
  entry_read
  pointwise []

theorem host_w (s : Fin 8) (r : Fin 640) (l : Fin 1024) :
    V m c main_v3 (ix3 s r l) = kW m c (ix2 l ⟨s.val * 640 + r.val, by omega⟩) := by
  unfold V
  simp only [hostOps0, List.flatten_cons, List.flatten_nil, List.append_nil, List.cons_append, List.nil_append]
  entry_read
  pointwise []

/-- Shard `s` of the gathered weights. -/
abbrev shard (s : ℕ) (h : ∀ a, (![s, 0, 0] : Fin 3 → ℕ) a + S1x640x1024.size a ≤ S8x640x1024.size a) :=
  ((View.whole (κ := .tc) main_v3).slice (Rect.unit ![s, 0, 0] ![1, 640, 1024] h)).reshape S640x1024 squeezes_S1x640x1024_S640x1024.numel_eq

/-- One copy: the shard's rows land at row `o` of the scratch. -/
abbrev piece (o s : ℕ) (ho : ∀ a, (![o, 0] : Fin 2 → ℕ) a + S640x1024.size a ≤ S5120x1024.size a)
    (h : ∀ a, (![s, 0, 0] : Fin 3 → ℕ) a + S1x640x1024.size a ≤ S8x640x1024.size a) : View.Piece (Elt Ideal) S5120x1024 .bf16 :=
  ⟨Rect.unit ![o, 0] ![640, 1024] ho, ReadAs.same.apply (View.read (Elt Ideal) (shard s h) (V m c main_v3))⟩

/-- What the eight copies leave in the scratch. -/
abbrev pieces : List (View.Piece (Elt Ideal) S5120x1024 .bf16) :=
  [piece m c 4480 7 inb_S5120x1024_S640x1024_4480_0 inb_S8x640x1024_S1x640x1024_7_0_0,
   piece m c 3840 6 inb_S5120x1024_S640x1024_3840_0 inb_S8x640x1024_S1x640x1024_6_0_0,
   piece m c 3200 5 inb_S5120x1024_S640x1024_3200_0 inb_S8x640x1024_S1x640x1024_5_0_0,
   piece m c 2560 4 inb_S5120x1024_S640x1024_2560_0 inb_S8x640x1024_S1x640x1024_4_0_0,
   piece m c 1920 3 inb_S5120x1024_S640x1024_1920_0 inb_S8x640x1024_S1x640x1024_3_0_0,
   piece m c 1280 2 inb_S5120x1024_S640x1024_1280_0 inb_S8x640x1024_S1x640x1024_2_0_0,
   piece m c 640 1 inb_S5120x1024_S640x1024_640_0 inb_S8x640x1024_S1x640x1024_1_0_0,
   piece m c 0 0 inb_S5120x1024_S640x1024_0_0 inb_S8x640x1024_S1x640x1024_0_0_0]

/-- One copied piece, at one element. -/
theorem piece_at (s o : ℕ) (h) (hs : s < 8) (ho : o = s * 640)
    (x : S640x1024.Idx) (y : S5120x1024.Idx) (h0 : (y 0).val = o + (x 0).val) (h1 : (y 1).val = (x 1).val) :
    View.read (Elt Ideal) (shard s h) (V m c main_v3) x = wT m c y := by
  idx_vars x
  have hx : x0.val < 640 := x0.isLt
  show (V m c main_v3) ((Rect.unit (s := S8x640x1024) ![s, 0, 0] ![1, 640, 1024] h).emb (Shape.reshapeEquiv _ (ix2 x0 x1))) = _
  refine (congrArg (V m c main_v3) (?_ : _ = (ix3 (⟨s, hs⟩ : Fin 8) x0 x1))).trans ((host_w m c ⟨s, hs⟩ x0 x1).trans ?_)
  · refine (congrArg (Rect.emb _) (ValueIdx.reshapeEquiv_ix2_1ab _ x0 x1)).trans ?_
    funext a
    apply Fin.ext
    fin_cases a
    · show s + 1 * 0 = s; omega
    · show 0 + 1 * x0.val = x0.val; omega
    · show 0 + 1 * x1.val = x1.val; omega
  · refine congrArg (kW m c) ?_
    funext a
    apply Fin.ext
    fin_cases a
    · exact h1.symm
    · exact (congrArg (· + x0.val) ho.symm).trans h0.symm

set_option maxHeartbeats 2000000 in
theorem canon0 : View.canon (pieces m c) = wT m c := by
  funext y
  canon_tiles x h
  · exact piece_at m c 7 4480 _ (by decide) rfl x y h0 h1
  · exact piece_at m c 6 3840 _ (by decide) rfl x y h0 h1
  · exact piece_at m c 5 3200 _ (by decide) rfl x y h0 h1
  · exact piece_at m c 4 2560 _ (by decide) rfl x y h0 h1
  · exact piece_at m c 3 1920 _ (by decide) rfl x y h0 h1
  · exact piece_at m c 2 1280 _ (by decide) rfl x y h0 h1
  · exact piece_at m c 1 640 _ (by decide) rfl x y h0 h1
  · exact piece_at m c 0 0 _ (by decide) rfl x y (h0.trans (Nat.zero_add _).symm) h1

set_option maxHeartbeats 2000000 in
theorem soutA_0_eq (t : Fin cfg0.N) (h0 : t.val % 16 = 0) : soutA_0 m c t h0 = wT m c := by
  unfold soutA_0 atA
  frame_out
  exact canon0 m c

theorem stepA_0 (t : Fin cfg0.N) (h0 : t.val % 16 = 0) : (stepA m c t h0).2 = soutA_0 m c t h0 := by
  unfold stepA; dsimp only
theorem stepB_0 (t : Fin cfg0.N) (h0 : ¬ t.val % 16 = 0) (p : Outs Ideal) : (stepB m c t h0 p).2 = p.2 := by
  unfold stepB soutB_0; dsimp only

/-- The scratch after every point. -/
theorem scratch_aux (n : ℕ) : ∀ (t : Fin cfg0.N), t.val = n → (outsAt0 m c t.val t.isLt).2 = wT m c := by
  induction n with
  | zero =>
    intro t ht
    have h0 : t.val % 16 = 0 := by omega
    rw [outsAt0_A m c t h0]
    exact (stepA_0 m c t h0).trans (soutA_0_eq m c t h0)
  | succ n ih =>
    intro t ht
    by_cases h0 : t.val % 16 = 0
    · rw [outsAt0_A m c t h0]
      exact (stepA_0 m c t h0).trans (soutA_0_eq m c t h0)
    · rw [outsAt0_B m c t h0]
      exact (stepB_0 m c t h0 _).trans (ih ⟨t.val - 1, Nat.lt_of_le_of_lt (Nat.sub_le _ _) t.isLt⟩ (by show t.val - 1 = n; omega))

theorem scratch (n : ℕ) (h : n < cfg0.N) : (outsAt0 m c n h).2 = wT m c := scratch_aux m c n ⟨n, h⟩ rfl

theorem ldW (o : ℕ) (h) : (View.whole cc0_scratch0).readCov (pieces m c) (Rect.unit ![o, 0] ![1280, 1024] h).toLoadRect = View.ld (wT m c) (Rect.unit (s := S5120x1024) ![o, 0] ![1280, 1024] h) := by
  rw [View.readCov_eq_canon', canon0]
  rfl

theorem pn (x : FVec Ideal S512x1024 .f32) (g : FVec Ideal S1x1024 .f32) (r : Fin 512) (l : Fin 1024) :
    k0_pay2 (F := Ideal) x g (ix2 r l) = nrm (row x r) (row g 0) l := by
  pointwise [k0_pay2, nrm, hat, rr, ms]

theorem pz (n : FVec Ideal S512x1024 .bf16) (w : FVec Ideal S1280x1024 .bf16) (r : Fin 512) (l : Fin 1280) :
    k0_pay1 (F := Ideal) n w (ix2 r l) = ∑ k : Fin 1024, n (ix2 r k) * w (ix2 l k) := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- Row `r` of the grid point's block of 512 rows. -/
abbrev gr (t : Fin cfg0.N) (r : Fin 512) : Fin 8192 := ⟨t.val * 512 + r.val, by have := t.isLt; have : cfg0.N = 16 := rfl; omega⟩

theorem i0 (t : Fin cfg0.N) (r : Fin 512) (l : Fin 1024) : (iblk m c 0 t : FVec Ideal S512x1024 .f32) (ix2 r l) = kH m c (ix2 (gr t r) l) := by
  refine Eq.trans (?_ : _ = (V m c main_arg0 : FVec Ideal S8192x1024 .f32) (ix2 (gr t r) l)) (congrFun (V_main_arg0 m c) _)
  have hN : t.val < 16 := t.isLt
  blk_ext [iblk, idx t]

theorem i1 (t : Fin cfg0.N) (l : Fin 1024) : (iblk m c 1 t : FVec Ideal S1x1024 .f32) (ix2 0 l) = kG m c (ix1 l) := by
  refine Eq.trans (?_ : _ = (V m c main_v0 : FVec Ideal S1x1024 .f32) (ix2 0 l)) (host_g m c l)
  have hN : t.val < 16 := t.isLt
  blk_ext [iblk, idx t]

/-- The projection's element: a normalised row times a column of the weights. -/
def zed (h : FVec Ideal S8192x1024 .f32) (g : FVec Ideal S1024 .f32) (w : FVec Ideal S1024x5120 .f32) (r : Fin 8192) (l : Fin 5120) : EReal :=
  ∑ k : Fin 1024, nrm (row h r) (vec g) k * w (ix2 k l)

theorem tile (t : Fin cfg0.N) (o : ℕ) (h) (x : S512x1280.Idx) (y : S512x5120.Idx) (h0 : (y 0).val = (x 0).val) (h1 : (y 1).val = o + (x 1).val) :
    k0_pay1 (F := Ideal) (k0_pay2 (F := Ideal) (iblk m c 0 t) (iblk m c 1 t)) (View.ld (wT m c) (Rect.unit (s := S5120x1024) ![o, 0] ![1280, 1024] h)) x
      = zed (kH m c) (kG m c) (kW m c) (gr t (y 0)) (y 1) := by
  idx_vars x
  have e0 : (y 0 : Fin 512) = x0 := Fin.ext h0
  refine (pz _ _ _ _).trans (Finset.sum_congr rfl fun k _ => ?_)
  rw [pn, e0]
  congr 1
  · rw [show row (iblk m c 0 t : FVec Ideal S512x1024 .f32) x0 = row (kH m c) (gr t x0) from funext fun l => i0 m c t x0 l,
      show row (iblk m c 1 t : FVec Ideal S1x1024 .f32) 0 = vec (kG m c) from funext fun l => i1 m c t l]
  · refine congrArg (kW m c) ?_
    funext a
    apply Fin.ext
    fin_cases a
    · show 0 + 1 * k.val = k.val; omega
    · refine Eq.trans (?_ : _ = o + x1.val) h1.symm
      show o + 1 * x1.val = o + x1.val; omega

set_option maxHeartbeats 2000000 in
theorem o2 (t : Fin cfg0.N) : (outsAt0 m c t.val t.isLt).1 = (fun y => zed (kH m c) (kG m c) (kW m c) (gr t (y 0)) (y 1) : FVec Ideal S512x5120 .bf16) := by
  by_cases h0 : t.val % 16 = 0
  · rw [outsAt0_A m c t h0]
    unfold stepA outA_2 atA
    dsimp only
    frame_out

    rw [ldW m c 3840, ldW m c 2560, ldW m c 1280, ldW m c 0]
    funext y
    canon_tiles x h
    · exact tile m c t 3840 _ x y h0 h1
    · exact tile m c t 2560 _ x y h0 h1
    · exact tile m c t 1280 _ x y h0 h1
    · exact tile m c t 0 _ x y h0 (h1.trans (Nat.zero_add _).symm)
  · rw [outsAt0_B m c t h0]
    unfold stepB outB_2 atB
    dsimp only
    frame_out
    simp only [read_unread_whole]
    rw [scratch m c _ _]
    funext y
    canon_tiles x h
    · exact tile m c t 3840 _ x y h0 h1
    · exact tile m c t 2560 _ x y h0 h1
    · exact tile m c t 1280 _ x y h0 h1
    · exact tile m c t 0 _ x y h0 (h1.trans (Nat.zero_add _).symm)

set_option maxHeartbeats 2000000 in
/-- The call's result. -/
theorem final : (dats m 0 c).arrAt 2 cfg0.N = (fun y => zed (kH m c) (kG m c) (kW m c) (y 0) (y 1) : FVec Ideal S8192x5120 .bf16) := by
  refine (dats m 0 c).arrAt_eq_of_covers 2 _ (by decide +kernel) fun t hf y => ?_
  have hN : t.val < 16 := t.isLt
  blk_simp
  rw [after0_2, o2]
  idx_vars y
  rw [show ((View.whole main_v4).slice (win0_2.rect t)).emb (ix2 y0 y1) = ix2 (gr t y0) y1 from by blk_ext [idx t]]
  rfl

end Cert.Kernel10Ideal.Body

end
-- ==== Proof.InFwd.lean ====
module

public import proofs.«01_k».proof.Proof.InFwdOut
public import proofs.«01_k».proof.Proof.Gen.Kernel10
public import proofs.«01_k».proof.Proof.Gen.Reference10Ideal.Run
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The input projection: the call's result is the reference's. -/

@[expose] public section

set_option maxRecDepth 16384

noncomputable section

namespace Cert.Reference10Ideal.InFwd

open Idealize.ShloMosaic Idealize.ShloMosaic.TcCoe Idealize.SL.Sem
open Idealize.ShloMosaic.Pipeline (Dat)
open Cert.Reference10Ideal Cert.Reference10Ideal.Gen Cert.Rms

theorem ref (h : FVec Ideal S8192x1024 .f32) (g : FVec Ideal S1024 .f32) (w : FVec Ideal S1024x5120 .f32) :
    truncf (F := Ideal) .bf16 (Host.dotGeneral (F := Ideal) (φ₁ := .f32) (φ₂ := .f32) dot_S8192x1024_S1024x5120_S8192x5120_1_0_0_1_n_n none (mulf (F := Ideal) (φ := .f32) (mulf (F := Ideal) (φ := .f32) h (broadcastInDim S8192x1024 ![0, 1] bcast_S8192x1_S8192x1024_0_1 (Host.rsqrt (addf (Host.divf (broadcastInDim S8192x1 ![0] bcast_S8192_S8192x1_0 (Host.reduceAdd (mulf (F := Ideal) (φ := .f32) h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) w) bitsLt_bf16_f32
      = (fun y => Cert.Kernel10Ideal.Body.zed h g w (y 0) (y 1) : FVec Ideal S8192x5120 .bf16) := by
  funext y
  idx_vars y
  pointwise [Cert.Kernel10Ideal.Body.zed, nrm, hat, rr, ms]

end Cert.Reference10Ideal.InFwd

namespace Cert.Kernel10Ideal.Body

open Idealize.ShloMosaic Idealize.ShloMosaic.TcCoe Idealize.SL.Sem
open Cert.Kernel10Ideal Cert.Kernel10Ideal.Gen Cert.Rms

theorem frame_ideal : Cert.quiescent_Kernel10Ideal := fun m ρ _ => frame m ρ

theorem frame_bits : Cert.quiescent_Kernel10 := by
  have h := fun m ρ (_ : True) => frame (F := Bits) m ρ
  exact cast (by sl_kernel_rfl) h

theorem frame_ref : Cert.quiescent_Reference10Ideal := fun m g _ =>
  (θ_run _ _ _).mono (fun r h => And.intro (fun c => (h c).2) (sem_eq_zero_of_no_sems rfl r.2))
    (Cert.Reference10Ideal.Value.run (F := Ideal) m g)

theorem value : Cert.algebraic_Kernel10Ideal_Reference10Ideal := by
  intro m g m' g' _ h
  refine ⟨fun c => (dats m 0 c).arrAt 2 cfg0.N, ?_, ?_⟩
  · exact (θ_run _ _ _).mono (fun r k c => ⟨(k.1 c).1 2, k.2 c⟩) (θ_run_and (run_main (F := Ideal) m g) (unchanged (F := Ideal) m g))
  · exact (θ_run _ _ _).mono (fun r k c => ⟨(k c).1.trans ((Cert.Reference10Ideal.InFwd.ref _ _ _).trans (by rw [(h c).1, (h c).2.1, (h c).2.2]; exact (final m c).symm)), (k c).2⟩)
      (Cert.Reference10Ideal.Value.run (F := Ideal) m' g')

end Cert.Kernel10Ideal.Body

end
-- ==== Proof.FfnFwdRunA.lean ====
module

public import proofs.«01_k».proof.Proof.Gen.Kernel11Ideal.Frame.Runs

@[expose] public section

set_option maxRecDepth 16384

noncomputable section

namespace Cert.Kernel11Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal Cert.Kernel11Ideal.Gen

variable {F : FTy → Type} [FloatOps F]

local notation "𝕄" => MT nD τ sig Unit (Elt F) ℕ (Pipeline.UD sig nD τ) ℕ

set_option maxHeartbeats 1496000 in
set_option sl_exec.dmaWindow true in
set_option sl_exec.dmaWindowSet true in
set_option sl_exec.rejoinHeartbeats 1000000 in
/-- The body at a point that fetches the two matrices: with every staging buffer whole, it runs to the end, and the
    pieces its stores leave in each output and in each scratch are the components of the tuple. -/
def runA (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S512x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S2816x1024 .bf16) (harg10 : arg10.IsWhole) (hc0 : cond0_0 i)
    (x0 : Vec F S512x1024 .f32) (x1 : Vec F S1x1024 .f32) (fh0 : HbBuf0 (F := F) c hbM0_0) :
    Σ' (L2 : List (View.Piece (Elt F) S512x1024 .f32)), Σ' (L3 : List (View.Piece (Elt F) S512x2816 .bf16)), Σ' (L4 : List (View.Piece (Elt F) S512x2816 .bf16)), Σ' (L5 : List (View.Piece (Elt F) S512x1024 .bf16)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 (Memref.whole main_v7) (Memref.isWhole_whole _) arg4 harg4 arg5 harg5 arg6 harg6 arg7 harg7 arg8 harg8 arg9 harg9 arg10 harg10 cc0_scratch3) K } := by
  refine ⟨?_, ?_, ?_, ?_, ?_, ?_, ?_, fun W K => ?run⟩
  case run =>
    simp only [cc0_ffn_fwd_eq_skeleton]; unfold cc0_ffn_fwd_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.Kernel11Ideal.Body

end
-- ==== Proof.FfnFwdRunB.lean ====
module

public import proofs.«01_k».proof.Proof.FfnFwdRunA

@[expose] public section

set_option maxRecDepth 16384

noncomputable section

namespace Cert.Kernel11Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal Cert.Kernel11Ideal.Gen

variable {F : FTy → Type} [FloatOps F]

local notation "𝕄" => MT nD τ sig Unit (Elt F) ℕ (Pipeline.UD sig nD τ) ℕ

set_option maxHeartbeats 1200000 in
/-- The body at a point that finds the two matrices in the scratch: as `runA`, over the scratch contents and the
    accumulated outputs the point before left. -/
def runB (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S512x1024 .bf16) (harg7 : arg7.IsWhole) (arg8 : Memref sig .tc .vmem S2816x1024 .bf16) (harg8 : arg8.IsWhole) (arg9 : Memref sig .tc .vmem S2816x1024 .bf16) (harg9 : arg9.IsWhole) (arg10 : Memref sig .tc .vmem S2816x1024 .bf16) (harg10 : arg10.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) :
    Σ' (L2 : List (View.Piece (Elt F) S512x1024 .f32)), Σ' (L3 : List (View.Piece (Elt F) S512x2816 .bf16)), Σ' (L4 : List (View.Piece (Elt F) S512x2816 .bf16)), Σ' (L5 : List (View.Piece (Elt F) S512x1024 .bf16)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ owns (c : Thread nD τ) arg9 fullShare xs1 ∗ owns (c : Thread nD τ) arg10 fullShare xs2 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ hbPt0 c hbM0_0 fh0 ∗ (∃ W', owes (c : Thread nD τ) 0 W')) -∗ K ⟨⟩))
          ⊢ wp frame (wpE (defs₀ (F := F)) Variants.none c none) Set.univ (cc0_ffn_fwd i arg1 harg1 arg2 harg2 (Memref.whole main_v7) (Memref.isWhole_whole _) arg4 harg4 arg5 harg5 arg6 harg6 arg7 harg7 arg8 harg8 arg9 harg9 arg10 harg10 cc0_scratch3) K } := by
  refine ⟨?_, ?_, ?_, ?_, [], [], [], fun W K => ?run⟩
  case run =>
    simp only [cc0_ffn_fwd_eq_skeleton]; unfold cc0_ffn_fwd_skel
    simp only [k0_part11_eq_skeleton, k0_part12_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg8.eq_unread hfs0; obtain rfl := harg9.eq_unread hfs1; obtain rfl := harg10.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.Kernel11Ideal.Body

end
-- ==== Proof.FfnFwdFrame.lean ====
module

public import proofs.«01_k».proof.Proof.FfnFwdRunB
public import Idealize.ShloMosaic.Lib.Claim

@[expose] public section

set_option maxRecDepth 16384

noncomputable section

namespace Cert.Kernel11Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal Cert.Kernel11Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the staging buffers of the outputs, and then the scratch buffers, hold after a point. -/
abbrev Outs (F : FTy → Type) [FloatOps F] : Type :=
  Vec F S512x1024 .f32 × Vec F S512x2816 .bf16 × Vec F S512x2816 .bf16 × Vec F S512x1024 .bf16 × Vec F S2816x1024 .bf16 × Vec F S2816x1024 .bf16 × Vec F S2816x1024 .bf16

/-- The first case's run, at point `t`. -/
abbrev atA (c : Dev nD) (t : Fin cfg0.N) (h0 : t.val % 16 = 0) :=
  runA c (grid0.coords t) (ms0_0 t) (hs0_0 t) (ms0_1 t) (hs0_1 t) (ms0_2 t) (hs0_2 t) (ms0_3 t) (hs0_3 t) (ms0_4 t)
  (hs0_4 t) (ms0_5 t) (hs0_5 t) scM0_0 (Memref.isWhole_whole _) scM0_1 (Memref.isWhole_whole _) scM0_2
  (Memref.isWhole_whole _) ((hcond0_0 t).mpr h0) (iblk m c 0 t) (iblk m c 1 t) (V m c main_v7)

/-- The second case's run, at point `t`, over what the point before left. -/
abbrev atB (c : Dev nD) (t : Fin cfg0.N) (h0 : ¬t.val % 16 = 0) (p : Outs F) :=
  runB c (grid0.coords t) (ms0_0 t) (hs0_0 t) (ms0_1 t) (hs0_1 t) (ms0_2 t) (hs0_2 t) (ms0_3 t) (hs0_3 t) (ms0_4 t)
  (hs0_4 t) (ms0_5 t) (hs0_5 t) scM0_0 (Memref.isWhole_whole _) scM0_1 (Memref.isWhole_whole _) scM0_2
  (Memref.isWhole_whole _) (fun h => h0 ((hcond0_0 t).mp h)) (iblk m c 0 t) (iblk m c 1 t) p.2.2.2.2.1 p.2.2.2.2.2.1
  p.2.2.2.2.2.2 (V m c main_v7)

section

variable (c : Dev nD) (t : Fin cfg0.N) (h0 : t.val % 16 = 0)

theorem coverA_2 (y : S512x1024.Idx) :
    ∃ pc ∈ (atA m c t h0).1, y ∈ pc.1.set :=
  View.cover_of_tiledL (atA m c t h0).1 S512x1024.size (by sl_kernel_rfl) y

def outA_2 : Vec F S512x1024 .f32 :=
  VO0_2.read (Elt F) (VO0_2.writes (Elt F) VO0_2.junk (atA m c t h0).1)

theorem coverA_3 (y : S512x2816.Idx) :
    ∃ pc ∈ (atA m c t h0).2.1, y ∈ pc.1.set :=
  View.cover_of_tiledBy (atA m c t h0).2.1 ![512, 256] (by sl_kernel_rfl) y

def outA_3 : Vec F S512x2816 .bf16 :=
  VO0_3.read (Elt F) (VO0_3.writes (Elt F) VO0_3.junk (atA m c t h0).2.1)

theorem coverA_4 (y : S512x2816.Idx) :
    ∃ pc ∈ (atA m c t h0).2.2.1, y ∈ pc.1.set :=
  View.cover_of_tiledBy (atA m c t h0).2.2.1 ![512, 256] (by sl_kernel_rfl) y

def outA_4 : Vec F S512x2816 .bf16 :=
  VO0_4.read (Elt F) (VO0_4.writes (Elt F) VO0_4.junk (atA m c t h0).2.2.1)

theorem coverA_5 (y : S512x1024.Idx) :
    ∃ pc ∈ (atA m c t h0).2.2.2.1, y ∈ pc.1.set :=
  View.cover_of_tiledL (atA m c t h0).2.2.2.1 S512x1024.size (by sl_kernel_rfl) y

def outA_5 : Vec F S512x1024 .bf16 :=
  VO0_5.read (Elt F) (VO0_5.writes (Elt F) VO0_5.junk (atA m c t h0).2.2.2.1)

theorem scoverA_0 (y : S2816x1024.Idx) :
    ∃ pc ∈ (atA m c t h0).2.2.2.2.1, y ∈ pc.1.set :=
  View.cover_of_tiledL (atA m c t h0).2.2.2.2.1 S352x1024.size (by sl_kernel_rfl) y

def soutA_0 : Vec F S2816x1024 .bf16 :=
  VS0_0.read (Elt F) (VS0_0.writes (Elt F) VS0_0.junk (atA m c t h0).2.2.2.2.1)

theorem scoverA_1 (y : S2816x1024.Idx) :
    ∃ pc ∈ (atA m c t h0).2.2.2.2.2.1, y ∈ pc.1.set :=
  View.cover_of_tiledL (atA m c t h0).2.2.2.2.2.1 S352x1024.size (by sl_kernel_rfl) y

def soutA_1 : Vec F S2816x1024 .bf16 :=
  VS0_1.read (Elt F) (VS0_1.writes (Elt F) VS0_1.junk (atA m c t h0).2.2.2.2.2.1)

theorem scoverA_2 (y : S2816x1024.Idx) :
    ∃ pc ∈ (atA m c t h0).2.2.2.2.2.2.1, y ∈ pc.1.set :=
  View.cover_of_tiledL (atA m c t h0).2.2.2.2.2.2.1 S352x1024.size (by sl_kernel_rfl) y

def soutA_2 : Vec F S2816x1024 .bf16 :=
  VS0_2.read (Elt F) (VS0_2.writes (Elt F) VS0_2.junk (atA m c t h0).2.2.2.2.2.2.1)

/-- All of what the case leaves. -/
abbrev stepA : Outs F :=
  (outA_2 m c t h0, outA_3 m c t h0, outA_4 m c t h0, outA_5 m c t h0, soutA_0 m c t h0, soutA_1 m c t h0, soutA_2 m
  c t h0)

end

section

variable (c : Dev nD) (t : Fin cfg0.N) (h0 : ¬t.val % 16 = 0) (p : Outs F)

theorem coverB_2 (y : S512x1024.Idx) :
    ∃ pc ∈ (atB m c t h0 p).1, y ∈ pc.1.set :=
  View.cover_of_tiledL (atB m c t h0 p).1 S512x1024.size (by sl_kernel_rfl) y

def outB_2 : Vec F S512x1024 .f32 :=
  VO0_2.read (Elt F) (VO0_2.writes (Elt F) VO0_2.junk (atB m c t h0 p).1)

theorem coverB_3 (y : S512x2816.Idx) :
    ∃ pc ∈ (atB m c t h0 p).2.1, y ∈ pc.1.set :=
  View.cover_of_tiledBy (atB m c t h0 p).2.1 ![512, 256] (by sl_kernel_rfl) y

def outB_3 : Vec F S512x2816 .bf16 :=
  VO0_3.read (Elt F) (VO0_3.writes (Elt F) VO0_3.junk (atB m c t h0 p).2.1)

theorem coverB_4 (y : S512x2816.Idx) :
    ∃ pc ∈ (atB m c t h0 p).2.2.1, y ∈ pc.1.set :=
  View.cover_of_tiledBy (atB m c t h0 p).2.2.1 ![512, 256] (by sl_kernel_rfl) y

def outB_4 : Vec F S512x2816 .bf16 :=
  VO0_4.read (Elt F) (VO0_4.writes (Elt F) VO0_4.junk (atB m c t h0 p).2.2.1)

theorem coverB_5 (y : S512x1024.Idx) :
    ∃ pc ∈ (atB m c t h0 p).2.2.2.1, y ∈ pc.1.set :=
  View.cover_of_tiledL (atB m c t h0 p).2.2.2.1 S512x1024.size (by sl_kernel_rfl) y

def outB_5 : Vec F S512x1024 .bf16 :=
  VO0_5.read (Elt F) (VO0_5.writes (Elt F) VO0_5.junk (atB m c t h0 p).2.2.2.1)

def soutB_0 : Vec F S2816x1024 .bf16 :=
  p.2.2.2.2.1

def soutB_1 : Vec F S2816x1024 .bf16 :=
  p.2.2.2.2.2.1

def soutB_2 : Vec F S2816x1024 .bf16 :=
  p.2.2.2.2.2.2

/-- All of what the case leaves. -/
abbrev stepB : Outs F :=
  (outB_2 m c t h0 p, outB_3 m c t h0 p, outB_4 m c t h0 p, outB_5 m c t h0 p, soutB_0 p, soutB_1 p, soutB_2 p)

end

/-- What the buffers hold after the body at position `n`: the case of that point, the second one over what position
    `n - 1` left. -/
def outsAt0 (c : Dev nD) : (n : ℕ) → n < cfg0.N → Outs F
  | 0, hn => stepA m c ⟨0, hn⟩ (Nat.zero_mod _)
  | n + 1, hn =>
    if h0 : (n + 1) % 16 = 0 then stepA m c ⟨n + 1, hn⟩ h0
    else stepB m c ⟨n + 1, hn⟩ h0 (outsAt0 c n (Nat.lt_of_succ_lt hn))

theorem outsAt0_A (c : Dev nD) (t : Fin cfg0.N) (h0 : t.val % 16 = 0) :
    outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt =
      stepB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The part of the invariant no point changes: the generator register, the copies' counters at zero, the operand in
    the large memory. -/
abbrev Rest (c : Dev nD) : sProp 𝕄 :=
  iprop((∃ r, prngReg c r) ∗ iprop(semVal ((c : Thread nD τ), SemLoc.dma 11) 0 ∗ semVal ((c : Thread nD τ),
  SemLoc.dma 12) 0 ∗ semVal ((c : Thread nD τ), SemLoc.dma 13) 0 ∗ semVal ((c : Thread nD τ), SemLoc.dma 14) 0 ∗
  semVal ((c : Thread nD τ), SemLoc.dma 15) 0 ∗ semVal ((c : Thread nD τ), SemLoc.dma 16) 0 ∗ semVal ((c : Thread nD
  τ), SemLoc.dma 17) 0 ∗ semVal ((c : Thread nD τ), SemLoc.dma 18) 0 ∗ semVal ((c : Thread nD τ), SemLoc.dma 19) 0 ∗
  semVal ((c : Thread nD τ), SemLoc.dma 20) 0 ∗ semVal ((c : Thread nD τ), SemLoc.dma 21) 0 ∗ semVal ((c : Thread nD
  τ), SemLoc.dma 22) 0 ∗ semVal ((c : Thread nD τ), SemLoc.dma 23) 0 ∗ semVal ((c : Thread nD τ), SemLoc.dma 24) 0 ∗
  semVal ((c : Thread nD τ), SemLoc.dma 25) 0 ∗ semVal ((c : Thread nD τ), SemLoc.dma 26) 0 ∗ semVal ((c : Thread nD
  τ), SemLoc.dma 27) 0 ∗ semVal ((c : Thread nD τ), SemLoc.dma 28) 0 ∗ semVal ((c : Thread nD τ), SemLoc.dma 29) 0 ∗
  semVal ((c : Thread nD τ), SemLoc.dma 30) 0 ∗ semVal ((c : Thread nD τ), SemLoc.dma 31) 0 ∗ semVal ((c : Thread nD
  τ), SemLoc.dma 32) 0 ∗ semVal ((c : Thread nD τ), SemLoc.dma 33) 0 ∗ semVal ((c : Thread nD τ), SemLoc.dma 34) 0) ∗
  iprop(hbPt0 c hbM0_0 (V m c main_v7)))

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ Rest m c)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2)) ∗ Rest m c) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ Rest m c) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3, after0_4, after0_5]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      (try unfold stepA); unfold outA_2 outA_3 outA_4 outA_5 soutA_0 soutA_1 soutA_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩⟩
      iapply ((atA m c t h0).2.2.2.2.2.2.2 W _)
      isplitl [H0]; iexact H0; isplitl [H1]; iexact H1
      isplitl [H2]; · iexists _; iexact H2
      isplitl [H3]; · iexists _; iexact H3
      isplitl [H4]; · iexists _; iexact H4
      isplitl [H5]; · iexists _; iexact H5
      isplitl [HS0]; iexact HS0; isplitl [HS1]; iexact HS1; isplitl [HS2]; iexact HS2; isplitl [Hq0]; iexact Hq0
      isplitl [Hq1]; iexact Hq1; isplitl [Hq2]; iexact Hq2; isplitl [Hq3]; iexact Hq3; isplitl [Hq4]; iexact Hq4
      isplitl [Hq5]; iexact Hq5; isplitl [Hq6]; iexact Hq6; isplitl [Hq7]; iexact Hq7; isplitl [Hq8]; iexact Hq8
      isplitl [Hq9]; iexact Hq9; isplitl [Hq10]; iexact Hq10; isplitl [Hq11]; iexact Hq11; isplitl [Hq12]; iexact Hq12
      isplitl [Hq13]; iexact Hq13; isplitl [Hq14]; iexact Hq14; isplitl [Hq15]; iexact Hq15
      isplitl [Hq16]; iexact Hq16; isplitl [Hq17]; iexact Hq17; isplitl [Hq18]; iexact Hq18
      isplitl [Hq19]; iexact Hq19; isplitl [Hq20]; iexact Hq20; isplitl [Hq21]; iexact Hq21
      isplitl [Hq22]; iexact Hq22; isplitl [Hq23]; iexact Hq23; isplitl [Hh0]; iexact Hh0; isplitl [HW]; iexact HW
      iintro ⟨H0, H1, ⟨%e2, H2⟩, ⟨%e3, H3⟩, ⟨%e4, H4⟩, ⟨%e5, H5⟩, ⟨%es0, HS0⟩, ⟨%es1, HS1⟩, ⟨%es2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          unfold owns; iexists _; isplitr
          swap; · iexact HS2
          ipureintro; exact View.read_writes_of_cover _ _ _ _ _ (scoverA_2 m c t h0)
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6; isplitl [Hq7]; iexact Hq7; isplitl [Hq8]; iexact Hq8
          isplitl [Hq9]; iexact Hq9; isplitl [Hq10]; iexact Hq10; isplitl [Hq11]; iexact Hq11
          isplitl [Hq12]; iexact Hq12; isplitl [Hq13]; iexact Hq13; isplitl [Hq14]; iexact Hq14
          isplitl [Hq15]; iexact Hq15; isplitl [Hq16]; iexact Hq16; isplitl [Hq17]; iexact Hq17
          isplitl [Hq18]; iexact Hq18; isplitl [Hq19]; iexact Hq19; isplitl [Hq20]; iexact Hq20
          isplitl [Hq21]; iexact Hq21; isplitl [Hq22]; iexact Hq22
          iexact Hq23
        iexact Hh0
      isplitl [HW']
      · iexists W'; isplitr; · ipureintro; exact fun _ _ => Or.inl trivial
        iexact HW'
      isplitl [H0]; iexact H0; isplitl [H1]; iexact H1
      isplitl [H2]
      · unfold owns; iexists _; isplitr
        swap; · iexact H2
        ipureintro; exact View.read_writes_of_cover _ _ _ _ _ (coverA_2 m c t h0)
      isplitl [H3]
      · unfold owns; iexists _; isplitr
        swap; · iexact H3
        ipureintro; exact View.read_writes_of_cover _ _ _ _ _ (coverA_3 m c t h0)
      isplitl [H4]
      · unfold owns; iexists _; isplitr
        swap; · iexact H4
        ipureintro; exact View.read_writes_of_cover _ _ _ _ _ (coverA_4 m c t h0)
      unfold owns; iexists _; isplitr
      swap; · iexact H5
      ipureintro; exact View.read_writes_of_cover _ _ _ _ _ (coverA_5 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      (try unfold stepB); unfold outB_2 outB_3 outB_4 outB_5 soutB_0 soutB_1 soutB_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩⟩
      iapply ((atB m c t h0 (outsAt0 m c (t.val - 1) (Nat.lt_of_le_of_lt (Nat.sub_le _ _) t.isLt))).2.2.2.2.2.2.2 W _)
      isplitl [H0]; iexact H0; isplitl [H1]; iexact H1
      isplitl [H2]; · iexists _; iexact H2
      isplitl [H3]; · iexists _; iexact H3
      isplitl [H4]; · iexists _; iexact H4
      isplitl [H5]; · iexists _; iexact H5
      isplitl [HS0]; iexact HS0; isplitl [HS1]; iexact HS1; isplitl [HS2]; iexact HS2; isplitl [Hq0]; iexact Hq0
      isplitl [Hq1]; iexact Hq1; isplitl [Hq2]; iexact Hq2; isplitl [Hq3]; iexact Hq3; isplitl [Hq4]; iexact Hq4
      isplitl [Hq5]; iexact Hq5; isplitl [Hq6]; iexact Hq6; isplitl [Hq7]; iexact Hq7; isplitl [Hq8]; iexact Hq8
      isplitl [Hq9]; iexact Hq9; isplitl [Hq10]; iexact Hq10; isplitl [Hq11]; iexact Hq11; isplitl [Hq12]; iexact Hq12
      isplitl [Hq13]; iexact Hq13; isplitl [Hq14]; iexact Hq14; isplitl [Hq15]; iexact Hq15
      isplitl [Hq16]; iexact Hq16; isplitl [Hq17]; iexact Hq17; isplitl [Hq18]; iexact Hq18
      isplitl [Hq19]; iexact Hq19; isplitl [Hq20]; iexact Hq20; isplitl [Hq21]; iexact Hq21
      isplitl [Hq22]; iexact Hq22; isplitl [Hq23]; iexact Hq23; isplitl [Hh0]; iexact Hh0; isplitl [HW]; iexact HW
      iintro ⟨H0, H1, ⟨%e2, H2⟩, ⟨%e3, H3⟩, ⟨%e4, H4⟩, ⟨%e5, H5⟩, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2]
        · isplitl [HS0]; · iexact HS0
          isplitl [HS1]; iexact HS1
          iexact HS2
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6; isplitl [Hq7]; iexact Hq7; isplitl [Hq8]; iexact Hq8
          isplitl [Hq9]; iexact Hq9; isplitl [Hq10]; iexact Hq10; isplitl [Hq11]; iexact Hq11
          isplitl [Hq12]; iexact Hq12; isplitl [Hq13]; iexact Hq13; isplitl [Hq14]; iexact Hq14
          isplitl [Hq15]; iexact Hq15; isplitl [Hq16]; iexact Hq16; isplitl [Hq17]; iexact Hq17
          isplitl [Hq18]; iexact Hq18; isplitl [Hq19]; iexact Hq19; isplitl [Hq20]; iexact Hq20
          isplitl [Hq21]; iexact Hq21; isplitl [Hq22]; iexact Hq22
          iexact Hq23
        iexact Hh0
      isplitl [HW']
      · iexists W'; isplitr; · ipureintro; exact fun _ _ => Or.inl trivial
        iexact HW'
      isplitl [H0]; iexact H0; isplitl [H1]; iexact H1
      isplitl [H2]
      · unfold owns; iexists _; isplitr
        swap; · iexact H2
        ipureintro; exact View.read_writes_of_cover _ _ _ _ _ (coverB_2 m c t h0 _)
      isplitl [H3]
      · unfold owns; iexists _; isplitr
        swap; · iexact H3
        ipureintro; exact View.read_writes_of_cover _ _ _ _ _ (coverB_3 m c t h0 _)
      isplitl [H4]
      · unfold owns; iexists _; isplitr
        swap; · iexact H4
        ipureintro; exact View.read_writes_of_cover _ _ _ _ _ (coverB_4 m c t h0 _)
      unfold owns; iexists _; isplitr
      swap; · iexact H5
      ipureintro; exact View.read_writes_of_cover _ _ _ _ _ (coverB_5 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2]
  · isplitl [HS0]
    · iexists _; iexact HS0
    isplitl [HS1]
    · iexists _; iexact HS1
    iexists _; iexact HS2
  isplitl [Hg]; iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; iexact Hq1; isplitl [Hq2]; iexact Hq2; isplitl [Hq3]; iexact Hq3; isplitl [Hq4]; iexact Hq4
    isplitl [Hq5]; iexact Hq5; isplitl [Hq6]; iexact Hq6; isplitl [Hq7]; iexact Hq7; isplitl [Hq8]; iexact Hq8
    isplitl [Hq9]; iexact Hq9; isplitl [Hq10]; iexact Hq10; isplitl [Hq11]; iexact Hq11; isplitl [Hq12]; iexact Hq12
    isplitl [Hq13]; iexact Hq13; isplitl [Hq14]; iexact Hq14; isplitl [Hq15]; iexact Hq15; isplitl [Hq16]; iexact Hq16
    isplitl [Hq17]; iexact Hq17; isplitl [Hq18]; iexact Hq18; isplitl [Hq19]; iexact Hq19; isplitl [Hq20]; iexact Hq20
    isplitl [Hq21]; iexact Hq21; isplitl [Hq22]; iexact Hq22
    iexact Hq23
  iexact Hh0

theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel11Ideal.Body

end
-- ==== Proof.FfnFwdScr.lean ====
module

public import proofs.«01_k».proof.Proof.FfnFwdFrame
public import proofs.«01_k».proof.Proof.Rms
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The weights the first grid point of the feed forward block copies into scratch, and that every point finds there. -/

@[expose] public section

set_option maxRecDepth 16384

noncomputable section

namespace Cert.Kernel11Ideal.Body

open Idealize.ShloMosaic Idealize.ShloMosaic.TcCoe Idealize.SL.Sem
open Idealize.ShloMosaic.Pipeline (Dat)
open Cert.Kernel11Ideal Cert.Kernel11Ideal.Gen Cert.Rms

variable (m : (ℓ : Loc nD τ sig) → Buf (Elt Ideal) ℓ) (c : Dev nD)

/-- The gate's weights. -/
abbrev kWg : FVec Ideal S1024x2816 .f32 := m ((c : Thread nD τ).loc main_arg2)
/-- The up projection's weights. -/
abbrev kWu : FVec Ideal S1024x2816 .f32 := m ((c : Thread nD τ).loc main_arg3)
/-- The down projection's weights. -/
abbrev kWd : FVec Ideal S2816x1024 .f32 := m ((c : Thread nD τ).loc main_arg4)
/-- What the scratch buffers hold: the first two matrices transposed, the third as it is. -/
def w0 : FVec Ideal S2816x1024 .bf16 := fun y => kWg m c (ix2 (y 1) (y 0))
def w1 : FVec Ideal S2816x1024 .bf16 := fun y => kWu m c (ix2 (y 1) (y 0))
def w2 : FVec Ideal S2816x1024 .bf16 := fun y => kWd m c (ix2 (y 0) (y 1))

theorem host_w0 (s : Fin 8) (r : Fin 352) (l : Fin 1024) :
    V m c main_v7 (ix3 s (⟨0 + r.val, by omega⟩ : Fin 1056) l) = kWg m c (ix2 l ⟨s.val * 352 + r.val, by omega⟩) := by
  unfold V
  simp only [hostOps0, List.flatten_cons, List.flatten_nil, List.append_nil, List.cons_append, List.nil_append]
  after_reads_simp
  generalize hσ : StableHlo.upto _ _ _ = σ
  pointwise []
  subst hσ
  after_reads_simp
  pointwise []

theorem host_w1 (s : Fin 8) (r : Fin 352) (l : Fin 1024) :
    V m c main_v7 (ix3 s (⟨352 + r.val, by omega⟩ : Fin 1056) l) = kWu m c (ix2 l ⟨s.val * 352 + r.val, by omega⟩) := by
  unfold V
  simp only [hostOps0, List.flatten_cons, List.flatten_nil, List.append_nil, List.cons_append, List.nil_append]
  after_reads_simp
  generalize hσ : StableHlo.upto _ _ _ = σ
  pointwise []
  subst hσ
  after_reads_simp
  pointwise []

theorem host_w2 (s : Fin 8) (r : Fin 352) (l : Fin 1024) :
    V m c main_v7 (ix3 s (⟨704 + r.val, by omega⟩ : Fin 1056) l) = kWd m c (ix2 ⟨s.val * 352 + r.val, by omega⟩ l) := by
  unfold V
  simp only [hostOps0, List.flatten_cons, List.flatten_nil, List.append_nil, List.cons_append, List.nil_append]
  after_reads_simp
  generalize hσ : StableHlo.upto _ _ _ = σ
  pointwise []
  subst hσ
  after_reads_simp
  pointwise []
  rw [dif_neg (by omega), dif_neg (by omega)]
  congr 2
  apply Fin.ext; simp only []; omega

/-- Rows `q … q + 351` of shard `s` of the gathered weights. -/
abbrev shard (s q : ℕ) (h : ∀ a, (![s, q, 0] : Fin 3 → ℕ) a + S1x352x1024.size a ≤ S8x1056x1024.size a) :=
  ((View.whole (κ := .tc) main_v7).slice (Rect.unit ![s, q, 0] ![1, 352, 1024] h)).reshape S352x1024 squeezes_S1x352x1024_S352x1024.numel_eq

/-- One copy: the shard's rows land at row `o` of the scratch. -/
abbrev piece (o s q : ℕ) (ho : ∀ a, (![o, 0] : Fin 2 → ℕ) a + S352x1024.size a ≤ S2816x1024.size a)
    (h : ∀ a, (![s, q, 0] : Fin 3 → ℕ) a + S1x352x1024.size a ≤ S8x1056x1024.size a) : View.Piece (Elt Ideal) S2816x1024 .bf16 :=
  ⟨Rect.unit ![o, 0] ![352, 1024] ho, ReadAs.same.apply (View.read (Elt Ideal) (shard s q h) (V m c main_v7))⟩

/-- One copied piece, at one element. -/
theorem piece_at (s q o : ℕ) (h) (hs : s < 8) (hq : q ≤ 704) (ho : o = s * 352) (w : FVec Ideal S2816x1024 .bf16)
    (hw : ∀ (r : Fin 352) (l : Fin 1024), V m c main_v7 (ix3 (⟨s, hs⟩ : Fin 8) (⟨q + r.val, by omega⟩ : Fin 1056) l) = w (ix2 ⟨s * 352 + r.val, by omega⟩ l))
    (x : S352x1024.Idx) (y : S2816x1024.Idx) (h0 : (y 0).val = o + (x 0).val) (h1 : (y 1).val = (x 1).val) :
    View.read (Elt Ideal) (shard s q h) (V m c main_v7) x = w y := by
  idx_vars x
  have hx : x0.val < 352 := x0.isLt
  show (V m c main_v7) ((Rect.unit (s := S8x1056x1024) ![s, q, 0] ![1, 352, 1024] h).emb (Shape.reshapeEquiv _ (ix2 x0 x1))) = _
  refine (congrArg (V m c main_v7) (?_ : _ = (ix3 (⟨s, hs⟩ : Fin 8) (⟨q + x0.val, by omega⟩ : Fin 1056) x1))).trans ((hw x0 x1).trans (congrArg w ?_))
  · refine (congrArg (Rect.emb _) (ValueIdx.reshapeEquiv_ix2_1ab _ x0 x1)).trans ?_
    funext a
    apply Fin.ext
    fin_cases a
    · show s + 1 * 0 = s; omega
    · show q + 1 * x0.val = q + x0.val; omega
    · show 0 + 1 * x1.val = x1.val; omega
  · funext a
    apply Fin.ext
    fin_cases a
    · exact (congrArg (· + x0.val) ho.symm).trans h0.symm
    · exact h1.symm

/-- The eight copies into one of the buffers: rows `q … q + 351` of each shard. -/
abbrev pieces (q : ℕ) (h : ∀ s < 8, ∀ a, (![s, q, 0] : Fin 3 → ℕ) a + S1x352x1024.size a ≤ S8x1056x1024.size a) : List (View.Piece (Elt Ideal) S2816x1024 .bf16) :=
  [piece m c 2464 7 q inb_S2816x1024_S352x1024_2464_0 (h 7 (by decide)),
   piece m c 2112 6 q inb_S2816x1024_S352x1024_2112_0 (h 6 (by decide)),
   piece m c 1760 5 q inb_S2816x1024_S352x1024_1760_0 (h 5 (by decide)),
   piece m c 1408 4 q inb_S2816x1024_S352x1024_1408_0 (h 4 (by decide)),
   piece m c 1056 3 q inb_S2816x1024_S352x1024_1056_0 (h 3 (by decide)),
   piece m c 704 2 q inb_S2816x1024_S352x1024_704_0 (h 2 (by decide)),
   piece m c 352 1 q inb_S2816x1024_S352x1024_352_0 (h 1 (by decide)),
   piece m c 0 0 q inb_S2816x1024_S352x1024_0_0 (h 0 (by decide))]

set_option maxHeartbeats 2000000 in
theorem canon (q : ℕ) (hq : q ≤ 704) (h) (w : FVec Ideal S2816x1024 .bf16)
    (hw : ∀ (s : Fin 8) (r : Fin 352) (l : Fin 1024), V m c main_v7 (ix3 s (⟨q + r.val, by omega⟩ : Fin 1056) l) = w (ix2 ⟨s.val * 352 + r.val, by omega⟩ l)) :
    View.canon (pieces m c q h) = w := by
  funext y
  canon_tiles x h
  · exact piece_at m c 7 q 2464 _ (by decide) hq rfl w (hw ⟨7, by decide⟩) x y h0 h1
  · exact piece_at m c 6 q 2112 _ (by decide) hq rfl w (hw ⟨6, by decide⟩) x y h0 h1
  · exact piece_at m c 5 q 1760 _ (by decide) hq rfl w (hw ⟨5, by decide⟩) x y h0 h1
  · exact piece_at m c 4 q 1408 _ (by decide) hq rfl w (hw ⟨4, by decide⟩) x y h0 h1
  · exact piece_at m c 3 q 1056 _ (by decide) hq rfl w (hw ⟨3, by decide⟩) x y h0 h1
  · exact piece_at m c 2 q 704 _ (by decide) hq rfl w (hw ⟨2, by decide⟩) x y h0 h1
  · exact piece_at m c 1 q 352 _ (by decide) hq rfl w (hw ⟨1, by decide⟩) x y h0 h1
  · exact piece_at m c 0 q 0 _ (by decide) hq rfl w (hw ⟨0, by decide⟩) x y (h0.trans (Nat.zero_add _).symm) h1

theorem rows (q : ℕ) (hq : q ≤ 704) (s : ℕ) (hs : s < 8) : ∀ a, (![s, q, 0] : Fin 3 → ℕ) a + S1x352x1024.size a ≤ S8x1056x1024.size a := by
  intro a
  fin_cases a
  · show s + 1 ≤ 8; omega
  · show q + 352 ≤ 1056; omega
  · show 0 + 1024 ≤ 1024; omega

abbrev pieces0 : List (View.Piece (Elt Ideal) S2816x1024 .bf16) := pieces m c 0 (rows 0 (by decide))
theorem canon0 : View.canon (pieces0 m c) = w0 m c := canon m c 0 (by decide) _ (w0 m c) (host_w0 m c)
abbrev pieces1 : List (View.Piece (Elt Ideal) S2816x1024 .bf16) := pieces m c 352 (rows 352 (by decide))
theorem canon1 : View.canon (pieces1 m c) = w1 m c := canon m c 352 (by decide) _ (w1 m c) (host_w1 m c)
abbrev pieces2 : List (View.Piece (Elt Ideal) S2816x1024 .bf16) := pieces m c 704 (rows 704 (by decide))
theorem canon2 : View.canon (pieces2 m c) = w2 m c := canon m c 704 (by decide) _ (w2 m c) (host_w2 m c)

set_option maxHeartbeats 2000000 in
theorem soutA_0_eq (t : Fin cfg0.N) (h0 : t.val % 16 = 0) : soutA_0 m c t h0 = w0 m c := by
  unfold soutA_0 atA
  frame_out
  exact canon0 m c

set_option maxHeartbeats 2000000 in
theorem soutA_1_eq (t : Fin cfg0.N) (h0 : t.val % 16 = 0) : soutA_1 m c t h0 = w1 m c := by
  unfold soutA_1 atA
  frame_out
  exact canon1 m c

set_option maxHeartbeats 2000000 in
theorem soutA_2_eq (t : Fin cfg0.N) (h0 : t.val % 16 = 0) : soutA_2 m c t h0 = w2 m c := by
  unfold soutA_2 atA
  frame_out
  exact canon2 m c

theorem stepA_eq (t : Fin cfg0.N) (h0 : t.val % 16 = 0) : (stepA m c t h0).2.2.2.2 = (w0 m c, w1 m c, w2 m c) := by
  unfold stepA; dsimp only; rw [soutA_0_eq, soutA_1_eq, soutA_2_eq]
theorem stepB_eq (t : Fin cfg0.N) (h0 : ¬ t.val % 16 = 0) (p : Outs Ideal) : (stepB m c t h0 p).2.2.2.2 = p.2.2.2.2 := by
  unfold stepB soutB_0 soutB_1 soutB_2; dsimp only

/-- The buffers after every point. -/
theorem every (n : ℕ) : ∀ (t : Fin cfg0.N), t.val = n → (outsAt0 m c t.val t.isLt).2.2.2.2 = (w0 m c, w1 m c, w2 m c) := by
  induction n with
  | zero =>
    intro t ht
    have h0 : t.val % 16 = 0 := by omega
    rw [outsAt0_A m c t h0]
    exact stepA_eq m c t h0
  | succ n ih =>
    intro t ht
    by_cases h0 : t.val % 16 = 0
    · rw [outsAt0_A m c t h0]
      exact stepA_eq m c t h0
    · rw [outsAt0_B m c t h0]
      exact (stepB_eq m c t h0 _).trans (ih ⟨t.val - 1, Nat.lt_of_le_of_lt (Nat.sub_le _ _) t.isLt⟩ (by show t.val - 1 = n; omega))

theorem scratch0 (n : ℕ) (h : n < cfg0.N) : (outsAt0 m c n h).2.2.2.2.1 = w0 m c := congrArg (·.1) (every m c n ⟨n, h⟩ rfl)
theorem scratch1 (n : ℕ) (h : n < cfg0.N) : (outsAt0 m c n h).2.2.2.2.2.1 = w1 m c := congrArg (·.2.1) (every m c n ⟨n, h⟩ rfl)
theorem scratch2 (n : ℕ) (h : n < cfg0.N) : (outsAt0 m c n h).2.2.2.2.2.2 = w2 m c := congrArg (·.2.2) (every m c n ⟨n, h⟩ rfl)

theorem ld0 (o n : ℕ) (h) : (View.whole cc0_scratch0).readCov (pieces0 m c) (Rect.unit ![o, 0] ![n, 1024] h).toLoadRect = View.ld (w0 m c) (Rect.unit (s := S2816x1024) ![o, 0] ![n, 1024] h) := by
  rw [View.readCov_eq_canon', canon0]
  rfl

theorem ld1 (o n : ℕ) (h) : (View.whole cc0_scratch1).readCov (pieces1 m c) (Rect.unit ![o, 0] ![n, 1024] h).toLoadRect = View.ld (w1 m c) (Rect.unit (s := S2816x1024) ![o, 0] ![n, 1024] h) := by
  rw [View.readCov_eq_canon', canon1]
  rfl

theorem ld2 (o n : ℕ) (h) : (View.whole cc0_scratch2).readCov (pieces2 m c) (Rect.unit ![o, 0] ![n, 1024] h).toLoadRect = View.ld (w2 m c) (Rect.unit (s := S2816x1024) ![o, 0] ![n, 1024] h) := by
  rw [View.readCov_eq_canon', canon2]
  rfl

end Cert.Kernel11Ideal.Body

end
-- ==== Proof.Ffn.lean ====
module

public import proofs.«01_k».proof.Proof.Rms

/-! A row of the feed forward block, over the extended reals. -/

@[expose] public section

noncomputable section

namespace Cert.Ffn

open Idealize.ShloMosaic Cert.Rms

/-- The programs' one half. -/
abbrev half : EReal := Ideal.ofBits .f32 0x3F000000#32

/-- A normalised row times a column of a matrix. -/
def proj (h : (⟨2, ![8192, 1024]⟩ : Shape).Idx → EReal) (g : (⟨1, ![1024]⟩ : Shape).Idx → EReal) (w : (⟨2, ![1024, 2816]⟩ : Shape).Idx → EReal)
    (r : Fin 8192) (l : Fin 2816) : EReal := ∑ k : Fin 1024, nrm (row h r) (vec g) k * w (ix2 k l)

/-- The gated unit: `silu` of the gate times the other product. -/
def glu (x y : EReal) : EReal := x * Ideal.logistic x * y

/-- The block's result: the row and half of the gated units through the last matrix. -/
def ffn (h : (⟨2, ![8192, 1024]⟩ : Shape).Idx → EReal) (g : (⟨1, ![1024]⟩ : Shape).Idx → EReal) (wg wu : (⟨2, ![1024, 2816]⟩ : Shape).Idx → EReal)
    (wd : (⟨2, ![2816, 1024]⟩ : Shape).Idx → EReal) (r : Fin 8192) (l : Fin 1024) : EReal :=
  h (ix2 r l) + half * ∑ k : Fin 2816, glu (proj h g wg r k) (proj h g wu r k) * wd (ix2 k l)

/-- A sum over 2816 lanes, in chunks of 768, 768, 768 and 512. -/
theorem sum_768 (f : Fin 2816 → EReal) : ∑ k, f k
    = (((∑ k : Fin 768, f ⟨0 + k.val, by omega⟩) + ∑ k : Fin 768, f ⟨768 + k.val, by omega⟩) + ∑ k : Fin 768, f ⟨1536 + k.val, by omega⟩)
      + ∑ k : Fin 512, f ⟨2304 + k.val, by omega⟩ := by
  refine (Fin.sum_univ_add (a := 2304) (b := 512) f).trans (congrArg₂ (· + ·) ?_ rfl)
  refine (Fin.sum_univ_add (a := 1536) (b := 768) _).trans (congrArg₂ (· + ·) ?_ rfl)
  refine (Fin.sum_univ_add (a := 768) (b := 768) _).trans (congrArg₂ (· + ·) ?_ rfl)
  exact Finset.sum_congr rfl fun k _ => congrArg f (Fin.ext (Nat.zero_add _).symm)

/-- A sum over 2816 lanes, in five chunks of 512 and one of 256. -/
theorem sum_512 (f : Fin 2816 → EReal) : ∑ k, f k
    = (((((∑ k : Fin 512, f ⟨0 + k.val, by omega⟩) + ∑ k : Fin 512, f ⟨512 + k.val, by omega⟩) + ∑ k : Fin 512, f ⟨1024 + k.val, by omega⟩)
      + ∑ k : Fin 512, f ⟨1536 + k.val, by omega⟩) + ∑ k : Fin 512, f ⟨2048 + k.val, by omega⟩) + ∑ k : Fin 256, f ⟨2560 + k.val, by omega⟩ := by
  refine (Fin.sum_univ_add (a := 2560) (b := 256) f).trans (congrArg₂ (· + ·) ?_ rfl)
  refine (Fin.sum_univ_add (a := 2048) (b := 512) _).trans (congrArg₂ (· + ·) ?_ rfl)
  refine (Fin.sum_univ_add (a := 1536) (b := 512) _).trans (congrArg₂ (· + ·) ?_ rfl)
  refine (Fin.sum_univ_add (a := 1024) (b := 512) _).trans (congrArg₂ (· + ·) ?_ rfl)
  refine (Fin.sum_univ_add (a := 512) (b := 512) _).trans (congrArg₂ (· + ·) ?_ rfl)
  exact Finset.sum_congr rfl fun k _ => congrArg f (Fin.ext (Nat.zero_add _).symm)

end Cert.Ffn

end
-- ==== Proof.FfnFwdOut.lean ====
module

public import proofs.«01_k».proof.Proof.FfnFwdScr
public import proofs.«01_k».proof.Proof.Ffn
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The feed forward block's results. -/

@[expose] public section

set_option maxRecDepth 16384

noncomputable section

namespace Cert.Kernel11Ideal.Body

open Idealize.ShloMosaic Idealize.ShloMosaic.TcCoe Idealize.SL.Sem
open Idealize.ShloMosaic.Pipeline (Dat)
open Cert.Kernel11Ideal Cert.Kernel11Ideal.Gen Cert.Rms Cert.Ffn

variable (m : (ℓ : Loc nD τ sig) → Buf (Elt Ideal) ℓ) (c : Dev nD)

/-- The activations. -/
abbrev kH : FVec Ideal S8192x1024 .f32 := m ((c : Thread nD τ).loc main_arg0)
/-- The norm's gain. -/
abbrev kG : FVec Ideal S1024 .f32 := m ((c : Thread nD τ).loc main_arg1)

theorem host_g (l : Fin 1024) : V m c main_v0 (ix2 0 l) = kG m c (ix1 l) := by
  unfold V
  simp only [hostOps0, List.flatten_cons, List.flatten_nil, List.append_nil, List.cons_append, List.nil_append]
  entry_read
  pointwise []

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- Row `r` of the grid point's block of 512 rows. -/
abbrev gr (t : Fin cfg0.N) (r : Fin 512) : Fin 8192 := ⟨t.val * 512 + r.val, by have := t.isLt; have : cfg0.N = 16 := rfl; omega⟩

theorem i0 (t : Fin cfg0.N) (r : Fin 512) (l : Fin 1024) : (iblk m c 0 t : FVec Ideal S512x1024 .f32) (ix2 r l) = kH m c (ix2 (gr t r) l) := by
  refine Eq.trans (?_ : _ = (V m c main_arg0 : FVec Ideal S8192x1024 .f32) (ix2 (gr t r) l)) (congrFun (V_main_arg0 m c) _)
  have hN : t.val < 16 := t.isLt
  blk_ext [iblk, idx t]

theorem i1 (t : Fin cfg0.N) (l : Fin 1024) : (iblk m c 1 t : FVec Ideal S1x1024 .f32) (ix2 0 l) = kG m c (ix1 l) := by
  refine Eq.trans (?_ : _ = (V m c main_v0 : FVec Ideal S1x1024 .f32) (ix2 0 l)) (host_g m c l)
  have hN : t.val < 16 := t.isLt
  blk_ext [iblk, idx t]

/-- The row of the norm a grid point computes. -/
abbrev kn (t : Fin cfg0.N) : FVec Ideal S512x1024 .bf16 := k0_pay5 (F := Ideal) (iblk m c 0 t) (iblk m c 1 t)

theorem pn0 (x : FVec Ideal S512x1024 .f32) (g : FVec Ideal S1x1024 .f32) (r : Fin 512) (l : Fin 1024) :
    k0_pay5 (F := Ideal) x g (ix2 r l) = nrm (row x r) (row g 0) l := by
  pointwise [k0_pay5, nrm, hat, rr, ms]

theorem pn (t : Fin cfg0.N) (r : Fin 512) (l : Fin 1024) : kn m c t (ix2 r l) = nrm (row (kH m c) (gr t r)) (vec (kG m c)) l := by
  refine (pn0 _ _ r l).trans ?_
  rw [show row (iblk m c 0 t : FVec Ideal S512x1024 .f32) r = row (kH m c) (gr t r) from funext fun l => i0 m c t r l,
    show row (iblk m c 1 t : FVec Ideal S1x1024 .f32) 0 = vec (kG m c) from funext fun l => i1 m c t l]

theorem pz (n : FVec Ideal S512x1024 .bf16) (w : FVec Ideal S768x1024 .bf16) (r : Fin 512) (l : Fin 768) :
    k0_pay13 (F := Ideal) n w (ix2 r l) = ∑ k : Fin 1024, n (ix2 r k) * w (ix2 l k) := by
  pointwise [k0_pay13]

theorem pz' (n : FVec Ideal S512x1024 .bf16) (w : FVec Ideal S512x1024 .bf16) (r : Fin 512) (l : Fin 512) :
    k0_pay18 (F := Ideal) n w (ix2 r l) = ∑ k : Fin 1024, n (ix2 r k) * w (ix2 l k) := by
  pointwise [k0_pay18]

/-- One chunk of a product with the norm's rows. -/
theorem chunk (t : Fin cfg0.N) (w : FVec Ideal S1024x2816 .f32) (w' : FVec Ideal S2816x1024 .bf16) (hw : ∀ k l, w' (ix2 l k) = w (ix2 k l))
    (o : ℕ) (h) (r : Fin 512) (l : Fin 768) (hl : o + l.val < 2816) :
    k0_pay13 (F := Ideal) (kn m c t) (View.ld w' (Rect.unit (s := S2816x1024) ![o, 0] ![768, 1024] h)) (ix2 r l)
      = proj (kH m c) (kG m c) w (gr t r) ⟨o + l.val, hl⟩ := by
  refine (pz _ _ _ _).trans (Finset.sum_congr rfl fun k _ => ?_)
  rw [pn, ← hw]
  refine congrArg (_ * w' ·) ?_
  funext a
  apply Fin.ext
  fin_cases a
  · show o + 1 * l.val = o + l.val; omega
  · show 0 + 1 * k.val = k.val; omega

theorem chunk' (t : Fin cfg0.N) (w : FVec Ideal S1024x2816 .f32) (w' : FVec Ideal S2816x1024 .bf16) (hw : ∀ k l, w' (ix2 l k) = w (ix2 k l))
    (o : ℕ) (h) (r : Fin 512) (l : Fin 512) (hl : o + l.val < 2816) :
    k0_pay18 (F := Ideal) (kn m c t) (View.ld w' (Rect.unit (s := S2816x1024) ![o, 0] ![512, 1024] h)) (ix2 r l)
      = proj (kH m c) (kG m c) w (gr t r) ⟨o + l.val, hl⟩ := by
  refine (pz' _ _ _ _).trans (Finset.sum_congr rfl fun k _ => ?_)
  rw [pn, ← hw]
  refine congrArg (_ * w' ·) ?_
  funext a
  apply Fin.ext
  fin_cases a
  · show o + 1 * l.val = o + l.val; omega
  · show 0 + 1 * k.val = k.val; omega

theorem tile (t : Fin cfg0.N) (w : FVec Ideal S1024x2816 .f32) (w' : FVec Ideal S2816x1024 .bf16) (hw : ∀ k l, w' (ix2 l k) = w (ix2 k l))
    (o : ℕ) (h) (ho : o ≤ 2048) (x : S512x768.Idx) (y : S512x2816.Idx) (h0 : (y 0).val = (x 0).val) (h1 : (y 1).val = o + (x 1).val) :
    k0_pay13 (F := Ideal) (kn m c t) (View.ld w' (Rect.unit (s := S2816x1024) ![o, 0] ![768, 1024] h)) x
      = proj (kH m c) (kG m c) w (gr t (y 0)) (y 1) := by
  idx_vars x
  have hx : x1.val < 768 := x1.isLt
  have e0 : (y 0 : Fin 512) = x0 := Fin.ext h0
  have hl : o + x1.val < 2816 := by omega
  have e1 : (y 1 : Fin 2816) = ⟨o + x1.val, hl⟩ := Fin.ext h1
  rw [e0, e1]
  exact chunk m c t w w' hw o h x0 x1 _

theorem tile' (t : Fin cfg0.N) (w : FVec Ideal S1024x2816 .f32) (w' : FVec Ideal S2816x1024 .bf16) (hw : ∀ k l, w' (ix2 l k) = w (ix2 k l))
    (o : ℕ) (h) (ho : o ≤ 2304) (x : S512x512.Idx) (y : S512x2816.Idx) (h0 : (y 0).val = (x 0).val) (h1 : (y 1).val = o + (x 1).val) :
    k0_pay18 (F := Ideal) (kn m c t) (View.ld w' (Rect.unit (s := S2816x1024) ![o, 0] ![512, 1024] h)) x
      = proj (kH m c) (kG m c) w (gr t (y 0)) (y 1) := by
  idx_vars x
  have hx : x1.val < 512 := x1.isLt
  have e0 : (y 0 : Fin 512) = x0 := Fin.ext h0
  have hl : o + x1.val < 2816 := by omega
  have e1 : (y 1 : Fin 2816) = ⟨o + x1.val, hl⟩ := Fin.ext h1
  rw [e0, e1]
  exact chunk' m c t w w' hw o h x0 x1 _

set_option maxHeartbeats 2000000 in
theorem o5 (t : Fin cfg0.N) : (outsAt0 m c t.val t.isLt).2.2.2.1 = kn m c t := by
  by_cases h0 : t.val % 16 = 0
  · rw [outsAt0_A m c t h0]
    unfold stepA outA_5 atA
    dsimp only
    frame_out
  · rw [outsAt0_B m c t h0]
    unfold stepB outB_5 atB
    dsimp only
    frame_out

set_option maxHeartbeats 2000000 in
theorem o3 (t : Fin cfg0.N) : (outsAt0 m c t.val t.isLt).2.1 = (fun y => proj (kH m c) (kG m c) (kWg m c) (gr t (y 0)) (y 1) : FVec Ideal S512x2816 .bf16) := by
  by_cases h0 : t.val % 16 = 0
  · rw [outsAt0_A m c t h0]
    unfold stepA outA_3 atA
    dsimp only
    frame_out
    rw [ld0 m c 2304 512, ld0 m c 1536 768, ld0 m c 768 768, ld0 m c 0 768]
    funext y
    canon_tiles x h using View.cover_of_tiledBy _ ![512, 256] (by sl_kernel_rfl) y
    · exact tile' m c t (kWg m c) (w0 m c) (fun k l => rfl) 2304 _ (by decide) x y h0 h1
    · exact tile m c t (kWg m c) (w0 m c) (fun k l => rfl) 1536 _ (by decide) x y h0 h1
    · exact tile m c t (kWg m c) (w0 m c) (fun k l => rfl) 768 _ (by decide) x y h0 h1
    · exact tile m c t (kWg m c) (w0 m c) (fun k l => rfl) 0 _ (by decide) x y h0 (h1.trans (Nat.zero_add _).symm)
  · rw [outsAt0_B m c t h0]
    unfold stepB outB_3 atB
    dsimp only
    frame_out
    simp only [read_unread_whole]
    rw [scratch0 m c _ _]
    funext y
    canon_tiles x h using View.cover_of_tiledBy _ ![512, 256] (by sl_kernel_rfl) y
    · exact tile' m c t (kWg m c) (w0 m c) (fun k l => rfl) 2304 _ (by decide) x y h0 h1
    · exact tile m c t (kWg m c) (w0 m c) (fun k l => rfl) 1536 _ (by decide) x y h0 h1
    · exact tile m c t (kWg m c) (w0 m c) (fun k l => rfl) 768 _ (by decide) x y h0 h1
    · exact tile m c t (kWg m c) (w0 m c) (fun k l => rfl) 0 _ (by decide) x y h0 (h1.trans (Nat.zero_add _).symm)

set_option maxHeartbeats 2000000 in
theorem o4 (t : Fin cfg0.N) : (outsAt0 m c t.val t.isLt).2.2.1 = (fun y => proj (kH m c) (kG m c) (kWu m c) (gr t (y 0)) (y 1) : FVec Ideal S512x2816 .bf16) := by
  by_cases h0 : t.val % 16 = 0
  · rw [outsAt0_A m c t h0]
    unfold stepA outA_4 atA
    dsimp only
    frame_out
    rw [ld1 m c 2304 512, ld1 m c 1536 768, ld1 m c 768 768, ld1 m c 0 768]
    funext y
    canon_tiles x h using View.cover_of_tiledBy _ ![512, 256] (by sl_kernel_rfl) y
    · exact tile' m c t (kWu m c) (w1 m c) (fun k l => rfl) 2304 _ (by decide) x y h0 h1
    · exact tile m c t (kWu m c) (w1 m c) (fun k l => rfl) 1536 _ (by decide) x y h0 h1
    · exact tile m c t (kWu m c) (w1 m c) (fun k l => rfl) 768 _ (by decide) x y h0 h1
    · exact tile m c t (kWu m c) (w1 m c) (fun k l => rfl) 0 _ (by decide) x y h0 (h1.trans (Nat.zero_add _).symm)
  · rw [outsAt0_B m c t h0]
    unfold stepB outB_4 atB
    dsimp only
    frame_out
    simp only [read_unread_whole]
    rw [scratch1 m c _ _]
    funext y
    canon_tiles x h using View.cover_of_tiledBy _ ![512, 256] (by sl_kernel_rfl) y
    · exact tile' m c t (kWu m c) (w1 m c) (fun k l => rfl) 2304 _ (by decide) x y h0 h1
    · exact tile m c t (kWu m c) (w1 m c) (fun k l => rfl) 1536 _ (by decide) x y h0 h1
    · exact tile m c t (kWu m c) (w1 m c) (fun k l => rfl) 768 _ (by decide) x y h0 h1
    · exact tile m c t (kWu m c) (w1 m c) (fun k l => rfl) 0 _ (by decide) x y h0 (h1.trans (Nat.zero_add _).symm)

theorem p4 (h acc : FVec Ideal S512x1024 .f32) (a b : FVec Ideal S512x768 .f32) (e f : FVec Ideal S512x512 .f32) (w : FVec Ideal S768x1024 .bf16)
    (w' : FVec Ideal S512x1024 .bf16) (r : Fin 512) (l : Fin 1024) :
    k0_pay4 (F := Ideal) h a b acc e f w w' (ix2 r l) = h (ix2 r l) + half * ((acc (ix2 r l)
      + ∑ k : Fin 768, glu (a (ix2 r k)) (b (ix2 r k)) * w (ix2 k l)) + ∑ k : Fin 512, glu (e (ix2 r k)) (f (ix2 r k)) * w' (ix2 k l)) := by
  pointwise [k0_pay4, glu]

theorem p17 (a b e f : FVec Ideal S512x768 .f32) (w w' : FVec Ideal S768x1024 .bf16) (r : Fin 512) (l : Fin 1024) :
    k0_pay17 (F := Ideal) (k0_pay6 (F := Ideal)) a b e f w w' (ix2 r l)
      = (∑ k : Fin 768, glu (a (ix2 r k)) (b (ix2 r k)) * w (ix2 k l)) + ∑ k : Fin 768, glu (e (ix2 r k)) (f (ix2 r k)) * w' (ix2 k l) := by
  pointwise [k0_pay17, k0_pay6, glu]

/-- A chunk of rows of the last matrix. -/
theorem at2 (o n : ℕ) (h) (k : Fin n) (l : Fin 1024) (hk : o + k.val < 2816) :
    View.ld (Val := Elt Ideal) (S := S2816x1024) (e' := .bf16) (w2 m c) (Rect.unit (s := S2816x1024) ![o, 0] ![n, 1024] h) (ix2 k l) = kWd m c (ix2 ⟨o + k.val, hk⟩ l) := by
  show w2 m c _ = _
  unfold w2
  refine congrArg (kWd m c) ?_
  funext a
  apply Fin.ext
  fin_cases a
  · show o + 1 * k.val = o + k.val; omega
  · show 0 + 1 * l.val = l.val; omega

set_option maxHeartbeats 2000000 in
theorem out2 (t : Fin cfg0.N) (h0 h768 h1536 h2304) (r : Fin 512) (l : Fin 1024) :
    k0_pay4 (F := Ideal) (iblk m c 0 t) (k0_pay13 (F := Ideal) (kn m c t) (View.ld (w0 m c) (Rect.unit (s := S2816x1024) ![1536, 0] ![768, 1024] h1536))) (k0_pay14 (F := Ideal) (kn m c t) (View.ld (w1 m c) (Rect.unit (s := S2816x1024) ![1536, 0] ![768, 1024] h1536)))
      (k0_pay17 (F := Ideal) (k0_pay6 (F := Ideal)) (k0_pay7 (F := Ideal) (iblk m c 0 t) (iblk m c 1 t) (View.ld (w0 m c) (Rect.unit (s := S2816x1024) ![0, 0] ![768, 1024] h0))) (k0_pay8 (F := Ideal) (iblk m c 0 t) (iblk m c 1 t) (View.ld (w1 m c) (Rect.unit (s := S2816x1024) ![0, 0] ![768, 1024] h0)))
        (k0_pay9 (F := Ideal) (iblk m c 0 t) (iblk m c 1 t) (View.ld (w0 m c) (Rect.unit (s := S2816x1024) ![768, 0] ![768, 1024] h768))) (k0_pay10 (F := Ideal) (iblk m c 0 t) (iblk m c 1 t) (View.ld (w1 m c) (Rect.unit (s := S2816x1024) ![768, 0] ![768, 1024] h768)))
        (View.ld (w2 m c) (Rect.unit (s := S2816x1024) ![0, 0] ![768, 1024] h0)) (View.ld (w2 m c) (Rect.unit (s := S2816x1024) ![768, 0] ![768, 1024] h768)))
      (k0_pay18 (F := Ideal) (kn m c t) (View.ld (w0 m c) (Rect.unit (s := S2816x1024) ![2304, 0] ![512, 1024] h2304))) (k0_pay19 (F := Ideal) (kn m c t) (View.ld (w1 m c) (Rect.unit (s := S2816x1024) ![2304, 0] ![512, 1024] h2304)))
      (View.ld (w2 m c) (Rect.unit (s := S2816x1024) ![1536, 0] ![768, 1024] h1536)) (View.ld (w2 m c) (Rect.unit (s := S2816x1024) ![2304, 0] ![512, 1024] h2304)) (ix2 r l)
      = ffn (kH m c) (kG m c) (kWg m c) (kWu m c) (kWd m c) (gr t r) l := by
  refine (p4 _ _ _ _ _ _ _ _ r l).trans ?_
  unfold ffn
  rw [i0, sum_768, p17]
  refine congrArg (_ + half * ·) ?_
  refine congrArg₂ (· + ·) (congrArg₂ (· + ·) (congrArg₂ (· + ·) ?_ ?_) ?_) ?_
  · refine Finset.sum_congr rfl fun k _ => ?_
    have hk : 0 + k.val < 2816 := by omega
    refine congrArg₂ (· * ·) (congrArg₂ glu (chunk m c t (kWg m c) (w0 m c) (fun k l => rfl) 0 _ r k hk) (chunk m c t (kWu m c) (w1 m c) (fun k l => rfl) 0 _ r k hk)) ?_
    exact at2 m c 0 768 _ k l hk
  · refine Finset.sum_congr rfl fun k _ => ?_
    have hk : 768 + k.val < 2816 := by omega
    refine congrArg₂ (· * ·) (congrArg₂ glu (chunk m c t (kWg m c) (w0 m c) (fun k l => rfl) 768 _ r k hk) (chunk m c t (kWu m c) (w1 m c) (fun k l => rfl) 768 _ r k hk)) ?_
    exact at2 m c 768 768 _ k l hk
  · refine Finset.sum_congr rfl fun k _ => ?_
    have hk : 1536 + k.val < 2816 := by omega
    refine congrArg₂ (· * ·) (congrArg₂ glu (chunk m c t (kWg m c) (w0 m c) (fun k l => rfl) 1536 _ r k hk) (chunk m c t (kWu m c) (w1 m c) (fun k l => rfl) 1536 _ r k hk)) ?_
    exact at2 m c 1536 768 _ k l hk
  · refine Finset.sum_congr rfl fun k _ => ?_
    have hk : 2304 + k.val < 2816 := by omega
    refine congrArg₂ (· * ·) (congrArg₂ glu (chunk' m c t (kWg m c) (w0 m c) (fun k l => rfl) 2304 _ r k hk) (chunk' m c t (kWu m c) (w1 m c) (fun k l => rfl) 2304 _ r k hk)) ?_
    exact at2 m c 2304 512 _ k l hk

set_option maxHeartbeats 2000000 in
theorem o2 (t : Fin cfg0.N) : (outsAt0 m c t.val t.isLt).1 = (fun y => ffn (kH m c) (kG m c) (kWg m c) (kWu m c) (kWd m c) (gr t (y 0)) (y 1) : FVec Ideal S512x1024 .f32) := by
  by_cases h0 : t.val % 16 = 0
  · rw [outsAt0_A m c t h0]
    unfold stepA outA_2 atA
    dsimp only
    frame_out
    rw [ld0 m c 2304 512, ld0 m c 1536 768, ld0 m c 768 768, ld0 m c 0 768, ld1 m c 2304 512, ld1 m c 1536 768, ld1 m c 768 768, ld1 m c 0 768,
       ld2 m c 2304 512, ld2 m c 1536 768, ld2 m c 768 768, ld2 m c 0 768]
    funext y
    idx_vars y
    exact out2 m c t _ _ _ _ y0 y1
  · rw [outsAt0_B m c t h0]
    unfold stepB outB_2 atB
    dsimp only
    frame_out
    simp only [read_unread_whole]
    rw [scratch0 m c _ _, scratch1 m c _ _, scratch2 m c _ _]
    funext y
    idx_vars y
    exact out2 m c t _ _ _ _ y0 y1

theorem final5 : (dats m 0 c).arrAt 5 cfg0.N = (fun y => nrm (row (kH m c) (y 0)) (vec (kG m c)) (y 1) : FVec Ideal S8192x1024 .bf16) := by
  refine (dats m 0 c).arrAt_eq_of_covers 5 _ (by decide +kernel) fun t hf y => ?_
  have hN : t.val < 16 := t.isLt
  blk_simp
  rw [after0_5, o5]
  idx_vars y
  refine (pn m c t y0 y1).trans ?_
  rw [show ((View.whole main_v8_3).slice (win0_5.rect t)).emb (ix2 y0 y1) = ix2 (gr t y0) y1 from by blk_ext [idx t]]
  rfl

theorem final2 : (dats m 0 c).arrAt 2 cfg0.N = (fun y => ffn (kH m c) (kG m c) (kWg m c) (kWu m c) (kWd m c) (y 0) (y 1) : FVec Ideal S8192x1024 .f32) := by
  refine (dats m 0 c).arrAt_eq_of_covers 2 _ (by decide +kernel) fun t hf y => ?_
  have hN : t.val < 16 := t.isLt
  blk_simp
  rw [after0_2, o2]
  idx_vars y
  rw [show ((View.whole main_v8_0).slice (win0_2.rect t)).emb (ix2 y0 y1) = ix2 (gr t y0) y1 from by blk_ext [idx t]]
  rfl

theorem final3 : (dats m 0 c).arrAt 3 cfg0.N = (fun y => proj (kH m c) (kG m c) (kWg m c) (y 0) (y 1) : FVec Ideal S8192x2816 .bf16) := by
  refine (dats m 0 c).arrAt_eq_of_covers 3 _ (by decide +kernel) fun t hf y => ?_
  have hN : t.val < 16 := t.isLt
  blk_simp
  rw [after0_3, o3]
  idx_vars y
  rw [show ((View.whole main_v8_1).slice (win0_3.rect t)).emb (ix2 y0 y1) = ix2 (gr t y0) y1 from by blk_ext [idx t]]
  rfl

theorem final4 : (dats m 0 c).arrAt 4 cfg0.N = (fun y => proj (kH m c) (kG m c) (kWu m c) (y 0) (y 1) : FVec Ideal S8192x2816 .bf16) := by
  refine (dats m 0 c).arrAt_eq_of_covers 4 _ (by decide +kernel) fun t hf y => ?_
  have hN : t.val < 16 := t.isLt
  blk_simp
  rw [after0_4, o4]
  idx_vars y
  rw [show ((View.whole main_v8_2).slice (win0_4.rect t)).emb (ix2 y0 y1) = ix2 (gr t y0) y1 from by blk_ext [idx t]]
  rfl

end Cert.Kernel11Ideal.Body

end
-- ==== Proof.FfnFwd.lean ====
module

public import proofs.«01_k».proof.Proof.FfnFwdOut
public import proofs.«01_k».proof.Proof.Gen.Kernel11
public import proofs.«01_k».proof.Proof.Gen.Reference11Ideal.Run
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The feed forward block: the call's results are the reference's. -/

@[expose] public section

set_option maxRecDepth 16384

noncomputable section

namespace Cert.Reference11Ideal.FfnFwd

open Idealize.ShloMosaic Idealize.ShloMosaic.TcCoe Idealize.SL.Sem
open Idealize.ShloMosaic.Pipeline (Dat)
open Cert.Reference11Ideal Cert.Reference11Ideal.Gen Cert.Rms Cert.Ffn

variable (h : FVec Ideal S8192x1024 .f32) (g : FVec Ideal S1024 .f32) (w wg wu : FVec Ideal S1024x2816 .f32) (wd : FVec Ideal S2816x1024 .f32)

/-- The reference's normalised rows. -/
abbrev nh : FVec Ideal S8192x1024 .f32 := mulf (F := Ideal) (φ := .f32) (mulf (F := Ideal) (φ := .f32) h (broadcastInDim S8192x1024 ![0, 1] bcast_S8192x1_S8192x1024_0_1 (Host.rsqrt (addf (F := Ideal) (φ := .f32) (Host.divf (broadcastInDim S8192x1 ![0] bcast_S8192_S8192x1_0 (Host.reduceAdd (mulf (F := Ideal) (φ := .f32) h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))
/-- The reference's product of the normalised rows with a matrix. -/
abbrev pj : FVec Ideal S8192x2816 .f32 := Host.dotGeneral (F := Ideal) (φ₁ := .f32) (φ₂ := .f32) dot_S8192x1024_S1024x2816_S8192x2816_1_0_0_1_n_n none (nh h g) w

theorem nh_at (r : Fin 8192) (l : Fin 1024) : nh h g (ix2 r l) = nrm (row h r) (vec g) l := by
  pointwise [nrm, hat, rr, ms]

theorem pj_at (r : Fin 8192) (l : Fin 2816) : pj h g w (ix2 r l) = proj h g w r l := by
  unfold pj
  generalize hn : nh h g = n
  pointwise [proj]
  subst hn
  exact Finset.sum_congr rfl fun k _ => by rw [nh_at]

theorem ref0 : addf (F := Ideal) (φ := .f32) h (mulf (F := Ideal) (φ := .f32) (broadcastInDim S8192x1024 ![] bcast_S_S8192x1024 (constant S_ .f32 0x3F000000#32)) (Host.dotGeneral (F := Ideal) (φ₁ := .f32) (φ₂ := .f32) dot_S8192x2816_S2816x1024_S8192x1024_1_0_0_1_n_n none (mulf (F := Ideal) (φ := .f32) (mulf (F := Ideal) (φ := .f32) (pj h g wg) (Host.divf (broadcastInDim S8192x2816 ![] bcast_S_S8192x2816 (constant S_ .f32 0x3F800000#32)) (addf (F := Ideal) (φ := .f32) (broadcastInDim S8192x2816 ![] bcast_S_S8192x2816 (constant S_ .f32 0x3F800000#32)) (Host.exp (Host.negf (pj h g wg)))))) (pj h g wu)) wd))
    = (fun y => ffn h g wg wu wd (y 0) (y 1) : FVec Ideal S8192x1024 .f32) := by
  funext y
  idx_vars y
  generalize hp : pj h g wg = p
  generalize hq : pj h g wu = q
  pointwise [ffn, glu]
  subst hp hq
  refine congrArg (_ + half * ·) (Finset.sum_congr rfl fun k _ => ?_)
  rw [pj_at, pj_at]
  rfl

theorem ref1 : truncf (F := Ideal) .bf16 (pj h g wg) bitsLt_bf16_f32
    = (fun y => proj h g wg (y 0) (y 1) : FVec Ideal S8192x2816 .bf16) := by
  funext y
  idx_vars y
  exact pj_at h g wg y0 y1

theorem ref3 : truncf (F := Ideal) .bf16 (nh h g) bitsLt_bf16_f32
    = (fun y => nrm (row h (y 0)) (vec g) (y 1) : FVec Ideal S8192x1024 .bf16) := by
  funext y
  idx_vars y
  exact nh_at h g y0 y1

end Cert.Reference11Ideal.FfnFwd

namespace Cert.Kernel11Ideal.Body

open Idealize.ShloMosaic Idealize.ShloMosaic.TcCoe Idealize.SL.Sem
open Cert.Kernel11Ideal Cert.Kernel11Ideal.Gen Cert.Rms Cert.Ffn

/-! ## The claims -/

theorem frame_ideal : Cert.quiescent_Kernel11Ideal := fun m ρ _ => frame m ρ

theorem frame_bits : Cert.quiescent_Kernel11 := by
  have h := fun m ρ (_ : True) => frame (F := Bits) m ρ
  exact cast (by sl_kernel_rfl) h

theorem frame_ref : Cert.quiescent_Reference11Ideal := fun m g _ =>
  (θ_run _ _ _).mono (fun r h => And.intro (fun c => (h c).2.2.2.2) (sem_eq_zero_of_no_sems rfl r.2))
    (Cert.Reference11Ideal.Value.run (F := Ideal) m g)

set_option maxHeartbeats 4000000 in
theorem value : Cert.algebraic_Kernel11Ideal_Reference11Ideal := by
  intro m g m' g' H h
  refine ⟨fun c => (dats m 0 c).arrAt 2 cfg0.N, fun c => (dats m 0 c).arrAt 3 cfg0.N, fun c => (dats m 0 c).arrAt 4 cfg0.N, fun c => (dats m 0 c).arrAt 5 cfg0.N, ?_, ?_⟩
  · exact (θ_run _ _ _).mono (fun r k c => ⟨(k.1 c).1 2, (k.1 c).1 3, (k.1 c).1 4, (k.1 c).1 5, k.2 c⟩) (θ_run_and (run_main (F := Ideal) m g) (unchanged (F := Ideal) m g))
  · exact (θ_run _ _ _).mono (fun r k c => ⟨(k c).1.trans ((Cert.Reference11Ideal.FfnFwd.ref0 _ _ _ _ _).trans (by rw [(h c).1, (h c).2.1, (h c).2.2.1, (h c).2.2.2.1, (h c).2.2.2.2]; exact (final2 m c).symm)),
      (k c).2.1.trans ((Cert.Reference11Ideal.FfnFwd.ref1 _ _ _).trans (by rw [(h c).1, (h c).2.1, (h c).2.2.1]; exact (final3 m c).symm)),
      (k c).2.2.1.trans ((Cert.Reference11Ideal.FfnFwd.ref1 _ _ _).trans (by rw [(h c).1, (h c).2.1, (h c).2.2.2.1]; exact (final4 m c).symm)),
      (k c).2.2.2.1.trans ((Cert.Reference11Ideal.FfnFwd.ref3 _ _).trans (by rw [(h c).1, (h c).2.1]; exact (final5 m c).symm)),
      (k c).2.2.2.2⟩)
      (Cert.Reference11Ideal.Value.run (F := Ideal) m' g')

end Cert.Kernel11Ideal.Body

end
-- ==== Proof.InBwdRunA.lean ====
module

public import proofs.«01_k».proof.Proof.Gen.Kernel12Ideal.Frame.Runs

@[expose] public section

set_option maxRecDepth 16384

noncomputable section

namespace Cert.Kernel12Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

variable {F : FTy → Type} [FloatOps F]

local notation "𝕄" => MT nD τ sig Unit (Elt F) ℕ (Pipeline.UD sig nD τ) ℕ

set_option maxHeartbeats 8000000 in
set_option sl_exec.dmaWindow true in
set_option sl_exec.dmaWindowSet true in
set_option sl_exec.rejoinHeartbeats 1000000 in
/-- The body at a point that fetches the two matrices: with every staging buffer whole, it runs to the end, and the
    pieces its stores leave in each output and in each scratch are the components of the tuple. -/
def runA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x3072 .bf16) (harg4 : arg4.IsWhole) (arg5 : Memref sig .tc .vmem S512x2048 .bf16) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S5120x1024 .bf16) (harg10 : arg10.IsWhole) (hc0 : cond0_0 i)
    (x0 : Vec F S512x1024 .f32) (x1 : Vec F S512x1024 .f32) (x2 : Vec F S1x1024 .f32) (x3 : Vec F S512x3072 .bf16) (x4 : Vec F S512x2048 .bf16) (fh0 : HbBuf0 (F := F) c hbM0_0) :
    Σ' (L5 : List (View.Piece (Elt F) S512x1024 .f32)), Σ' (L6 : List (View.Piece (Elt F) S512x1024 .bf16)), Σ' (L7 : List (View.Piece (Elt F) S8x1024 .f32)), { LS0 : List (View.Piece (Elt F) S5120x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_inproj_bwd i arg1 harg1 arg2 harg2 arg3 harg3 arg4 harg4 arg5 harg5 (Memref.whole main_v3) (Memref.isWhole_whole _) arg7 harg7 arg8 harg8 arg9 harg9 arg10 harg10 cc0_scratch1) K } := by
  refine ⟨?_, ?_, ?_, ?_, fun W K => ?run⟩
  case run =>
    simp only [cc0_inproj_bwd_eq_skeleton]; unfold cc0_inproj_bwd_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.Kernel12Ideal.Body

end
-- ==== Proof.InBwdRunB.lean ====
module

public import proofs.«01_k».proof.Proof.InBwdRunA

@[expose] public section

set_option maxRecDepth 16384

noncomputable section

namespace Cert.Kernel12Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

variable {F : FTy → Type} [FloatOps F]

local notation "𝕄" => MT nD τ sig Unit (Elt F) ℕ (Pipeline.UD sig nD τ) ℕ

set_option maxHeartbeats 8000000 in
/-- The body at a point that finds the two matrices in the scratch: as `runA`, over the scratch contents and the
    accumulated outputs the point before left. -/
def runB (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x3072 .bf16) (harg4 : arg4.IsWhole) (arg5 : Memref sig .tc .vmem S512x2048 .bf16) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S8x1024 .f32) (harg9 : arg9.IsWhole) (arg10 : Memref sig .tc .vmem S5120x1024 .bf16) (harg10 : arg10.IsWhole) (hc0 : ¬cond0_0 i)
    (x0 : Vec F S512x1024 .f32) (x1 : Vec F S512x1024 .f32) (x2 : Vec F S1x1024 .f32) (x3 : Vec F S512x3072 .bf16) (x4 : Vec F S512x2048 .bf16) (xo7 : Vec F S8x1024 .f32) (xs0 : Vec F S5120x1024 .bf16) (fh0 : HbBuf0 (F := F) c hbM0_0) :
    Σ' (L5 : List (View.Piece (Elt F) S512x1024 .f32)), Σ' (L6 : List (View.Piece (Elt F) S512x1024 .bf16)), Σ' (L7 : List (View.Piece (Elt F) S8x1024 .f32)), { LS0 : List (View.Piece (Elt F) S5120x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ owns (c : Thread nD τ) arg9 fullShare xo7 ∗ owns (c : Thread nD τ) arg10 fullShare xs0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
          ⊢ wp frame (wpE (defs₀ (F := F)) Variants.none c none) Set.univ (cc0_inproj_bwd i arg1 harg1 arg2 harg2 arg3 harg3 arg4 harg4 arg5 harg5 (Memref.whole main_v3) (Memref.isWhole_whole _) arg7 harg7 arg8 harg8 arg9 harg9 arg10 harg10 cc0_scratch1) K } := by
  refine ⟨?_, ?_, ?_, [], fun W K => ?run⟩
  case run =>
    simp only [cc0_inproj_bwd_eq_skeleton]; unfold cc0_inproj_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hq0, Hq1, Hq2, Hq3, Hq4, Hq5, Hq6, Hq7, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf7; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.Kernel12Ideal.Body

end
-- ==== Proof.InBwdFrame.lean ====
module

public import proofs.«01_k».proof.Proof.InBwdRunB
public import Idealize.ShloMosaic.Lib.Claim

@[expose] public section

set_option maxRecDepth 16384

noncomputable section

namespace Cert.Kernel12Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the staging buffers of the outputs, and then the scratch buffers, hold after a point. -/
abbrev Outs (F : FTy → Type) [FloatOps F] : Type :=
  Vec F S512x1024 .f32 × Vec F S512x1024 .bf16 × Vec F S8x1024 .f32 × Vec F S5120x1024 .bf16

/-- The first case's run, at point `t`. -/
abbrev atA (c : Dev nD) (t : Fin cfg0.N) (h0 : t.val % 16 = 0) :=
  runA c (grid0.coords t) (ms0_0 t) (hs0_0 t) (ms0_1 t) (hs0_1 t) (ms0_2 t) (hs0_2 t) (ms0_3 t) (hs0_3 t) (ms0_4 t)
  (hs0_4 t) (ms0_5 t) (hs0_5 t) (ms0_6 t) (hs0_6 t) (ms0_7 t) (hs0_7 t) scM0_0 (Memref.isWhole_whole _) ((hcond0_0
  t).mpr h0) (iblk m c 0 t) (iblk m c 1 t) (iblk m c 2 t) (iblk m c 3 t) (iblk m c 4 t) (V m c main_v3)

/-- The second case's run, at point `t`, over what the point before left. -/
abbrev atB (c : Dev nD) (t : Fin cfg0.N) (h0 : ¬t.val % 16 = 0) (p : Outs F) :=
  runB c (grid0.coords t) (ms0_0 t) (hs0_0 t) (ms0_1 t) (hs0_1 t) (ms0_2 t) (hs0_2 t) (ms0_3 t) (hs0_3 t) (ms0_4 t)
  (hs0_4 t) (ms0_5 t) (hs0_5 t) (ms0_6 t) (hs0_6 t) (ms0_7 t) (hs0_7 t) scM0_0 (Memref.isWhole_whole _) (fun h => h0
  ((hcond0_0 t).mp h)) (iblk m c 0 t) (iblk m c 1 t) (iblk m c 2 t) (iblk m c 3 t) (iblk m c 4 t) p.2.2.1 p.2.2.2 (V
  m c main_v3)

section

variable (c : Dev nD) (t : Fin cfg0.N) (h0 : t.val % 16 = 0)

theorem coverA_5 (y : S512x1024.Idx) :
    ∃ pc ∈ (atA m c t h0).1, y ∈ pc.1.set :=
  View.cover_of_tiledL (atA m c t h0).1 S512x1024.size (by sl_kernel_rfl) y

def outA_5 : Vec F S512x1024 .f32 :=
  VO0_5.read (Elt F) (VO0_5.writes (Elt F) VO0_5.junk (atA m c t h0).1)

theorem coverA_6 (y : S512x1024.Idx) :
    ∃ pc ∈ (atA m c t h0).2.1, y ∈ pc.1.set :=
  View.cover_of_tiledL (atA m c t h0).2.1 S512x1024.size (by sl_kernel_rfl) y

def outA_6 : Vec F S512x1024 .bf16 :=
  VO0_6.read (Elt F) (VO0_6.writes (Elt F) VO0_6.junk (atA m c t h0).2.1)

theorem coverA_7 (y : S8x1024.Idx) :
    ∃ pc ∈ (atA m c t h0).2.2.1, y ∈ pc.1.set :=
  View.cover_of_tiledL (atA m c t h0).2.2.1 S8x1024.size (by sl_kernel_rfl) y

def outA_7 : Vec F S8x1024 .f32 :=
  VO0_7.read (Elt F) (VO0_7.writes (Elt F) VO0_7.junk (atA m c t h0).2.2.1)

theorem scoverA_0 (y : S5120x1024.Idx) :
    ∃ pc ∈ (atA m c t h0).2.2.2.1, y ∈ pc.1.set :=
  View.cover_of_tiledL (atA m c t h0).2.2.2.1 S640x1024.size (by sl_kernel_rfl) y

def soutA_0 : Vec F S5120x1024 .bf16 :=
  VS0_0.read (Elt F) (VS0_0.writes (Elt F) VS0_0.junk (atA m c t h0).2.2.2.1)

/-- All of what the case leaves. -/
abbrev stepA : Outs F :=
  (outA_5 m c t h0, outA_6 m c t h0, outA_7 m c t h0, soutA_0 m c t h0)

end

section

variable (c : Dev nD) (t : Fin cfg0.N) (h0 : ¬t.val % 16 = 0) (p : Outs F)

theorem coverB_5 (y : S512x1024.Idx) :
    ∃ pc ∈ (atB m c t h0 p).1, y ∈ pc.1.set :=
  View.cover_of_tiledL (atB m c t h0 p).1 S512x1024.size (by sl_kernel_rfl) y

def outB_5 : Vec F S512x1024 .f32 :=
  VO0_5.read (Elt F) (VO0_5.writes (Elt F) VO0_5.junk (atB m c t h0 p).1)

theorem coverB_6 (y : S512x1024.Idx) :
    ∃ pc ∈ (atB m c t h0 p).2.1, y ∈ pc.1.set :=
  View.cover_of_tiledL (atB m c t h0 p).2.1 S512x1024.size (by sl_kernel_rfl) y

def outB_6 : Vec F S512x1024 .bf16 :=
  VO0_6.read (Elt F) (VO0_6.writes (Elt F) VO0_6.junk (atB m c t h0 p).2.1)

theorem coverB_7 (y : S8x1024.Idx) :
    ∃ pc ∈ (atB m c t h0 p).2.2.1, y ∈ pc.1.set :=
  View.cover_of_tiledL (atB m c t h0 p).2.2.1 S8x1024.size (by sl_kernel_rfl) y

def outB_7 : Vec F S8x1024 .f32 :=
  VO0_7.read (Elt F) (VO0_7.writes (Elt F) VO0_7.junk (atB m c t h0 p).2.2.1)

def soutB_0 : Vec F S5120x1024 .bf16 :=
  p.2.2.2

/-- All of what the case leaves. -/
abbrev stepB : Outs F :=
  (outB_5 m c t h0 p, outB_6 m c t h0 p, outB_7 m c t h0 p, soutB_0 p)

end

/-- What the buffers hold after the body at position `n`: the case of that point, the second one over what position
    `n - 1` left. -/
def outsAt0 (c : Dev nD) : (n : ℕ) → n < cfg0.N → Outs F
  | 0, hn => stepA m c ⟨0, hn⟩ (Nat.zero_mod _)
  | n + 1, hn =>
    if h0 : (n + 1) % 16 = 0 then stepA m c ⟨n + 1, hn⟩ h0
    else stepB m c ⟨n + 1, hn⟩ h0 (outsAt0 c n (Nat.lt_of_succ_lt hn))

theorem outsAt0_A (c : Dev nD) (t : Fin cfg0.N) (h0 : t.val % 16 = 0) :
    outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt =
      stepB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The part of the invariant no point changes: the generator register, the copies' counters at zero, the operand in
    the large memory. -/
abbrev Rest (c : Dev nD) : sProp 𝕄 :=
  iprop((∃ r, prngReg c r) ∗ iprop(semVal ((c : Thread nD τ), SemLoc.dma 14) 0 ∗ semVal ((c : Thread nD τ),
  SemLoc.dma 15) 0 ∗ semVal ((c : Thread nD τ), SemLoc.dma 16) 0 ∗ semVal ((c : Thread nD τ), SemLoc.dma 17) 0 ∗
  semVal ((c : Thread nD τ), SemLoc.dma 18) 0 ∗ semVal ((c : Thread nD τ), SemLoc.dma 19) 0 ∗ semVal ((c : Thread nD
  τ), SemLoc.dma 20) 0 ∗ semVal ((c : Thread nD τ), SemLoc.dma 21) 0) ∗ iprop(hbPt0 c hbM0_0 (V m c main_v3)))

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2)) ∗ Rest m c)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ Rest m c) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ Rest m c) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_7_B (c : Dev nD) (t : Fin cfg0.N) (h0 : ¬t.val % 16 = 0) (d) :
    (dats m 0 c).before 7 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      (try unfold stepA); unfold outA_5 outA_6 outA_7 soutA_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((atA m c t h0).2.2.2.2 W _)
      isplitl [H0]; iexact H0; isplitl [H1]; iexact H1; isplitl [H2]; iexact H2; isplitl [H3]; iexact H3
      isplitl [H4]; iexact H4
      isplitl [H5]; · iexists _; iexact H5
      isplitl [H6]; · iexists _; iexact H6
      isplitl [H7]; · iexists _; iexact H7
      isplitl [HS0]; iexact HS0; isplitl [Hq0]; iexact Hq0; isplitl [Hq1]; iexact Hq1; isplitl [Hq2]; iexact Hq2
      isplitl [Hq3]; iexact Hq3; isplitl [Hq4]; iexact Hq4; isplitl [Hq5]; iexact Hq5; isplitl [Hq6]; iexact Hq6
      isplitl [Hq7]; iexact Hq7; isplitl [Hh0]; iexact Hh0; isplitl [HW]; iexact HW
      iintro ⟨H0, H1, H2, H3, H4, ⟨%e5, H5⟩, ⟨%e6, H6⟩, ⟨%e7, H7⟩, ⟨%es0, HS0⟩, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · unfold owns; iexists _; isplitr
          swap; · iexact HS0
          ipureintro; exact View.read_writes_of_cover _ _ _ _ _ (scoverA_0 m c t h0)
        isplitl [Hg]
        · iexact Hg
        isplitl [Hq0 Hq1 Hq2 Hq3 Hq4 Hq5 Hq6 Hq7]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6
          iexact Hq7
        iexact Hh0
      isplitl [HW']
      · iexists W'; isplitr; · ipureintro; exact fun _ _ => Or.inl trivial
        iexact HW'
      isplitl [H0]; iexact H0; isplitl [H1]; iexact H1; isplitl [H2]; iexact H2; isplitl [H3]; iexact H3
      isplitl [H4]; iexact H4
      isplitl [H5]
      · unfold owns; iexists _; isplitr
        swap; · iexact H5
        ipureintro; exact View.read_writes_of_cover _ _ _ _ _ (coverA_5 m c t h0)
      isplitl [H6]
      · unfold owns; iexists _; isplitr
        swap; · iexact H6
        ipureintro; exact View.read_writes_of_cover _ _ _ _ _ (coverA_6 m c t h0)
      unfold owns; iexists _; isplitr
      swap; · iexact H7
      ipureintro; exact View.read_writes_of_cover _ _ _ _ _ (coverA_7 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_7_B m c t h0]
      (try unfold stepB); unfold outB_5 outB_6 outB_7 soutB_0; (try dsimp only)
      iintro ⟨⟨HS0, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((atB m c t h0 (outsAt0 m c (t.val - 1) (Nat.lt_of_le_of_lt (Nat.sub_le _ _) t.isLt))).2.2.2.2 W _)
      isplitl [H0]; iexact H0; isplitl [H1]; iexact H1; isplitl [H2]; iexact H2; isplitl [H3]; iexact H3
      isplitl [H4]; iexact H4
      isplitl [H5]; · iexists _; iexact H5
      isplitl [H6]; · iexists _; iexact H6
      isplitl [H7]; iexact H7; isplitl [HS0]; iexact HS0; isplitl [Hq0]; iexact Hq0; isplitl [Hq1]; iexact Hq1
      isplitl [Hq2]; iexact Hq2; isplitl [Hq3]; iexact Hq3; isplitl [Hq4]; iexact Hq4; isplitl [Hq5]; iexact Hq5
      isplitl [Hq6]; iexact Hq6; isplitl [Hq7]; iexact Hq7; isplitl [Hh0]; iexact Hh0; isplitl [HW]; iexact HW
      iintro ⟨H0, H1, H2, H3, H4, ⟨%e5, H5⟩, ⟨%e6, H6⟩, ⟨%e7, H7⟩, HS0, Hq0, Hq1, Hq2, Hq3, Hq4, Hq5, Hq6, Hq7, Hh0, ⟨%W', HW'⟩⟩
      isplitl [HS0 Hg Hq0 Hq1 Hq2 Hq3 Hq4 Hq5 Hq6 Hq7 Hh0]
      · isplitl [HS0]
        · iexact HS0
        isplitl [Hg]
        · iexact Hg
        isplitl [Hq0 Hq1 Hq2 Hq3 Hq4 Hq5 Hq6 Hq7]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6
          iexact Hq7
        iexact Hh0
      isplitl [HW']
      · iexists W'; isplitr; · ipureintro; exact fun _ _ => Or.inl trivial
        iexact HW'
      isplitl [H0]; iexact H0; isplitl [H1]; iexact H1; isplitl [H2]; iexact H2; isplitl [H3]; iexact H3
      isplitl [H4]; iexact H4
      isplitl [H5]
      · unfold owns; iexists _; isplitr
        swap; · iexact H5
        ipureintro; exact View.read_writes_of_cover _ _ _ _ _ (coverB_5 m c t h0 _)
      isplitl [H6]
      · unfold owns; iexists _; isplitr
        swap; · iexact H6
        ipureintro; exact View.read_writes_of_cover _ _ _ _ _ (coverB_6 m c t h0 _)
      unfold owns; iexists _; isplitr
      swap; · iexact H7
      ipureintro; exact View.read_writes_of_cover _ _ _ _ _ (coverB_7 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3, Hq4, Hq5, Hq6, Hq7⟩, Hh0⟩
  isplitl [HS0]
  · iexists _; iexact HS0
  isplitl [Hg]; iexact Hg
  isplitl [Hq0 Hq1 Hq2 Hq3 Hq4 Hq5 Hq6 Hq7]
  · isplitl [Hq0]; · iexact Hq0
    isplitl [Hq1]; iexact Hq1; isplitl [Hq2]; iexact Hq2; isplitl [Hq3]; iexact Hq3; isplitl [Hq4]; iexact Hq4
    isplitl [Hq5]; iexact Hq5; isplitl [Hq6]; iexact Hq6
    iexact Hq7
  iexact Hh0

theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel12Ideal.Body

end
-- ==== Proof.RmsReal.lean ====
module

public import proofs.«01_k».proof.Proof.Rms
public import proofs.«01_k».proof.Proof.MixReal

/-! The gradient through the root mean square norm: the form the calls compute, the form the derivative of the
    reference's lines takes, and their equality on real rows. -/

@[expose] public section

noncomputable section

namespace Cert.Rms

open Idealize.ShloMosaic Cert.Rows

/-- The gradient through the norm of row `x` with gain `g`, from the gradient `u` of its result: as the calls compute it. -/
def dK (x g u : Fin 1024 → EReal) (l : Fin 1024) : EReal :=
  rr x * (u l * g l - hat x l * Ideal.div (∑ k, u k * g k * hat x k) len)

/-- The gradient of the row's mean square, times one half, as the derivative gives it. -/
def sR (x g u : Fin 1024 → EReal) : EReal :=
  Ideal.div ((∑ k, x k * (u k * g k)) * (Ideal.ofBits .f32 0xBF000000#32 * Ideal.div (rr x) (ms x))) len

/-- The same gradient as the derivative gives it. -/
def dR (x g u : Fin 1024 → EReal) (l : Fin 1024) : EReal :=
  u l * g l * rr x + x l * sR x g u + sR x g u * x l

theorem eps6_pos : ∃ e : ℝ, 0 < e ∧ eps6 = (e : EReal) := by
  refine ⟨_, ?_, by simp [Ideal.ofBits, Ideal.ieee, -EReal.coe_mul]; rfl⟩
  norm_num

variable (x g u : Fin 1024 → ℝ) (e : ℝ)

def msᵣ : ℝ := (∑ k, x k * x k) / 1024 + e
def rrᵣ : ℝ := (Real.sqrt (msᵣ x e))⁻¹

theorem ms_up (he : eps6 = (e : EReal)) : ms (up x) = (msᵣ x e : EReal) := by
  unfold ms msᵣ
  simp only [← EReal.coe_mul]
  rw [coe_sum, div_len, he, EReal.coe_add]

theorem msᵣ_pos (h : 0 < e) : 0 < msᵣ x e := by
  unfold msᵣ
  have : 0 ≤ (∑ k, x k * x k) := Finset.sum_nonneg fun k _ => mul_self_nonneg _
  positivity

theorem rr_up (he : eps6 = (e : EReal)) (h : 0 < e) : rr (up x) = (rrᵣ x e : EReal) := by
  unfold rr rrᵣ
  have hv := msᵣ_pos x e h
  rw [ms_up x e he, Ideal.rsqrt_coe, if_neg (not_lt.mpr hv.le), if_neg hv.ne']

theorem rrᵣ_sq (h : 0 < e) : rrᵣ x e / msᵣ x e = rrᵣ x e * rrᵣ x e * rrᵣ x e := by
  have hv := msᵣ_pos x e h
  have hs : rrᵣ x e * rrᵣ x e = (msᵣ x e)⁻¹ := by
    unfold rrᵣ; rw [← mul_inv, Real.mul_self_sqrt hv.le]
  rw [div_eq_mul_inv, ← hs, mul_assoc]

theorem d_up (he : eps6 = (e : EReal)) (h : 0 < e) (l : Fin 1024) : dR (up x) (up g) (up u) l = dK (up x) (up g) (up u) l := by
  have hv := msᵣ_pos x e h
  unfold dR dK sR hat
  simp only [rr_up x e he h, ms_up x e he, neg_half_eq, div_real _ _ hv.ne', ← EReal.coe_mul, coe_sum, div_len, ← EReal.coe_add,
    ← EReal.coe_sub]
  congr 1
  have h3 : ∑ k, u k * g k * (x k * rrᵣ x e) = rrᵣ x e * ∑ k, x k * (u k * g k) := by
    rw [Finset.mul_sum]; exact Finset.sum_congr rfl fun k _ => by ring
  rw [h3, rrᵣ_sq x e h]
  ring

/-- The two forms agree on real rows. -/
theorem d_eq (x g u : Fin 1024 → EReal) (hx : ∀ l, x l ≠ ⊥ ∧ x l ≠ ⊤) (hg : ∀ l, g l ≠ ⊥ ∧ g l ≠ ⊤) (hu : ∀ l, u l ≠ ⊥ ∧ u l ≠ ⊤)
    (l : Fin 1024) : dR x g u l = dK x g u l := by
  obtain ⟨x, rfl⟩ := real_of x hx
  obtain ⟨g, rfl⟩ := real_of g hg
  obtain ⟨u, rfl⟩ := real_of u hu
  obtain ⟨e, h, he⟩ := eps6_pos
  exact d_up x g u e he h l

/-- A sum of products of reals is a real. -/
theorem sum_real {n : ℕ} (a b : Fin n → EReal) (ha : ∀ k, a k ≠ ⊥ ∧ a k ≠ ⊤) (hb : ∀ k, b k ≠ ⊥ ∧ b k ≠ ⊤) :
    (∑ k, a k * b k) ≠ ⊥ ∧ (∑ k, a k * b k) ≠ ⊤ := by
  have e : (∑ k, a k * b k) = ((∑ k, (a k).toReal * (b k).toReal : ℝ) : EReal) := by
    rw [← coe_sum]
    exact Finset.sum_congr rfl fun k _ => by
      rw [EReal.coe_mul, EReal.coe_toReal (ha k).2 (ha k).1, EReal.coe_toReal (hb k).2 (hb k).1]
  rw [e]
  exact ⟨EReal.coe_ne_bot _, EReal.coe_ne_top _⟩

/-- A product of reals is a real. -/
theorem mul_real (a b : EReal) (ha : a ≠ ⊥ ∧ a ≠ ⊤) (hb : b ≠ ⊥ ∧ b ≠ ⊤) : a * b ≠ ⊥ ∧ a * b ≠ ⊤ := by
  rw [← EReal.coe_toReal ha.2 ha.1, ← EReal.coe_toReal hb.2 hb.1, ← EReal.coe_mul]
  exact ⟨EReal.coe_ne_bot _, EReal.coe_ne_top _⟩

/-- A normalised real row is real. -/
theorem nrm_real (x g : Fin 1024 → EReal) (hx : ∀ l, x l ≠ ⊥ ∧ x l ≠ ⊤) (hg : ∀ l, g l ≠ ⊥ ∧ g l ≠ ⊤) (l : Fin 1024) :
    nrm x g l ≠ ⊥ ∧ nrm x g l ≠ ⊤ := by
  obtain ⟨x, rfl⟩ := real_of x hx
  obtain ⟨e, h, he⟩ := eps6_pos
  refine mul_real _ _ (mul_real _ _ (hx l) ?_) (hg l)
  rw [rr_up x e he h]
  exact ⟨EReal.coe_ne_bot _, EReal.coe_ne_top _⟩

/-- Row `8 a + i` of the array. -/
abbrev row8 (a : Fin 1024) (i : Fin 8) : Fin 8192 := ⟨a.val * 8 + i.val, by omega⟩

end Cert.Rms

end
-- ==== Proof.InBwdOut.lean ====
module

public import proofs.«01_k».proof.Proof.InBwdFrame
public import proofs.«01_k».proof.Proof.RmsReal
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The backward call of the input projection: the weights its first grid point copies into scratch, and its results. -/

@[expose] public section

set_option maxRecDepth 16384

noncomputable section

namespace Cert.Kernel12Ideal.Body

open Idealize.ShloMosaic Idealize.ShloMosaic.TcCoe Idealize.SL.Sem
open Idealize.ShloMosaic.Pipeline (Dat)
open Cert.Kernel12Ideal Cert.Kernel12Ideal.Gen Cert.Rms

variable (m : (ℓ : Loc nD τ sig) → Buf (Elt Ideal) ℓ) (c : Dev nD)

/-- The gradient that the residual carries. -/
abbrev kD : FVec Ideal S8192x1024 .f32 := m ((c : Thread nD τ).loc main_arg0)
/-- The activations. -/
abbrev kH : FVec Ideal S8192x1024 .f32 := m ((c : Thread nD τ).loc main_arg1)
/-- The norm's gain. -/
abbrev kG : FVec Ideal S1024 .f32 := m ((c : Thread nD τ).loc main_arg2)
/-- The gradient of the first 3072 lanes of the projection. -/
abbrev kZ : FVec Ideal S8192x3072 .bf16 := m ((c : Thread nD τ).loc main_arg4)
/-- The gradient of the other 2048 lanes. -/
abbrev kY : FVec Ideal S8192x2048 .bf16 := m ((c : Thread nD τ).loc main_arg5)
/-- The weights. -/
abbrev kW : FVec Ideal S1024x5120 .f32 := m ((c : Thread nD τ).loc main_arg3)
/-- The weights transposed, as the scratch holds them. -/
def wT : FVec Ideal S5120x1024 .bf16 := fun y => kW m c (ix2 (y 1) (y 0))

theorem host_g (l : Fin 1024) : V m c main_v0 (ix2 0 l) = kG m c (ix1 l) := by
  unfold V
  simp only [hostOps0, List.flatten_cons, List.flatten_nil, List.append_nil, List.cons_append, List.nil_append]
  entry_read
  pointwise []

theorem host_w (s : Fin 8) (r : Fin 640) (l : Fin 1024) :
    V m c main_v3 (ix3 s r l) = kW m c (ix2 l ⟨s.val * 640 + r.val, by omega⟩) := by
  unfold V
  simp only [hostOps0, List.flatten_cons, List.flatten_nil, List.append_nil, List.cons_append, List.nil_append]
  entry_read
  pointwise []

/-- Shard `s` of the gathered weights. -/
abbrev shard (s : ℕ) (h : ∀ a, (![s, 0, 0] : Fin 3 → ℕ) a + S1x640x1024.size a ≤ S8x640x1024.size a) :=
  ((View.whole (κ := .tc) main_v3).slice (Rect.unit ![s, 0, 0] ![1, 640, 1024] h)).reshape S640x1024 squeezes_S1x640x1024_S640x1024.numel_eq

/-- One copy: the shard's rows land at row `o` of the scratch. -/
abbrev piece (o s : ℕ) (ho : ∀ a, (![o, 0] : Fin 2 → ℕ) a + S640x1024.size a ≤ S5120x1024.size a)
    (h : ∀ a, (![s, 0, 0] : Fin 3 → ℕ) a + S1x640x1024.size a ≤ S8x640x1024.size a) : View.Piece (Elt Ideal) S5120x1024 .bf16 :=
  ⟨Rect.unit ![o, 0] ![640, 1024] ho, ReadAs.same.apply (View.read (Elt Ideal) (shard s h) (V m c main_v3))⟩

/-- What the eight copies leave in the scratch. -/
abbrev pieces : List (View.Piece (Elt Ideal) S5120x1024 .bf16) :=
  [piece m c 4480 7 inb_S5120x1024_S640x1024_4480_0 inb_S8x640x1024_S1x640x1024_7_0_0,
   piece m c 3840 6 inb_S5120x1024_S640x1024_3840_0 inb_S8x640x1024_S1x640x1024_6_0_0,
   piece m c 3200 5 inb_S5120x1024_S640x1024_3200_0 inb_S8x640x1024_S1x640x1024_5_0_0,
   piece m c 2560 4 inb_S5120x1024_S640x1024_2560_0 inb_S8x640x1024_S1x640x1024_4_0_0,
   piece m c 1920 3 inb_S5120x1024_S640x1024_1920_0 inb_S8x640x1024_S1x640x1024_3_0_0,
   piece m c 1280 2 inb_S5120x1024_S640x1024_1280_0 inb_S8x640x1024_S1x640x1024_2_0_0,
   piece m c 640 1 inb_S5120x1024_S640x1024_640_0 inb_S8x640x1024_S1x640x1024_1_0_0,
   piece m c 0 0 inb_S5120x1024_S640x1024_0_0 inb_S8x640x1024_S1x640x1024_0_0_0]

/-- One copied piece, at one element. -/
theorem piece_at (s o : ℕ) (h) (hs : s < 8) (ho : o = s * 640)
    (x : S640x1024.Idx) (y : S5120x1024.Idx) (h0 : (y 0).val = o + (x 0).val) (h1 : (y 1).val = (x 1).val) :
    View.read (Elt Ideal) (shard s h) (V m c main_v3) x = wT m c y := by
  idx_vars x
  have hx : x0.val < 640 := x0.isLt
  show (V m c main_v3) ((Rect.unit (s := S8x640x1024) ![s, 0, 0] ![1, 640, 1024] h).emb (Shape.reshapeEquiv _ (ix2 x0 x1))) = _
  refine (congrArg (V m c main_v3) (?_ : _ = (ix3 (⟨s, hs⟩ : Fin 8) x0 x1))).trans ((host_w m c ⟨s, hs⟩ x0 x1).trans ?_)
  · refine (congrArg (Rect.emb _) (ValueIdx.reshapeEquiv_ix2_1ab _ x0 x1)).trans ?_
    funext a
    apply Fin.ext
    fin_cases a
    · show s + 1 * 0 = s; omega
    · show 0 + 1 * x0.val = x0.val; omega
    · show 0 + 1 * x1.val = x1.val; omega
  · refine congrArg (kW m c) ?_
    funext a
    apply Fin.ext
    fin_cases a
    · exact h1.symm
    · exact (congrArg (· + x0.val) ho.symm).trans h0.symm

set_option maxHeartbeats 2000000 in
theorem canon0 : View.canon (pieces m c) = wT m c := by
  funext y
  canon_tiles x h
  · exact piece_at m c 7 4480 _ (by decide) rfl x y h0 h1
  · exact piece_at m c 6 3840 _ (by decide) rfl x y h0 h1
  · exact piece_at m c 5 3200 _ (by decide) rfl x y h0 h1
  · exact piece_at m c 4 2560 _ (by decide) rfl x y h0 h1
  · exact piece_at m c 3 1920 _ (by decide) rfl x y h0 h1
  · exact piece_at m c 2 1280 _ (by decide) rfl x y h0 h1
  · exact piece_at m c 1 640 _ (by decide) rfl x y h0 h1
  · exact piece_at m c 0 0 _ (by decide) rfl x y (h0.trans (Nat.zero_add _).symm) h1

set_option maxHeartbeats 2000000 in
theorem soutA_0_eq (t : Fin cfg0.N) (h0 : t.val % 16 = 0) : soutA_0 m c t h0 = wT m c := by
  unfold soutA_0 atA
  frame_out
  exact canon0 m c

theorem stepA_0 (t : Fin cfg0.N) (h0 : t.val % 16 = 0) : (stepA m c t h0).2.2.2 = soutA_0 m c t h0 := by
  unfold stepA; dsimp only
theorem stepB_0 (t : Fin cfg0.N) (h0 : ¬ t.val % 16 = 0) (p : Outs Ideal) : (stepB m c t h0 p).2.2.2 = p.2.2.2 := by
  unfold stepB soutB_0; dsimp only

/-- The scratch after every point. -/
theorem scratch_aux (n : ℕ) : ∀ (t : Fin cfg0.N), t.val = n → (outsAt0 m c t.val t.isLt).2.2.2 = wT m c := by
  induction n with
  | zero =>
    intro t ht
    have h0 : t.val % 16 = 0 := by omega
    rw [outsAt0_A m c t h0]
    exact (stepA_0 m c t h0).trans (soutA_0_eq m c t h0)
  | succ n ih =>
    intro t ht
    by_cases h0 : t.val % 16 = 0
    · rw [outsAt0_A m c t h0]
      exact (stepA_0 m c t h0).trans (soutA_0_eq m c t h0)
    · rw [outsAt0_B m c t h0]
      exact (stepB_0 m c t h0 _).trans (ih ⟨t.val - 1, Nat.lt_of_le_of_lt (Nat.sub_le _ _) t.isLt⟩ (by show t.val - 1 = n; omega))

theorem scratch (n : ℕ) (h : n < cfg0.N) : (outsAt0 m c n h).2.2.2 = wT m c := scratch_aux m c n ⟨n, h⟩ rfl

theorem ldW (o : ℕ) (h) : (View.whole cc0_scratch0).readCov (pieces m c) (Rect.unit ![o, 0] ![1024, 1024] h).toLoadRect = View.ld (wT m c) (Rect.unit (s := S5120x1024) ![o, 0] ![1024, 1024] h) := by
  rw [View.readCov_eq_canon', canon0]
  rfl

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

/-- Row `r` of the grid point's block of 512 rows. -/
abbrev gr (t : Fin cfg0.N) (r : Fin 512) : Fin 8192 := ⟨t.val * 512 + r.val, by have := t.isLt; have : cfg0.N = 16 := rfl; omega⟩

theorem i0 (t : Fin cfg0.N) (r : Fin 512) (l : Fin 1024) : (iblk m c 0 t : FVec Ideal S512x1024 .f32) (ix2 r l) = kD m c (ix2 (gr t r) l) := by
  refine Eq.trans (?_ : _ = (V m c main_arg0 : FVec Ideal S8192x1024 .f32) (ix2 (gr t r) l)) (congrFun (V_main_arg0 m c) _)
  have hN : t.val < 16 := t.isLt
  blk_ext [iblk, idx t]

theorem i1 (t : Fin cfg0.N) (r : Fin 512) (l : Fin 1024) : (iblk m c 1 t : FVec Ideal S512x1024 .f32) (ix2 r l) = kH m c (ix2 (gr t r) l) := by
  refine Eq.trans (?_ : _ = (V m c main_arg1 : FVec Ideal S8192x1024 .f32) (ix2 (gr t r) l)) (congrFun (V_main_arg1 m c) _)
  have hN : t.val < 16 := t.isLt
  blk_ext [iblk, idx t]

theorem i3 (t : Fin cfg0.N) (r : Fin 512) (l : Fin 3072) : (iblk m c 3 t : FVec Ideal S512x3072 .bf16) (ix2 r l) = kZ m c (ix2 (gr t r) l) := by
  refine Eq.trans (?_ : _ = (V m c main_arg4 : FVec Ideal S8192x3072 .bf16) (ix2 (gr t r) l)) (congrFun (V_main_arg4 m c) _)
  have hN : t.val < 16 := t.isLt
  blk_ext [iblk, idx t]

theorem i4 (t : Fin cfg0.N) (r : Fin 512) (l : Fin 2048) : (iblk m c 4 t : FVec Ideal S512x2048 .bf16) (ix2 r l) = kY m c (ix2 (gr t r) l) := by
  refine Eq.trans (?_ : _ = (V m c main_arg5 : FVec Ideal S8192x2048 .bf16) (ix2 (gr t r) l)) (congrFun (V_main_arg5 m c) _)
  have hN : t.val < 16 := t.isLt
  blk_ext [iblk, idx t]

theorem i2 (t : Fin cfg0.N) (l : Fin 1024) : (iblk m c 2 t : FVec Ideal S1x1024 .f32) (ix2 0 l) = kG m c (ix1 l) := by
  refine Eq.trans (?_ : _ = (V m c main_v0 : FVec Ideal S1x1024 .f32) (ix2 0 l)) (host_g m c l)
  have hN : t.val < 16 := t.isLt
  blk_ext [iblk, idx t]

/-- A sum over 5120 lanes, in chunks of 1024. -/
theorem sum_1024 (f : Fin 5120 → EReal) : ∑ k, f k
    = ((((∑ k : Fin 1024, f ⟨0 + k.val, by omega⟩) + ∑ k : Fin 1024, f ⟨1024 + k.val, by omega⟩) + ∑ k : Fin 1024, f ⟨2048 + k.val, by omega⟩)
      + ∑ k : Fin 1024, f ⟨3072 + k.val, by omega⟩) + ∑ k : Fin 1024, f ⟨4096 + k.val, by omega⟩ := by
  refine (Fin.sum_univ_add (a := 4096) (b := 1024) f).trans (congrArg₂ (· + ·) ?_ rfl)
  refine (Fin.sum_univ_add (a := 3072) (b := 1024) _).trans (congrArg₂ (· + ·) ?_ rfl)
  refine (Fin.sum_univ_add (a := 2048) (b := 1024) _).trans (congrArg₂ (· + ·) ?_ rfl)
  refine (Fin.sum_univ_add (a := 1024) (b := 1024) _).trans (congrArg₂ (· + ·) ?_ rfl)
  exact Finset.sum_congr rfl fun k _ => congrArg f (Fin.ext (Nat.zero_add _).symm)

/-- The projection's gradient: its two parts side by side. -/
def both (z : FVec Ideal S8192x3072 .bf16) (y : FVec Ideal S8192x2048 .bf16) (r : Fin 8192) (k : Fin 5120) : EReal :=
  if h : k.val < 3072 then z (ix2 r ⟨k.val, h⟩) else y (ix2 r ⟨k.val - 3072, by omega⟩)

/-- The gradient of the normalised row. -/
def dun (z : FVec Ideal S8192x3072 .bf16) (y : FVec Ideal S8192x2048 .bf16) (w : FVec Ideal S1024x5120 .f32) (r : Fin 8192) (l : Fin 1024) : EReal :=
  ∑ k : Fin 5120, both z y r k * w (ix2 l k)

section
variable (v28 : FVec Ideal S512x1024 .f32) (a b e : FVec Ideal S512x1024 .bf16) (w w' w'' : FVec Ideal S1024x1024 .bf16)
  (x d : FVec Ideal S512x1024 .f32) (g : FVec Ideal S1x1024 .f32) (acc : FVec Ideal S8x1024 .f32) (r : Fin 512) (l : Fin 1024)

theorem p1 : k0_pay1 (F := Ideal) v28 a w b w' e w'' (ix2 r l)
    = ((v28 (ix2 r l) + ∑ k : Fin 1024, a (ix2 r k) * w (ix2 k l)) + ∑ k : Fin 1024, b (ix2 r k) * w' (ix2 k l)) + ∑ k : Fin 1024, e (ix2 r k) * w'' (ix2 k l) := by
  pointwise [k0_pay1]

theorem p9 : k0_pay9 (F := Ideal) a w b w' (ix2 r l) = (∑ k : Fin 1024, a (ix2 r k) * w (ix2 k l)) + ∑ k : Fin 1024, b (ix2 r k) * w' (ix2 k l) := by
  pointwise [k0_pay9]

theorem p8 : k0_pay8 (F := Ideal) g x (ix2 r l) = nrm (row x r) (row g 0) l := by
  pointwise [k0_pay8, k0_pay7, k0_pay6, k0_pay5, nrm, hat, rr, ms]

theorem p3 : k0_pay3 (F := Ideal) (k0_pay5 (F := Ideal) g) (k0_pay6 (F := Ideal) x) (k0_pay7 (F := Ideal) x) v28 a w b w' e w'' d (ix2 r l)
    = d (ix2 r l) + dK (row x r) (row g 0) (row (k0_pay1 (F := Ideal) v28 a w b w' e w'') r) l := by
  pointwise [k0_pay3, k0_pay5, k0_pay6, k0_pay7, dK, hat, rr, ms]

theorem p2 (i : Fin 8) : k0_pay2 (F := Ideal) (k0_pay7 (F := Ideal) x) v28 a w b w' e w'' acc (ix2 i l)
    = acc (ix2 i l) + ∑ j : Fin 64, k0_pay1 (F := Ideal) v28 a w b w' e w'' (ix2 (⟨j.val * 8 + i.val, by omega⟩ : Fin 512) l) * hat (row x ⟨j.val * 8 + i.val, by omega⟩) l := by
  pointwise [k0_pay2, k0_pay6, k0_pay7, hat, rr, ms]

end

/-- The gradient of the normalised row, as a grid point computes it. -/
abbrev kdn (t : Fin cfg0.N) : FVec Ideal S512x1024 .f32 := k0_pay1 (F := Ideal) (k0_pay9 (F := Ideal) (View.ld (iblk m c 3 t) (Rect.unit (s := S512x3072) ![0, 0] ![512, 1024] inb_S512x3072_S512x1024_0_0)) (View.ld (wT m c) (Rect.unit (s := S5120x1024) ![0, 0] ![1024, 1024] inb_S5120x1024_S1024x1024_0_0)) (View.ld (iblk m c 3 t) (Rect.unit (s := S512x3072) ![0, 1024] ![512, 1024] inb_S512x3072_S512x1024_0_1024)) (View.ld (wT m c) (Rect.unit (s := S5120x1024) ![1024, 0] ![1024, 1024] inb_S5120x1024_S1024x1024_1024_0))) (View.ld (iblk m c 3 t) (Rect.unit (s := S512x3072) ![0, 2048] ![512, 1024] inb_S512x3072_S512x1024_0_2048)) (View.ld (wT m c) (Rect.unit (s := S5120x1024) ![2048, 0] ![1024, 1024] inb_S5120x1024_S1024x1024_2048_0)) (View.ld (iblk m c 4 t) (Rect.unit (s := S512x2048) ![0, 0] ![512, 1024] inb_S512x2048_S512x1024_0_0)) (View.ld (wT m c) (Rect.unit (s := S5120x1024) ![3072, 0] ![1024, 1024] inb_S5120x1024_S1024x1024_3072_0)) (View.ld (iblk m c 4 t) (Rect.unit (s := S512x2048) ![0, 1024] ![512, 1024] inb_S512x2048_S512x1024_0_1024)) (View.ld (wT m c) (Rect.unit (s := S5120x1024) ![4096, 0] ![1024, 1024] inb_S5120x1024_S1024x1024_4096_0))

theorem ldz (t : Fin cfg0.N) (o : ℕ) (h) (ho : o ≤ 2048) (r : Fin 512) (k : Fin 1024) (hk : o + k.val < 5120) :
    View.ld (Val := Elt Ideal) (S := S512x3072) (e' := .bf16) (iblk m c 3 t) (Rect.unit (s := S512x3072) ![0, o] ![512, 1024] h) (ix2 r k)
      = both (kZ m c) (kY m c) (gr t r) ⟨o + k.val, hk⟩ := by
  have h3 : o + k.val < 3072 := by omega
  unfold both
  rw [dif_pos h3]
  refine Eq.trans ?_ (i3 m c t r ⟨o + k.val, h3⟩)
  refine congrArg (iblk m c 3 t : FVec Ideal S512x3072 .bf16) ?_
  funext a
  apply Fin.ext
  fin_cases a
  · show 0 + 1 * r.val = r.val; omega
  · show o + 1 * k.val = o + k.val; omega

theorem ldy (t : Fin cfg0.N) (o : ℕ) (h) (ho : o ≤ 1024) (r : Fin 512) (k : Fin 1024) (hk : 3072 + o + k.val < 5120) :
    View.ld (Val := Elt Ideal) (S := S512x2048) (e' := .bf16) (iblk m c 4 t) (Rect.unit (s := S512x2048) ![0, o] ![512, 1024] h) (ix2 r k)
      = both (kZ m c) (kY m c) (gr t r) ⟨3072 + o + k.val, hk⟩ := by
  have h3 : ¬ (3072 + o + k.val < 3072) := by omega
  unfold both
  rw [dif_neg h3]
  refine Eq.trans ?_ (i4 m c t r ⟨3072 + o + k.val - 3072, by omega⟩)
  refine congrArg (iblk m c 4 t : FVec Ideal S512x2048 .bf16) ?_
  funext a
  apply Fin.ext
  fin_cases a
  · show 0 + 1 * r.val = r.val; omega
  · show o + 1 * k.val = 3072 + o + k.val - 3072; omega

theorem ldw (o : ℕ) (h) (k l : Fin 1024) (hk : o + k.val < 5120) :
    View.ld (Val := Elt Ideal) (S := S5120x1024) (e' := .bf16) (wT m c) (Rect.unit (s := S5120x1024) ![o, 0] ![1024, 1024] h) (ix2 k l)
      = kW m c (ix2 l ⟨o + k.val, hk⟩) := by
  show wT m c _ = _
  unfold wT
  refine congrArg (kW m c) ?_
  funext a
  apply Fin.ext
  fin_cases a
  · show 0 + 1 * l.val = l.val; omega
  · show o + 1 * k.val = o + k.val; omega

theorem pd (t : Fin cfg0.N) (r : Fin 512) (l : Fin 1024) : kdn m c t (ix2 r l) = dun (kZ m c) (kY m c) (kW m c) (gr t r) l := by
  refine (p1 _ _ _ _ _ _ _ _ _).trans ?_
  rw [p9]
  unfold dun
  rw [sum_1024]
  refine congrArg₂ (· + ·) (congrArg₂ (· + ·) (congrArg₂ (· + ·) (congrArg₂ (· + ·) ?_ ?_) ?_) ?_) ?_
  · exact Finset.sum_congr rfl fun k _ => congrArg₂ (· * ·) (ldz m c t 0 _ (by decide) r k _) (ldw m c 0 _ k l _)
  · exact Finset.sum_congr rfl fun k _ => congrArg₂ (· * ·) (ldz m c t 1024 _ (by decide) r k _) (ldw m c 1024 _ k l _)
  · exact Finset.sum_congr rfl fun k _ => congrArg₂ (· * ·) (ldz m c t 2048 _ (by decide) r k _) (ldw m c 2048 _ k l _)
  · exact Finset.sum_congr rfl fun k _ => congrArg₂ (· * ·) (ldy m c t 0 _ (by decide) r k _) (ldw m c 3072 _ k l _)
  · exact Finset.sum_congr rfl fun k _ => congrArg₂ (· * ·) (ldy m c t 1024 _ (by decide) r k _) (ldw m c 4096 _ k l _)

theorem bx (t : Fin cfg0.N) (r : Fin 512) : row (iblk m c 1 t : FVec Ideal S512x1024 .f32) r = row (kH m c) (gr t r) := funext fun l => i1 m c t r l
theorem bg (t : Fin cfg0.N) : row (iblk m c 2 t : FVec Ideal S1x1024 .f32) 0 = vec (kG m c) := funext fun l => i2 m c t l
theorem bn (t : Fin cfg0.N) (r : Fin 512) : row (kdn m c t) r = dun (kZ m c) (kY m c) (kW m c) (gr t r) := funext fun l => pd m c t r l

/-- The first result's element. -/
def outD (d h : FVec Ideal S8192x1024 .f32) (g : FVec Ideal S1024 .f32) (z : FVec Ideal S8192x3072 .bf16) (y : FVec Ideal S8192x2048 .bf16)
    (w : FVec Ideal S1024x5120 .f32) (r : Fin 8192) (l : Fin 1024) : EReal := d (ix2 r l) + dK (row h r) (vec g) (dun z y w r) l

theorem out5 (t : Fin cfg0.N) (r : Fin 512) (l : Fin 1024) :
    k0_pay3 (F := Ideal) (k0_pay5 (F := Ideal) (iblk m c 2 t)) (k0_pay6 (F := Ideal) (iblk m c 1 t)) (k0_pay7 (F := Ideal) (iblk m c 1 t)) (k0_pay9 (F := Ideal) (View.ld (iblk m c 3 t) (Rect.unit (s := S512x3072) ![0, 0] ![512, 1024] inb_S512x3072_S512x1024_0_0)) (View.ld (wT m c) (Rect.unit (s := S5120x1024) ![0, 0] ![1024, 1024] inb_S5120x1024_S1024x1024_0_0)) (View.ld (iblk m c 3 t) (Rect.unit (s := S512x3072) ![0, 1024] ![512, 1024] inb_S512x3072_S512x1024_0_1024)) (View.ld (wT m c) (Rect.unit (s := S5120x1024) ![1024, 0] ![1024, 1024] inb_S5120x1024_S1024x1024_1024_0))) (View.ld (iblk m c 3 t) (Rect.unit (s := S512x3072) ![0, 2048] ![512, 1024] inb_S512x3072_S512x1024_0_2048)) (View.ld (wT m c) (Rect.unit (s := S5120x1024) ![2048, 0] ![1024, 1024] inb_S5120x1024_S1024x1024_2048_0)) (View.ld (iblk m c 4 t) (Rect.unit (s := S512x2048) ![0, 0] ![512, 1024] inb_S512x2048_S512x1024_0_0)) (View.ld (wT m c) (Rect.unit (s := S5120x1024) ![3072, 0] ![1024, 1024] inb_S5120x1024_S1024x1024_3072_0)) (View.ld (iblk m c 4 t) (Rect.unit (s := S512x2048) ![0, 1024] ![512, 1024] inb_S512x2048_S512x1024_0_1024)) (View.ld (wT m c) (Rect.unit (s := S5120x1024) ![4096, 0] ![1024, 1024] inb_S5120x1024_S1024x1024_4096_0)) (iblk m c 0 t) (ix2 r l)
      = outD (kD m c) (kH m c) (kG m c) (kZ m c) (kY m c) (kW m c) (gr t r) l :=
  (p3 _ _ _ _ _ _ _ _ _ _ _ _).trans (by rw [bx, bg, bn, i0]; rfl)

set_option maxHeartbeats 2000000 in
theorem o5 (t : Fin cfg0.N) : (outsAt0 m c t.val t.isLt).1 = (fun y => outD (kD m c) (kH m c) (kG m c) (kZ m c) (kY m c) (kW m c) (gr t (y 0)) (y 1) : FVec Ideal S512x1024 .f32) := by
  by_cases h0 : t.val % 16 = 0
  · rw [outsAt0_A m c t h0]
    unfold stepA outA_5 atA
    dsimp only
    frame_out
    rw [ldW m c 0, ldW m c 1024, ldW m c 2048, ldW m c 3072, ldW m c 4096]
    funext y
    idx_vars y
    exact out5 m c t y0 y1
  · rw [outsAt0_B m c t h0]
    unfold stepB outB_5 atB
    dsimp only
    frame_out
    simp only [read_unread_whole]
    rw [scratch m c _ _]
    funext y
    idx_vars y
    exact out5 m c t y0 y1

set_option maxHeartbeats 2000000 in
theorem final5 : (dats m 0 c).arrAt 5 cfg0.N = (fun y => outD (kD m c) (kH m c) (kG m c) (kZ m c) (kY m c) (kW m c) (y 0) (y 1) : FVec Ideal S8192x1024 .f32) := by
  refine (dats m 0 c).arrAt_eq_of_covers 5 _ (by decide +kernel) fun t hf y => ?_
  have hN : t.val < 16 := t.isLt
  blk_simp
  rw [after0_5, o5]
  idx_vars y
  rw [show ((View.whole main_v4_0).slice (win0_5.rect t)).emb (ix2 y0 y1) = ix2 (gr t y0) y1 from by blk_ext [idx t]]
  rfl

set_option maxHeartbeats 2000000 in
theorem o6 (t : Fin cfg0.N) : (outsAt0 m c t.val t.isLt).2.1 = (fun y => nrm (row (kH m c) (gr t (y 0))) (vec (kG m c)) (y 1) : FVec Ideal S512x1024 .bf16) := by
  by_cases h0 : t.val % 16 = 0
  · rw [outsAt0_A m c t h0]
    unfold stepA outA_6 atA
    dsimp only
    frame_out
    funext y
    idx_vars y
    exact (p8 _ _ y0 y1).trans (by rw [bx, bg])
  · rw [outsAt0_B m c t h0]
    unfold stepB outB_6 atB
    dsimp only
    frame_out
    funext y
    idx_vars y
    exact (p8 _ _ y0 y1).trans (by rw [bx, bg])

set_option maxHeartbeats 2000000 in
theorem final6 : (dats m 0 c).arrAt 6 cfg0.N = (fun y => nrm (row (kH m c) (y 0)) (vec (kG m c)) (y 1) : FVec Ideal S8192x1024 .bf16) := by
  refine (dats m 0 c).arrAt_eq_of_covers 6 _ (by decide +kernel) fun t hf y => ?_
  have hN : t.val < 16 := t.isLt
  blk_simp
  rw [after0_6, o6]
  idx_vars y
  rw [show ((View.whole main_v4_1).slice (win0_6.rect t)).emb (ix2 y0 y1) = ix2 (gr t y0) y1 from by blk_ext [idx t]]
  rfl

theorem gr_sub8 (t : Fin cfg0.N) (j : Fin 64) (i : Fin 8) (h : t.val * 64 + j.val < 1024) :
    gr t ⟨j.val * 8 + i.val, by omega⟩ = row8 ⟨t.val * 64 + j.val, h⟩ i := by
  apply Fin.ext
  show t.val * 512 + (j.val * 8 + i.val) = (t.val * 64 + j.val) * 8 + i.val
  omega

/-- A buffer that starts from zero at the first point and takes each point's rows, after the last point: the sum over all rows. -/
theorem acc_sum (f : (n : ℕ) → n < cfg0.N → FVec Ideal S8x1024 .f32) (T : Fin 8192 → Fin 1024 → EReal)
    (hA : ∀ t : Fin cfg0.N, t.val % 16 = 0 → ∀ (i : Fin 8) (l : Fin 1024), (f t.val t.isLt (ix2 i l) : EReal) = (0 : EReal) + ∑ j : Fin 64, T (gr t ⟨j.val * 8 + i.val, by omega⟩) l)
    (hB : ∀ t : Fin cfg0.N, ¬ t.val % 16 = 0 → ∀ (i : Fin 8) (l : Fin 1024),
      (f t.val t.isLt (ix2 i l) : EReal) = f (t.val - 1) (Nat.lt_of_le_of_lt (Nat.sub_le _ _) t.isLt) (ix2 i l) + ∑ j : Fin 64, T (gr t ⟨j.val * 8 + i.val, by omega⟩) l)
    (t : Fin cfg0.N) (ht : t.val + 1 = cfg0.N) (i : Fin 8) (l : Fin 1024) :
    (f t.val t.isLt (ix2 i l) : EReal) = ∑ a : Fin 1024, T (row8 a i) l := by
  refine (Pipeline.eq_sum_fin_of_reset_step_apply_last (M := EReal) (fun n h (y : Fin 8 × Fin 1024) => f n h (ix2 y.1 y.2)) 16 (fun _ => 0)
    (fun t y => ∑ j : Fin 64, T (gr t ⟨j.val * 8 + y.1.val, by omega⟩) y.2) (fun t h y => hA t h y.1 y.2) (fun t h y => hB t h y.1 y.2) (by decide +kernel) t ht (i, l)).trans ?_
  rw [zero_add]
  exact Fin.sum_mul_add_congr (L := 1024) (S := 16) (n := 64) (F := fun t j => T (gr t ⟨j.val * 8 + i.val, by omega⟩) l) (f := fun a => T (row8 a i) l)
    (fun t j h => congrArg (T · l) (gr_sub8 t j i h))

/-- What the gain's gradient adds up at row `R`. -/
abbrev T7 (h : FVec Ideal S8192x1024 .f32) (z : FVec Ideal S8192x3072 .bf16) (y : FVec Ideal S8192x2048 .bf16) (w : FVec Ideal S1024x5120 .f32)
    (R : Fin 8192) (l : Fin 1024) : EReal := dun z y w R l * hat (row h R) l

theorem zero7 (i : Fin 8) (l : Fin 1024) : k0_pay4 (F := Ideal) (ix2 i l) = (0 : EReal) := Ideal.ofBits_zero_f32

theorem add7 (t : Fin cfg0.N) (acc : FVec Ideal S8x1024 .f32) (i : Fin 8) (l : Fin 1024) :
    k0_pay2 (F := Ideal) (k0_pay7 (F := Ideal) (iblk m c 1 t)) (k0_pay9 (F := Ideal) (View.ld (iblk m c 3 t) (Rect.unit (s := S512x3072) ![0, 0] ![512, 1024] inb_S512x3072_S512x1024_0_0)) (View.ld (wT m c) (Rect.unit (s := S5120x1024) ![0, 0] ![1024, 1024] inb_S5120x1024_S1024x1024_0_0)) (View.ld (iblk m c 3 t) (Rect.unit (s := S512x3072) ![0, 1024] ![512, 1024] inb_S512x3072_S512x1024_0_1024)) (View.ld (wT m c) (Rect.unit (s := S5120x1024) ![1024, 0] ![1024, 1024] inb_S5120x1024_S1024x1024_1024_0))) (View.ld (iblk m c 3 t) (Rect.unit (s := S512x3072) ![0, 2048] ![512, 1024] inb_S512x3072_S512x1024_0_2048)) (View.ld (wT m c) (Rect.unit (s := S5120x1024) ![2048, 0] ![1024, 1024] inb_S5120x1024_S1024x1024_2048_0)) (View.ld (iblk m c 4 t) (Rect.unit (s := S512x2048) ![0, 0] ![512, 1024] inb_S512x2048_S512x1024_0_0)) (View.ld (wT m c) (Rect.unit (s := S5120x1024) ![3072, 0] ![1024, 1024] inb_S5120x1024_S1024x1024_3072_0)) (View.ld (iblk m c 4 t) (Rect.unit (s := S512x2048) ![0, 1024] ![512, 1024] inb_S512x2048_S512x1024_0_1024)) (View.ld (wT m c) (Rect.unit (s := S5120x1024) ![4096, 0] ![1024, 1024] inb_S5120x1024_S1024x1024_4096_0)) acc (ix2 i l)
      = acc (ix2 i l) + ∑ j : Fin 64, T7 (kH m c) (kZ m c) (kY m c) (kW m c) (gr t ⟨j.val * 8 + i.val, by omega⟩) l :=
  (p2 _ _ _ _ _ _ _ _ _ _ _).trans (congrArg (_ + ·) (Finset.sum_congr rfl fun j _ => by rw [bx]; exact congrArg (· * _) (pd m c t _ l)))

set_option maxHeartbeats 2000000 in
theorem o7 (t : Fin cfg0.N) (ht : t.val + 1 = cfg0.N) (i : Fin 8) (l : Fin 1024) :
    ((outsAt0 m c t.val t.isLt).2.2.1 (ix2 i l) : EReal) = ∑ a : Fin 1024, T7 (kH m c) (kZ m c) (kY m c) (kW m c) (row8 a i) l := by
  refine acc_sum (fun n h => (outsAt0 m c n h).2.2.1) (T7 (kH m c) (kZ m c) (kY m c) (kW m c)) (fun t h0 i l => ?_) (fun t h0 i l => ?_) t ht i l
  · rw [outsAt0_A m c t h0]
    unfold stepA outA_7 atA
    dsimp only
    frame_out
    rw [ldW m c 0, ldW m c 1024, ldW m c 2048, ldW m c 3072, ldW m c 4096]
    exact (add7 m c t _ i l).trans (congrArg (· + _) (zero7 i l))
  · rw [outsAt0_B m c t h0]
    unfold stepB outB_7 atB
    dsimp only
    frame_out
    simp only [read_unread_whole]
    rw [scratch m c _ _]
    exact add7 m c t _ i l

set_option maxHeartbeats 2000000 in
theorem final7 : (dats m 0 c).arrAt 7 cfg0.N = (fun y => ∑ a : Fin 1024, T7 (kH m c) (kZ m c) (kY m c) (kW m c) (row8 a (y 0)) (y 1) : FVec Ideal S8x1024 .f32) := by
  refine (dats m 0 c).arrAt_eq_of_covers 7 _ (by decide +kernel) fun t hf y => ?_
  have ht : t.val + 1 = cfg0.N := by
    have h1 := (flush0_7 t).mp hf
    have h2 : t.val < 16 := t.isLt
    show t.val + 1 = 16
    omega
  blk_simp
  rw [after0_7]
  idx_vars y
  refine (o7 m c t ht y0 y1).trans ?_
  rw [show ((View.whole main_v4_2).slice (win0_7.rect t)).emb (ix2 y0 y1) = ix2 y0 y1 from by blk_ext [idx t]]
  rfl

end Cert.Kernel12Ideal.Body

end
-- ==== Proof.RefNorm.lean ====
module

public import proofs.«01_k».proof.Proof.RmsReal
public import proofs.«01_k».proof.Proof.Gen.Reference12Ideal.Run
public import Idealize.ShloMosaic.Lib.Pointwise
public import Idealize.ShloMosaic.Lib.ValueIdx
public import Idealize.ShloMosaic.Lib.ValueLayout

/-! The derivative of the reference's norm, read at one element. -/

@[expose] public section

set_option maxRecDepth 16384

noncomputable section

namespace Cert.Reference12Ideal.Norm

open Idealize.ShloMosaic Idealize.ShloMosaic.TcCoe Idealize.SL.Sem
open Cert.Reference12Ideal Cert.Reference12Ideal.Gen Cert.Rms Cert.Rows

variable (d h : FVec Ideal S8192x1024 .f32) (g : FVec Ideal S1024 .f32) (u v : FVec Ideal S8192x1024 .f32)

/-- The gain, repeated for every row. -/
abbrev gn : FVec Ideal S8192x1024 .f32 := shapeCast S8192x1024 (broadcastInDim S1024x8x1024 ![0, 1, 2] bcast_S1x8x1024_S1024x8x1024_0_1_2 (broadcastInDim S1x8x1024 ![1, 2] bcast_S8x1024_S1x8x1024_1_2 (broadcastInDim S8x1024 ![1] bcast_S1024_S8x1024_1 g))) shapeCasts_S1024x8x1024_S8192x1024
/-- The rows' mean squares. -/
abbrev mq : FVec Ideal S8192x1 .f32 := addf (F := Ideal) (φ := .f32) (Host.divf (broadcastInDim S8192x1 ![0] bcast_S8192_S8192x1_0 (Host.reduceAdd (mulf (F := Ideal) (φ := .f32) h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
/-- Their reciprocal roots. -/
abbrev rq : FVec Ideal S8192x1 .f32 := Host.rsqrt (mq h)
/-- The normalised rows before the gain. -/
abbrev ht : FVec Ideal S8192x1024 .f32 := mulf (F := Ideal) (φ := .f32) h (broadcastInDim S8192x1024 ![0, 1] bcast_S8192x1_S8192x1024_0_1 (rq h))
/-- The gradient of the gained rows. -/
abbrev ug : FVec Ideal S8192x1024 .f32 := mulf (F := Ideal) (φ := .f32) u (gn g)
/-- The gradient of the rows' squares. -/
abbrev sq : FVec Ideal S8192 .f32 := Host.reduceAdd (Host.divf (mulf (F := Ideal) (φ := .f32) (shapeCast S8192x1 (Host.reduceAdd (mulf (F := Ideal) (φ := .f32) h (ug g u)) (constant S_ .f32 0x00000000#32) reducesTo_S8192x1024_S8192_d1 h_S_) shapeCasts_S8192_S8192x1) (mulf (F := Ideal) (φ := .f32) (broadcastInDim S8192x1 ![] bcast_S_S8192x1 (constant S_ .f32 0xBF000000#32)) (Host.divf (rq h) (mq h)))) (broadcastInDim S8192x1 ![] bcast_S_S8192x1 (constant S_ .f32 0x44800000#32))) (constant S_ .f32 0x00000000#32) reducesTo_S8192x1_S8192_d1 h_S_

theorem gn_at (r : Fin 8192) (l : Fin 1024) : gn g (ix2 r l) = g (ix1 l) := by
  pointwise []

theorem mq_at (r : Fin 8192) (k : Fin 1) : mq h (ix2 r k) = ms (row h r) := by
  pointwise [ms]

theorem rq_at (r : Fin 8192) (k : Fin 1) : rq h (ix2 r k) = rr (row h r) := congrArg Ideal.rsqrt (mq_at h r k)

theorem ht_at (r : Fin 8192) (l : Fin 1024) : ht h (ix2 r l) = hat (row h r) l := by
  unfold ht
  generalize hq : rq h = q
  pointwise [hat]
  subst hq
  rw [rq_at]

theorem ug_at (r : Fin 8192) (l : Fin 1024) : ug g u (ix2 r l) = u (ix2 r l) * vec g l :=
  congrArg (u (ix2 r l) * ·) (gn_at g r l)

theorem sq_at (r : Fin 8192) : sq h g u (ix1 r) = sR (row h r) (vec g) (row u r) := by
  unfold sq
  generalize hq : rq h = q
  generalize hp : mq h = p
  generalize hv : ug g u = v
  pointwise [sR]
  subst hq hp hv
  simp only [Finset.univ_unique, Finset.sum_singleton, rq_at, mq_at, ug_at]

/-- The rows' gradient, and what comes past the norm. -/
theorem dres : addf (F := Ideal) (φ := .f32) d (addf (F := Ideal) (φ := .f32) (addf (F := Ideal) (φ := .f32) (mulf (F := Ideal) (φ := .f32) (ug g u) (broadcastInDim S8192x1024 ![0, 1] bcast_S8192x1_S8192x1024_0_1 (rq h))) (mulf (F := Ideal) (φ := .f32) h (broadcastInDim S8192x1024 ![0] bcast_S8192_S8192x1024_0 (sq h g u)))) (mulf (F := Ideal) (φ := .f32) (broadcastInDim S8192x1024 ![0] bcast_S8192_S8192x1024_0 (sq h g u)) h))
    = (fun y => d y + dR (row h (y 0)) (vec g) (row u (y 0)) (y 1) : FVec Ideal S8192x1024 .f32) := by
  funext y
  idx_vars y
  generalize hs : sq h g u = s
  generalize hq : rq h = q
  generalize hv : ug g u = v
  pointwise [dR]
  subst hs hq hv
  rw [sq_at, rq_at, ug_at]

/-- The normalised rows. -/
theorem nres : truncf (F := Ideal) .bf16 (mulf (F := Ideal) (φ := .f32) (ht h) (gn g)) bitsLt_bf16_f32
    = (fun y => nrm (row h (y 0)) (vec g) (y 1) : FVec Ideal S8192x1024 .bf16) := by
  funext y
  idx_vars y
  exact congrArg₂ (· * ·) (ht_at h y0 y1) (gn_at g y0 y1)

/-- The rows summed, eight sums apart. -/
theorem sum8 (i : Fin 8) (l : Fin 1024) :
    (Host.reduceAdd (F := Ideal) (broadcastInDim S1x8x1024 ![1, 2] bcast_S8x1024_S1x8x1024_1_2 (Host.reduceAdd (F := Ideal) (shapeCast S1024x8x1024 v shapeCasts_S8192x1024_S1024x8x1024) (constant S_ .f32 0x00000000#32) reducesTo_S1024x8x1024_S8x1024_d0 h_S_)) (constant S_ .f32 0x00000000#32) reducesTo_S1x8x1024_S8x1024_d0 h_S_ : FVec Ideal S8x1024 .f32) (ix2 i l)
      = ∑ a : Fin 1024, v (ix2 (row8 a i) l) := by
  pointwise []
  simp only [Finset.univ_unique, Finset.sum_singleton]

/-- The gain's gradient. -/
theorem gres : (Host.reduceAdd (F := Ideal) (broadcastInDim S1x8x1024 ![1, 2] bcast_S8x1024_S1x8x1024_1_2 (Host.reduceAdd (F := Ideal) (shapeCast S1024x8x1024 (mulf (F := Ideal) (φ := .f32) (ht h) u) shapeCasts_S8192x1024_S1024x8x1024) (constant S_ .f32 0x00000000#32) reducesTo_S1024x8x1024_S8x1024_d0 h_S_)) (constant S_ .f32 0x00000000#32) reducesTo_S1x8x1024_S8x1024_d0 h_S_ : FVec Ideal S8x1024 .f32)
    = (fun y => ∑ a : Fin 1024, u (ix2 (row8 a (y 0)) (y 1)) * hat (row h (row8 a (y 0))) (y 1) : FVec Ideal S8x1024 .f32) := by
  funext y
  idx_vars y
  refine (sum8 _ y0 y1).trans (Finset.sum_congr rfl fun a _ => ?_)
  refine (congrArg (· * u (ix2 (row8 a y0) y1)) (ht_at h (row8 a y0) y1)).trans ?_
  exact mul_comm (G := EReal) _ _

end Cert.Reference12Ideal.Norm

end
-- ==== Proof.InBwd.lean ====
module

public import proofs.«01_k».proof.Proof.InBwdOut
public import proofs.«01_k».proof.Proof.RefNorm
public import proofs.«01_k».proof.Proof.MixPre
public import proofs.«01_k».proof.Proof.Gen.Kernel12
public import proofs.«01_k».proof.Proof.Gen.Reference12Ideal.Run
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The input projection's gradient: the call's results are the reference's. -/

@[expose] public section

set_option maxRecDepth 16384

noncomputable section

namespace Cert.Kernel12Ideal.Body

open Idealize.ShloMosaic Idealize.ShloMosaic.TcCoe Idealize.SL.Sem
open Cert.Kernel12Ideal Cert.Kernel12Ideal.Gen Cert.Rms Cert.Rows

/-- The reference's gradient of the normalised rows. -/
abbrev du (z : FVec Ideal Cert.Reference12Ideal.S8192x3072 .bf16) (y : FVec Ideal Cert.Reference12Ideal.S8192x2048 .bf16) (w : FVec Ideal Cert.Reference12Ideal.S1024x5120 .f32) : FVec Ideal Cert.Reference12Ideal.S8192x1024 .f32 :=
  Host.dotGeneral (F := Ideal) (φ₁ := .f32) (φ₂ := .f32) Cert.Reference12Ideal.dot_S8192x5120_S1024x5120_S8192x1024_1_1_0_0_n_n none (extf (F := Ideal) .f32 (concatenate Cert.Reference12Ideal.S8192x5120 1 [⟨Cert.Reference12Ideal.S8192x3072, z⟩, ⟨Cert.Reference12Ideal.S8192x2048, y⟩] Cert.Reference12Ideal.Gen.concatenates_S8192x3072_S8192x2048_S8192x5120_d1) Cert.Reference12Ideal.Gen.bitsLt_bf16_f32) w

theorem du_at (z : FVec Ideal S8192x3072 .bf16) (y : FVec Ideal S8192x2048 .bf16) (w : FVec Ideal S1024x5120 .f32) (r : Fin 8192) (l : Fin 1024) :
    du z y w (ix2 r l) = dun z y w r l := by
  unfold du
  pointwise [dun, both]

instance preFacts12 : Cert.Pre_finite12.Facts where
  bitsLt_bf16_f32 := by decide
  bcast_S_S8192x1024 := by decide
  bcast_S_S1024 := by decide
  bcast_S_S1024x5120 := by decide
  bcast_S_S8192x3072 := by decide
  bcast_S_S8192x2048 := by decide

variable (m : (ℓ : Loc nD τ sig) → Buf (Elt Ideal) ℓ) (H : Cert.Pre_Kernel12Ideal_finite12 m) (c : Dev nD)
include H

theorem real_h : IsReal (kH m c) := real_of_lt _ _ (H c).1
theorem real_g : IsReal (kG m c) := real_of_lt _ _ (H c).2.1
theorem real_w : IsReal (kW m c) := real_of_lt _ _ (H c).2.2.1
theorem real_z (i : S8192x3072.Idx) : (kZ m c i : EReal) ≠ ⊥ ∧ (kZ m c i : EReal) ≠ ⊤ :=
  real_of_lt (extf (F := Ideal) .f32 (kZ m c) Cert.Pre_finite12.Facts.bitsLt_bf16_f32) _ (H c).2.2.2.1 i
theorem real_y (i : S8192x2048.Idx) : (kY m c i : EReal) ≠ ⊥ ∧ (kY m c i : EReal) ≠ ⊤ :=
  real_of_lt (extf (F := Ideal) .f32 (kY m c) Cert.Pre_finite12.Facts.bitsLt_bf16_f32) _ (H c).2.2.2.2 i

theorem real_dun (r : Fin 8192) (l : Fin 1024) : dun (kZ m c) (kY m c) (kW m c) r l ≠ ⊥ ∧ dun (kZ m c) (kY m c) (kW m c) r l ≠ ⊤ := by
  refine sum_real _ _ (fun k => ?_) (fun k => real_w m H c _)
  unfold both
  split
  · exact real_z m H c _
  · exact real_y m H c _

/-- The derivative's form of the first result is the call's. -/
theorem form5 : (fun y => kD m c y + dR (row (kH m c) (y 0)) (vec (kG m c)) (row (du (kZ m c) (kY m c) (kW m c)) (y 0)) (y 1) : FVec Ideal S8192x1024 .f32)
    = (fun y => outD (kD m c) (kH m c) (kG m c) (kZ m c) (kY m c) (kW m c) (y 0) (y 1)) := by
  funext y
  idx_vars y
  have e : row (du (kZ m c) (kY m c) (kW m c)) y0 = dun (kZ m c) (kY m c) (kW m c) y0 := funext fun l => du_at _ _ _ y0 l
  show kD m c (ix2 y0 y1) + dR (row (kH m c) y0) (vec (kG m c)) (row (du (kZ m c) (kY m c) (kW m c)) y0) y1 = _
  rw [e]
  exact congrArg (_ + ·) (d_eq _ _ _ (fun l => real_h m H c _) (fun l => real_g m H c _) (fun l => real_dun m H c y0 l) y1)

omit H

theorem form7 : (fun y => ∑ a : Fin 1024, du (kZ m c) (kY m c) (kW m c) (ix2 (row8 a (y 0)) (y 1)) * hat (row (kH m c) (row8 a (y 0))) (y 1) : FVec Ideal S8x1024 .f32)
    = (fun y => ∑ a : Fin 1024, T7 (kH m c) (kZ m c) (kY m c) (kW m c) (row8 a (y 0)) (y 1)) := by
  funext y
  exact Finset.sum_congr rfl fun a _ => congrArg (· * _) (du_at _ _ _ _ _)

/-! ## The claims -/

theorem frame_ideal : Cert.quiescent_Kernel12Ideal := fun m ρ _ => frame m ρ

theorem frame_bits : Cert.quiescent_Kernel12 := by
  have h := fun m ρ (_ : True) => frame (F := Bits) m ρ
  exact cast (by sl_kernel_rfl) h

theorem frame_ref : Cert.quiescent_Reference12Ideal := fun m g _ =>
  (θ_run _ _ _).mono (fun r h => And.intro (fun c => (h c).2.2.2) (sem_eq_zero_of_no_sems rfl r.2))
    (Cert.Reference12Ideal.Value.run (F := Ideal) m g)

theorem frame_ref_pre : Cert.quiescent_Reference12Ideal_pre_finite12 := fun m g _ => frame_ref m g trivial

theorem frame_ideal_pre : Cert.quiescent_Kernel12Ideal_pre_finite12 := fun m g _ => frame_ideal m g trivial

set_option maxHeartbeats 4000000 in
theorem value : Cert.algebraic_Kernel12Ideal_Reference12Ideal_pre_finite12 := by
  intro m g m' g' H h
  refine ⟨fun c => (dats m 0 c).arrAt 5 cfg0.N, fun c => (dats m 0 c).arrAt 6 cfg0.N, fun c => (dats m 0 c).arrAt 7 cfg0.N, ?_, ?_⟩
  · exact (θ_run _ _ _).mono (fun r k c => ⟨(k.1 c).1 5, (k.1 c).1 6, (k.1 c).1 7, k.2 c⟩) (θ_run_and (run_main (F := Ideal) m g) (unchanged (F := Ideal) m g))
  · exact (θ_run _ _ _).mono (fun r k c => ⟨(k c).1.trans ((Cert.Reference12Ideal.Norm.dres (m' ((c.tc : Thread _ _).loc Cert.Reference12Ideal.main_arg0)) (m' ((c.tc : Thread _ _).loc Cert.Reference12Ideal.main_arg1)) (m' ((c.tc : Thread _ _).loc Cert.Reference12Ideal.main_arg2)) (du (m' ((c.tc : Thread _ _).loc Cert.Reference12Ideal.main_arg4)) (m' ((c.tc : Thread _ _).loc Cert.Reference12Ideal.main_arg5)) (m' ((c.tc : Thread _ _).loc Cert.Reference12Ideal.main_arg3)))).trans (by rw [(h c).1, (h c).2.1, (h c).2.2.1, (h c).2.2.2.1, (h c).2.2.2.2.1, (h c).2.2.2.2.2]; exact (form5 m H c).trans (final5 m c).symm)),
      (k c).2.1.trans ((Cert.Reference12Ideal.Norm.nres (m' ((c.tc : Thread _ _).loc Cert.Reference12Ideal.main_arg1)) (m' ((c.tc : Thread _ _).loc Cert.Reference12Ideal.main_arg2))).trans (by rw [(h c).2.1, (h c).2.2.1]; exact (final6 m c).symm)),
      (k c).2.2.1.trans ((Cert.Reference12Ideal.Norm.gres (m' ((c.tc : Thread _ _).loc Cert.Reference12Ideal.main_arg1)) (du (m' ((c.tc : Thread _ _).loc Cert.Reference12Ideal.main_arg4)) (m' ((c.tc : Thread _ _).loc Cert.Reference12Ideal.main_arg5)) (m' ((c.tc : Thread _ _).loc Cert.Reference12Ideal.main_arg3)))).trans (by rw [(h c).2.1, (h c).2.2.2.1, (h c).2.2.2.2.1, (h c).2.2.2.2.2]; exact (form7 m c).trans (final7 m c).symm)),
      (k c).2.2.2⟩)
      (Cert.Reference12Ideal.Value.run (F := Ideal) m' g')

end Cert.Kernel12Ideal.Body

end
-- ==== Proof.FfnBwdRunA.lean ====
module

public import proofs.«01_k».proof.Proof.Gen.Kernel13Ideal.Frame.Runs

@[expose] public section

set_option maxRecDepth 16384

noncomputable section

namespace Cert.Kernel13Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (Pipeline.UD sig nD τ) ℕ

set_option maxHeartbeats 1756000 in
set_option sl_exec.dmaWindow true in
set_option sl_exec.dmaWindowSet true in
set_option sl_exec.rejoinHeartbeats 1000000 in
/-- The body at a point that fetches the two matrices: with every staging buffer whole, it runs to the end, and the
    pieces its stores leave in each output and in each scratch are the components of the tuple. -/
def runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg7 : Memref sig .tc .vmem S256x1024 .f32) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S8x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg16 : Memref sig .tc .vmem S256x1024 .bf16) (harg16 : arg16.IsWhole) (hc0 : cond0_0 i)
    (x0 : Vec F S256x1024 .f32) (x1 : Vec F S256x1024 .f32) (x2 : Vec F S1x1024 .f32) (x3 : Vec F S256x2816 .bf16) (x4 : Vec F S256x2816 .bf16) (fh0 : HbBuf0 (F := F) c hbM0_0) :
    Σ' (L5 : List (View.Piece (Elt F) S256x1024 .f32)), Σ' (L6 : List (View.Piece (Elt F) S256x2816 .bf16)), Σ' (L7 : List (View.Piece (Elt F) S256x2816 .bf16)), Σ' (L8 : List (View.Piece (Elt F) S256x2816 .bf16)), Σ' (L9 : List (View.Piece (Elt F) S8x1024 .f32)), Σ' (LS0 : List (View.Piece (Elt F) S2816x1024 .bf16)), Σ' (LS1 : List (View.Piece (Elt F) S2816x1024 .bf16)), Σ' (LS2 : List (View.Piece (Elt F) S2816x1024 .bf16)), { LT3 : List (View.Piece (Elt F) S256x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg16 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg16.view.loc (c : Thread nD τ) ↦[arg16.view.set]{fullShare} arg16.view.writes (Elt F) f LT3) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 arg5 harg5 (Memref.whole main_v24) (Memref.isWhole_whole _) arg7 harg7 arg8 harg8 arg9 harg9 arg10 harg10 arg11 harg11 arg12 harg12 arg13 harg13 arg14 harg14 cc0_scratch3 arg16 harg16) K } := by
  refine ⟨?_, ?_, ?_, ?_, ?_, ?_, ?_, ?_, ?_, fun W K => ?run⟩
  case run =>
    simp only [cc0_ffn_bwd_eq_skeleton]; unfold cc0_ffn_bwd_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.Kernel13Ideal.Body

end
-- ==== Proof.FfnBwdRunB.lean ====
module

public import proofs.«01_k».proof.Proof.FfnBwdRunA

@[expose] public section

set_option maxRecDepth 16384

noncomputable section

namespace Cert.Kernel13Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (Pipeline.UD sig nD τ) ℕ

set_option maxHeartbeats 1200000 in
/-- The body at a point that finds the two matrices in the scratch: as `runA`, over the scratch contents and the
    accumulated outputs the point before left. -/
def runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg7 : Memref sig .tc .vmem S256x1024 .f32) (harg7 : arg7.IsWhole) (arg8 : Memref sig .tc .vmem S256x2816 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S8x1024 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg16 : Memref sig .tc .vmem S256x1024 .bf16) (harg16 : arg16.IsWhole) (hc0 : ¬cond0_0 i)
    (x0 : Vec F S256x1024 .f32) (x1 : Vec F S256x1024 .f32) (x2 : Vec F S1x1024 .f32) (x3 : Vec F S256x2816 .bf16) (x4 : Vec F S256x2816 .bf16) (xo9 : Vec F S8x1024 .f32) (xs0 : Vec F S2816x1024 .bf16) (xs1 : Vec F S2816x1024 .bf16) (xs2 : Vec F S2816x1024 .bf16) (fh0 : HbBuf0 (F := F) c hbM0_0) :
    Σ' (L5 : List (View.Piece (Elt F) S256x1024 .f32)), Σ' (L6 : List (View.Piece (Elt F) S256x2816 .bf16)), Σ' (L7 : List (View.Piece (Elt F) S256x2816 .bf16)), Σ' (L8 : List (View.Piece (Elt F) S256x2816 .bf16)), Σ' (L9 : List (View.Piece (Elt F) S8x1024 .f32)), Σ' (LS0 : List (View.Piece (Elt F) S2816x1024 .bf16)), Σ' (LS1 : List (View.Piece (Elt F) S2816x1024 .bf16)), Σ' (LS2 : List (View.Piece (Elt F) S2816x1024 .bf16)), { LT3 : List (View.Piece (Elt F) S256x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo9 ∗ owns (c : Thread nD τ) arg12 fullShare xs0 ∗ owns (c : Thread nD τ) arg13 fullShare xs1 ∗ owns (c : Thread nD τ) arg14 fullShare xs2 ∗ (∃ d, owns (c : Thread nD τ) arg16 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ owns (c : Thread nD τ) arg13 fullShare xs1 ∗ owns (c : Thread nD τ) arg14 fullShare xs2 ∗ (∃ f, arg16.view.loc (c : Thread nD τ) ↦[arg16.view.set]{fullShare} arg16.view.writes (Elt F) f LT3) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ hbPt0 c hbM0_0 fh0 ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 arg5 harg5 (Memref.whole main_v24) (Memref.isWhole_whole _) arg7 harg7 arg8 harg8 arg9 harg9 arg10 harg10 arg11 harg11 arg12 harg12 arg13 harg13 arg14 harg14 cc0_scratch3 arg16 harg16) K } := by
  refine ⟨?_, ?_, ?_, ?_, ?_, [], [], [], ?_, fun W K => ?run⟩
  case run =>
    simp only [cc0_ffn_bwd_eq_skeleton]; unfold cc0_ffn_bwd_skel
    simp only [k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%fs0, %hfs0, HS0⟩, ⟨%fs1, %hfs1, HS1⟩, ⟨%fs2, %hfs2, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hf9; obtain rfl := harg12.eq_unread hfs0; obtain rfl := harg13.eq_unread hfs1; obtain rfl := harg14.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.Kernel13Ideal.Body

end
-- ==== Proof.FfnBwdFrame.lean ====
module

public import proofs.«01_k».proof.Proof.FfnBwdRunB
public import Idealize.ShloMosaic.Lib.Claim

@[expose] public section

set_option maxRecDepth 16384

noncomputable section

namespace Cert.Kernel13Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel13Ideal Cert.Kernel13Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the staging buffers of the outputs, and then the scratch buffers, hold after a point. -/
abbrev Outs (F : FTy → Type) [FloatOps F] : Type :=
  Vec F S256x1024 .f32 × Vec F S256x2816 .bf16 × Vec F S256x2816 .bf16 × Vec F S256x2816 .bf16 × Vec F S8x1024 .f32 × Vec F S2816x1024 .bf16 × Vec F S2816x1024 .bf16 × Vec F S2816x1024 .bf16

/-- The first case's run, at point `t`. -/
abbrev atA (c : Dev nD) (t : Fin cfg0.N) (h0 : t.val % 32 = 0) :=
  runA c (grid0.coords t) (ms0_0 t) (hs0_0 t) (ms0_1 t) (hs0_1 t) (ms0_2 t) (hs0_2 t) (ms0_3 t) (hs0_3 t) (ms0_4 t)
  (hs0_4 t) (ms0_5 t) (hs0_5 t) (ms0_6 t) (hs0_6 t) (ms0_7 t) (hs0_7 t) (ms0_8 t) (hs0_8 t) (ms0_9 t) (hs0_9 t)
  scM0_0 (Memref.isWhole_whole _) scM0_1 (Memref.isWhole_whole _) scM0_2 (Memref.isWhole_whole _) scM0_3
  (Memref.isWhole_whole _) ((hcond0_0 t).mpr h0) (iblk m c 0 t) (iblk m c 1 t) (iblk m c 2 t) (iblk m c 3 t) (iblk m
  c 4 t) (V m c main_v24)

/-- The second case's run, at point `t`, over what the point before left. -/
abbrev atB (c : Dev nD) (t : Fin cfg0.N) (h0 : ¬t.val % 32 = 0) (p : Outs F) :=
  runB c (grid0.coords t) (ms0_0 t) (hs0_0 t) (ms0_1 t) (hs0_1 t) (ms0_2 t) (hs0_2 t) (ms0_3 t) (hs0_3 t) (ms0_4 t)
  (hs0_4 t) (ms0_5 t) (hs0_5 t) (ms0_6 t) (hs0_6 t) (ms0_7 t) (hs0_7 t) (ms0_8 t) (hs0_8 t) (ms0_9 t) (hs0_9 t)
  scM0_0 (Memref.isWhole_whole _) scM0_1 (Memref.isWhole_whole _) scM0_2 (Memref.isWhole_whole _) scM0_3
  (Memref.isWhole_whole _) (fun h => h0 ((hcond0_0 t).mp h)) (iblk m c 0 t) (iblk m c 1 t) (iblk m c 2 t) (iblk m c 3
  t) (iblk m c 4 t) p.2.2.2.2.1 p.2.2.2.2.2.1 p.2.2.2.2.2.2.1 p.2.2.2.2.2.2.2 (V m c main_v24)

section

variable (c : Dev nD) (t : Fin cfg0.N) (h0 : t.val % 32 = 0)

theorem coverA_5 (y : S256x1024.Idx) :
    ∃ pc ∈ (atA m c t h0).1, y ∈ pc.1.set :=
  View.cover_of_tiledL (atA m c t h0).1 S256x1024.size (by sl_kernel_rfl) y

def outA_5 : Vec F S256x1024 .f32 :=
  VO0_5.read (Elt F) (VO0_5.writes (Elt F) VO0_5.junk (atA m c t h0).1)

theorem coverA_6 (y : S256x2816.Idx) :
    ∃ pc ∈ (atA m c t h0).2.1, y ∈ pc.1.set :=
  View.cover_of_tiledBy (atA m c t h0).2.1 ![256, 256] (by sl_kernel_rfl) y

def outA_6 : Vec F S256x2816 .bf16 :=
  VO0_6.read (Elt F) (VO0_6.writes (Elt F) VO0_6.junk (atA m c t h0).2.1)

theorem coverA_7 (y : S256x2816.Idx) :
    ∃ pc ∈ (atA m c t h0).2.2.1, y ∈ pc.1.set :=
  View.cover_of_tiledBy (atA m c t h0).2.2.1 ![256, 256] (by sl_kernel_rfl) y

def outA_7 : Vec F S256x2816 .bf16 :=
  VO0_7.read (Elt F) (VO0_7.writes (Elt F) VO0_7.junk (atA m c t h0).2.2.1)

theorem coverA_8 (y : S256x2816.Idx) :
    ∃ pc ∈ (atA m c t h0).2.2.2.1, y ∈ pc.1.set :=
  View.cover_of_tiledBy (atA m c t h0).2.2.2.1 ![256, 256] (by sl_kernel_rfl) y

def outA_8 : Vec F S256x2816 .bf16 :=
  VO0_8.read (Elt F) (VO0_8.writes (Elt F) VO0_8.junk (atA m c t h0).2.2.2.1)

theorem coverA_9 (y : S8x1024.Idx) :
    ∃ pc ∈ (atA m c t h0).2.2.2.2.1, y ∈ pc.1.set :=
  View.cover_of_tiledL (atA m c t h0).2.2.2.2.1 S8x1024.size (by sl_kernel_rfl) y

def outA_9 : Vec F S8x1024 .f32 :=
  VO0_9.read (Elt F) (VO0_9.writes (Elt F) VO0_9.junk (atA m c t h0).2.2.2.2.1)

theorem scoverA_0 (y : S2816x1024.Idx) :
    ∃ pc ∈ (atA m c t h0).2.2.2.2.2.1, y ∈ pc.1.set :=
  View.cover_of_tiledL (atA m c t h0).2.2.2.2.2.1 S352x1024.size (by sl_kernel_rfl) y

def soutA_0 : Vec F S2816x1024 .bf16 :=
  VS0_0.read (Elt F) (VS0_0.writes (Elt F) VS0_0.junk (atA m c t h0).2.2.2.2.2.1)

theorem scoverA_1 (y : S2816x1024.Idx) :
    ∃ pc ∈ (atA m c t h0).2.2.2.2.2.2.1, y ∈ pc.1.set :=
  View.cover_of_tiledL (atA m c t h0).2.2.2.2.2.2.1 S352x1024.size (by sl_kernel_rfl) y

def soutA_1 : Vec F S2816x1024 .bf16 :=
  VS0_1.read (Elt F) (VS0_1.writes (Elt F) VS0_1.junk (atA m c t h0).2.2.2.2.2.2.1)

theorem scoverA_2 (y : S2816x1024.Idx) :
    ∃ pc ∈ (atA m c t h0).2.2.2.2.2.2.2.1, y ∈ pc.1.set :=
  View.cover_of_tiledL (atA m c t h0).2.2.2.2.2.2.2.1 S352x1024.size (by sl_kernel_rfl) y

def soutA_2 : Vec F S2816x1024 .bf16 :=
  VS0_2.read (Elt F) (VS0_2.writes (Elt F) VS0_2.junk (atA m c t h0).2.2.2.2.2.2.2.1)

/-- All of what the case leaves. -/
abbrev stepA : Outs F :=
  (outA_5 m c t h0, outA_6 m c t h0, outA_7 m c t h0, outA_8 m c t h0, outA_9 m c t h0, soutA_0 m c t h0, soutA_1 m c
  t h0, soutA_2 m c t h0)

end

section

variable (c : Dev nD) (t : Fin cfg0.N) (h0 : ¬t.val % 32 = 0) (p : Outs F)

theorem coverB_5 (y : S256x1024.Idx) :
    ∃ pc ∈ (atB m c t h0 p).1, y ∈ pc.1.set :=
  View.cover_of_tiledL (atB m c t h0 p).1 S256x1024.size (by sl_kernel_rfl) y

def outB_5 : Vec F S256x1024 .f32 :=
  VO0_5.read (Elt F) (VO0_5.writes (Elt F) VO0_5.junk (atB m c t h0 p).1)

theorem coverB_6 (y : S256x2816.Idx) :
    ∃ pc ∈ (atB m c t h0 p).2.1, y ∈ pc.1.set :=
  View.cover_of_tiledBy (atB m c t h0 p).2.1 ![256, 256] (by sl_kernel_rfl) y

def outB_6 : Vec F S256x2816 .bf16 :=
  VO0_6.read (Elt F) (VO0_6.writes (Elt F) VO0_6.junk (atB m c t h0 p).2.1)

theorem coverB_7 (y : S256x2816.Idx) :
    ∃ pc ∈ (atB m c t h0 p).2.2.1, y ∈ pc.1.set :=
  View.cover_of_tiledBy (atB m c t h0 p).2.2.1 ![256, 256] (by sl_kernel_rfl) y

def outB_7 : Vec F S256x2816 .bf16 :=
  VO0_7.read (Elt F) (VO0_7.writes (Elt F) VO0_7.junk (atB m c t h0 p).2.2.1)

theorem coverB_8 (y : S256x2816.Idx) :
    ∃ pc ∈ (atB m c t h0 p).2.2.2.1, y ∈ pc.1.set :=
  View.cover_of_tiledBy (atB m c t h0 p).2.2.2.1 ![256, 256] (by sl_kernel_rfl) y

def outB_8 : Vec F S256x2816 .bf16 :=
  VO0_8.read (Elt F) (VO0_8.writes (Elt F) VO0_8.junk (atB m c t h0 p).2.2.2.1)

theorem coverB_9 (y : S8x1024.Idx) :
    ∃ pc ∈ (atB m c t h0 p).2.2.2.2.1, y ∈ pc.1.set :=
  View.cover_of_tiledL (atB m c t h0 p).2.2.2.2.1 S8x1024.size (by sl_kernel_rfl) y

def outB_9 : Vec F S8x1024 .f32 :=
  VO0_9.read (Elt F) (VO0_9.writes (Elt F) VO0_9.junk (atB m c t h0 p).2.2.2.2.1)

def soutB_0 : Vec F S2816x1024 .bf16 :=
  p.2.2.2.2.2.1

def soutB_1 : Vec F S2816x1024 .bf16 :=
  p.2.2.2.2.2.2.1

def soutB_2 : Vec F S2816x1024 .bf16 :=
  p.2.2.2.2.2.2.2

/-- All of what the case leaves. -/
abbrev stepB : Outs F :=
  (outB_5 m c t h0 p, outB_6 m c t h0 p, outB_7 m c t h0 p, outB_8 m c t h0 p, outB_9 m c t h0 p, soutB_0 p,
  soutB_1 p, soutB_2 p)

end

/-- What the buffers hold after the body at position `n`: the case of that point, the second one over what position
    `n - 1` left. -/
def outsAt0 (c : Dev nD) : (n : ℕ) → n < cfg0.N → Outs F
  | 0, hn => stepA m c ⟨0, hn⟩ (Nat.zero_mod _)
  | n + 1, hn =>
    if h0 : (n + 1) % 32 = 0 then stepA m c ⟨n + 1, hn⟩ h0
    else stepB m c ⟨n + 1, hn⟩ h0 (outsAt0 c n (Nat.lt_of_succ_lt hn))

theorem outsAt0_A (c : Dev nD) (t : Fin cfg0.N) (h0 : t.val % 32 = 0) :
    outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt =
      stepB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The part of the invariant no point changes: the generator register, the copies' counters at zero, the operand in
    the large memory. -/
abbrev Rest (c : Dev nD) : sProp 𝕄 :=
  iprop((∃ r, prngReg c r) ∗ iprop(semVal ((c : Thread nD τ), SemLoc.dma 18) 0 ∗ semVal ((c : Thread nD τ),
  SemLoc.dma 19) 0 ∗ semVal ((c : Thread nD τ), SemLoc.dma 20) 0 ∗ semVal ((c : Thread nD τ), SemLoc.dma 21) 0 ∗
  semVal ((c : Thread nD τ), SemLoc.dma 22) 0 ∗ semVal ((c : Thread nD τ), SemLoc.dma 23) 0 ∗ semVal ((c : Thread nD
  τ), SemLoc.dma 24) 0 ∗ semVal ((c : Thread nD τ), SemLoc.dma 25) 0 ∗ semVal ((c : Thread nD τ), SemLoc.dma 26) 0 ∗
  semVal ((c : Thread nD τ), SemLoc.dma 27) 0 ∗ semVal ((c : Thread nD τ), SemLoc.dma 28) 0 ∗ semVal ((c : Thread nD
  τ), SemLoc.dma 29) 0 ∗ semVal ((c : Thread nD τ), SemLoc.dma 30) 0 ∗ semVal ((c : Thread nD τ), SemLoc.dma 31) 0 ∗
  semVal ((c : Thread nD τ), SemLoc.dma 32) 0 ∗ semVal ((c : Thread nD τ), SemLoc.dma 33) 0 ∗ semVal ((c : Thread nD
  τ), SemLoc.dma 34) 0 ∗ semVal ((c : Thread nD τ), SemLoc.dma 35) 0 ∗ semVal ((c : Thread nD τ), SemLoc.dma 36) 0 ∗
  semVal ((c : Thread nD τ), SemLoc.dma 37) 0 ∗ semVal ((c : Thread nD τ), SemLoc.dma 38) 0 ∗ semVal ((c : Thread nD
  τ), SemLoc.dma 39) 0 ∗ semVal ((c : Thread nD τ), SemLoc.dma 40) 0 ∗ semVal ((c : Thread nD τ), SemLoc.dma 41) 0) ∗
  iprop(hbPt0 c hbM0_0 (V m c main_v24)))

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2) ∗ (∃ d, owns (c : Thread nD τ) scM0_3 fullShare d)) ∗ Rest m c)

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2.1) ∗ owns (c : Thread nD τ) scM0_2 fullShare ((outsAt0 m c n hn).2.2.2.2.2.2.2) ∗ (∃ d, owns (c : Thread nD τ) scM0_3 fullShare d)) ∗ Rest m c) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2.1) ∗ owns (c : Thread nD τ) scM0_2 fullShare ((outsAt0 m c (n - 1) (by omega)).2.2.2.2.2.2.2) ∗ (∃ d, owns (c : Thread nD τ) scM0_3 fullShare d)) ∗ Rest m c) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases hz : t.val = 0
    · rw [PhiS_castSucc m c t, PhiS_zero m c _ _ hz, PhiD0_eq]
      rw [outsAt0_A m c t h0]
      (try unfold stepA); unfold outA_5 outA_6 outA_7 outA_8 outA_9 soutA_0 soutA_1 soutA_2; (try dsimp only)
      iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((atA m c t h0).2.2.2.2.2.2.2.2.2 W _)
      isplitl [H0]; iexact H0; isplitl [H1]; iexact H1; isplitl [H2]; iexact H2; isplitl [H3]; iexact H3
      isplitl [H4]; iexact H4
      isplitl [H5]; · iexists _; iexact H5
      isplitl [H6]; · iexists _; iexact H6
      isplitl [H7]; · iexists _; iexact H7
      isplitl [H8]; · iexists _; iexact H8
      isplitl [H9]; · iexists _; iexact H9
      isplitl [HS0]; iexact HS0; isplitl [HS1]; iexact HS1; isplitl [HS2]; iexact HS2; isplitl [HS3]; iexact HS3
      isplitl [Hq0]; iexact Hq0; isplitl [Hq1]; iexact Hq1; isplitl [Hq2]; iexact Hq2; isplitl [Hq3]; iexact Hq3
      isplitl [Hq4]; iexact Hq4; isplitl [Hq5]; iexact Hq5; isplitl [Hq6]; iexact Hq6; isplitl [Hq7]; iexact Hq7
      isplitl [Hq8]; iexact Hq8; isplitl [Hq9]; iexact Hq9; isplitl [Hq10]; iexact Hq10; isplitl [Hq11]; iexact Hq11
      isplitl [Hq12]; iexact Hq12; isplitl [Hq13]; iexact Hq13; isplitl [Hq14]; iexact Hq14
      isplitl [Hq15]; iexact Hq15; isplitl [Hq16]; iexact Hq16; isplitl [Hq17]; iexact Hq17
      isplitl [Hq18]; iexact Hq18; isplitl [Hq19]; iexact Hq19; isplitl [Hq20]; iexact Hq20
      isplitl [Hq21]; iexact Hq21; isplitl [Hq22]; iexact Hq22; isplitl [Hq23]; iexact Hq23; isplitl [Hh0]; iexact Hh0
      isplitl [HW]; iexact HW
      iintro ⟨H0, H1, H2, H3, H4, ⟨%e5, H5⟩, ⟨%e6, H6⟩, ⟨%e7, H7⟩, ⟨%e8, H8⟩, ⟨%e9, H9⟩, ⟨%es0, HS0⟩, ⟨%es1, HS1⟩, ⟨%es2, HS2⟩, ⟨%fT3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2 HS3]
        · isplitl [HS0]
          · unfold owns; iexists _; isplitr
            swap; · iexact HS0
            ipureintro; exact View.read_writes_of_cover _ _ _ _ _ (scoverA_0 m c t h0)
          isplitl [HS1]
          · unfold owns; iexists _; isplitr
            swap; · iexact HS1
            ipureintro; exact View.read_writes_of_cover _ _ _ _ _ (scoverA_1 m c t h0)
          isplitl [HS2]
          · unfold owns; iexists _; isplitr
            swap; · iexact HS2
            ipureintro; exact View.read_writes_of_cover _ _ _ _ _ (scoverA_2 m c t h0)
          iexists _; unfold owns; iexists _; isplitr
          swap; · iexact HS3
          ipureintro; rfl
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6; isplitl [Hq7]; iexact Hq7; isplitl [Hq8]; iexact Hq8
          isplitl [Hq9]; iexact Hq9; isplitl [Hq10]; iexact Hq10; isplitl [Hq11]; iexact Hq11
          isplitl [Hq12]; iexact Hq12; isplitl [Hq13]; iexact Hq13; isplitl [Hq14]; iexact Hq14
          isplitl [Hq15]; iexact Hq15; isplitl [Hq16]; iexact Hq16; isplitl [Hq17]; iexact Hq17
          isplitl [Hq18]; iexact Hq18; isplitl [Hq19]; iexact Hq19; isplitl [Hq20]; iexact Hq20
          isplitl [Hq21]; iexact Hq21; isplitl [Hq22]; iexact Hq22
          iexact Hq23
        iexact Hh0
      isplitl [HW']
      · iexists W'; isplitr; · ipureintro; exact fun _ _ => Or.inl trivial
        iexact HW'
      isplitl [H0]; iexact H0; isplitl [H1]; iexact H1; isplitl [H2]; iexact H2; isplitl [H3]; iexact H3
      isplitl [H4]; iexact H4
      isplitl [H5]
      · unfold owns; iexists _; isplitr
        swap; · iexact H5
        ipureintro; exact View.read_writes_of_cover _ _ _ _ _ (coverA_5 m c t h0)
      isplitl [H6]
      · unfold owns; iexists _; isplitr
        swap; · iexact H6
        ipureintro; exact View.read_writes_of_cover _ _ _ _ _ (coverA_6 m c t h0)
      isplitl [H7]
      · unfold owns; iexists _; isplitr
        swap; · iexact H7
        ipureintro; exact View.read_writes_of_cover _ _ _ _ _ (coverA_7 m c t h0)
      isplitl [H8]
      · unfold owns; iexists _; isplitr
        swap; · iexact H8
        ipureintro; exact View.read_writes_of_cover _ _ _ _ _ (coverA_8 m c t h0)
      unfold owns; iexists _; isplitr
      swap; · iexact H9
      ipureintro; exact View.read_writes_of_cover _ _ _ _ _ (coverA_9 m c t h0)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_9_B m c t h0]
      (try unfold stepB); unfold outB_5 outB_6 outB_7 outB_8 outB_9 soutB_0 soutB_1 soutB_2; (try dsimp only)
      iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((atB m c t h0 (outsAt0 m c (t.val - 1) (Nat.lt_of_le_of_lt (Nat.sub_le _ _) t.isLt))).2.2.2.2.2.2.2.2.2 W _)
      isplitl [H0]; iexact H0; isplitl [H1]; iexact H1; isplitl [H2]; iexact H2; isplitl [H3]; iexact H3
      isplitl [H4]; iexact H4
      isplitl [H5]; · iexists _; iexact H5
      isplitl [H6]; · iexists _; iexact H6
      isplitl [H7]; · iexists _; iexact H7
      isplitl [H8]; · iexists _; iexact H8
      isplitl [H9]; iexact H9; isplitl [HS0]; iexact HS0; isplitl [HS1]; iexact HS1; isplitl [HS2]; iexact HS2
      isplitl [HS3]; iexact HS3; isplitl [Hq0]; iexact Hq0; isplitl [Hq1]; iexact Hq1; isplitl [Hq2]; iexact Hq2
      isplitl [Hq3]; iexact Hq3; isplitl [Hq4]; iexact Hq4; isplitl [Hq5]; iexact Hq5; isplitl [Hq6]; iexact Hq6
      isplitl [Hq7]; iexact Hq7; isplitl [Hq8]; iexact Hq8; isplitl [Hq9]; iexact Hq9; isplitl [Hq10]; iexact Hq10
      isplitl [Hq11]; iexact Hq11; isplitl [Hq12]; iexact Hq12; isplitl [Hq13]; iexact Hq13
      isplitl [Hq14]; iexact Hq14; isplitl [Hq15]; iexact Hq15; isplitl [Hq16]; iexact Hq16
      isplitl [Hq17]; iexact Hq17; isplitl [Hq18]; iexact Hq18; isplitl [Hq19]; iexact Hq19
      isplitl [Hq20]; iexact Hq20; isplitl [Hq21]; iexact Hq21; isplitl [Hq22]; iexact Hq22
      isplitl [Hq23]; iexact Hq23; isplitl [Hh0]; iexact Hh0; isplitl [HW]; iexact HW
      iintro ⟨H0, H1, H2, H3, H4, ⟨%e5, H5⟩, ⟨%e6, H6⟩, ⟨%e7, H7⟩, ⟨%e8, H8⟩, ⟨%e9, H9⟩, HS0, HS1, HS2, ⟨%fT3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
      isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
      · isplitl [HS0 HS1 HS2 HS3]
        · isplitl [HS0]; · iexact HS0
          isplitl [HS1]; iexact HS1; isplitl [HS2]; iexact HS2
          iexists _; unfold owns; iexists _; isplitr
          swap; · iexact HS3
          ipureintro; rfl
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
        · isplitl [Hq0]; · iexact Hq0
          isplitl [Hq1]; iexact Hq1; isplitl [Hq2]; iexact Hq2; isplitl [Hq3]; iexact Hq3; isplitl [Hq4]; iexact Hq4
          isplitl [Hq5]; iexact Hq5; isplitl [Hq6]; iexact Hq6; isplitl [Hq7]; iexact Hq7; isplitl [Hq8]; iexact Hq8
          isplitl [Hq9]; iexact Hq9; isplitl [Hq10]; iexact Hq10; isplitl [Hq11]; iexact Hq11
          isplitl [Hq12]; iexact Hq12; isplitl [Hq13]; iexact Hq13; isplitl [Hq14]; iexact Hq14
          isplitl [Hq15]; iexact Hq15; isplitl [Hq16]; iexact Hq16; isplitl [Hq17]; iexact Hq17
          isplitl [Hq18]; iexact Hq18; isplitl [Hq19]; iexact Hq19; isplitl [Hq20]; iexact Hq20
          isplitl [Hq21]; iexact Hq21; isplitl [Hq22]; iexact Hq22
          iexact Hq23
        iexact Hh0
      isplitl [HW']
      · iexists W'; isplitr; · ipureintro; exact fun _ _ => Or.inl trivial
        iexact HW'
      isplitl [H0]; iexact H0; isplitl [H1]; iexact H1; isplitl [H2]; iexact H2; isplitl [H3]; iexact H3
      isplitl [H4]; iexact H4
      isplitl [H5]
      · unfold owns; iexists _; isplitr
        swap; · iexact H5
        ipureintro; exact View.read_writes_of_cover _ _ _ _ _ (coverB_5 m c t h0 _)
      isplitl [H6]
      · unfold owns; iexists _; isplitr
        swap; · iexact H6
        ipureintro; exact View.read_writes_of_cover _ _ _ _ _ (coverB_6 m c t h0 _)
      isplitl [H7]
      · unfold owns; iexists _; isplitr
        swap; · iexact H7
        ipureintro; exact View.read_writes_of_cover _ _ _ _ _ (coverB_7 m c t h0 _)
      isplitl [H8]
      · unfold owns; iexists _; isplitr
        swap; · iexact H8
        ipureintro; exact View.read_writes_of_cover _ _ _ _ _ (coverB_8 m c t h0 _)
      unfold owns; iexists _; isplitr
      swap; · iexact H9
      ipureintro; exact View.read_writes_of_cover _ _ _ _ _ (coverB_9 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2 HS3]
  · isplitl [HS0]
    · iexists _; iexact HS0
    isplitl [HS1]
    · iexists _; iexact HS1
    isplitl [HS2]
    · iexists _; iexact HS2
    iexact HS3
  isplitl [Hg]; iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; iexact Hq1; isplitl [Hq2]; iexact Hq2; isplitl [Hq3]; iexact Hq3; isplitl [Hq4]; iexact Hq4
    isplitl [Hq5]; iexact Hq5; isplitl [Hq6]; iexact Hq6; isplitl [Hq7]; iexact Hq7; isplitl [Hq8]; iexact Hq8
    isplitl [Hq9]; iexact Hq9; isplitl [Hq10]; iexact Hq10; isplitl [Hq11]; iexact Hq11; isplitl [Hq12]; iexact Hq12
    isplitl [Hq13]; iexact Hq13; isplitl [Hq14]; iexact Hq14; isplitl [Hq15]; iexact Hq15; isplitl [Hq16]; iexact Hq16
    isplitl [Hq17]; iexact Hq17; isplitl [Hq18]; iexact Hq18; isplitl [Hq19]; iexact Hq19; isplitl [Hq20]; iexact Hq20
    isplitl [Hq21]; iexact Hq21; isplitl [Hq22]; iexact Hq22
    iexact Hq23
  iexact Hh0

theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel13Ideal.Body

end
-- ==== Proof.FfnBwdScr.lean ====
module

public import proofs.«01_k».proof.Proof.FfnBwdFrame
public import proofs.«01_k».proof.Proof.Rms
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The weights the first grid point of the feed forward block's backward call copies into scratch, and that every point finds there. -/

@[expose] public section

set_option maxRecDepth 16384

noncomputable section

namespace Cert.Kernel13Ideal.Body

open Idealize.ShloMosaic Idealize.ShloMosaic.TcCoe Idealize.SL.Sem
open Idealize.ShloMosaic.Pipeline (Dat)
open Cert.Kernel13Ideal Cert.Kernel13Ideal.Gen Cert.Rms

variable (m : (ℓ : Loc nD τ sig) → Buf (Elt Ideal) ℓ) (c : Dev nD)

/-- The gate's weights. -/
abbrev kWg : FVec Ideal S1024x2816 .f32 := m ((c : Thread nD τ).loc main_arg3)
/-- The up projection's weights. -/
abbrev kWu : FVec Ideal S1024x2816 .f32 := m ((c : Thread nD τ).loc main_arg4)
/-- The down projection's weights. -/
abbrev kWd : FVec Ideal S2816x1024 .f32 := m ((c : Thread nD τ).loc main_arg5)
/-- What the scratch buffers hold: the first two matrices transposed, the third as it is. -/
def w0 : FVec Ideal S2816x1024 .bf16 := fun y => kWg m c (ix2 (y 1) (y 0))
def w1 : FVec Ideal S2816x1024 .bf16 := fun y => kWu m c (ix2 (y 1) (y 0))
def w2 : FVec Ideal S2816x1024 .bf16 := fun y => kWd m c (ix2 (y 0) (y 1))

theorem host_w0 (s : Fin 8) (r : Fin 352) (l : Fin 1024) :
    V m c main_v24 (ix3 s (⟨0 + r.val, by omega⟩ : Fin 1056) l) = kWg m c (ix2 l ⟨s.val * 352 + r.val, by omega⟩) := by
  unfold V
  simp only [hostOps0, List.flatten_cons, List.flatten_nil, List.append_nil, List.cons_append, List.nil_append]
  after_reads_simp
  generalize hσ : StableHlo.upto _ _ _ = σ
  pointwise []
  subst hσ
  after_reads_simp
  pointwise []

theorem host_w1 (s : Fin 8) (r : Fin 352) (l : Fin 1024) :
    V m c main_v24 (ix3 s (⟨352 + r.val, by omega⟩ : Fin 1056) l) = kWu m c (ix2 l ⟨s.val * 352 + r.val, by omega⟩) := by
  unfold V
  simp only [hostOps0, List.flatten_cons, List.flatten_nil, List.append_nil, List.cons_append, List.nil_append]
  after_reads_simp
  generalize hσ : StableHlo.upto _ _ _ = σ
  pointwise []
  subst hσ
  after_reads_simp
  pointwise []

theorem host_w2 (s : Fin 8) (r : Fin 352) (l : Fin 1024) :
    V m c main_v24 (ix3 s (⟨704 + r.val, by omega⟩ : Fin 1056) l) = kWd m c (ix2 ⟨s.val * 352 + r.val, by omega⟩ l) := by
  unfold V
  simp only [hostOps0, List.flatten_cons, List.flatten_nil, List.append_nil, List.cons_append, List.nil_append]
  after_reads_simp
  generalize hσ : StableHlo.upto _ _ _ = σ
  pointwise []
  subst hσ
  after_reads_simp
  pointwise []
  rw [dif_neg (by omega), dif_neg (by omega)]
  congr 2
  apply Fin.ext; simp only []; omega

/-- Rows `q … q + 351` of shard `s` of the gathered weights. -/
abbrev shard (s q : ℕ) (h : ∀ a, (![s, q, 0] : Fin 3 → ℕ) a + S1x352x1024.size a ≤ S8x1056x1024.size a) :=
  ((View.whole (κ := .tc) main_v24).slice (Rect.unit ![s, q, 0] ![1, 352, 1024] h)).reshape S352x1024 squeezes_S1x352x1024_S352x1024.numel_eq

/-- One copy: the shard's rows land at row `o` of the scratch. -/
abbrev piece (o s q : ℕ) (ho : ∀ a, (![o, 0] : Fin 2 → ℕ) a + S352x1024.size a ≤ S2816x1024.size a)
    (h : ∀ a, (![s, q, 0] : Fin 3 → ℕ) a + S1x352x1024.size a ≤ S8x1056x1024.size a) : View.Piece (Elt Ideal) S2816x1024 .bf16 :=
  ⟨Rect.unit ![o, 0] ![352, 1024] ho, ReadAs.same.apply (View.read (Elt Ideal) (shard s q h) (V m c main_v24))⟩

/-- One copied piece, at one element. -/
theorem piece_at (s q o : ℕ) (h) (hs : s < 8) (hq : q ≤ 704) (ho : o = s * 352) (w : FVec Ideal S2816x1024 .bf16)
    (hw : ∀ (r : Fin 352) (l : Fin 1024), V m c main_v24 (ix3 (⟨s, hs⟩ : Fin 8) (⟨q + r.val, by omega⟩ : Fin 1056) l) = w (ix2 ⟨s * 352 + r.val, by omega⟩ l))
    (x : S352x1024.Idx) (y : S2816x1024.Idx) (h0 : (y 0).val = o + (x 0).val) (h1 : (y 1).val = (x 1).val) :
    View.read (Elt Ideal) (shard s q h) (V m c main_v24) x = w y := by
  idx_vars x
  have hx : x0.val < 352 := x0.isLt
  show (V m c main_v24) ((Rect.unit (s := S8x1056x1024) ![s, q, 0] ![1, 352, 1024] h).emb (Shape.reshapeEquiv _ (ix2 x0 x1))) = _
  refine (congrArg (V m c main_v24) (?_ : _ = (ix3 (⟨s, hs⟩ : Fin 8) (⟨q + x0.val, by omega⟩ : Fin 1056) x1))).trans ((hw x0 x1).trans (congrArg w ?_))
  · refine (congrArg (Rect.emb _) (ValueIdx.reshapeEquiv_ix2_1ab _ x0 x1)).trans ?_
    funext a
    apply Fin.ext
    fin_cases a
    · show s + 1 * 0 = s; omega
    · show q + 1 * x0.val = q + x0.val; omega
    · show 0 + 1 * x1.val = x1.val; omega
  · funext a
    apply Fin.ext
    fin_cases a
    · exact (congrArg (· + x0.val) ho.symm).trans h0.symm
    · exact h1.symm

/-- The eight copies into one of the buffers: rows `q … q + 351` of each shard. -/
abbrev pieces (q : ℕ) (h : ∀ s < 8, ∀ a, (![s, q, 0] : Fin 3 → ℕ) a + S1x352x1024.size a ≤ S8x1056x1024.size a) : List (View.Piece (Elt Ideal) S2816x1024 .bf16) :=
  [piece m c 2464 7 q inb_S2816x1024_S352x1024_2464_0 (h 7 (by decide)),
   piece m c 2112 6 q inb_S2816x1024_S352x1024_2112_0 (h 6 (by decide)),
   piece m c 1760 5 q inb_S2816x1024_S352x1024_1760_0 (h 5 (by decide)),
   piece m c 1408 4 q inb_S2816x1024_S352x1024_1408_0 (h 4 (by decide)),
   piece m c 1056 3 q inb_S2816x1024_S352x1024_1056_0 (h 3 (by decide)),
   piece m c 704 2 q inb_S2816x1024_S352x1024_704_0 (h 2 (by decide)),
   piece m c 352 1 q inb_S2816x1024_S352x1024_352_0 (h 1 (by decide)),
   piece m c 0 0 q inb_S2816x1024_S352x1024_0_0 (h 0 (by decide))]

set_option maxHeartbeats 2000000 in
theorem canon (q : ℕ) (hq : q ≤ 704) (h) (w : FVec Ideal S2816x1024 .bf16)
    (hw : ∀ (s : Fin 8) (r : Fin 352) (l : Fin 1024), V m c main_v24 (ix3 s (⟨q + r.val, by omega⟩ : Fin 1056) l) = w (ix2 ⟨s.val * 352 + r.val, by omega⟩ l)) :
    View.canon (pieces m c q h) = w := by
  funext y
  canon_tiles x h
  · exact piece_at m c 7 q 2464 _ (by decide) hq rfl w (hw ⟨7, by decide⟩) x y h0 h1
  · exact piece_at m c 6 q 2112 _ (by decide) hq rfl w (hw ⟨6, by decide⟩) x y h0 h1
  · exact piece_at m c 5 q 1760 _ (by decide) hq rfl w (hw ⟨5, by decide⟩) x y h0 h1
  · exact piece_at m c 4 q 1408 _ (by decide) hq rfl w (hw ⟨4, by decide⟩) x y h0 h1
  · exact piece_at m c 3 q 1056 _ (by decide) hq rfl w (hw ⟨3, by decide⟩) x y h0 h1
  · exact piece_at m c 2 q 704 _ (by decide) hq rfl w (hw ⟨2, by decide⟩) x y h0 h1
  · exact piece_at m c 1 q 352 _ (by decide) hq rfl w (hw ⟨1, by decide⟩) x y h0 h1
  · exact piece_at m c 0 q 0 _ (by decide) hq rfl w (hw ⟨0, by decide⟩) x y (h0.trans (Nat.zero_add _).symm) h1

theorem rows (q : ℕ) (hq : q ≤ 704) (s : ℕ) (hs : s < 8) : ∀ a, (![s, q, 0] : Fin 3 → ℕ) a + S1x352x1024.size a ≤ S8x1056x1024.size a := by
  intro a
  fin_cases a
  · show s + 1 ≤ 8; omega
  · show q + 352 ≤ 1056; omega
  · show 0 + 1024 ≤ 1024; omega

abbrev pieces0 : List (View.Piece (Elt Ideal) S2816x1024 .bf16) := pieces m c 0 (rows 0 (by decide))
theorem canon0 : View.canon (pieces0 m c) = w0 m c := canon m c 0 (by decide) _ (w0 m c) (host_w0 m c)
abbrev pieces1 : List (View.Piece (Elt Ideal) S2816x1024 .bf16) := pieces m c 352 (rows 352 (by decide))
theorem canon1 : View.canon (pieces1 m c) = w1 m c := canon m c 352 (by decide) _ (w1 m c) (host_w1 m c)
abbrev pieces2 : List (View.Piece (Elt Ideal) S2816x1024 .bf16) := pieces m c 704 (rows 704 (by decide))
theorem canon2 : View.canon (pieces2 m c) = w2 m c := canon m c 704 (by decide) _ (w2 m c) (host_w2 m c)

set_option maxHeartbeats 2000000 in
theorem soutA_0_eq (t : Fin cfg0.N) (h0 : t.val % 32 = 0) : soutA_0 m c t h0 = w0 m c := by
  unfold soutA_0 atA
  frame_out
  exact canon0 m c

set_option maxHeartbeats 2000000 in
theorem soutA_1_eq (t : Fin cfg0.N) (h0 : t.val % 32 = 0) : soutA_1 m c t h0 = w1 m c := by
  unfold soutA_1 atA
  frame_out
  exact canon1 m c

set_option maxHeartbeats 2000000 in
theorem soutA_2_eq (t : Fin cfg0.N) (h0 : t.val % 32 = 0) : soutA_2 m c t h0 = w2 m c := by
  unfold soutA_2 atA
  frame_out
  exact canon2 m c

theorem stepA_eq (t : Fin cfg0.N) (h0 : t.val % 32 = 0) : (stepA m c t h0).2.2.2.2.2 = (w0 m c, w1 m c, w2 m c) := by
  unfold stepA; dsimp only; rw [soutA_0_eq, soutA_1_eq, soutA_2_eq]
theorem stepB_eq (t : Fin cfg0.N) (h0 : ¬ t.val % 32 = 0) (p : Outs Ideal) : (stepB m c t h0 p).2.2.2.2.2 = p.2.2.2.2.2 := by
  unfold stepB soutB_0 soutB_1 soutB_2; dsimp only

/-- The buffers after every point. -/
theorem every (n : ℕ) : ∀ (t : Fin cfg0.N), t.val = n → (outsAt0 m c t.val t.isLt).2.2.2.2.2 = (w0 m c, w1 m c, w2 m c) := by
  induction n with
  | zero =>
    intro t ht
    have h0 : t.val % 32 = 0 := by omega
    rw [outsAt0_A m c t h0]
    exact stepA_eq m c t h0
  | succ n ih =>
    intro t ht
    by_cases h0 : t.val % 32 = 0
    · rw [outsAt0_A m c t h0]
      exact stepA_eq m c t h0
    · rw [outsAt0_B m c t h0]
      exact (stepB_eq m c t h0 _).trans (ih ⟨t.val - 1, Nat.lt_of_le_of_lt (Nat.sub_le _ _) t.isLt⟩ (by show t.val - 1 = n; omega))

theorem scratch0 (n : ℕ) (h : n < cfg0.N) : (outsAt0 m c n h).2.2.2.2.2.1 = w0 m c := congrArg (·.1) (every m c n ⟨n, h⟩ rfl)
theorem scratch1 (n : ℕ) (h : n < cfg0.N) : (outsAt0 m c n h).2.2.2.2.2.2.1 = w1 m c := congrArg (·.2.1) (every m c n ⟨n, h⟩ rfl)
theorem scratch2 (n : ℕ) (h : n < cfg0.N) : (outsAt0 m c n h).2.2.2.2.2.2.2 = w2 m c := congrArg (·.2.2) (every m c n ⟨n, h⟩ rfl)

theorem ld0 (o n : ℕ) (h) : (View.whole cc0_scratch0).readCov (pieces0 m c) (Rect.unit ![o, 0] ![n, 1024] h).toLoadRect = View.ld (w0 m c) (Rect.unit (s := S2816x1024) ![o, 0] ![n, 1024] h) := by
  rw [View.readCov_eq_canon', canon0]
  rfl

theorem ld1 (o n : ℕ) (h) : (View.whole cc0_scratch1).readCov (pieces1 m c) (Rect.unit ![o, 0] ![n, 1024] h).toLoadRect = View.ld (w1 m c) (Rect.unit (s := S2816x1024) ![o, 0] ![n, 1024] h) := by
  rw [View.readCov_eq_canon', canon1]
  rfl

theorem ld2 (o n : ℕ) (h) : (View.whole cc0_scratch2).readCov (pieces2 m c) (Rect.unit ![o, 0] ![n, 1024] h).toLoadRect = View.ld (w2 m c) (Rect.unit (s := S2816x1024) ![o, 0] ![n, 1024] h) := by
  rw [View.readCov_eq_canon', canon2]
  rfl

end Cert.Kernel13Ideal.Body

end
-- ==== Proof.FfnBack.lean ====
module

public import proofs.«01_k».proof.Proof.Ffn
public import proofs.«01_k».proof.Proof.RmsReal

/-! The gradients of the feed forward block, element by element: as the call computes them and as the derivative of the
    reference's lines gives them, and their equality on reals. -/

@[expose] public section

noncomputable section

namespace Cert.Ffn

open Idealize.ShloMosaic Cert.Rms Cert.Rows

abbrev one : EReal := Ideal.ofBits .f32 0x3F800000#32

/-- The gate's gradient, from the gate `x`, the other product `y` and the gradient `v` of their gated unit: as the call computes it. -/
def dgate (x y v : EReal) : EReal := v * y * (Ideal.logistic x * (one + x * (one - Ideal.logistic x)))
/-- The same as the derivative gives it. -/
def dgateR (x y v : EReal) : EReal := v * y * Ideal.logistic x + x * (v * y) * (Ideal.logistic x * (one - Ideal.logistic x))
/-- The gradient of the other product. -/
def dup (x v : EReal) : EReal := v * (x * Ideal.logistic x)

/-- The gradient of the gated units: half the row's gradient through the last matrix. -/
def dact (d : (⟨2, ![8192, 1024]⟩ : Shape).Idx → EReal) (wd : (⟨2, ![2816, 1024]⟩ : Shape).Idx → EReal) (r : Fin 8192) (k : Fin 2816) : EReal :=
  ∑ j : Fin 1024, half * d (ix2 r j) * wd (ix2 k j)

section
variable (d h : (⟨2, ![8192, 1024]⟩ : Shape).Idx → EReal) (g : (⟨1, ![1024]⟩ : Shape).Idx → EReal) (wg wu : (⟨2, ![1024, 2816]⟩ : Shape).Idx → EReal)
  (wd : (⟨2, ![2816, 1024]⟩ : Shape).Idx → EReal) (r : Fin 8192)

/-- The gate's gradient, at row `r` and lane `k`. -/
def DG (k : Fin 2816) : EReal := dgate (proj h g wg r k) (proj h g wu r k) (dact d wd r k)
/-- The same as the derivative gives it. -/
def DGR (k : Fin 2816) : EReal := dgateR (proj h g wg r k) (proj h g wu r k) (dact d wd r k)
/-- The other product's gradient, at row `r` and lane `k`. -/
def DU (k : Fin 2816) : EReal := dup (proj h g wg r k) (dact d wd r k)
/-- The gradient of the normalised row. -/
def dun (l : Fin 1024) : EReal := (∑ k : Fin 2816, DG d h g wg wu wd r k * wg (ix2 l k)) + ∑ k : Fin 2816, DU d h g wg wd r k * wu (ix2 l k)
/-- The first result's element: what the residual carries and what comes back through the norm. -/
def back (l : Fin 1024) : EReal := d (ix2 r l) + dK (row h r) (vec g) (dun d h g wg wu wd r) l
/-- What the gain's gradient adds up at row `r`. -/
def gterm (l : Fin 1024) : EReal := dun d h g wg wu wd r l * hat (row h r) l

end

/-- Two sums interleaved chunk by chunk. -/
theorem sum_pairs (z a b c d e f a' b' c' d' e' f' : EReal) (hz : z = 0) :
    ((((((((((((z + a) + a') + b) + b') + c) + c') + d) + d') + e) + e') + f) + f') = (((((a + b) + c) + d) + e) + f) + (((((a' + b') + c') + d') + e') + f') := by
  subst hz
  rw [zero_add]
  abel

theorem one_eq : one = ((1 : ℝ) : EReal) := by
  simp [one, Ideal.ofBits, Ideal.ieee, -EReal.coe_mul]
  norm_num

theorem half_real : half ≠ ⊥ ∧ half ≠ ⊤ := by
  have : half = ((1/2 : ℝ) : EReal) := by
    simp [half, Ideal.ofBits, Ideal.ieee, -EReal.coe_mul]
    norm_num
  rw [this]
  exact ⟨EReal.coe_ne_bot _, EReal.coe_ne_top _⟩

/-- The two forms of the gate's gradient agree on reals. -/
theorem dgate_eq (x y v : EReal) (hx : x ≠ ⊥ ∧ x ≠ ⊤) (hy : y ≠ ⊥ ∧ y ≠ ⊤) (hv : v ≠ ⊥ ∧ v ≠ ⊤) : dgateR x y v = dgate x y v := by
  unfold dgateR dgate
  have hs := fin_logistic x
  rw [one_eq, ← EReal.coe_toReal hs.2 hs.1, ← EReal.coe_toReal hx.2 hx.1, ← EReal.coe_toReal hy.2 hy.1, ← EReal.coe_toReal hv.2 hv.1]
  simp only [EReal.toReal_coe, ← EReal.coe_mul, ← EReal.coe_add, ← EReal.coe_sub]
  congr 1
  ring

/-- A sum of reals is a real. -/
theorem add_real (a b : EReal) (ha : a ≠ ⊥ ∧ a ≠ ⊤) (hb : b ≠ ⊥ ∧ b ≠ ⊤) : a + b ≠ ⊥ ∧ a + b ≠ ⊤ := by
  rw [← EReal.coe_toReal ha.2 ha.1, ← EReal.coe_toReal hb.2 hb.1, ← EReal.coe_add]
  exact ⟨EReal.coe_ne_bot _, EReal.coe_ne_top _⟩

theorem sub_real (a b : EReal) (ha : a ≠ ⊥ ∧ a ≠ ⊤) (hb : b ≠ ⊥ ∧ b ≠ ⊤) : a - b ≠ ⊥ ∧ a - b ≠ ⊤ := by
  rw [← EReal.coe_toReal ha.2 ha.1, ← EReal.coe_toReal hb.2 hb.1, ← EReal.coe_sub]
  exact ⟨EReal.coe_ne_bot _, EReal.coe_ne_top _⟩

section
variable (d h : (⟨2, ![8192, 1024]⟩ : Shape).Idx → EReal) (g : (⟨1, ![1024]⟩ : Shape).Idx → EReal) (wg wu : (⟨2, ![1024, 2816]⟩ : Shape).Idx → EReal)
  (wd : (⟨2, ![2816, 1024]⟩ : Shape).Idx → EReal) (r : Fin 8192)
  (rd : ∀ i, d i ≠ ⊥ ∧ d i ≠ ⊤) (rh : ∀ i, h i ≠ ⊥ ∧ h i ≠ ⊤) (rg : ∀ i, g i ≠ ⊥ ∧ g i ≠ ⊤) (rwg : ∀ i, wg i ≠ ⊥ ∧ wg i ≠ ⊤)
  (rwu : ∀ i, wu i ≠ ⊥ ∧ wu i ≠ ⊤) (rwd : ∀ i, wd i ≠ ⊥ ∧ wd i ≠ ⊤)

include rh rg in
theorem proj_real (w : (⟨2, ![1024, 2816]⟩ : Shape).Idx → EReal) (rw' : ∀ i, w i ≠ ⊥ ∧ w i ≠ ⊤) (k : Fin 2816) : proj h g w r k ≠ ⊥ ∧ proj h g w r k ≠ ⊤ :=
  sum_real _ _ (fun l => nrm_real _ _ (fun _ => rh _) (fun _ => rg _) l) (fun l => rw' _)

include rd rwd in
theorem dact_real (k : Fin 2816) : dact d wd r k ≠ ⊥ ∧ dact d wd r k ≠ ⊤ :=
  sum_real _ _ (fun l => mul_real _ _ half_real (rd _)) (fun l => rwd _)

include rd rh rg rwg rwu rwd in
/-- The two forms of the gate's gradient agree on real arrays. -/
theorem DG_eq (k : Fin 2816) : DGR d h g wg wu wd r k = DG d h g wg wu wd r k :=
  dgate_eq _ _ _ (proj_real h g r rh rg wg rwg k) (proj_real h g r rh rg wu rwu k) (dact_real d wd r rd rwd k)

include rd rh rg rwg rwu rwd in
/-- The gradient of the normalised row is real on real arrays. -/
theorem dun_real (l : Fin 1024) : dun d h g wg wu wd r l ≠ ⊥ ∧ dun d h g wg wu wd r l ≠ ⊤ := by
  refine add_real _ _ (sum_real _ _ (fun k => ?_) (fun k => rwg _)) (sum_real _ _ (fun k => ?_) (fun k => rwu _))
  · have hx := proj_real h g r rh rg wg rwg k
    have h1 : one ≠ ⊥ ∧ one ≠ ⊤ := by rw [one_eq]; exact ⟨EReal.coe_ne_bot _, EReal.coe_ne_top _⟩
    exact mul_real _ _ (mul_real _ _ (dact_real d wd r rd rwd k) (proj_real h g r rh rg wu rwu k))
      (mul_real _ _ (fin_logistic _) (add_real _ _ h1 (mul_real _ _ hx (sub_real _ _ h1 (fin_logistic _)))))
  · exact mul_real _ _ (dact_real d wd r rd rwd k) (mul_real _ _ (proj_real h g r rh rg wg rwg k) (fin_logistic _))

end

end Cert.Ffn

end
-- ==== Proof.FfnBwdOut.lean ====
module

public import proofs.«01_k».proof.Proof.FfnBwdScr
public import proofs.«01_k».proof.Proof.Ffn
public import proofs.«01_k».proof.Proof.FfnFwd
public import proofs.«01_k».proof.Proof.FfnBack
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The backward call of the feed forward block: its results. -/

@[expose] public section

set_option maxRecDepth 16384

noncomputable section

namespace Cert.Kernel13Ideal.Body

open Idealize.ShloMosaic Idealize.ShloMosaic.TcCoe Idealize.SL.Sem
open Idealize.ShloMosaic.Pipeline (Dat)
open Cert.Kernel13Ideal Cert.Kernel13Ideal.Gen Cert.Rms Cert.Ffn

variable (m : (ℓ : Loc nD τ sig) → Buf (Elt Ideal) ℓ) (c : Dev nD)

/-- The gradient that the residual carries. -/
abbrev kD : FVec Ideal S8192x1024 .f32 := m ((c : Thread nD τ).loc main_arg0)
/-- The activations. -/
abbrev kH : FVec Ideal S8192x1024 .f32 := m ((c : Thread nD τ).loc main_arg1)
/-- The norm's gain. -/
abbrev kG : FVec Ideal S1024 .f32 := m ((c : Thread nD τ).loc main_arg2)

theorem host_g (l : Fin 1024) : V m c main_v13 (ix2 0 l) = kG m c (ix1 l) := by
  unfold V
  simp only [hostOps0, List.flatten_cons, List.flatten_nil, List.append_nil, List.cons_append, List.nil_append]
  entry_read
  pointwise []

theorem host_kWg (r : Fin 8192) (l : Fin 2816) : (V m c main_v15 : FVec Ideal S8192x2816 .bf16) (ix2 r l) = proj (kH m c) (kG m c) (kWg m c) r l := by
  refine Eq.trans ?_ (Cert.Reference11Ideal.FfnFwd.pj_at (kH m c) (kG m c) (kWg m c) r l)
  unfold V
  simp only [hostOps0, List.flatten_cons, List.flatten_nil, List.append_nil, List.cons_append, List.nil_append]
  entry_read
  rfl

theorem host_kWu (r : Fin 8192) (l : Fin 2816) : (V m c main_v17 : FVec Ideal S8192x2816 .bf16) (ix2 r l) = proj (kH m c) (kG m c) (kWu m c) r l := by
  refine Eq.trans ?_ (Cert.Reference11Ideal.FfnFwd.pj_at (kH m c) (kG m c) (kWu m c) r l)
  unfold V
  simp only [hostOps0, List.flatten_cons, List.flatten_nil, List.append_nil, List.cons_append, List.nil_append]
  entry_read
  rfl

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] :=
  (by decide +kernel : ∀ t : Fin grid0.N, _)

/-- Row `r` of the grid point's block of 256 rows. -/
abbrev gr (t : Fin cfg0.N) (r : Fin 256) : Fin 8192 := ⟨t.val * 256 + r.val, by have := t.isLt; have : cfg0.N = 32 := rfl; omega⟩

theorem i0 (t : Fin cfg0.N) (r : Fin 256) (l : Fin 1024) : (iblk m c 0 t : FVec Ideal S256x1024 .f32) (ix2 r l) = kD m c (ix2 (gr t r) l) := by
  refine Eq.trans (?_ : _ = (V m c main_arg0 : FVec Ideal S8192x1024 .f32) (ix2 (gr t r) l)) (congrFun (V_main_arg0 m c) _)
  have hN : t.val < 32 := t.isLt
  blk_ext [iblk, idx t]

theorem i1 (t : Fin cfg0.N) (r : Fin 256) (l : Fin 1024) : (iblk m c 1 t : FVec Ideal S256x1024 .f32) (ix2 r l) = kH m c (ix2 (gr t r) l) := by
  refine Eq.trans (?_ : _ = (V m c main_arg1 : FVec Ideal S8192x1024 .f32) (ix2 (gr t r) l)) (congrFun (V_main_arg1 m c) _)
  have hN : t.val < 32 := t.isLt
  blk_ext [iblk, idx t]

theorem i3 (t : Fin cfg0.N) (r : Fin 256) (l : Fin 2816) : (iblk m c 3 t : FVec Ideal S256x2816 .bf16) (ix2 r l) = proj (kH m c) (kG m c) (kWg m c) (gr t r) l := by
  refine Eq.trans (?_ : _ = (V m c main_v15 : FVec Ideal S8192x2816 .bf16) (ix2 (gr t r) l)) (host_kWg m c _ _)
  have hN : t.val < 32 := t.isLt
  blk_ext [iblk, idx t]

theorem i4 (t : Fin cfg0.N) (r : Fin 256) (l : Fin 2816) : (iblk m c 4 t : FVec Ideal S256x2816 .bf16) (ix2 r l) = proj (kH m c) (kG m c) (kWu m c) (gr t r) l := by
  refine Eq.trans (?_ : _ = (V m c main_v17 : FVec Ideal S8192x2816 .bf16) (ix2 (gr t r) l)) (host_kWu m c _ _)
  have hN : t.val < 32 := t.isLt
  blk_ext [iblk, idx t]

theorem i2 (t : Fin cfg0.N) (l : Fin 1024) : (iblk m c 2 t : FVec Ideal S1x1024 .f32) (ix2 0 l) = kG m c (ix1 l) := by
  refine Eq.trans (?_ : _ = (V m c main_v13 : FVec Ideal S1x1024 .f32) (ix2 0 l)) (host_g m c l)
  have hN : t.val < 32 := t.isLt
  blk_ext [iblk, idx t]

section
variable (d acc : FVec Ideal S256x1024 .f32) (w2 w0 w1 : FVec Ideal S512x1024 .bf16) (g u : FVec Ideal S256x512 .bf16)
  (v2 v0 v1 : FVec Ideal S256x1024 .bf16) (g' u' : FVec Ideal S256x256 .bf16) (r : Fin 256) (l : Fin 1024)

theorem dg0 (k : Fin 512) : (k0_pay14 (F := Ideal) (k0_pay7 (F := Ideal) g) (k0_pay9 (F := Ideal) g) (k0_pay12 (F := Ideal) (k0_pay3 (F := Ideal) d) w2 u) (k0_pay13 (F := Ideal) g)) (ix2 r k) = dgate (g (ix2 r k)) (u (ix2 r k)) (∑ j : Fin 1024, half * d (ix2 r j) * w2 (ix2 k j)) := by
  pointwise [k0_pay3, k0_pay4, k0_pay5, k0_pay6, k0_pay7, k0_pay8, k0_pay9, k0_pay10, k0_pay11, k0_pay12, k0_pay13, k0_pay14, k0_pay15, k0_pay16, dgate]

theorem du0 (k : Fin 512) : (k0_pay15 (F := Ideal) (k0_pay5 (F := Ideal) (k0_pay3 (F := Ideal) d) w2) (k0_pay10 (F := Ideal) g)) (ix2 r k) = dup (g (ix2 r k)) (∑ j : Fin 1024, half * d (ix2 r j) * w2 (ix2 k j)) := by
  pointwise [k0_pay3, k0_pay4, k0_pay5, k0_pay6, k0_pay7, k0_pay8, k0_pay9, k0_pay10, k0_pay11, k0_pay12, k0_pay13, k0_pay14, k0_pay15, k0_pay16, dup]

theorem at0 (k : Fin 512) : (k0_pay11 (F := Ideal) g u) (ix2 r k) = glu (g (ix2 r k)) (u (ix2 r k)) := by
  pointwise [k0_pay3, k0_pay4, k0_pay5, k0_pay6, k0_pay7, k0_pay8, k0_pay9, k0_pay10, k0_pay11, k0_pay12, k0_pay13, k0_pay14, k0_pay15, k0_pay16, glu]

theorem acc0 : (k0_pay16 (F := Ideal) acc (k0_pay5 (F := Ideal) (k0_pay3 (F := Ideal) d) w2) (k0_pay7 (F := Ideal) g) (k0_pay9 (F := Ideal) g) (k0_pay10 (F := Ideal) g) (k0_pay12 (F := Ideal) (k0_pay3 (F := Ideal) d) w2 u) (k0_pay13 (F := Ideal) g) w0 w1) (ix2 r l)
    = (acc (ix2 r l) + ∑ k : Fin 512, dgate (g (ix2 r k)) (u (ix2 r k)) (∑ j : Fin 1024, half * d (ix2 r j) * w2 (ix2 k j)) * w0 (ix2 k l))
      + ∑ k : Fin 512, dup (g (ix2 r k)) (∑ j : Fin 1024, half * d (ix2 r j) * w2 (ix2 k j)) * w1 (ix2 k l) := by
  pointwise [k0_pay3, k0_pay4, k0_pay5, k0_pay6, k0_pay7, k0_pay8, k0_pay9, k0_pay10, k0_pay11, k0_pay12, k0_pay13, k0_pay14, k0_pay15, k0_pay16, dgate, dup]

theorem dg1 (k : Fin 512) : (k0_pay25 (F := Ideal) (k0_pay20 (F := Ideal) g) (k0_pay23 (F := Ideal) (k0_pay6 (F := Ideal) (k0_pay3 (F := Ideal) d) w2) u) (k0_pay24 (F := Ideal) g)) (ix2 r k) = dgate (g (ix2 r k)) (u (ix2 r k)) (∑ j : Fin 1024, half * d (ix2 r j) * w2 (ix2 k j)) := by
  pointwise [k0_pay3, k0_pay6, k0_pay17, k0_pay18, k0_pay19, k0_pay20, k0_pay21, k0_pay22, k0_pay23, k0_pay24, k0_pay25, k0_pay26, k0_pay27, dgate]

theorem du1 (k : Fin 512) : (k0_pay26 (F := Ideal) (k0_pay6 (F := Ideal) (k0_pay3 (F := Ideal) d) w2) (k0_pay21 (F := Ideal) g)) (ix2 r k) = dup (g (ix2 r k)) (∑ j : Fin 1024, half * d (ix2 r j) * w2 (ix2 k j)) := by
  pointwise [k0_pay3, k0_pay6, k0_pay17, k0_pay18, k0_pay19, k0_pay20, k0_pay21, k0_pay22, k0_pay23, k0_pay24, k0_pay25, k0_pay26, k0_pay27, dup]

theorem at1 (k : Fin 512) : (k0_pay22 (F := Ideal) g u) (ix2 r k) = glu (g (ix2 r k)) (u (ix2 r k)) := by
  pointwise [k0_pay3, k0_pay6, k0_pay17, k0_pay18, k0_pay19, k0_pay20, k0_pay21, k0_pay22, k0_pay23, k0_pay24, k0_pay25, k0_pay26, k0_pay27, glu]

theorem acc1 : (k0_pay27 (F := Ideal) (k0_pay6 (F := Ideal) (k0_pay3 (F := Ideal) d) w2) acc (k0_pay20 (F := Ideal) g) (k0_pay21 (F := Ideal) g) (k0_pay23 (F := Ideal) (k0_pay6 (F := Ideal) (k0_pay3 (F := Ideal) d) w2) u) (k0_pay24 (F := Ideal) g) w0 w1) (ix2 r l)
    = (acc (ix2 r l) + ∑ k : Fin 512, dgate (g (ix2 r k)) (u (ix2 r k)) (∑ j : Fin 1024, half * d (ix2 r j) * w2 (ix2 k j)) * w0 (ix2 k l))
      + ∑ k : Fin 512, dup (g (ix2 r k)) (∑ j : Fin 1024, half * d (ix2 r j) * w2 (ix2 k j)) * w1 (ix2 k l) := by
  pointwise [k0_pay3, k0_pay6, k0_pay17, k0_pay18, k0_pay19, k0_pay20, k0_pay21, k0_pay22, k0_pay23, k0_pay24, k0_pay25, k0_pay26, k0_pay27, dgate, dup]

theorem dg2 (k : Fin 512) : (k0_pay36 (F := Ideal) (k0_pay31 (F := Ideal) g) (k0_pay34 (F := Ideal) (k0_pay17 (F := Ideal) (k0_pay3 (F := Ideal) d) w2) u) (k0_pay35 (F := Ideal) g) (FloatOps.ofBits .f32 0x3F800000#32 : Ideal .f32)) (ix2 r k) = dgate (g (ix2 r k)) (u (ix2 r k)) (∑ j : Fin 1024, half * d (ix2 r j) * w2 (ix2 k j)) := by
  pointwise [k0_pay3, k0_pay17, k0_pay28, k0_pay29, k0_pay30, k0_pay31, k0_pay32, k0_pay33, k0_pay34, k0_pay35, k0_pay36, k0_pay37, k0_pay38, dgate]

theorem du2 (k : Fin 512) : (k0_pay37 (F := Ideal) (k0_pay17 (F := Ideal) (k0_pay3 (F := Ideal) d) w2) (k0_pay32 (F := Ideal) g)) (ix2 r k) = dup (g (ix2 r k)) (∑ j : Fin 1024, half * d (ix2 r j) * w2 (ix2 k j)) := by
  pointwise [k0_pay3, k0_pay17, k0_pay28, k0_pay29, k0_pay30, k0_pay31, k0_pay32, k0_pay33, k0_pay34, k0_pay35, k0_pay36, k0_pay37, k0_pay38, dup]

theorem at2 (k : Fin 512) : (k0_pay33 (F := Ideal) g u) (ix2 r k) = glu (g (ix2 r k)) (u (ix2 r k)) := by
  pointwise [k0_pay3, k0_pay17, k0_pay28, k0_pay29, k0_pay30, k0_pay31, k0_pay32, k0_pay33, k0_pay34, k0_pay35, k0_pay36, k0_pay37, k0_pay38, glu]

theorem acc2 : (k0_pay38 (F := Ideal) (k0_pay17 (F := Ideal) (k0_pay3 (F := Ideal) d) w2) acc (k0_pay31 (F := Ideal) g) (k0_pay32 (F := Ideal) g) (k0_pay34 (F := Ideal) (k0_pay17 (F := Ideal) (k0_pay3 (F := Ideal) d) w2) u) (k0_pay35 (F := Ideal) g) (FloatOps.ofBits .f32 0x3F800000#32 : Ideal .f32) w0 w1) (ix2 r l)
    = (acc (ix2 r l) + ∑ k : Fin 512, dgate (g (ix2 r k)) (u (ix2 r k)) (∑ j : Fin 1024, half * d (ix2 r j) * w2 (ix2 k j)) * w0 (ix2 k l))
      + ∑ k : Fin 512, dup (g (ix2 r k)) (∑ j : Fin 1024, half * d (ix2 r j) * w2 (ix2 k j)) * w1 (ix2 k l) := by
  pointwise [k0_pay3, k0_pay17, k0_pay28, k0_pay29, k0_pay30, k0_pay31, k0_pay32, k0_pay33, k0_pay34, k0_pay35, k0_pay36, k0_pay37, k0_pay38, dgate, dup]

theorem dg3 (k : Fin 512) : (k0_pay48 (F := Ideal) (k0_pay42 (F := Ideal) g) (k0_pay45 (F := Ideal) (k0_pay28 (F := Ideal) (k0_pay3 (F := Ideal) d) w2) u) (k0_pay46 (F := Ideal) g) (k0_pay47 (F := Ideal))) (ix2 r k) = dgate (g (ix2 r k)) (u (ix2 r k)) (∑ j : Fin 1024, half * d (ix2 r j) * w2 (ix2 k j)) := by
  pointwise [k0_pay3, k0_pay28, k0_pay39, k0_pay40, k0_pay41, k0_pay42, k0_pay43, k0_pay44, k0_pay45, k0_pay46, k0_pay47, k0_pay48, k0_pay49, k0_pay50, dgate]

theorem du3 (k : Fin 512) : (k0_pay49 (F := Ideal) (k0_pay28 (F := Ideal) (k0_pay3 (F := Ideal) d) w2) (k0_pay43 (F := Ideal) g)) (ix2 r k) = dup (g (ix2 r k)) (∑ j : Fin 1024, half * d (ix2 r j) * w2 (ix2 k j)) := by
  pointwise [k0_pay3, k0_pay28, k0_pay39, k0_pay40, k0_pay41, k0_pay42, k0_pay43, k0_pay44, k0_pay45, k0_pay46, k0_pay47, k0_pay48, k0_pay49, k0_pay50, dup]

theorem at3 (k : Fin 512) : (k0_pay44 (F := Ideal) g u) (ix2 r k) = glu (g (ix2 r k)) (u (ix2 r k)) := by
  pointwise [k0_pay3, k0_pay28, k0_pay39, k0_pay40, k0_pay41, k0_pay42, k0_pay43, k0_pay44, k0_pay45, k0_pay46, k0_pay47, k0_pay48, k0_pay49, k0_pay50, glu]

theorem acc3 : (k0_pay50 (F := Ideal) (k0_pay28 (F := Ideal) (k0_pay3 (F := Ideal) d) w2) acc (k0_pay42 (F := Ideal) g) (k0_pay43 (F := Ideal) g) (k0_pay45 (F := Ideal) (k0_pay28 (F := Ideal) (k0_pay3 (F := Ideal) d) w2) u) (k0_pay46 (F := Ideal) g) (k0_pay47 (F := Ideal)) w0 w1) (ix2 r l)
    = (acc (ix2 r l) + ∑ k : Fin 512, dgate (g (ix2 r k)) (u (ix2 r k)) (∑ j : Fin 1024, half * d (ix2 r j) * w2 (ix2 k j)) * w0 (ix2 k l))
      + ∑ k : Fin 512, dup (g (ix2 r k)) (∑ j : Fin 1024, half * d (ix2 r j) * w2 (ix2 k j)) * w1 (ix2 k l) := by
  pointwise [k0_pay3, k0_pay28, k0_pay39, k0_pay40, k0_pay41, k0_pay42, k0_pay43, k0_pay44, k0_pay45, k0_pay46, k0_pay47, k0_pay48, k0_pay49, k0_pay50, dgate, dup]

theorem dg4 (k : Fin 512) : (k0_pay59 (F := Ideal) (k0_pay54 (F := Ideal) g) (k0_pay57 (F := Ideal) (k0_pay39 (F := Ideal) (k0_pay3 (F := Ideal) d) w2) u) (k0_pay58 (F := Ideal) g)) (ix2 r k) = dgate (g (ix2 r k)) (u (ix2 r k)) (∑ j : Fin 1024, half * d (ix2 r j) * w2 (ix2 k j)) := by
  pointwise [k0_pay3, k0_pay39, k0_pay51, k0_pay52, k0_pay53, k0_pay54, k0_pay55, k0_pay56, k0_pay57, k0_pay58, k0_pay59, k0_pay60, k0_pay61, dgate]

theorem du4 (k : Fin 512) : (k0_pay60 (F := Ideal) (k0_pay39 (F := Ideal) (k0_pay3 (F := Ideal) d) w2) (k0_pay55 (F := Ideal) g)) (ix2 r k) = dup (g (ix2 r k)) (∑ j : Fin 1024, half * d (ix2 r j) * w2 (ix2 k j)) := by
  pointwise [k0_pay3, k0_pay39, k0_pay51, k0_pay52, k0_pay53, k0_pay54, k0_pay55, k0_pay56, k0_pay57, k0_pay58, k0_pay59, k0_pay60, k0_pay61, dup]

theorem at4 (k : Fin 512) : (k0_pay56 (F := Ideal) g u) (ix2 r k) = glu (g (ix2 r k)) (u (ix2 r k)) := by
  pointwise [k0_pay3, k0_pay39, k0_pay51, k0_pay52, k0_pay53, k0_pay54, k0_pay55, k0_pay56, k0_pay57, k0_pay58, k0_pay59, k0_pay60, k0_pay61, glu]

theorem acc4 : (k0_pay61 (F := Ideal) (k0_pay39 (F := Ideal) (k0_pay3 (F := Ideal) d) w2) acc (k0_pay54 (F := Ideal) g) (k0_pay55 (F := Ideal) g) (k0_pay57 (F := Ideal) (k0_pay39 (F := Ideal) (k0_pay3 (F := Ideal) d) w2) u) (k0_pay58 (F := Ideal) g) w0 w1) (ix2 r l)
    = (acc (ix2 r l) + ∑ k : Fin 512, dgate (g (ix2 r k)) (u (ix2 r k)) (∑ j : Fin 1024, half * d (ix2 r j) * w2 (ix2 k j)) * w0 (ix2 k l))
      + ∑ k : Fin 512, dup (g (ix2 r k)) (∑ j : Fin 1024, half * d (ix2 r j) * w2 (ix2 k j)) * w1 (ix2 k l) := by
  pointwise [k0_pay3, k0_pay39, k0_pay51, k0_pay52, k0_pay53, k0_pay54, k0_pay55, k0_pay56, k0_pay57, k0_pay58, k0_pay59, k0_pay60, k0_pay61, dgate, dup]

theorem dg5 (k : Fin 256) : (k0_pay67 (F := Ideal) (k0_pay51 (F := Ideal) (k0_pay3 (F := Ideal) d) v2) g' u') (ix2 r k) = dgate (g' (ix2 r k)) (u' (ix2 r k)) (∑ j : Fin 1024, half * d (ix2 r j) * v2 (ix2 k j)) := by
  pointwise [k0_pay3, k0_pay51, k0_pay62, k0_pay63, k0_pay64, k0_pay65, k0_pay66, k0_pay67, k0_pay68, k0_pay69, dgate]

theorem du5 (k : Fin 256) : (k0_pay68 (F := Ideal) (k0_pay51 (F := Ideal) (k0_pay3 (F := Ideal) d) v2) g') (ix2 r k) = dup (g' (ix2 r k)) (∑ j : Fin 1024, half * d (ix2 r j) * v2 (ix2 k j)) := by
  pointwise [k0_pay3, k0_pay51, k0_pay62, k0_pay63, k0_pay64, k0_pay65, k0_pay66, k0_pay67, k0_pay68, k0_pay69, dup]

theorem at5 (k : Fin 256) : (k0_pay66 (F := Ideal) g' u') (ix2 r k) = glu (g' (ix2 r k)) (u' (ix2 r k)) := by
  pointwise [k0_pay3, k0_pay51, k0_pay62, k0_pay63, k0_pay64, k0_pay65, k0_pay66, k0_pay67, k0_pay68, k0_pay69, glu]

theorem acc5 : (k0_pay69 (F := Ideal) acc (k0_pay67 (F := Ideal) (k0_pay51 (F := Ideal) (k0_pay3 (F := Ideal) d) v2) g' u') (k0_pay68 (F := Ideal) (k0_pay51 (F := Ideal) (k0_pay3 (F := Ideal) d) v2) g') v0 v1) (ix2 r l)
    = (acc (ix2 r l) + ∑ k : Fin 256, dgate (g' (ix2 r k)) (u' (ix2 r k)) (∑ j : Fin 1024, half * d (ix2 r j) * v2 (ix2 k j)) * v0 (ix2 k l))
      + ∑ k : Fin 256, dup (g' (ix2 r k)) (∑ j : Fin 1024, half * d (ix2 r j) * v2 (ix2 k j)) * v1 (ix2 k l) := by
  pointwise [k0_pay3, k0_pay51, k0_pay62, k0_pay63, k0_pay64, k0_pay65, k0_pay66, k0_pay67, k0_pay68, k0_pay69, dgate, dup]

end

section
variable (x d : FVec Ideal S256x1024 .f32) (s : FVec Ideal S256x1024 .f32) (a b : FVec Ideal S256x256 .bf16) (w0 w1 : FVec Ideal S256x1024 .bf16)
  (g : FVec Ideal S1x1024 .f32) (acc : FVec Ideal S8x1024 .f32) (r : Fin 256) (l : Fin 1024)

theorem p1 : k0_pay1 (F := Ideal) (k0_pay70 (F := Ideal) x) (k0_pay71 (F := Ideal) x) d (k0_pay73 (F := Ideal) s a b w0 w1 g) (k0_pay74 (F := Ideal) s a b w0 w1 x g) (k0_pay75 (F := Ideal)) (ix2 r l)
    = d (ix2 r l) + dK (row x r) (row g 0) (row (k0_pay69 (F := Ideal) s a b w0 w1) r) l := by
  pointwise [k0_pay1, k0_pay70, k0_pay71, k0_pay73, k0_pay74, k0_pay75, dK, hat, rr, ms]

theorem p72 (i : Fin 8) : k0_pay72 (F := Ideal) s a b w0 w1 x acc (ix2 i l)
    = acc (ix2 i l) + ∑ j : Fin 32, k0_pay69 (F := Ideal) s a b w0 w1 (ix2 (⟨j.val * 8 + i.val, by omega⟩ : Fin 256) l) * hat (row x ⟨j.val * 8 + i.val, by omega⟩) l := by
  pointwise [k0_pay72, k0_pay70, k0_pay71, hat, rr, ms]

theorem p4 : k0_pay4 (F := Ideal) (ix2 r l) = (0 : EReal) := Ideal.ofBits_zero_f32

theorem p2 (i : Fin 8) : k0_pay2 (F := Ideal) (ix2 i l) = (0 : EReal) := Ideal.ofBits_zero_f32

end

/-- Lanes `o … o + n - 1` of a point's block of the gate. -/
abbrev lg (t : Fin cfg0.N) (n o : ℕ) (h : ∀ a, (![0, o] : Fin 2 → ℕ) a + (![256, n] : Fin 2 → ℕ) a ≤ S256x2816.size a) : FVec Ideal ⟨2, ![256, n]⟩ .bf16 :=
  View.ld (Val := Elt Ideal) (S := S256x2816) (e' := .bf16) (iblk m c 3 t) (Rect.unit (s := S256x2816) ![0, o] ![256, n] h)

theorem lg_at (t : Fin cfg0.N) (n o : ℕ) (h) (r : Fin 256) (k : Fin n) (hk : o + k.val < 2816) :
    lg m c t n o h (ix2 r k) = proj (kH m c) (kG m c) (kWg m c) (gr t r) ⟨o + k.val, hk⟩ := by
  refine Eq.trans ?_ (i3 m c t r ⟨o + k.val, hk⟩)
  refine congrArg (iblk m c 3 t : FVec Ideal S256x2816 .bf16) ?_
  funext a
  apply Fin.ext
  fin_cases a
  · show 0 + 1 * r.val = r.val; omega
  · show o + 1 * k.val = o + k.val; omega

/-- Lanes `o … o + n - 1` of a point's block of the other product. -/
abbrev lu (t : Fin cfg0.N) (n o : ℕ) (h : ∀ a, (![0, o] : Fin 2 → ℕ) a + (![256, n] : Fin 2 → ℕ) a ≤ S256x2816.size a) : FVec Ideal ⟨2, ![256, n]⟩ .bf16 :=
  View.ld (Val := Elt Ideal) (S := S256x2816) (e' := .bf16) (iblk m c 4 t) (Rect.unit (s := S256x2816) ![0, o] ![256, n] h)

theorem lu_at (t : Fin cfg0.N) (n o : ℕ) (h) (r : Fin 256) (k : Fin n) (hk : o + k.val < 2816) :
    lu m c t n o h (ix2 r k) = proj (kH m c) (kG m c) (kWu m c) (gr t r) ⟨o + k.val, hk⟩ := by
  refine Eq.trans ?_ (i4 m c t r ⟨o + k.val, hk⟩)
  refine congrArg (iblk m c 4 t : FVec Ideal S256x2816 .bf16) ?_
  funext a
  apply Fin.ext
  fin_cases a
  · show 0 + 1 * r.val = r.val; omega
  · show o + 1 * k.val = o + k.val; omega

/-- Rows `o … o + n - 1` of scratch 0. -/
abbrev lw0 (n o : ℕ) (h : ∀ a, (![o, 0] : Fin 2 → ℕ) a + (![n, 1024] : Fin 2 → ℕ) a ≤ S2816x1024.size a) : FVec Ideal ⟨2, ![n, 1024]⟩ .bf16 :=
  View.ld (Val := Elt Ideal) (S := S2816x1024) (e' := .bf16) (w0 m c) (Rect.unit (s := S2816x1024) ![o, 0] ![n, 1024] h)

theorem lw0_at (n o : ℕ) (h) (k : Fin n) (l : Fin 1024) (hk : o + k.val < 2816) : lw0 m c n o h (ix2 k l) = kWg m c (ix2 l ⟨o + k.val, hk⟩) := by
  show w0 m c _ = _
  unfold w0
  refine congrArg (kWg m c) ?_
  funext a
  apply Fin.ext
  fin_cases a
  · show 0 + 1 * l.val = l.val; omega
  · show o + 1 * k.val = o + k.val; omega

/-- Rows `o … o + n - 1` of scratch 1. -/
abbrev lw1 (n o : ℕ) (h : ∀ a, (![o, 0] : Fin 2 → ℕ) a + (![n, 1024] : Fin 2 → ℕ) a ≤ S2816x1024.size a) : FVec Ideal ⟨2, ![n, 1024]⟩ .bf16 :=
  View.ld (Val := Elt Ideal) (S := S2816x1024) (e' := .bf16) (w1 m c) (Rect.unit (s := S2816x1024) ![o, 0] ![n, 1024] h)

theorem lw1_at (n o : ℕ) (h) (k : Fin n) (l : Fin 1024) (hk : o + k.val < 2816) : lw1 m c n o h (ix2 k l) = kWu m c (ix2 l ⟨o + k.val, hk⟩) := by
  show w1 m c _ = _
  unfold w1
  refine congrArg (kWu m c) ?_
  funext a
  apply Fin.ext
  fin_cases a
  · show 0 + 1 * l.val = l.val; omega
  · show o + 1 * k.val = o + k.val; omega

/-- Rows `o … o + n - 1` of scratch 2. -/
abbrev lw2 (n o : ℕ) (h : ∀ a, (![o, 0] : Fin 2 → ℕ) a + (![n, 1024] : Fin 2 → ℕ) a ≤ S2816x1024.size a) : FVec Ideal ⟨2, ![n, 1024]⟩ .bf16 :=
  View.ld (Val := Elt Ideal) (S := S2816x1024) (e' := .bf16) (w2 m c) (Rect.unit (s := S2816x1024) ![o, 0] ![n, 1024] h)

theorem lw2_at (n o : ℕ) (h) (k : Fin n) (l : Fin 1024) (hk : o + k.val < 2816) : lw2 m c n o h (ix2 k l) = kWd m c (ix2 ⟨o + k.val, hk⟩ l) := by
  show w2 m c _ = _
  unfold w2
  refine congrArg (kWd m c) ?_
  funext a
  apply Fin.ext
  fin_cases a
  · show o + 1 * k.val = o + k.val; omega
  · show 0 + 1 * l.val = l.val; omega

/-- The gradients of the gate and of the other product, of the normalised row, of the rows, and what the gain's gradient adds up, of this call. -/
abbrev mG : Fin 8192 → Fin 2816 → EReal := DG (kD m c) (kH m c) (kG m c) (kWg m c) (kWu m c) (kWd m c)
abbrev mU : Fin 8192 → Fin 2816 → EReal := DU (kD m c) (kH m c) (kG m c) (kWg m c) (kWd m c)
abbrev mN : Fin 8192 → Fin 1024 → EReal := dun (kD m c) (kH m c) (kG m c) (kWg m c) (kWu m c) (kWd m c)
abbrev mB : Fin 8192 → Fin 1024 → EReal := back (kD m c) (kH m c) (kG m c) (kWg m c) (kWu m c) (kWd m c)
abbrev mT : Fin 8192 → Fin 1024 → EReal := gterm (kD m c) (kH m c) (kG m c) (kWg m c) (kWu m c) (kWd m c)
abbrev mA (r : Fin 8192) (k : Fin 2816) : EReal := glu (proj (kH m c) (kG m c) (kWg m c) r k) (proj (kH m c) (kG m c) (kWu m c) r k)

theorem cd (t : Fin cfg0.N) (n o : ℕ) (h2) (r : Fin 256) (k : Fin n) (hk : o + k.val < 2816) :
    (∑ j : Fin 1024, half * (iblk m c 0 t : FVec Ideal S256x1024 .f32) (ix2 r j) * lw2 m c n o h2 (ix2 k j)) = dact (kD m c) (kWd m c) (gr t r) ⟨o + k.val, hk⟩ :=
  Finset.sum_congr rfl fun j _ => congrArg₂ (· * ·) (congrArg (half * ·) (i0 m c t r j)) (lw2_at m c n o h2 k j hk)

theorem cg (t : Fin cfg0.N) (n o : ℕ) (h3) (h4) (h2) (r : Fin 256) (k : Fin n) (hk : o + k.val < 2816) :
    dgate (lg m c t n o h3 (ix2 r k)) (lu m c t n o h4 (ix2 r k)) (∑ j : Fin 1024, half * (iblk m c 0 t : FVec Ideal S256x1024 .f32) (ix2 r j) * lw2 m c n o h2 (ix2 k j))
      = mG m c (gr t r) ⟨o + k.val, hk⟩ := by
  rw [cd m c t n o h2 r k hk]
  exact congrArg₂ (fun a b => dgate a b _) (lg_at m c t n o h3 r k hk) (lu_at m c t n o h4 r k hk)

theorem cu (t : Fin cfg0.N) (n o : ℕ) (h3) (h2) (r : Fin 256) (k : Fin n) (hk : o + k.val < 2816) :
    dup (lg m c t n o h3 (ix2 r k)) (∑ j : Fin 1024, half * (iblk m c 0 t : FVec Ideal S256x1024 .f32) (ix2 r j) * lw2 m c n o h2 (ix2 k j))
      = mU m c (gr t r) ⟨o + k.val, hk⟩ := by
  rw [cd m c t n o h2 r k hk]
  exact congrArg (fun a => dup a _) (lg_at m c t n o h3 r k hk)

/-- The gradient of the normalised rows, after chunk 0 of a grid point. -/
abbrev kS0 (t : Fin cfg0.N) : FVec Ideal S256x1024 .f32 := (k0_pay16 (F := Ideal) (k0_pay4 (F := Ideal)) (k0_pay5 (F := Ideal) (k0_pay3 (F := Ideal) (iblk m c 0 t)) (lw2 m c 512 0 inb_S2816x1024_S512x1024_0_0)) (k0_pay7 (F := Ideal) (lg m c t 512 0 inb_S256x2816_S256x512_0_0)) (k0_pay9 (F := Ideal) (lg m c t 512 0 inb_S256x2816_S256x512_0_0)) (k0_pay10 (F := Ideal) (lg m c t 512 0 inb_S256x2816_S256x512_0_0)) (k0_pay12 (F := Ideal) (k0_pay3 (F := Ideal) (iblk m c 0 t)) (lw2 m c 512 0 inb_S2816x1024_S512x1024_0_0) (lu m c t 512 0 inb_S256x2816_S256x512_0_0)) (k0_pay13 (F := Ideal) (lg m c t 512 0 inb_S256x2816_S256x512_0_0)) (lw0 m c 512 0 inb_S2816x1024_S512x1024_0_0) (lw1 m c 512 0 inb_S2816x1024_S512x1024_0_0))
/-- The gradient of the normalised rows, after chunk 1 of a grid point. -/
abbrev kS1 (t : Fin cfg0.N) : FVec Ideal S256x1024 .f32 := (k0_pay27 (F := Ideal) (k0_pay6 (F := Ideal) (k0_pay3 (F := Ideal) (iblk m c 0 t)) (lw2 m c 512 512 inb_S2816x1024_S512x1024_512_0)) (kS0 m c t) (k0_pay20 (F := Ideal) (lg m c t 512 512 inb_S256x2816_S256x512_0_512)) (k0_pay21 (F := Ideal) (lg m c t 512 512 inb_S256x2816_S256x512_0_512)) (k0_pay23 (F := Ideal) (k0_pay6 (F := Ideal) (k0_pay3 (F := Ideal) (iblk m c 0 t)) (lw2 m c 512 512 inb_S2816x1024_S512x1024_512_0)) (lu m c t 512 512 inb_S256x2816_S256x512_0_512)) (k0_pay24 (F := Ideal) (lg m c t 512 512 inb_S256x2816_S256x512_0_512)) (lw0 m c 512 512 inb_S2816x1024_S512x1024_512_0) (lw1 m c 512 512 inb_S2816x1024_S512x1024_512_0))
/-- The gradient of the normalised rows, after chunk 2 of a grid point. -/
abbrev kS2 (t : Fin cfg0.N) : FVec Ideal S256x1024 .f32 := (k0_pay38 (F := Ideal) (k0_pay17 (F := Ideal) (k0_pay3 (F := Ideal) (iblk m c 0 t)) (lw2 m c 512 1024 inb_S2816x1024_S512x1024_1024_0)) (kS1 m c t) (k0_pay31 (F := Ideal) (lg m c t 512 1024 inb_S256x2816_S256x512_0_1024)) (k0_pay32 (F := Ideal) (lg m c t 512 1024 inb_S256x2816_S256x512_0_1024)) (k0_pay34 (F := Ideal) (k0_pay17 (F := Ideal) (k0_pay3 (F := Ideal) (iblk m c 0 t)) (lw2 m c 512 1024 inb_S2816x1024_S512x1024_1024_0)) (lu m c t 512 1024 inb_S256x2816_S256x512_0_1024)) (k0_pay35 (F := Ideal) (lg m c t 512 1024 inb_S256x2816_S256x512_0_1024)) (FloatOps.ofBits .f32 0x3F800000#32 : Ideal .f32) (lw0 m c 512 1024 inb_S2816x1024_S512x1024_1024_0) (lw1 m c 512 1024 inb_S2816x1024_S512x1024_1024_0))
/-- The gradient of the normalised rows, after chunk 3 of a grid point. -/
abbrev kS3 (t : Fin cfg0.N) : FVec Ideal S256x1024 .f32 := (k0_pay50 (F := Ideal) (k0_pay28 (F := Ideal) (k0_pay3 (F := Ideal) (iblk m c 0 t)) (lw2 m c 512 1536 inb_S2816x1024_S512x1024_1536_0)) (kS2 m c t) (k0_pay42 (F := Ideal) (lg m c t 512 1536 inb_S256x2816_S256x512_0_1536)) (k0_pay43 (F := Ideal) (lg m c t 512 1536 inb_S256x2816_S256x512_0_1536)) (k0_pay45 (F := Ideal) (k0_pay28 (F := Ideal) (k0_pay3 (F := Ideal) (iblk m c 0 t)) (lw2 m c 512 1536 inb_S2816x1024_S512x1024_1536_0)) (lu m c t 512 1536 inb_S256x2816_S256x512_0_1536)) (k0_pay46 (F := Ideal) (lg m c t 512 1536 inb_S256x2816_S256x512_0_1536)) (k0_pay47 (F := Ideal)) (lw0 m c 512 1536 inb_S2816x1024_S512x1024_1536_0) (lw1 m c 512 1536 inb_S2816x1024_S512x1024_1536_0))
/-- The gradient of the normalised rows, after chunk 4 of a grid point. -/
abbrev kS4 (t : Fin cfg0.N) : FVec Ideal S256x1024 .f32 := (k0_pay61 (F := Ideal) (k0_pay39 (F := Ideal) (k0_pay3 (F := Ideal) (iblk m c 0 t)) (lw2 m c 512 2048 inb_S2816x1024_S512x1024_2048_0)) (kS3 m c t) (k0_pay54 (F := Ideal) (lg m c t 512 2048 inb_S256x2816_S256x512_0_2048)) (k0_pay55 (F := Ideal) (lg m c t 512 2048 inb_S256x2816_S256x512_0_2048)) (k0_pay57 (F := Ideal) (k0_pay39 (F := Ideal) (k0_pay3 (F := Ideal) (iblk m c 0 t)) (lw2 m c 512 2048 inb_S2816x1024_S512x1024_2048_0)) (lu m c t 512 2048 inb_S256x2816_S256x512_0_2048)) (k0_pay58 (F := Ideal) (lg m c t 512 2048 inb_S256x2816_S256x512_0_2048)) (lw0 m c 512 2048 inb_S2816x1024_S512x1024_2048_0) (lw1 m c 512 2048 inb_S2816x1024_S512x1024_2048_0))
/-- The same after the last chunk. -/
abbrev kdn (t : Fin cfg0.N) : FVec Ideal S256x1024 .f32 := (k0_pay69 (F := Ideal) (kS4 m c t) (k0_pay67 (F := Ideal) (k0_pay51 (F := Ideal) (k0_pay3 (F := Ideal) (iblk m c 0 t)) (lw2 m c 256 2560 inb_S2816x1024_S256x1024_2560_0)) (lg m c t 256 2560 inb_S256x2816_S256x256_0_2560) (lu m c t 256 2560 inb_S256x2816_S256x256_0_2560)) (k0_pay68 (F := Ideal) (k0_pay51 (F := Ideal) (k0_pay3 (F := Ideal) (iblk m c 0 t)) (lw2 m c 256 2560 inb_S2816x1024_S256x1024_2560_0)) (lg m c t 256 2560 inb_S256x2816_S256x256_0_2560)) (lw0 m c 256 2560 inb_S2816x1024_S256x1024_2560_0) (lw1 m c 256 2560 inb_S2816x1024_S256x1024_2560_0))

theorem pd (t : Fin cfg0.N) (r : Fin 256) (l : Fin 1024) : kdn m c t (ix2 r l) = mN m c (gr t r) l := by
  refine (acc5 _ _ _ _ _ _ _ _ _).trans ?_
  unfold kS4
  rw [acc4]
  unfold kS3
  rw [acc3]
  unfold kS2
  rw [acc2]
  unfold kS1
  rw [acc1]
  unfold kS0
  rw [acc0]
  unfold mN dun
  rw [sum_512 (fun k => mG m c (gr t r) k * kWg m c (ix2 l k)), sum_512 (fun k => mU m c (gr t r) k * kWu m c (ix2 l k))]
  refine (sum_pairs _ _ _ _ _ _ _ _ _ _ _ _ _ (p4 r l)).trans ?_
  refine congrArg₂ (· + ·) (congrArg₂ (· + ·) (congrArg₂ (· + ·) (congrArg₂ (· + ·) (congrArg₂ (· + ·) (congrArg₂ (· + ·) ?_ ?_) ?_) ?_) ?_) ?_)
    (congrArg₂ (· + ·) (congrArg₂ (· + ·) (congrArg₂ (· + ·) (congrArg₂ (· + ·) (congrArg₂ (· + ·) ?_ ?_) ?_) ?_) ?_) ?_)
  · exact Finset.sum_congr rfl fun k _ => congrArg₂ (· * ·) (cg m c t _ 0 _ _ _ r k _) (lw0_at m c _ 0 _ k l _)
  · exact Finset.sum_congr rfl fun k _ => congrArg₂ (· * ·) (cg m c t _ 512 _ _ _ r k _) (lw0_at m c _ 512 _ k l _)
  · exact Finset.sum_congr rfl fun k _ => congrArg₂ (· * ·) (cg m c t _ 1024 _ _ _ r k _) (lw0_at m c _ 1024 _ k l _)
  · exact Finset.sum_congr rfl fun k _ => congrArg₂ (· * ·) (cg m c t _ 1536 _ _ _ r k _) (lw0_at m c _ 1536 _ k l _)
  · exact Finset.sum_congr rfl fun k _ => congrArg₂ (· * ·) (cg m c t _ 2048 _ _ _ r k _) (lw0_at m c _ 2048 _ k l _)
  · exact Finset.sum_congr rfl fun k _ => congrArg₂ (· * ·) (cg m c t _ 2560 _ _ _ r k _) (lw0_at m c _ 2560 _ k l _)
  · exact Finset.sum_congr rfl fun k _ => congrArg₂ (· * ·) (cu m c t _ 0 _ _ r k _) (lw1_at m c _ 0 _ k l _)
  · exact Finset.sum_congr rfl fun k _ => congrArg₂ (· * ·) (cu m c t _ 512 _ _ r k _) (lw1_at m c _ 512 _ k l _)
  · exact Finset.sum_congr rfl fun k _ => congrArg₂ (· * ·) (cu m c t _ 1024 _ _ r k _) (lw1_at m c _ 1024 _ k l _)
  · exact Finset.sum_congr rfl fun k _ => congrArg₂ (· * ·) (cu m c t _ 1536 _ _ r k _) (lw1_at m c _ 1536 _ k l _)
  · exact Finset.sum_congr rfl fun k _ => congrArg₂ (· * ·) (cu m c t _ 2048 _ _ r k _) (lw1_at m c _ 2048 _ k l _)
  · exact Finset.sum_congr rfl fun k _ => congrArg₂ (· * ·) (cu m c t _ 2560 _ _ r k _) (lw1_at m c _ 2560 _ k l _)

theorem bx (t : Fin cfg0.N) (r : Fin 256) : row (iblk m c 1 t : FVec Ideal S256x1024 .f32) r = row (kH m c) (gr t r) := funext fun l => i1 m c t r l
theorem bg (t : Fin cfg0.N) : row (iblk m c 2 t : FVec Ideal S1x1024 .f32) 0 = vec (kG m c) := funext fun l => i2 m c t l
theorem bn (t : Fin cfg0.N) (r : Fin 256) : row (kdn m c t) r = mN m c (gr t r) := funext fun l => pd m c t r l

theorem out5 (t : Fin cfg0.N) (r : Fin 256) (l : Fin 1024) :
    k0_pay1 (F := Ideal) (k0_pay70 (F := Ideal) (iblk m c 1 t)) (k0_pay71 (F := Ideal) (iblk m c 1 t)) (iblk m c 0 t) (k0_pay73 (F := Ideal) (kS4 m c t) (k0_pay67 (F := Ideal) (k0_pay51 (F := Ideal) (k0_pay3 (F := Ideal) (iblk m c 0 t)) (lw2 m c 256 2560 inb_S2816x1024_S256x1024_2560_0)) (lg m c t 256 2560 inb_S256x2816_S256x256_0_2560) (lu m c t 256 2560 inb_S256x2816_S256x256_0_2560)) (k0_pay68 (F := Ideal) (k0_pay51 (F := Ideal) (k0_pay3 (F := Ideal) (iblk m c 0 t)) (lw2 m c 256 2560 inb_S2816x1024_S256x1024_2560_0)) (lg m c t 256 2560 inb_S256x2816_S256x256_0_2560)) (lw0 m c 256 2560 inb_S2816x1024_S256x1024_2560_0) (lw1 m c 256 2560 inb_S2816x1024_S256x1024_2560_0) (iblk m c 2 t)) (k0_pay74 (F := Ideal) (kS4 m c t) (k0_pay67 (F := Ideal) (k0_pay51 (F := Ideal) (k0_pay3 (F := Ideal) (iblk m c 0 t)) (lw2 m c 256 2560 inb_S2816x1024_S256x1024_2560_0)) (lg m c t 256 2560 inb_S256x2816_S256x256_0_2560) (lu m c t 256 2560 inb_S256x2816_S256x256_0_2560)) (k0_pay68 (F := Ideal) (k0_pay51 (F := Ideal) (k0_pay3 (F := Ideal) (iblk m c 0 t)) (lw2 m c 256 2560 inb_S2816x1024_S256x1024_2560_0)) (lg m c t 256 2560 inb_S256x2816_S256x256_0_2560)) (lw0 m c 256 2560 inb_S2816x1024_S256x1024_2560_0) (lw1 m c 256 2560 inb_S2816x1024_S256x1024_2560_0) (iblk m c 1 t) (iblk m c 2 t)) (k0_pay75 (F := Ideal)) (ix2 r l)
      = mB m c (gr t r) l :=
  (p1 _ _ _ _ _ _ _ _ _ _).trans (by rw [bx, bg, bn, i0]; rfl)

theorem add9 (t : Fin cfg0.N) (acc : FVec Ideal S8x1024 .f32) (i : Fin 8) (l : Fin 1024) :
    k0_pay72 (F := Ideal) (kS4 m c t) (k0_pay67 (F := Ideal) (k0_pay51 (F := Ideal) (k0_pay3 (F := Ideal) (iblk m c 0 t)) (lw2 m c 256 2560 inb_S2816x1024_S256x1024_2560_0)) (lg m c t 256 2560 inb_S256x2816_S256x256_0_2560) (lu m c t 256 2560 inb_S256x2816_S256x256_0_2560)) (k0_pay68 (F := Ideal) (k0_pay51 (F := Ideal) (k0_pay3 (F := Ideal) (iblk m c 0 t)) (lw2 m c 256 2560 inb_S2816x1024_S256x1024_2560_0)) (lg m c t 256 2560 inb_S256x2816_S256x256_0_2560)) (lw0 m c 256 2560 inb_S2816x1024_S256x1024_2560_0) (lw1 m c 256 2560 inb_S2816x1024_S256x1024_2560_0) (iblk m c 1 t) acc (ix2 i l)
      = acc (ix2 i l) + ∑ j : Fin 32, mT m c (gr t ⟨j.val * 8 + i.val, by omega⟩) l :=
  (p72 _ _ _ _ _ _ _ _ _).trans (congrArg (_ + ·) (Finset.sum_congr rfl fun j _ => by rw [bx]; exact congrArg (· * _) (pd m c t _ l)))

theorem tg0 (t : Fin cfg0.N) (x : S256x512.Idx) (y : S256x2816.Idx) (h0 : (y 0).val = (x 0).val) (h1 : (y 1).val = 0 + (x 1).val) :
    (k0_pay14 (F := Ideal) (k0_pay7 (F := Ideal) (lg m c t 512 0 inb_S256x2816_S256x512_0_0)) (k0_pay9 (F := Ideal) (lg m c t 512 0 inb_S256x2816_S256x512_0_0)) (k0_pay12 (F := Ideal) (k0_pay3 (F := Ideal) (iblk m c 0 t)) (lw2 m c 512 0 inb_S2816x1024_S512x1024_0_0) (lu m c t 512 0 inb_S256x2816_S256x512_0_0)) (k0_pay13 (F := Ideal) (lg m c t 512 0 inb_S256x2816_S256x512_0_0))) x = mG m c (gr t (y 0)) (y 1) := by
  idx_vars x
  have hx : x1.val < 512 := x1.isLt
  have e0 : (y 0 : Fin 256) = x0 := Fin.ext h0
  have hl : 0 + x1.val < 2816 := by omega
  have e1 : (y 1 : Fin 2816) = ⟨0 + x1.val, hl⟩ := Fin.ext h1
  rw [e0, e1]
  exact (dg0 _ _ _ _ _ _).trans (cg m c t _ 0 _ _ _ x0 x1 hl)

theorem tu0 (t : Fin cfg0.N) (x : S256x512.Idx) (y : S256x2816.Idx) (h0 : (y 0).val = (x 0).val) (h1 : (y 1).val = 0 + (x 1).val) :
    (k0_pay15 (F := Ideal) (k0_pay5 (F := Ideal) (k0_pay3 (F := Ideal) (iblk m c 0 t)) (lw2 m c 512 0 inb_S2816x1024_S512x1024_0_0)) (k0_pay10 (F := Ideal) (lg m c t 512 0 inb_S256x2816_S256x512_0_0))) x = mU m c (gr t (y 0)) (y 1) := by
  idx_vars x
  have hx : x1.val < 512 := x1.isLt
  have e0 : (y 0 : Fin 256) = x0 := Fin.ext h0
  have hl : 0 + x1.val < 2816 := by omega
  have e1 : (y 1 : Fin 2816) = ⟨0 + x1.val, hl⟩ := Fin.ext h1
  rw [e0, e1]
  exact (du0 _ _ _ _ _).trans (cu m c t _ 0 _ _ x0 x1 hl)

theorem ta0 (t : Fin cfg0.N) (x : S256x512.Idx) (y : S256x2816.Idx) (h0 : (y 0).val = (x 0).val) (h1 : (y 1).val = 0 + (x 1).val) :
    (k0_pay11 (F := Ideal) (lg m c t 512 0 inb_S256x2816_S256x512_0_0) (lu m c t 512 0 inb_S256x2816_S256x512_0_0)) x = mA m c (gr t (y 0)) (y 1) := by
  idx_vars x
  have hx : x1.val < 512 := x1.isLt
  have e0 : (y 0 : Fin 256) = x0 := Fin.ext h0
  have hl : 0 + x1.val < 2816 := by omega
  have e1 : (y 1 : Fin 2816) = ⟨0 + x1.val, hl⟩ := Fin.ext h1
  rw [e0, e1]
  exact (at0 _ _ _ _).trans (congrArg₂ glu (lg_at m c t _ 0 _ x0 x1 hl) (lu_at m c t _ 0 _ x0 x1 hl))

theorem tg1 (t : Fin cfg0.N) (x : S256x512.Idx) (y : S256x2816.Idx) (h0 : (y 0).val = (x 0).val) (h1 : (y 1).val = 512 + (x 1).val) :
    (k0_pay25 (F := Ideal) (k0_pay20 (F := Ideal) (lg m c t 512 512 inb_S256x2816_S256x512_0_512)) (k0_pay23 (F := Ideal) (k0_pay6 (F := Ideal) (k0_pay3 (F := Ideal) (iblk m c 0 t)) (lw2 m c 512 512 inb_S2816x1024_S512x1024_512_0)) (lu m c t 512 512 inb_S256x2816_S256x512_0_512)) (k0_pay24 (F := Ideal) (lg m c t 512 512 inb_S256x2816_S256x512_0_512))) x = mG m c (gr t (y 0)) (y 1) := by
  idx_vars x
  have hx : x1.val < 512 := x1.isLt
  have e0 : (y 0 : Fin 256) = x0 := Fin.ext h0
  have hl : 512 + x1.val < 2816 := by omega
  have e1 : (y 1 : Fin 2816) = ⟨512 + x1.val, hl⟩ := Fin.ext h1
  rw [e0, e1]
  exact (dg1 _ _ _ _ _ _).trans (cg m c t _ 512 _ _ _ x0 x1 hl)

theorem tu1 (t : Fin cfg0.N) (x : S256x512.Idx) (y : S256x2816.Idx) (h0 : (y 0).val = (x 0).val) (h1 : (y 1).val = 512 + (x 1).val) :
    (k0_pay26 (F := Ideal) (k0_pay6 (F := Ideal) (k0_pay3 (F := Ideal) (iblk m c 0 t)) (lw2 m c 512 512 inb_S2816x1024_S512x1024_512_0)) (k0_pay21 (F := Ideal) (lg m c t 512 512 inb_S256x2816_S256x512_0_512))) x = mU m c (gr t (y 0)) (y 1) := by
  idx_vars x
  have hx : x1.val < 512 := x1.isLt
  have e0 : (y 0 : Fin 256) = x0 := Fin.ext h0
  have hl : 512 + x1.val < 2816 := by omega
  have e1 : (y 1 : Fin 2816) = ⟨512 + x1.val, hl⟩ := Fin.ext h1
  rw [e0, e1]
  exact (du1 _ _ _ _ _).trans (cu m c t _ 512 _ _ x0 x1 hl)

theorem ta1 (t : Fin cfg0.N) (x : S256x512.Idx) (y : S256x2816.Idx) (h0 : (y 0).val = (x 0).val) (h1 : (y 1).val = 512 + (x 1).val) :
    (k0_pay22 (F := Ideal) (lg m c t 512 512 inb_S256x2816_S256x512_0_512) (lu m c t 512 512 inb_S256x2816_S256x512_0_512)) x = mA m c (gr t (y 0)) (y 1) := by
  idx_vars x
  have hx : x1.val < 512 := x1.isLt
  have e0 : (y 0 : Fin 256) = x0 := Fin.ext h0
  have hl : 512 + x1.val < 2816 := by omega
  have e1 : (y 1 : Fin 2816) = ⟨512 + x1.val, hl⟩ := Fin.ext h1
  rw [e0, e1]
  exact (at1 _ _ _ _).trans (congrArg₂ glu (lg_at m c t _ 512 _ x0 x1 hl) (lu_at m c t _ 512 _ x0 x1 hl))

theorem tg2 (t : Fin cfg0.N) (x : S256x512.Idx) (y : S256x2816.Idx) (h0 : (y 0).val = (x 0).val) (h1 : (y 1).val = 1024 + (x 1).val) :
    (k0_pay36 (F := Ideal) (k0_pay31 (F := Ideal) (lg m c t 512 1024 inb_S256x2816_S256x512_0_1024)) (k0_pay34 (F := Ideal) (k0_pay17 (F := Ideal) (k0_pay3 (F := Ideal) (iblk m c 0 t)) (lw2 m c 512 1024 inb_S2816x1024_S512x1024_1024_0)) (lu m c t 512 1024 inb_S256x2816_S256x512_0_1024)) (k0_pay35 (F := Ideal) (lg m c t 512 1024 inb_S256x2816_S256x512_0_1024)) (FloatOps.ofBits .f32 0x3F800000#32 : Ideal .f32)) x = mG m c (gr t (y 0)) (y 1) := by
  idx_vars x
  have hx : x1.val < 512 := x1.isLt
  have e0 : (y 0 : Fin 256) = x0 := Fin.ext h0
  have hl : 1024 + x1.val < 2816 := by omega
  have e1 : (y 1 : Fin 2816) = ⟨1024 + x1.val, hl⟩ := Fin.ext h1
  rw [e0, e1]
  exact (dg2 _ _ _ _ _ _).trans (cg m c t _ 1024 _ _ _ x0 x1 hl)

theorem tu2 (t : Fin cfg0.N) (x : S256x512.Idx) (y : S256x2816.Idx) (h0 : (y 0).val = (x 0).val) (h1 : (y 1).val = 1024 + (x 1).val) :
    (k0_pay37 (F := Ideal) (k0_pay17 (F := Ideal) (k0_pay3 (F := Ideal) (iblk m c 0 t)) (lw2 m c 512 1024 inb_S2816x1024_S512x1024_1024_0)) (k0_pay32 (F := Ideal) (lg m c t 512 1024 inb_S256x2816_S256x512_0_1024))) x = mU m c (gr t (y 0)) (y 1) := by
  idx_vars x
  have hx : x1.val < 512 := x1.isLt
  have e0 : (y 0 : Fin 256) = x0 := Fin.ext h0
  have hl : 1024 + x1.val < 2816 := by omega
  have e1 : (y 1 : Fin 2816) = ⟨1024 + x1.val, hl⟩ := Fin.ext h1
  rw [e0, e1]
  exact (du2 _ _ _ _ _).trans (cu m c t _ 1024 _ _ x0 x1 hl)

theorem ta2 (t : Fin cfg0.N) (x : S256x512.Idx) (y : S256x2816.Idx) (h0 : (y 0).val = (x 0).val) (h1 : (y 1).val = 1024 + (x 1).val) :
    (k0_pay33 (F := Ideal) (lg m c t 512 1024 inb_S256x2816_S256x512_0_1024) (lu m c t 512 1024 inb_S256x2816_S256x512_0_1024)) x = mA m c (gr t (y 0)) (y 1) := by
  idx_vars x
  have hx : x1.val < 512 := x1.isLt
  have e0 : (y 0 : Fin 256) = x0 := Fin.ext h0
  have hl : 1024 + x1.val < 2816 := by omega
  have e1 : (y 1 : Fin 2816) = ⟨1024 + x1.val, hl⟩ := Fin.ext h1
  rw [e0, e1]
  exact (at2 _ _ _ _).trans (congrArg₂ glu (lg_at m c t _ 1024 _ x0 x1 hl) (lu_at m c t _ 1024 _ x0 x1 hl))

theorem tg3 (t : Fin cfg0.N) (x : S256x512.Idx) (y : S256x2816.Idx) (h0 : (y 0).val = (x 0).val) (h1 : (y 1).val = 1536 + (x 1).val) :
    (k0_pay48 (F := Ideal) (k0_pay42 (F := Ideal) (lg m c t 512 1536 inb_S256x2816_S256x512_0_1536)) (k0_pay45 (F := Ideal) (k0_pay28 (F := Ideal) (k0_pay3 (F := Ideal) (iblk m c 0 t)) (lw2 m c 512 1536 inb_S2816x1024_S512x1024_1536_0)) (lu m c t 512 1536 inb_S256x2816_S256x512_0_1536)) (k0_pay46 (F := Ideal) (lg m c t 512 1536 inb_S256x2816_S256x512_0_1536)) (k0_pay47 (F := Ideal))) x = mG m c (gr t (y 0)) (y 1) := by
  idx_vars x
  have hx : x1.val < 512 := x1.isLt
  have e0 : (y 0 : Fin 256) = x0 := Fin.ext h0
  have hl : 1536 + x1.val < 2816 := by omega
  have e1 : (y 1 : Fin 2816) = ⟨1536 + x1.val, hl⟩ := Fin.ext h1
  rw [e0, e1]
  exact (dg3 _ _ _ _ _ _).trans (cg m c t _ 1536 _ _ _ x0 x1 hl)

theorem tu3 (t : Fin cfg0.N) (x : S256x512.Idx) (y : S256x2816.Idx) (h0 : (y 0).val = (x 0).val) (h1 : (y 1).val = 1536 + (x 1).val) :
    (k0_pay49 (F := Ideal) (k0_pay28 (F := Ideal) (k0_pay3 (F := Ideal) (iblk m c 0 t)) (lw2 m c 512 1536 inb_S2816x1024_S512x1024_1536_0)) (k0_pay43 (F := Ideal) (lg m c t 512 1536 inb_S256x2816_S256x512_0_1536))) x = mU m c (gr t (y 0)) (y 1) := by
  idx_vars x
  have hx : x1.val < 512 := x1.isLt
  have e0 : (y 0 : Fin 256) = x0 := Fin.ext h0
  have hl : 1536 + x1.val < 2816 := by omega
  have e1 : (y 1 : Fin 2816) = ⟨1536 + x1.val, hl⟩ := Fin.ext h1
  rw [e0, e1]
  exact (du3 _ _ _ _ _).trans (cu m c t _ 1536 _ _ x0 x1 hl)

theorem ta3 (t : Fin cfg0.N) (x : S256x512.Idx) (y : S256x2816.Idx) (h0 : (y 0).val = (x 0).val) (h1 : (y 1).val = 1536 + (x 1).val) :
    (k0_pay44 (F := Ideal) (lg m c t 512 1536 inb_S256x2816_S256x512_0_1536) (lu m c t 512 1536 inb_S256x2816_S256x512_0_1536)) x = mA m c (gr t (y 0)) (y 1) := by
  idx_vars x
  have hx : x1.val < 512 := x1.isLt
  have e0 : (y 0 : Fin 256) = x0 := Fin.ext h0
  have hl : 1536 + x1.val < 2816 := by omega
  have e1 : (y 1 : Fin 2816) = ⟨1536 + x1.val, hl⟩ := Fin.ext h1
  rw [e0, e1]
  exact (at3 _ _ _ _).trans (congrArg₂ glu (lg_at m c t _ 1536 _ x0 x1 hl) (lu_at m c t _ 1536 _ x0 x1 hl))

theorem tg4 (t : Fin cfg0.N) (x : S256x512.Idx) (y : S256x2816.Idx) (h0 : (y 0).val = (x 0).val) (h1 : (y 1).val = 2048 + (x 1).val) :
    (k0_pay59 (F := Ideal) (k0_pay54 (F := Ideal) (lg m c t 512 2048 inb_S256x2816_S256x512_0_2048)) (k0_pay57 (F := Ideal) (k0_pay39 (F := Ideal) (k0_pay3 (F := Ideal) (iblk m c 0 t)) (lw2 m c 512 2048 inb_S2816x1024_S512x1024_2048_0)) (lu m c t 512 2048 inb_S256x2816_S256x512_0_2048)) (k0_pay58 (F := Ideal) (lg m c t 512 2048 inb_S256x2816_S256x512_0_2048))) x = mG m c (gr t (y 0)) (y 1) := by
  idx_vars x
  have hx : x1.val < 512 := x1.isLt
  have e0 : (y 0 : Fin 256) = x0 := Fin.ext h0
  have hl : 2048 + x1.val < 2816 := by omega
  have e1 : (y 1 : Fin 2816) = ⟨2048 + x1.val, hl⟩ := Fin.ext h1
  rw [e0, e1]
  exact (dg4 _ _ _ _ _ _).trans (cg m c t _ 2048 _ _ _ x0 x1 hl)

theorem tu4 (t : Fin cfg0.N) (x : S256x512.Idx) (y : S256x2816.Idx) (h0 : (y 0).val = (x 0).val) (h1 : (y 1).val = 2048 + (x 1).val) :
    (k0_pay60 (F := Ideal) (k0_pay39 (F := Ideal) (k0_pay3 (F := Ideal) (iblk m c 0 t)) (lw2 m c 512 2048 inb_S2816x1024_S512x1024_2048_0)) (k0_pay55 (F := Ideal) (lg m c t 512 2048 inb_S256x2816_S256x512_0_2048))) x = mU m c (gr t (y 0)) (y 1) := by
  idx_vars x
  have hx : x1.val < 512 := x1.isLt
  have e0 : (y 0 : Fin 256) = x0 := Fin.ext h0
  have hl : 2048 + x1.val < 2816 := by omega
  have e1 : (y 1 : Fin 2816) = ⟨2048 + x1.val, hl⟩ := Fin.ext h1
  rw [e0, e1]
  exact (du4 _ _ _ _ _).trans (cu m c t _ 2048 _ _ x0 x1 hl)

theorem ta4 (t : Fin cfg0.N) (x : S256x512.Idx) (y : S256x2816.Idx) (h0 : (y 0).val = (x 0).val) (h1 : (y 1).val = 2048 + (x 1).val) :
    (k0_pay56 (F := Ideal) (lg m c t 512 2048 inb_S256x2816_S256x512_0_2048) (lu m c t 512 2048 inb_S256x2816_S256x512_0_2048)) x = mA m c (gr t (y 0)) (y 1) := by
  idx_vars x
  have hx : x1.val < 512 := x1.isLt
  have e0 : (y 0 : Fin 256) = x0 := Fin.ext h0
  have hl : 2048 + x1.val < 2816 := by omega
  have e1 : (y 1 : Fin 2816) = ⟨2048 + x1.val, hl⟩ := Fin.ext h1
  rw [e0, e1]
  exact (at4 _ _ _ _).trans (congrArg₂ glu (lg_at m c t _ 2048 _ x0 x1 hl) (lu_at m c t _ 2048 _ x0 x1 hl))

theorem tg5 (t : Fin cfg0.N) (x : S256x256.Idx) (y : S256x2816.Idx) (h0 : (y 0).val = (x 0).val) (h1 : (y 1).val = 2560 + (x 1).val) :
    (k0_pay67 (F := Ideal) (k0_pay51 (F := Ideal) (k0_pay3 (F := Ideal) (iblk m c 0 t)) (lw2 m c 256 2560 inb_S2816x1024_S256x1024_2560_0)) (lg m c t 256 2560 inb_S256x2816_S256x256_0_2560) (lu m c t 256 2560 inb_S256x2816_S256x256_0_2560)) x = mG m c (gr t (y 0)) (y 1) := by
  idx_vars x
  have hx : x1.val < 256 := x1.isLt
  have e0 : (y 0 : Fin 256) = x0 := Fin.ext h0
  have hl : 2560 + x1.val < 2816 := by omega
  have e1 : (y 1 : Fin 2816) = ⟨2560 + x1.val, hl⟩ := Fin.ext h1
  rw [e0, e1]
  exact (dg5 _ _ _ _ _ _).trans (cg m c t _ 2560 _ _ _ x0 x1 hl)

theorem tu5 (t : Fin cfg0.N) (x : S256x256.Idx) (y : S256x2816.Idx) (h0 : (y 0).val = (x 0).val) (h1 : (y 1).val = 2560 + (x 1).val) :
    (k0_pay68 (F := Ideal) (k0_pay51 (F := Ideal) (k0_pay3 (F := Ideal) (iblk m c 0 t)) (lw2 m c 256 2560 inb_S2816x1024_S256x1024_2560_0)) (lg m c t 256 2560 inb_S256x2816_S256x256_0_2560)) x = mU m c (gr t (y 0)) (y 1) := by
  idx_vars x
  have hx : x1.val < 256 := x1.isLt
  have e0 : (y 0 : Fin 256) = x0 := Fin.ext h0
  have hl : 2560 + x1.val < 2816 := by omega
  have e1 : (y 1 : Fin 2816) = ⟨2560 + x1.val, hl⟩ := Fin.ext h1
  rw [e0, e1]
  exact (du5 _ _ _ _ _).trans (cu m c t _ 2560 _ _ x0 x1 hl)

theorem ta5 (t : Fin cfg0.N) (x : S256x256.Idx) (y : S256x2816.Idx) (h0 : (y 0).val = (x 0).val) (h1 : (y 1).val = 2560 + (x 1).val) :
    (k0_pay66 (F := Ideal) (lg m c t 256 2560 inb_S256x2816_S256x256_0_2560) (lu m c t 256 2560 inb_S256x2816_S256x256_0_2560)) x = mA m c (gr t (y 0)) (y 1) := by
  idx_vars x
  have hx : x1.val < 256 := x1.isLt
  have e0 : (y 0 : Fin 256) = x0 := Fin.ext h0
  have hl : 2560 + x1.val < 2816 := by omega
  have e1 : (y 1 : Fin 2816) = ⟨2560 + x1.val, hl⟩ := Fin.ext h1
  rw [e0, e1]
  exact (at5 _ _ _ _).trans (congrArg₂ glu (lg_at m c t _ 2560 _ x0 x1 hl) (lu_at m c t _ 2560 _ x0 x1 hl))

set_option maxHeartbeats 4000000 in
theorem o5 (t : Fin cfg0.N) : (outsAt0 m c t.val t.isLt).1 = (fun y => mB m c (gr t (y 0)) (y 1) : FVec Ideal S256x1024 .f32) := by
  by_cases h0 : t.val % 32 = 0
  · rw [outsAt0_A m c t h0]
    unfold stepA outA_5 atA
    dsimp only
    frame_out
    rw [ld2 m c 2560 256, ld2 m c 2048 512, ld2 m c 1536 512, ld2 m c 1024 512, ld2 m c 512 512, ld2 m c 0 512]
    rw [ld0 m c 2560 256, ld0 m c 2048 512, ld0 m c 1536 512, ld0 m c 1024 512, ld0 m c 512 512, ld0 m c 0 512]
    rw [ld1 m c 2560 256, ld1 m c 2048 512, ld1 m c 1536 512, ld1 m c 1024 512, ld1 m c 512 512, ld1 m c 0 512]
    funext y
    idx_vars y
    exact out5 m c t y0 y1
  · rw [outsAt0_B m c t h0]
    unfold stepB outB_5 atB
    dsimp only
    frame_out
    simp only [read_unread_whole]
    rw [scratch0 m c _ _]
    rw [scratch1 m c _ _]
    rw [scratch2 m c _ _]
    funext y
    idx_vars y
    exact out5 m c t y0 y1

set_option maxHeartbeats 4000000 in
theorem o6 (t : Fin cfg0.N) : (outsAt0 m c t.val t.isLt).2.1 = (fun y => mG m c (gr t (y 0)) (y 1) : FVec Ideal S256x2816 .bf16) := by
  by_cases h0 : t.val % 32 = 0
  · rw [outsAt0_A m c t h0]
    unfold stepA outA_6 atA
    dsimp only
    frame_out
    rw [ld2 m c 2560 256, ld2 m c 2048 512, ld2 m c 1536 512, ld2 m c 1024 512, ld2 m c 512 512, ld2 m c 0 512]
    funext y
    canon_tiles x h using View.cover_of_tiledBy _ ![256, 256] (by sl_kernel_rfl) y
    · exact tg5 m c t x y h0 h1
    · exact tg4 m c t x y h0 h1
    · exact tg3 m c t x y h0 h1
    · exact tg2 m c t x y h0 h1
    · exact tg1 m c t x y h0 h1
    · exact tg0 m c t x y h0 (h1.trans (Nat.zero_add _).symm)
  · rw [outsAt0_B m c t h0]
    unfold stepB outB_6 atB
    dsimp only
    frame_out
    simp only [read_unread_whole]
    rw [scratch2 m c _ _]
    funext y
    canon_tiles x h using View.cover_of_tiledBy _ ![256, 256] (by sl_kernel_rfl) y
    · exact tg5 m c t x y h0 h1
    · exact tg4 m c t x y h0 h1
    · exact tg3 m c t x y h0 h1
    · exact tg2 m c t x y h0 h1
    · exact tg1 m c t x y h0 h1
    · exact tg0 m c t x y h0 (h1.trans (Nat.zero_add _).symm)

set_option maxHeartbeats 4000000 in
theorem o7 (t : Fin cfg0.N) : (outsAt0 m c t.val t.isLt).2.2.1 = (fun y => mU m c (gr t (y 0)) (y 1) : FVec Ideal S256x2816 .bf16) := by
  by_cases h0 : t.val % 32 = 0
  · rw [outsAt0_A m c t h0]
    unfold stepA outA_7 atA
    dsimp only
    frame_out
    rw [ld2 m c 2560 256, ld2 m c 2048 512, ld2 m c 1536 512, ld2 m c 1024 512, ld2 m c 512 512, ld2 m c 0 512]
    funext y
    canon_tiles x h using View.cover_of_tiledBy _ ![256, 256] (by sl_kernel_rfl) y
    · exact tu5 m c t x y h0 h1
    · exact tu4 m c t x y h0 h1
    · exact tu3 m c t x y h0 h1
    · exact tu2 m c t x y h0 h1
    · exact tu1 m c t x y h0 h1
    · exact tu0 m c t x y h0 (h1.trans (Nat.zero_add _).symm)
  · rw [outsAt0_B m c t h0]
    unfold stepB outB_7 atB
    dsimp only
    frame_out
    simp only [read_unread_whole]
    rw [scratch2 m c _ _]
    funext y
    canon_tiles x h using View.cover_of_tiledBy _ ![256, 256] (by sl_kernel_rfl) y
    · exact tu5 m c t x y h0 h1
    · exact tu4 m c t x y h0 h1
    · exact tu3 m c t x y h0 h1
    · exact tu2 m c t x y h0 h1
    · exact tu1 m c t x y h0 h1
    · exact tu0 m c t x y h0 (h1.trans (Nat.zero_add _).symm)

set_option maxHeartbeats 4000000 in
theorem o8 (t : Fin cfg0.N) : (outsAt0 m c t.val t.isLt).2.2.2.1 = (fun y => mA m c (gr t (y 0)) (y 1) : FVec Ideal S256x2816 .bf16) := by
  by_cases h0 : t.val % 32 = 0
  · rw [outsAt0_A m c t h0]
    unfold stepA outA_8 atA
    dsimp only
    frame_out
    funext y
    canon_tiles x h using View.cover_of_tiledBy _ ![256, 256] (by sl_kernel_rfl) y
    · exact ta5 m c t x y h0 h1
    · exact ta4 m c t x y h0 h1
    · exact ta3 m c t x y h0 h1
    · exact ta2 m c t x y h0 h1
    · exact ta1 m c t x y h0 h1
    · exact ta0 m c t x y h0 (h1.trans (Nat.zero_add _).symm)
  · rw [outsAt0_B m c t h0]
    unfold stepB outB_8 atB
    dsimp only
    frame_out
    funext y
    canon_tiles x h using View.cover_of_tiledBy _ ![256, 256] (by sl_kernel_rfl) y
    · exact ta5 m c t x y h0 h1
    · exact ta4 m c t x y h0 h1
    · exact ta3 m c t x y h0 h1
    · exact ta2 m c t x y h0 h1
    · exact ta1 m c t x y h0 h1
    · exact ta0 m c t x y h0 (h1.trans (Nat.zero_add _).symm)

set_option maxHeartbeats 2000000 in
theorem final5 : (dats m 0 c).arrAt 5 cfg0.N = (fun y => mB m c (y 0) (y 1) : FVec Ideal S8192x1024 .f32) := by
  refine (dats m 0 c).arrAt_eq_of_covers 5 _ (by decide +kernel) fun t hf y => ?_
  have hN : t.val < 32 := t.isLt
  blk_simp
  rw [after0_5, o5]
  idx_vars y
  rw [show ((View.whole main_v25_0).slice (win0_5.rect t)).emb (ix2 y0 y1) = ix2 (gr t y0) y1 from by blk_ext [idx t]]
  rfl

set_option maxHeartbeats 2000000 in
theorem final6 : (dats m 0 c).arrAt 6 cfg0.N = (fun y => mG m c (y 0) (y 1) : FVec Ideal S8192x2816 .bf16) := by
  refine (dats m 0 c).arrAt_eq_of_covers 6 _ (by decide +kernel) fun t hf y => ?_
  have hN : t.val < 32 := t.isLt
  blk_simp
  rw [after0_6, o6]
  idx_vars y
  rw [show ((View.whole main_v25_1).slice (win0_6.rect t)).emb (ix2 y0 y1) = ix2 (gr t y0) y1 from by blk_ext [idx t]]
  rfl

set_option maxHeartbeats 2000000 in
theorem final7 : (dats m 0 c).arrAt 7 cfg0.N = (fun y => mU m c (y 0) (y 1) : FVec Ideal S8192x2816 .bf16) := by
  refine (dats m 0 c).arrAt_eq_of_covers 7 _ (by decide +kernel) fun t hf y => ?_
  have hN : t.val < 32 := t.isLt
  blk_simp
  rw [after0_7, o7]
  idx_vars y
  rw [show ((View.whole main_v25_2).slice (win0_7.rect t)).emb (ix2 y0 y1) = ix2 (gr t y0) y1 from by blk_ext [idx t]]
  rfl

set_option maxHeartbeats 2000000 in
theorem final8 : (dats m 0 c).arrAt 8 cfg0.N = (fun y => mA m c (y 0) (y 1) : FVec Ideal S8192x2816 .bf16) := by
  refine (dats m 0 c).arrAt_eq_of_covers 8 _ (by decide +kernel) fun t hf y => ?_
  have hN : t.val < 32 := t.isLt
  blk_simp
  rw [after0_8, o8]
  idx_vars y
  rw [show ((View.whole main_v25_3).slice (win0_8.rect t)).emb (ix2 y0 y1) = ix2 (gr t y0) y1 from by blk_ext [idx t]]
  rfl

theorem gr_sub8 (t : Fin cfg0.N) (j : Fin 32) (i : Fin 8) (h : t.val * 32 + j.val < 1024) :
    gr t ⟨j.val * 8 + i.val, by omega⟩ = row8 ⟨t.val * 32 + j.val, h⟩ i := by
  apply Fin.ext
  show t.val * 256 + (j.val * 8 + i.val) = (t.val * 32 + j.val) * 8 + i.val
  omega

/-- A buffer that starts from zero at the first point and takes each point's rows, after the last point: the sum over all rows. -/
theorem acc_sum (f : (n : ℕ) → n < cfg0.N → FVec Ideal S8x1024 .f32) (T : Fin 8192 → Fin 1024 → EReal)
    (hA : ∀ t : Fin cfg0.N, t.val % 32 = 0 → ∀ (i : Fin 8) (l : Fin 1024), (f t.val t.isLt (ix2 i l) : EReal) = (0 : EReal) + ∑ j : Fin 32, T (gr t ⟨j.val * 8 + i.val, by omega⟩) l)
    (hB : ∀ t : Fin cfg0.N, ¬ t.val % 32 = 0 → ∀ (i : Fin 8) (l : Fin 1024),
      (f t.val t.isLt (ix2 i l) : EReal) = f (t.val - 1) (Nat.lt_of_le_of_lt (Nat.sub_le _ _) t.isLt) (ix2 i l) + ∑ j : Fin 32, T (gr t ⟨j.val * 8 + i.val, by omega⟩) l)
    (t : Fin cfg0.N) (ht : t.val + 1 = cfg0.N) (i : Fin 8) (l : Fin 1024) :
    (f t.val t.isLt (ix2 i l) : EReal) = ∑ a : Fin 1024, T (row8 a i) l := by
  refine (Pipeline.eq_sum_fin_of_reset_step_apply_last (M := EReal) (fun n h (y : Fin 8 × Fin 1024) => f n h (ix2 y.1 y.2)) 32 (fun _ => 0)
    (fun t y => ∑ j : Fin 32, T (gr t ⟨j.val * 8 + y.1.val, by omega⟩) y.2) (fun t h y => hA t h y.1 y.2) (fun t h y => hB t h y.1 y.2) (by decide +kernel) t ht (i, l)).trans ?_
  rw [zero_add]
  exact Fin.sum_mul_add_congr (L := 1024) (S := 32) (n := 32) (F := fun t j => T (gr t ⟨j.val * 8 + i.val, by omega⟩) l) (f := fun a => T (row8 a i) l)
    (fun t j h => congrArg (T · l) (gr_sub8 t j i h))

set_option maxHeartbeats 4000000 in
theorem o9 (t : Fin cfg0.N) (ht : t.val + 1 = cfg0.N) (i : Fin 8) (l : Fin 1024) :
    ((outsAt0 m c t.val t.isLt).2.2.2.2.1 (ix2 i l) : EReal) = ∑ a : Fin 1024, mT m c (row8 a i) l := by
  refine acc_sum (fun n h => (outsAt0 m c n h).2.2.2.2.1) (mT m c) (fun t h0 i l => ?_) (fun t h0 i l => ?_) t ht i l
  · rw [outsAt0_A m c t h0]
    unfold stepA outA_9 atA
    dsimp only
    frame_out
    rw [ld2 m c 2560 256, ld2 m c 2048 512, ld2 m c 1536 512, ld2 m c 1024 512, ld2 m c 512 512, ld2 m c 0 512]
    rw [ld0 m c 2560 256, ld0 m c 2048 512, ld0 m c 1536 512, ld0 m c 1024 512, ld0 m c 512 512, ld0 m c 0 512]
    rw [ld1 m c 2560 256, ld1 m c 2048 512, ld1 m c 1536 512, ld1 m c 1024 512, ld1 m c 512 512, ld1 m c 0 512]
    exact (add9 m c t _ i l).trans (congrArg (· + _) (p2 l i))
  · rw [outsAt0_B m c t h0]
    unfold stepB outB_9 atB
    dsimp only
    frame_out
    simp only [read_unread_whole]
    rw [scratch0 m c _ _]
    rw [scratch1 m c _ _]
    rw [scratch2 m c _ _]
    exact add9 m c t _ i l

set_option maxHeartbeats 2000000 in
theorem final9 : (dats m 0 c).arrAt 9 cfg0.N = (fun y => ∑ a : Fin 1024, mT m c (row8 a (y 0)) (y 1) : FVec Ideal S8x1024 .f32) := by
  refine (dats m 0 c).arrAt_eq_of_covers 9 _ (by decide +kernel) fun t hf y => ?_
  have ht : t.val + 1 = cfg0.N := by
    have h1 := (flush0_9 t).mp hf
    have h2 : t.val < 32 := t.isLt
    show t.val + 1 = 32
    omega
  blk_simp
  rw [after0_9]
  idx_vars y
  refine (o9 m c t ht y0 y1).trans ?_
  rw [show ((View.whole main_v25_4).slice (win0_9.rect t)).emb (ix2 y0 y1) = ix2 y0 y1 from by blk_ext [idx t]]
  rfl

end Cert.Kernel13Ideal.Body

end
-- ==== Proof.FfnBwd.lean ====
module

public import proofs.«01_k».proof.Proof.FfnBwdOut
public import proofs.«01_k».proof.Proof.RefNorm
public import proofs.«01_k».proof.Proof.MixPre
public import proofs.«01_k».proof.Proof.Gen.Kernel13
public import proofs.«01_k».proof.Proof.Gen.Reference13Ideal.Run
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ValueKit.Point
public import Idealize.ShloMosaic.Lib.Pipeline.ValueKit.Stack
public import Idealize.ShloMosaic.Lib.Pipeline.ReadBack
public import Idealize.ShloMosaic.Lib.ValueLayout
public import Idealize.ShloMosaic.Lib.Claim
public import Idealize.ShloMosaic.Lib.Quiescent
public import Idealize.ShloMosaic.Lib.StableHlo.RunRead
public import proofs.«01_k».proof.Defs

/-! The feed forward block's gradients: the call's results are the reference's. -/

@[expose] public section

set_option maxRecDepth 16384

noncomputable section

namespace Cert.Reference13Ideal.FfnBwd

open Idealize.ShloMosaic Idealize.ShloMosaic.TcCoe Idealize.SL.Sem
open Cert.Reference13Ideal Cert.Reference13Ideal.Gen Cert.Rms Cert.Ffn Cert.Rows

variable (d h : FVec Ideal S8192x1024 .f32) (g : FVec Ideal S1024 .f32) (w wg wu : FVec Ideal S1024x2816 .f32) (wd : FVec Ideal S2816x1024 .f32)

/-- The reference's normalised rows. -/
abbrev nh : FVec Ideal S8192x1024 .f32 := mulf (F := Ideal) (φ := .f32) (Cert.Reference12Ideal.Norm.ht h) (Cert.Reference12Ideal.Norm.gn g)
/-- The reference's product of the normalised rows with a matrix. -/
abbrev pj : FVec Ideal S8192x2816 .f32 := Host.dotGeneral (F := Ideal) (φ₁ := .f32) (φ₂ := .f32) dot_S8192x1024_S1024x2816_S8192x2816_1_0_0_1_n_n none (nh h g) w
/-- The logistic function of the gates. -/
abbrev sg : FVec Ideal S8192x2816 .f32 := Host.divf (broadcastInDim S8192x2816 ![] bcast_S_S8192x2816 (constant S_ .f32 0x3F800000#32)) (addf (F := Ideal) (φ := .f32) (broadcastInDim S8192x2816 ![] bcast_S_S8192x2816 (constant S_ .f32 0x3F800000#32)) (Host.exp (Host.negf (pj h g wg))))
/-- The gradient of the gated units. -/
abbrev da : FVec Ideal S8192x2816 .f32 := Host.dotGeneral (F := Ideal) (φ₁ := .f32) (φ₂ := .f32) dot_S8192x1024_S2816x1024_S8192x2816_1_1_0_0_n_n none (mulf (F := Ideal) (φ := .f32) (broadcastInDim S8192x1024 ![] bcast_S_S8192x1024 (constant S_ .f32 0x3F000000#32)) d) wd
/-- The gates' gradient. -/
abbrev dg : FVec Ideal S8192x2816 .f32 := addf (F := Ideal) (φ := .f32) (mulf (F := Ideal) (φ := .f32) (mulf (F := Ideal) (φ := .f32) (da d wd) (pj h g wu)) (sg h g wg)) (mulf (F := Ideal) (φ := .f32) (mulf (F := Ideal) (φ := .f32) (pj h g wg) (mulf (F := Ideal) (φ := .f32) (da d wd) (pj h g wu))) (mulf (F := Ideal) (φ := .f32) (sg h g wg) (subf (F := Ideal) (φ := .f32) (broadcastInDim S8192x2816 ![] bcast_S_S8192x2816 (constant S_ .f32 0x3F800000#32)) (sg h g wg))))
/-- The other product's gradient. -/
abbrev du : FVec Ideal S8192x2816 .f32 := mulf (F := Ideal) (φ := .f32) (mulf (F := Ideal) (φ := .f32) (pj h g wg) (sg h g wg)) (da d wd)
/-- The gradient of the normalised rows. -/
abbrev dn : FVec Ideal S8192x1024 .f32 := addf (F := Ideal) (φ := .f32) (Host.dotGeneral (F := Ideal) (φ₁ := .f32) (φ₂ := .f32) dot_S8192x2816_S1024x2816_S8192x1024_1_1_0_0_n_n none (dg d h g wg wu wd) wg) (Host.dotGeneral (F := Ideal) (φ₁ := .f32) (φ₂ := .f32) dot_S8192x2816_S1024x2816_S8192x1024_1_1_0_0_n_n none (du d h g wg wd) wu)

theorem nh_at (r : Fin 8192) (l : Fin 1024) : nh h g (ix2 r l) = nrm (row h r) (vec g) l :=
  congrArg₂ (· * ·) (Cert.Reference12Ideal.Norm.ht_at h r l) (Cert.Reference12Ideal.Norm.gn_at g r l)

theorem pj_at (r : Fin 8192) (l : Fin 2816) : pj h g w (ix2 r l) = proj h g w r l := by
  unfold pj
  generalize hn : nh h g = n
  pointwise [proj]
  subst hn
  exact Finset.sum_congr rfl fun k _ => by rw [nh_at]

theorem sg_at (r : Fin 8192) (l : Fin 2816) : sg h g wg (ix2 r l) = Ideal.logistic (proj h g wg r l) := by
  unfold sg
  generalize hp : pj h g wg = p
  pointwise []
  subst hp
  rw [pj_at]
  try rfl

theorem da_at (r : Fin 8192) (l : Fin 2816) : da d wd (ix2 r l) = dact d wd r l := by
  unfold da
  pointwise [dact, half]

theorem dg_at (r : Fin 8192) (l : Fin 2816) : dg d h g wg wu wd (ix2 r l) = DGR d h g wg wu wd r l := by
  unfold dg
  generalize hs : sg h g wg = s
  generalize hp : pj h g wg = p
  generalize hq : pj h g wu = q
  generalize ha : da d wd = a
  pointwise [DGR, dgateR, one]
  subst hs hp hq ha
  rw [sg_at, pj_at, pj_at, da_at]

theorem du_at (r : Fin 8192) (l : Fin 2816) : du d h g wg wd (ix2 r l) = DU d h g wg wd r l := by
  unfold du
  generalize hs : sg h g wg = s
  generalize hp : pj h g wg = p
  generalize ha : da d wd = a
  pointwise [DU, dup]
  subst hs hp ha
  rw [sg_at, pj_at, da_at]
  exact mul_comm (G := EReal) _ _

theorem dn_at (r : Fin 8192) (l : Fin 1024) : dn d h g wg wu wd (ix2 r l)
    = (∑ k : Fin 2816, DGR d h g wg wu wd r k * wg (ix2 l k)) + ∑ k : Fin 2816, DU d h g wg wd r k * wu (ix2 l k) := by
  unfold dn
  generalize hs : dg d h g wg wu wd = s
  generalize hp : du d h g wg wd = p
  pointwise []
  subst hs hp
  exact congrArg₂ (· + ·) (Finset.sum_congr rfl fun k _ => by rw [dg_at]) (Finset.sum_congr rfl fun k _ => by rw [du_at])

theorem ref6 : truncf (F := Ideal) .bf16 (dg d h g wg wu wd) bitsLt_bf16_f32 = (fun y => DGR d h g wg wu wd (y 0) (y 1) : FVec Ideal S8192x2816 .bf16) := by
  funext y
  idx_vars y
  exact dg_at d h g wg wu wd y0 y1

theorem ref7 : truncf (F := Ideal) .bf16 (du d h g wg wd) bitsLt_bf16_f32 = (fun y => DU d h g wg wd (y 0) (y 1) : FVec Ideal S8192x2816 .bf16) := by
  funext y
  idx_vars y
  exact du_at d h g wg wd y0 y1

theorem ref8 : truncf (F := Ideal) .bf16 (mulf (F := Ideal) (φ := .f32) (mulf (F := Ideal) (φ := .f32) (pj h g wg) (sg h g wg)) (pj h g wu)) bitsLt_bf16_f32
    = (fun y => glu (proj h g wg (y 0) (y 1)) (proj h g wu (y 0) (y 1)) : FVec Ideal S8192x2816 .bf16) := by
  funext y
  idx_vars y
  refine Eq.trans ?_ (congrArg₂ (· * ·) (congrArg₂ (· * ·) (pj_at h g wg y0 y1) (sg_at h g wg y0 y1)) (pj_at h g wu y0 y1))
  rfl

end Cert.Reference13Ideal.FfnBwd

namespace Cert.Kernel13Ideal.Body

open Idealize.ShloMosaic Idealize.ShloMosaic.TcCoe Idealize.SL.Sem
open Cert.Kernel13Ideal Cert.Kernel13Ideal.Gen Cert.Rms Cert.Ffn Cert.Rows

instance preFacts13 : Cert.Pre_finite13.Facts where
  bcast_S_S8192x1024 := by decide
  bcast_S_S1024 := by decide
  bcast_S_S1024x2816 := by decide
  bcast_S_S2816x1024 := by decide

variable (m : (ℓ : Loc nD τ sig) → Buf (Elt Ideal) ℓ) (H : Cert.Pre_Kernel13Ideal_finite13 m) (c : Dev nD)
include H

theorem real_d : IsReal (kD m c) := real_of_lt _ _ (H c).1
theorem real_h : IsReal (kH m c) := real_of_lt _ _ (H c).2.1
theorem real_g : IsReal (kG m c) := real_of_lt _ _ (H c).2.2.1
theorem real_wg : IsReal (kWg m c) := real_of_lt _ _ (H c).2.2.2.1
theorem real_wu : IsReal (kWu m c) := real_of_lt _ _ (H c).2.2.2.2.1
theorem real_wd : IsReal (kWd m c) := real_of_lt _ _ (H c).2.2.2.2.2

theorem dgr (r : Fin 8192) (k : Fin 2816) : DGR (kD m c) (kH m c) (kG m c) (kWg m c) (kWu m c) (kWd m c) r k = DG (kD m c) (kH m c) (kG m c) (kWg m c) (kWu m c) (kWd m c) r k :=
  DG_eq _ _ _ _ _ _ r (fun i => real_d m H c i) (fun i => real_h m H c i) (fun i => real_g m H c i) (fun i => real_wg m H c i) (fun i => real_wu m H c i) (fun i => real_wd m H c i) k

theorem dnr (r : Fin 8192) (l : Fin 1024) : Cert.Reference13Ideal.FfnBwd.dn (kD m c) (kH m c) (kG m c) (kWg m c) (kWu m c) (kWd m c) (ix2 r l)
    = dun (kD m c) (kH m c) (kG m c) (kWg m c) (kWu m c) (kWd m c) r l :=
  (Cert.Reference13Ideal.FfnBwd.dn_at _ _ _ _ _ _ r l).trans (congrArg (· + _) (Finset.sum_congr rfl fun k _ => congrArg (· * _) (dgr m H c r k)))

/-- The derivative's form of the first result is the call's. -/
theorem form5 : (fun y => kD m c y + dR (row (kH m c) (y 0)) (vec (kG m c)) (row (Cert.Reference13Ideal.FfnBwd.dn (kD m c) (kH m c) (kG m c) (kWg m c) (kWu m c) (kWd m c)) (y 0)) (y 1) : FVec Ideal S8192x1024 .f32)
    = (fun y => back (kD m c) (kH m c) (kG m c) (kWg m c) (kWu m c) (kWd m c) (y 0) (y 1)) := by
  funext y
  idx_vars y
  have e : row (Cert.Reference13Ideal.FfnBwd.dn (kD m c) (kH m c) (kG m c) (kWg m c) (kWu m c) (kWd m c)) y0 = dun (kD m c) (kH m c) (kG m c) (kWg m c) (kWu m c) (kWd m c) y0 := funext fun l => dnr m H c y0 l
  show kD m c (ix2 y0 y1) + dR (row (kH m c) y0) (vec (kG m c)) (row (Cert.Reference13Ideal.FfnBwd.dn (kD m c) (kH m c) (kG m c) (kWg m c) (kWu m c) (kWd m c)) y0) y1 = _
  rw [e]
  exact congrArg (_ + ·) (d_eq _ _ _ (fun l => real_h m H c _) (fun l => real_g m H c _) (fun l => dun_real _ _ _ _ _ _ y0 (fun i => real_d m H c i) (fun i => real_h m H c i) (fun i => real_g m H c i) (fun i => real_wg m H c i) (fun i => real_wu m H c i) (fun i => real_wd m H c i) l) y1)

theorem form6 : (fun y => DGR (kD m c) (kH m c) (kG m c) (kWg m c) (kWu m c) (kWd m c) (y 0) (y 1) : FVec Ideal S8192x2816 .bf16)
    = (fun y => DG (kD m c) (kH m c) (kG m c) (kWg m c) (kWu m c) (kWd m c) (y 0) (y 1)) :=
  funext fun y => dgr m H c (y 0) (y 1)

theorem form9 : (fun y => ∑ a : Fin 1024, Cert.Reference13Ideal.FfnBwd.dn (kD m c) (kH m c) (kG m c) (kWg m c) (kWu m c) (kWd m c) (ix2 (row8 a (y 0)) (y 1)) * hat (row (kH m c) (row8 a (y 0))) (y 1) : FVec Ideal S8x1024 .f32)
    = (fun y => ∑ a : Fin 1024, gterm (kD m c) (kH m c) (kG m c) (kWg m c) (kWu m c) (kWd m c) (row8 a (y 0)) (y 1)) := by
  funext y
  exact Finset.sum_congr rfl fun a _ => congrArg (· * _) (dnr m H c _ _)

omit H

/-! ## The claims -/

theorem frame_ideal : Cert.quiescent_Kernel13Ideal := fun m ρ _ => frame m ρ

theorem frame_bits : Cert.quiescent_Kernel13 := by
  have h := fun m ρ (_ : True) => frame (F := Bits) m ρ
  exact cast (by sl_kernel_rfl) h

theorem frame_ref : Cert.quiescent_Reference13Ideal := fun m g _ =>
  (θ_run _ _ _).mono (fun r h => And.intro (fun c => (h c).2.2.2.2.2) (sem_eq_zero_of_no_sems rfl r.2))
    (Cert.Reference13Ideal.Value.run (F := Ideal) m g)

theorem frame_ref_pre : Cert.quiescent_Reference13Ideal_pre_finite13 := fun m g _ => frame_ref m g trivial

theorem frame_ideal_pre : Cert.quiescent_Kernel13Ideal_pre_finite13 := fun m g _ => frame_ideal m g trivial

set_option maxHeartbeats 4000000 in
theorem value : Cert.algebraic_Kernel13Ideal_Reference13Ideal_pre_finite13 := by
  intro m g m' g' H h
  refine ⟨fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N, ?_, ?_⟩
  · exact (θ_run _ _ _).mono (fun r k c => ⟨(k.1 c).1 5, (k.1 c).1 6, (k.1 c).1 7, (k.1 c).1 8, (k.1 c).1 9, k.2 c⟩) (θ_run_and (run_main (F := Ideal) m g) (unchanged (F := Ideal) m g))
  · exact (θ_run _ _ _).mono (fun r k c => ⟨(k c).1.trans ((Cert.Reference12Ideal.Norm.dres (m' ((c.tc : Thread _ _).loc Cert.Reference13Ideal.main_arg0)) (m' ((c.tc : Thread _ _).loc Cert.Reference13Ideal.main_arg1)) (m' ((c.tc : Thread _ _).loc Cert.Reference13Ideal.main_arg2)) (Cert.Reference13Ideal.FfnBwd.dn (m' ((c.tc : Thread _ _).loc Cert.Reference13Ideal.main_arg0)) (m' ((c.tc : Thread _ _).loc Cert.Reference13Ideal.main_arg1)) (m' ((c.tc : Thread _ _).loc Cert.Reference13Ideal.main_arg2)) (m' ((c.tc : Thread _ _).loc Cert.Reference13Ideal.main_arg3)) (m' ((c.tc : Thread _ _).loc Cert.Reference13Ideal.main_arg4)) (m' ((c.tc : Thread _ _).loc Cert.Reference13Ideal.main_arg5)))).trans (by rw [(h c).1, (h c).2.1, (h c).2.2.1, (h c).2.2.2.1, (h c).2.2.2.2.1, (h c).2.2.2.2.2]; exact (form5 m H c).trans (final5 m c).symm)),
      (k c).2.1.trans ((Cert.Reference13Ideal.FfnBwd.ref6 (m' ((c.tc : Thread _ _).loc Cert.Reference13Ideal.main_arg0)) (m' ((c.tc : Thread _ _).loc Cert.Reference13Ideal.main_arg1)) (m' ((c.tc : Thread _ _).loc Cert.Reference13Ideal.main_arg2)) (m' ((c.tc : Thread _ _).loc Cert.Reference13Ideal.main_arg3)) (m' ((c.tc : Thread _ _).loc Cert.Reference13Ideal.main_arg4)) (m' ((c.tc : Thread _ _).loc Cert.Reference13Ideal.main_arg5))).trans (by rw [(h c).1, (h c).2.1, (h c).2.2.1, (h c).2.2.2.1, (h c).2.2.2.2.1, (h c).2.2.2.2.2]; exact (form6 m H c).trans (final6 m c).symm)),
      (k c).2.2.1.trans ((Cert.Reference13Ideal.FfnBwd.ref7 (m' ((c.tc : Thread _ _).loc Cert.Reference13Ideal.main_arg0)) (m' ((c.tc : Thread _ _).loc Cert.Reference13Ideal.main_arg1)) (m' ((c.tc : Thread _ _).loc Cert.Reference13Ideal.main_arg2)) (m' ((c.tc : Thread _ _).loc Cert.Reference13Ideal.main_arg3)) (m' ((c.tc : Thread _ _).loc Cert.Reference13Ideal.main_arg5))).trans (by rw [(h c).1, (h c).2.1, (h c).2.2.1, (h c).2.2.2.1, (h c).2.2.2.2.2]; exact (final7 m c).symm)),
      (k c).2.2.2.1.trans ((Cert.Reference13Ideal.FfnBwd.ref8 (m' ((c.tc : Thread _ _).loc Cert.Reference13Ideal.main_arg1)) (m' ((c.tc : Thread _ _).loc Cert.Reference13Ideal.main_arg2)) (m' ((c.tc : Thread _ _).loc Cert.Reference13Ideal.main_arg3)) (m' ((c.tc : Thread _ _).loc Cert.Reference13Ideal.main_arg4))).trans (by rw [(h c).2.1, (h c).2.2.1, (h c).2.2.2.1, (h c).2.2.2.2.1]; exact (final8 m c).symm)),
      (k c).2.2.2.2.1.trans ((Cert.Reference12Ideal.Norm.gres (m' ((c.tc : Thread _ _).loc Cert.Reference13Ideal.main_arg1)) (Cert.Reference13Ideal.FfnBwd.dn (m' ((c.tc : Thread _ _).loc Cert.Reference13Ideal.main_arg0)) (m' ((c.tc : Thread _ _).loc Cert.Reference13Ideal.main_arg1)) (m' ((c.tc : Thread _ _).loc Cert.Reference13Ideal.main_arg2)) (m' ((c.tc : Thread _ _).loc Cert.Reference13Ideal.main_arg3)) (m' ((c.tc : Thread _ _).loc Cert.Reference13Ideal.main_arg4)) (m' ((c.tc : Thread _ _).loc Cert.Reference13Ideal.main_arg5)))).trans (by rw [(h c).1, (h c).2.1, (h c).2.2.1, (h c).2.2.2.1, (h c).2.2.2.2.1, (h c).2.2.2.2.2]; exact (form9 m H c).trans (final9 m c).symm)),
      (k c).2.2.2.2.2⟩)
      (Cert.Reference13Ideal.Value.run (F := Ideal) m' g')

end Cert.Kernel13Ideal.Body

end
-- ==== Proof.AdamW.lean ====
module

public import proofs.«01_k».proof.Defs
public import proofs.«01_k».proof.Proof.Gen.Kernel14
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal
public import proofs.«01_k».proof.Proof.Gen.Reference16Ideal.Run
public import Idealize.ShloMosaic.Lib.Pipeline.ValueKit.Geometry
public import Idealize.ShloMosaic.Lib.Pipeline.ValueKit.Point
public import Idealize.ShloMosaic.Lib.ValueLayout
public import Idealize.ShloMosaic.Lib.Claim
public import Idealize.ShloMosaic.Lib.Quiescent

/-! The optimiser's step: of one entry of a weight, and the calls that take it of one matrix in both layers. -/

@[expose] public section

set_option maxRecDepth 16384
set_option maxHeartbeats 2000000

noncomputable section

namespace Cert.Adam

open Idealize.ShloMosaic

/-- A literal, as the number that its word is. -/
abbrev lit (b : BitVec 32) : EReal := Ideal.ofBits .f32 b

/-- The first moment after the step: the old one and the gradient, mixed. -/
abbrev mom (g m : EReal) : EReal := lit 0x3F666666#32 * m + lit 0x3DCCCCCD#32 * g

/-- The second moment after the step: the old one and the gradient's square, mixed. -/
abbrev var (g v : EReal) : EReal := lit 0x3F7FBE77#32 * v + lit 0x3A83126F#32 * (g * g)

/-- What the step adds to the weight. -/
abbrev delta (w g m v : EReal) : EReal :=
  lit 0xBA83126F#32 * (Ideal.div (Ideal.div (mom g m) (lit 0x3F26BD02#32)) (Ideal.sqrt (Ideal.div (var g v) (lit 0x3C231ACC#32)) + lit 0x322BCC77#32) + lit 0x3C23D70A#32 * w)

end Cert.Adam

/-! ## The step of a feed-forward gate matrix, or of an up matrix, which has the same shape -/

namespace Cert.Kernel14Ideal.Tn

open Idealize.ShloMosaic Idealize.ShloMosaic.TcCoe Idealize.SL.Sem
open Cert.Kernel14Ideal Cert.Kernel14Ideal.Gen Cert.Adam

variable (m : (ℓ : Loc nD τ sig) → Buf (Elt Ideal) ℓ) (c : Dev nD)

/-- The weights, the gradient and the two moments. -/
abbrev w : FVec Ideal S2x1024x352 .f32 := m ((c : Thread nD τ).loc main_arg0)
abbrev g : FVec Ideal S2x1024x352 .f32 := m ((c : Thread nD τ).loc main_arg1)
abbrev m₁ : FVec Ideal S2x1024x352 .f32 := m ((c : Thread nD τ).loc main_arg2)
abbrev m₂ : FVec Ideal S2x1024x352 .f32 := m ((c : Thread nD τ).loc main_arg3)

theorem p6 (x0 x1 x2 x3 : FVec Ideal S1x1024x352 .f32) (y : S1x1024x352.Idx) :
    (k0_pay6 (F := Ideal) x1 x2 x3 x0 : FVec Ideal S1x1024x352 .f32) y = delta (x0 y) (x1 y) (x2 y) (x3 y) := by
  idx_vars y
  obtain rfl := Subsingleton.elim y0 0
  pointwise [k0_pay6, k0_pay4, k0_pay5, k0_pay3]

theorem p1 (x1 x2 : FVec Ideal S1x1024x352 .f32) (y : S1x1024x352.Idx) :
    (k0_pay1 (k0_pay4 (F := Ideal) x1 x2) : FVec Ideal S1x1024x352 .f32) y = mom (x1 y) (x2 y) := by
  idx_vars y
  obtain rfl := Subsingleton.elim y0 0
  pointwise [k0_pay1, k0_pay4, k0_pay3]

theorem p2 (x1 x3 : FVec Ideal S1x1024x352 .f32) (y : S1x1024x352.Idx) :
    (k0_pay2 (k0_pay5 (F := Ideal) x1 x3) : FVec Ideal S1x1024x352 .f32) y = var (x1 y) (x3 y) := by
  idx_vars y
  obtain rfl := Subsingleton.elim y0 0
  pointwise [k0_pay2, k0_pay5, k0_pay3]

theorem final4 : (dats m 0 c).arrAt 4 cfg0.N = (fun i => delta (w m c i) (g m c i) (m₁ m c i) (m₂ m c i) : FVec Ideal S2x1024x352 .f32) := by
  refine (dats m 0 c).arrAt_eq_of_covers 4 _ (by decide +kernel) fun t hf y => ?_
  blk_simp
  rw [after0_4]
  frame_out
  exact (p6 _ _ _ _ _).trans rfl

theorem final5 : (dats m 0 c).arrAt 5 cfg0.N = (fun i => mom (g m c i) (m₁ m c i) : FVec Ideal S2x1024x352 .f32) := by
  refine (dats m 0 c).arrAt_eq_of_covers 5 _ (by decide +kernel) fun t hf y => ?_
  blk_simp
  rw [after0_5]
  frame_out
  exact (p1 _ _ _).trans rfl

theorem final6 : (dats m 0 c).arrAt 6 cfg0.N = (fun i => var (g m c i) (m₂ m c i) : FVec Ideal S2x1024x352 .f32) := by
  refine (dats m 0 c).arrAt_eq_of_covers 6 _ (by decide +kernel) fun t hf y => ?_
  blk_simp
  rw [after0_6]
  frame_out
  exact (p2 _ _ _).trans rfl

theorem frame_ideal : Cert.quiescent_Kernel14Ideal := fun m ρ _ => frame m ρ

theorem frame_bits : Cert.quiescent_Kernel14 := by
  have h := fun m ρ (_ : True) => frame (F := Bits) m ρ
  exact cast (by sl_kernel_rfl) h

theorem frame_ref : Cert.quiescent_Reference14Ideal := fun m g _ =>
  (θ_run _ _ _).mono (fun r h => And.intro (fun c => (h c).2.2.2) (sem_eq_zero_of_no_sems rfl r.2))
    (Cert.Reference14Ideal.Value.run (F := Ideal) m g)

theorem value : Cert.algebraic_Kernel14Ideal_Reference14Ideal := by
  intro m g m' g' _ h
  refine ⟨fun c => (dats m 0 c).arrAt 4 cfg0.N, fun c => (dats m 0 c).arrAt 5 cfg0.N, fun c => (dats m 0 c).arrAt 6 cfg0.N, ?_, ?_⟩
  · exact (θ_run _ _ _).mono (fun r k c => ⟨(k.1 c).1 4, (k.1 c).1 5, (k.1 c).1 6, k.2 c⟩) (θ_run_and (run_main (F := Ideal) m g) (unchanged (F := Ideal) m g))
  · refine (θ_run _ _ _).mono (fun r k c => ?_) (Cert.Reference14Ideal.Value.run (F := Ideal) m' g')
    obtain ⟨k1, k2, k3, k4⟩ := k c
    obtain ⟨h0, h1, h2, h3⟩ := h c
    refine ⟨k1.trans ?_, k2.trans ?_, k3.trans ?_, k4⟩
    · rw [h0, h1, h2, h3]; exact (final4 m c).symm
    · rw [h1, h2]; exact (final5 m c).symm
    · rw [h1, h3]; exact (final6 m c).symm

end Cert.Kernel14Ideal.Tn

/-! ## The step of a feed-forward down matrix -/

namespace Cert.Kernel15Ideal.Tn

open Idealize.ShloMosaic Idealize.ShloMosaic.TcCoe Idealize.SL.Sem
open Cert.Kernel15Ideal Cert.Kernel15Ideal.Gen Cert.Adam

variable (m : (ℓ : Loc nD τ sig) → Buf (Elt Ideal) ℓ) (c : Dev nD)

/-- The weights, the gradient and the two moments. -/
abbrev w : FVec Ideal S2x352x1024 .f32 := m ((c : Thread nD τ).loc main_arg0)
abbrev g : FVec Ideal S2x352x1024 .f32 := m ((c : Thread nD τ).loc main_arg1)
abbrev m₁ : FVec Ideal S2x352x1024 .f32 := m ((c : Thread nD τ).loc main_arg2)
abbrev m₂ : FVec Ideal S2x352x1024 .f32 := m ((c : Thread nD τ).loc main_arg3)

theorem p6 (x0 x1 x2 x3 : FVec Ideal S1x352x1024 .f32) (y : S1x352x1024.Idx) :
    (k0_pay6 (F := Ideal) x1 x2 x3 x0 : FVec Ideal S1x352x1024 .f32) y = delta (x0 y) (x1 y) (x2 y) (x3 y) := by
  idx_vars y
  obtain rfl := Subsingleton.elim y0 0
  pointwise [k0_pay6, k0_pay4, k0_pay5, k0_pay3]

theorem p1 (x1 x2 : FVec Ideal S1x352x1024 .f32) (y : S1x352x1024.Idx) :
    (k0_pay1 (k0_pay4 (F := Ideal) x1 x2) : FVec Ideal S1x352x1024 .f32) y = mom (x1 y) (x2 y) := by
  idx_vars y
  obtain rfl := Subsingleton.elim y0 0
  pointwise [k0_pay1, k0_pay4, k0_pay3]

theorem p2 (x1 x3 : FVec Ideal S1x352x1024 .f32) (y : S1x352x1024.Idx) :
    (k0_pay2 (k0_pay5 (F := Ideal) x1 x3) : FVec Ideal S1x352x1024 .f32) y = var (x1 y) (x3 y) := by
  idx_vars y
  obtain rfl := Subsingleton.elim y0 0
  pointwise [k0_pay2, k0_pay5, k0_pay3]

theorem final4 : (dats m 0 c).arrAt 4 cfg0.N = (fun i => delta (w m c i) (g m c i) (m₁ m c i) (m₂ m c i) : FVec Ideal S2x352x1024 .f32) := by
  refine (dats m 0 c).arrAt_eq_of_covers 4 _ (by decide +kernel) fun t hf y => ?_
  blk_simp
  rw [after0_4]
  frame_out
  exact (p6 _ _ _ _ _).trans rfl

theorem final5 : (dats m 0 c).arrAt 5 cfg0.N = (fun i => mom (g m c i) (m₁ m c i) : FVec Ideal S2x352x1024 .f32) := by
  refine (dats m 0 c).arrAt_eq_of_covers 5 _ (by decide +kernel) fun t hf y => ?_
  blk_simp
  rw [after0_5]
  frame_out
  exact (p1 _ _ _).trans rfl

theorem final6 : (dats m 0 c).arrAt 6 cfg0.N = (fun i => var (g m c i) (m₂ m c i) : FVec Ideal S2x352x1024 .f32) := by
  refine (dats m 0 c).arrAt_eq_of_covers 6 _ (by decide +kernel) fun t hf y => ?_
  blk_simp
  rw [after0_6]
  frame_out
  exact (p2 _ _ _).trans rfl

theorem frame_ideal : Cert.quiescent_Kernel15Ideal := fun m ρ _ => frame m ρ

theorem frame_bits : Cert.quiescent_Kernel15 := by
  have h := fun m ρ (_ : True) => frame (F := Bits) m ρ
  exact cast (by sl_kernel_rfl) h

theorem frame_ref : Cert.quiescent_Reference15Ideal := fun m g _ =>
  (θ_run _ _ _).mono (fun r h => And.intro (fun c => (h c).2.2.2) (sem_eq_zero_of_no_sems rfl r.2))
    (Cert.Reference15Ideal.Value.run (F := Ideal) m g)

theorem value : Cert.algebraic_Kernel15Ideal_Reference15Ideal := by
  intro m g m' g' _ h
  refine ⟨fun c => (dats m 0 c).arrAt 4 cfg0.N, fun c => (dats m 0 c).arrAt 5 cfg0.N, fun c => (dats m 0 c).arrAt 6 cfg0.N, ?_, ?_⟩
  · exact (θ_run _ _ _).mono (fun r k c => ⟨(k.1 c).1 4, (k.1 c).1 5, (k.1 c).1 6, k.2 c⟩) (θ_run_and (run_main (F := Ideal) m g) (unchanged (F := Ideal) m g))
  · refine (θ_run _ _ _).mono (fun r k c => ?_) (Cert.Reference15Ideal.Value.run (F := Ideal) m' g')
    obtain ⟨k1, k2, k3, k4⟩ := k c
    obtain ⟨h0, h1, h2, h3⟩ := h c
    refine ⟨k1.trans ?_, k2.trans ?_, k3.trans ?_, k4⟩
    · rw [h0, h1, h2, h3]; exact (final4 m c).symm
    · rw [h1, h2]; exact (final5 m c).symm
    · rw [h1, h3]; exact (final6 m c).symm

end Cert.Kernel15Ideal.Tn

/-! ## The step of the mixing layer's input matrix -/

namespace Cert.Kernel16Ideal.Tn

open Idealize.ShloMosaic Idealize.ShloMosaic.TcCoe Idealize.SL.Sem
open Cert.Kernel16Ideal Cert.Kernel16Ideal.Gen Cert.Adam

variable (m : (ℓ : Loc nD τ sig) → Buf (Elt Ideal) ℓ) (c : Dev nD)

/-- The weights, the gradient and the two moments. -/
abbrev w : FVec Ideal S2x1024x640 .f32 := m ((c : Thread nD τ).loc main_arg0)
abbrev g : FVec Ideal S2x1024x640 .f32 := m ((c : Thread nD τ).loc main_arg1)
abbrev m₁ : FVec Ideal S2x1024x640 .f32 := m ((c : Thread nD τ).loc main_arg2)
abbrev m₂ : FVec Ideal S2x1024x640 .f32 := m ((c : Thread nD τ).loc main_arg3)

theorem p6 (x0 x1 x2 x3 : FVec Ideal S1x1024x640 .f32) (y : S1x1024x640.Idx) :
    (k0_pay6 (F := Ideal) x1 x2 x3 x0 : FVec Ideal S1x1024x640 .f32) y = delta (x0 y) (x1 y) (x2 y) (x3 y) := by
  idx_vars y
  obtain rfl := Subsingleton.elim y0 0
  pointwise [k0_pay6, k0_pay4, k0_pay5, k0_pay3]

theorem p1 (x1 x2 : FVec Ideal S1x1024x640 .f32) (y : S1x1024x640.Idx) :
    (k0_pay1 (k0_pay4 (F := Ideal) x1 x2) : FVec Ideal S1x1024x640 .f32) y = mom (x1 y) (x2 y) := by
  idx_vars y
  obtain rfl := Subsingleton.elim y0 0
  pointwise [k0_pay1, k0_pay4, k0_pay3]

theorem p2 (x1 x3 : FVec Ideal S1x1024x640 .f32) (y : S1x1024x640.Idx) :
    (k0_pay2 (k0_pay5 (F := Ideal) x1 x3) : FVec Ideal S1x1024x640 .f32) y = var (x1 y) (x3 y) := by
  idx_vars y
  obtain rfl := Subsingleton.elim y0 0
  pointwise [k0_pay2, k0_pay5, k0_pay3]

theorem final4 : (dats m 0 c).arrAt 4 cfg0.N = (fun i => delta (w m c i) (g m c i) (m₁ m c i) (m₂ m c i) : FVec Ideal S2x1024x640 .f32) := by
  refine (dats m 0 c).arrAt_eq_of_covers 4 _ (by decide +kernel) fun t hf y => ?_
  blk_simp
  rw [after0_4]
  frame_out
  exact (p6 _ _ _ _ _).trans rfl

theorem final5 : (dats m 0 c).arrAt 5 cfg0.N = (fun i => mom (g m c i) (m₁ m c i) : FVec Ideal S2x1024x640 .f32) := by
  refine (dats m 0 c).arrAt_eq_of_covers 5 _ (by decide +kernel) fun t hf y => ?_
  blk_simp
  rw [after0_5]
  frame_out
  exact (p1 _ _ _).trans rfl

theorem final6 : (dats m 0 c).arrAt 6 cfg0.N = (fun i => var (g m c i) (m₂ m c i) : FVec Ideal S2x1024x640 .f32) := by
  refine (dats m 0 c).arrAt_eq_of_covers 6 _ (by decide +kernel) fun t hf y => ?_
  blk_simp
  rw [after0_6]
  frame_out
  exact (p2 _ _ _).trans rfl

theorem frame_ideal : Cert.quiescent_Kernel16Ideal := fun m ρ _ => frame m ρ

theorem frame_bits : Cert.quiescent_Kernel16 := by
  have h := fun m ρ (_ : True) => frame (F := Bits) m ρ
  exact cast (by sl_kernel_rfl) h

theorem frame_ref : Cert.quiescent_Reference16Ideal := fun m g _ =>
  (θ_run _ _ _).mono (fun r h => And.intro (fun c => (h c).2.2.2) (sem_eq_zero_of_no_sems rfl r.2))
    (Cert.Reference16Ideal.Value.run (F := Ideal) m g)

theorem value : Cert.algebraic_Kernel16Ideal_Reference16Ideal := by
  intro m g m' g' _ h
  refine ⟨fun c => (dats m 0 c).arrAt 4 cfg0.N, fun c => (dats m 0 c).arrAt 5 cfg0.N, fun c => (dats m 0 c).arrAt 6 cfg0.N, ?_, ?_⟩
  · exact (θ_run _ _ _).mono (fun r k c => ⟨(k.1 c).1 4, (k.1 c).1 5, (k.1 c).1 6, k.2 c⟩) (θ_run_and (run_main (F := Ideal) m g) (unchanged (F := Ideal) m g))
  · refine (θ_run _ _ _).mono (fun r k c => ?_) (Cert.Reference16Ideal.Value.run (F := Ideal) m' g')
    obtain ⟨k1, k2, k3, k4⟩ := k c
    obtain ⟨h0, h1, h2, h3⟩ := h c
    refine ⟨k1.trans ?_, k2.trans ?_, k3.trans ?_, k4⟩
    · rw [h0, h1, h2, h3]; exact (final4 m c).symm
    · rw [h1, h2]; exact (final5 m c).symm
    · rw [h1, h3]; exact (final6 m c).symm

end Cert.Kernel16Ideal.Tn

end
-- ==== Proof.lean ====
module

public import proofs.«01_k».proof.Defs
public import proofs.«01_k».proof.Proof.Gen.Kernel
public import proofs.«01_k».proof.Proof.Gen.KernelIdeal
public import proofs.«01_k».proof.Proof.MixClaim
public import proofs.«01_k».proof.Proof.Tn2
public import proofs.«01_k».proof.Proof.Tn3
public import proofs.«01_k».proof.Proof.Tn4
public import proofs.«01_k».proof.Proof.Tn5
public import proofs.«01_k».proof.Proof.Tn6
public import proofs.«01_k».proof.Proof.Tn7
public import proofs.«01_k».proof.Proof.Tn8
public import proofs.«01_k».proof.Proof.Tn9
public import proofs.«01_k».proof.Proof.InFwd
public import proofs.«01_k».proof.Proof.FfnFwd
public import proofs.«01_k».proof.Proof.InBwd
public import proofs.«01_k».proof.Proof.FfnBwd
public import proofs.«01_k».proof.Proof.AdamW

@[expose] public section

noncomputable section

namespace Cert.Proof

theorem claim : Cert.Claim :=
    ⟨Kernel.Gen.facts,
      KernelIdeal.Gen.facts,
      ReferenceIdeal.Gen.facts,
      Kernel2.Gen.facts,
      Kernel2Ideal.Gen.facts,
      Reference2Ideal.Gen.facts,
      Kernel3.Gen.facts,
      Kernel3Ideal.Gen.facts,
      Reference3Ideal.Gen.facts,
      Kernel4.Gen.facts,
      Kernel4Ideal.Gen.facts,
      Reference4Ideal.Gen.facts,
      Kernel5.Gen.facts,
      Kernel5Ideal.Gen.facts,
      Reference5Ideal.Gen.facts,
      Kernel6.Gen.facts,
      Kernel6Ideal.Gen.facts,
      Reference6Ideal.Gen.facts,
      Kernel7.Gen.facts,
      Kernel7Ideal.Gen.facts,
      Reference7Ideal.Gen.facts,
      Kernel8.Gen.facts,
      Kernel8Ideal.Gen.facts,
      Reference8Ideal.Gen.facts,
      Kernel9.Gen.facts,
      Kernel9Ideal.Gen.facts,
      Reference9Ideal.Gen.facts,
      Kernel10.Gen.facts,
      Kernel10Ideal.Gen.facts,
      Reference10Ideal.Gen.facts,
      Kernel11.Gen.facts,
      Kernel11Ideal.Gen.facts,
      Reference11Ideal.Gen.facts,
      Kernel12.Gen.facts,
      Kernel12Ideal.Gen.facts,
      Reference12Ideal.Gen.facts,
      Kernel13.Gen.facts,
      Kernel13Ideal.Gen.facts,
      Reference13Ideal.Gen.facts,
      Kernel14.Gen.facts,
      Kernel14Ideal.Gen.facts,
      Reference14Ideal.Gen.facts,
      Kernel15.Gen.facts,
      Kernel15Ideal.Gen.facts,
      Reference15Ideal.Gen.facts,
      Kernel16.Gen.facts,
      Kernel16Ideal.Gen.facts,
      Reference16Ideal.Gen.facts,
      Rows.preFacts,
      Kernel12Ideal.Body.preFacts12,
      Kernel13Ideal.Body.preFacts13,
      Rows.frame_kernel,
      Rows.frame_kernelIdeal,
      Rows.frame_kernelIdeal_pre,
      Rows.frame_referenceIdeal,
      Rows.frame_referenceIdeal_pre,
      Kernel2Ideal.Tn.frame_bits,
      Kernel2Ideal.Tn.frame_ideal,
      Kernel2Ideal.Tn.frame_ref,
      Kernel3Ideal.Tn.frame_bits,
      Kernel3Ideal.Tn.frame_ideal,
      Kernel3Ideal.Tn.frame_ref,
      Kernel4Ideal.Tn.frame_bits,
      Kernel4Ideal.Tn.frame_ideal,
      Kernel4Ideal.Tn.frame_ref,
      Kernel5Ideal.Tn.frame_bits,
      Kernel5Ideal.Tn.frame_ideal,
      Kernel5Ideal.Tn.frame_ref,
      Kernel6Ideal.Tn.frame_bits,
      Kernel6Ideal.Tn.frame_ideal,
      Kernel6Ideal.Tn.frame_ref,
      Kernel7Ideal.Tn.frame_bits,
      Kernel7Ideal.Tn.frame_ideal,
      Kernel7Ideal.Tn.frame_ref,
      Kernel8Ideal.Tn.frame_bits,
      Kernel8Ideal.Tn.frame_ideal,
      Kernel8Ideal.Tn.frame_ref,
      Kernel9Ideal.Tn.frame_bits,
      Kernel9Ideal.Tn.frame_ideal,
      Kernel9Ideal.Tn.frame_ref,
      Kernel10Ideal.Body.frame_bits,
      Kernel10Ideal.Body.frame_ideal,
      Kernel10Ideal.Body.frame_ref,
      Kernel11Ideal.Body.frame_bits,
      Kernel11Ideal.Body.frame_ideal,
      Kernel11Ideal.Body.frame_ref,
      Kernel12Ideal.Body.frame_bits,
      Kernel12Ideal.Body.frame_ideal,
      Kernel12Ideal.Body.frame_ideal_pre,
      Kernel12Ideal.Body.frame_ref,
      Kernel12Ideal.Body.frame_ref_pre,
      Kernel13Ideal.Body.frame_bits,
      Kernel13Ideal.Body.frame_ideal,
      Kernel13Ideal.Body.frame_ideal_pre,
      Kernel13Ideal.Body.frame_ref,
      Kernel13Ideal.Body.frame_ref_pre,
      Kernel14Ideal.Tn.frame_bits,
      Kernel14Ideal.Tn.frame_ideal,
      Kernel14Ideal.Tn.frame_ref,
      Kernel15Ideal.Tn.frame_bits,
      Kernel15Ideal.Tn.frame_ideal,
      Kernel15Ideal.Tn.frame_ref,
      Kernel16Ideal.Tn.frame_bits,
      Kernel16Ideal.Tn.frame_ideal,
      Kernel16Ideal.Tn.frame_ref,
      trivial,
      Rows.value,
      trivial,
      Kernel2Ideal.Tn.value,
      trivial,
      Kernel3Ideal.Tn.value,
      trivial,
      Kernel4Ideal.Tn.value,
      trivial,
      Kernel5Ideal.Tn.value,
      trivial,
      Kernel6Ideal.Tn.value,
      trivial,
      Kernel7Ideal.Tn.value,
      trivial,
      Kernel8Ideal.Tn.value,
      trivial,
      Kernel9Ideal.Tn.value,
      trivial,
      Kernel10Ideal.Body.value,
      trivial,
      Kernel11Ideal.Body.value,
      trivial,
      Kernel12Ideal.Body.value,
      trivial,
      Kernel13Ideal.Body.value,
      trivial,
      Kernel14Ideal.Tn.value,
      trivial,
      Kernel15Ideal.Tn.value,
      trivial,
      Kernel16Ideal.Tn.value⟩

end Cert.Proof
